-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_v13) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16x2064x4x2x64 : Shape := ⟨5, ![16, 2064, 4, 2, 64]⟩
abbrev S16x2064x4x128 : Shape := ⟨4, ![16, 2064, 4, 128]⟩
abbrev S64 : Shape := ⟨1, ![64]⟩
abbrev S128 : Shape := ⟨1, ![128]⟩
abbrev S_ : Shape := ⟨0, ![]⟩

class Facts : Prop where
  bcast_S_S16x2064x4x2x64 : S_.BroadcastsInDim S16x2064x4x2x64 (![] : Fin 0 → Fin S16x2064x4x2x64.rank)
  reducesTo_S16x2064x4x2x64_S_d0_1_2_3_4 : S16x2064x4x2x64.ReducesTo [0, 1, 2, 3, 4] S_
  h_S_ : 0 < S_.numel
  bcast_S_S16x2064x4x128 : S_.BroadcastsInDim S16x2064x4x128 (![] : Fin 0 → Fin S16x2064x4x128.rank)
  reducesTo_S16x2064x4x128_S_d0_1_2_3 : S16x2064x4x128.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S16x2064x4x2x64 .f32) (main_arg1 : FVec F S16x2064x4x2x64 .f32) (main_arg2 : FVec F S16x2064x4x128 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S16x2064x4x2x64 .f32 := Host.absf main_arg0
  let main_cst : FVec F S_ .f32 := constant S_ .f32 0x7F800000#32
  let main_v1 : FVec F S16x2064x4x2x64 .f32 := broadcastInDim S16x2064x4x2x64 ![] bcast_S_S16x2064x4x2x64 main_cst
  let main_v2 : IVec S16x2064x4x2x64 1 := cmpf .olt main_v0 main_v1
  let main_c : IVec S_ 1 := constantI S_ 1 1#1
  let main_v3 : IVec S_ 1 := (fun x v => Host.reduce IntOp.andi x v reducesTo_S16x2064x4x2x64_S_d0_1_2_3_4 h_S_) main_v2 main_c
  let main_v4 : FVec F S16x2064x4x2x64 .f32 := Host.absf main_arg1
  let main_cst_0 : FVec F S_ .f32 := constant S_ .f32 0x7F800000#32
  let main_v5 : FVec F S16x2064x4x2x64 .f32 := broadcastInDim S16x2064x4x2x64 ![] bcast_S_S16x2064x4x2x64 main_cst_0
  let main_v6 : IVec S16x2064x4x2x64 1 := cmpf .olt main_v4 main_v5
  let main_c_1 : IVec S_ 1 := constantI S_ 1 1#1
  let main_v7 : IVec S_ 1 := (fun x v => Host.reduce IntOp.andi x v reducesTo_S16x2064x4x2x64_S_d0_1_2_3_4 h_S_) main_v6 main_c_1
  let main_v8 : IVec S_ 1 := andi main_v3 main_v7
  let main_v9 : FVec F S16x2064x4x128 .f32 := Host.absf main_arg2
  let main_cst_2 : FVec F S_ .f32 := constant S_ .f32 0x7F800000#32
  let main_v10 : FVec F S16x2064x4x128 .f32 := broadcastInDim S16x2064x4x128 ![] bcast_S_S16x2064x4x128 main_cst_2
  let main_v11 : IVec S16x2064x4x128 1 := cmpf .olt main_v9 main_v10
  let main_c_3 : IVec S_ 1 := constantI S_ 1 1#1
  let main_v12 : IVec S_ 1 := (fun x v => Host.reduce IntOp.andi x v reducesTo_S16x2064x4x128_S_d0_1_2_3 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S16x2064x4x2x64 : Shape := ⟨5, ![16, 2064, 4, 2, 64]⟩
abbrev S16x2064x4x128 : Shape := ⟨4, ![16, 2064, 4, 128]⟩
abbrev S64 : Shape := ⟨1, ![64]⟩
abbrev S128 : Shape := ⟨1, ![128]⟩
abbrev S33024x512 : Shape := ⟨2, ![33024, 512]⟩
abbrev S_ : Shape := ⟨0, ![]⟩
abbrev S33024x2304 : Shape := ⟨2, ![33024, 2304]⟩
abbrev S33024x3840 : Shape := ⟨2, ![33024, 3840]⟩
abbrev S33712x3840 : Shape := ⟨2, ![33712, 3840]⟩
abbrev S1x64 : Shape := ⟨2, ![1, 64]⟩
abbrev S1x128 : Shape := ⟨2, ![1, 128]⟩
abbrev S2064x512 : Shape := ⟨2, ![2064, 512]⟩
abbrev S4x9x128x256 : Shape := ⟨4, ![4, 9, 128, 256]⟩
abbrev S2x4x256x512 : Shape := ⟨4, ![2, 4, 256, 512]⟩
abbrev S4x128x512 : Shape := ⟨3, ![4, 128, 512]⟩
abbrev S1 : Shape := ⟨1, ![1]⟩
abbrev S1x1 : Shape := ⟨2, ![1, 1]⟩
abbrev S16x128 : Shape := ⟨2, ![16, 128]⟩
abbrev S112x128 : Shape := ⟨2, ![112, 128]⟩
abbrev S128x128 : Shape := ⟨2, ![128, 128]⟩
abbrev S1x1x128x128 : Shape := ⟨4, ![1, 1, 128, 128]⟩
abbrev S256x128 : Shape := ⟨2, ![256, 128]⟩
abbrev S128x256 : Shape := ⟨2, ![128, 256]⟩
abbrev S1x1x128x256 : Shape := ⟨4, ![1, 1, 128, 256]⟩
abbrev S1x512 : Shape := ⟨2, ![1, 512]⟩
abbrev S512x128 : Shape := ⟨2, ![512, 128]⟩
abbrev S16x512 : Shape := ⟨2, ![16, 512]⟩
abbrev S512 : Shape := ⟨1, ![512]⟩
abbrev S1x1x128x16 : Shape := ⟨4, ![1, 1, 128, 16]⟩
abbrev S128x16 : Shape := ⟨2, ![128, 16]⟩
abbrev S128x512 : Shape := ⟨2, ![128, 512]⟩
abbrev S16 : Shape := ⟨1, ![16]⟩
abbrev S16x1 : Shape := ⟨2, ![16, 1]⟩
abbrev S256x512 : Shape := ⟨2, ![256, 512]⟩
abbrev S1x1x256x512 : Shape := ⟨4, ![1, 1, 256, 512]⟩
abbrev S1x128x512 : Shape := ⟨3, ![1, 128, 512]⟩
abbrev S256 : Shape := ⟨1, ![256]⟩
abbrev S256x1 : Shape := ⟨2, ![256, 1]⟩

abbrev nBuf : Space → Nat
  | .hbm => 33
  | .vmem => 16
  | .smem => 0
  | _ => 0

abbrev bufTy : (tb : Table) → Fin (tcTables nBuf tb) → BufTy
  | .hbm, ⟨0, _⟩ => ⟨S16x2064x4x2x64, .f32⟩
  | .hbm, ⟨1, _⟩ => ⟨S16x2064x4x2x64, .f32⟩
  | .hbm, ⟨2, _⟩ => ⟨S16x2064x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S33024x512, .f32⟩
  | .hbm, ⟨9, _⟩ => ⟨S_, .f32⟩
  | .hbm, ⟨10, _⟩ => ⟨S33024x512, .f32⟩
  | .hbm, ⟨11, _⟩ => ⟨S33024x512, .f32⟩
  | .hbm, ⟨12, _⟩ => ⟨S_, .f32⟩
  | .hbm, ⟨13, _⟩ => ⟨S_, .f32⟩
  | .hbm, ⟨14, _⟩ => ⟨S33024x512, .f32⟩
  | .hbm, ⟨15, _⟩ => ⟨S33024x512, .f32⟩
  | .hbm, ⟨16, _⟩ => ⟨S33024x512, .bf16⟩
  | .hbm, ⟨17, _⟩ => ⟨S33024x512, .f32⟩
  | .hbm, ⟨18, _⟩ => ⟨S33024x512, .bf16⟩
  | .hbm, ⟨19, _⟩ => ⟨S33024x512, .f32⟩
  | .hbm, ⟨20, _⟩ => ⟨S33024x512, .bf16⟩
  | .hbm, ⟨21, _⟩ => ⟨S_, .bf16⟩
  | .hbm, ⟨22, _⟩ => ⟨S33024x2304, .bf16⟩
  | .hbm, ⟨23, _⟩ => ⟨S33024x3840, .bf16⟩
  | .hbm, ⟨24, _⟩ => ⟨S_, .i32⟩
  | .hbm, ⟨25, _⟩ => ⟨S_, .bf16⟩
  | .hbm, ⟨26, _⟩ => ⟨S33712x3840, .bf16⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x128, .f32⟩
  | .hbm, ⟨32, _⟩ => ⟨S33024x512, .bf16⟩
  | .local _ .vmem, ⟨0, _⟩ => ⟨S2064x512, .bf16⟩
  | .local _ .vmem, ⟨1, _⟩ => ⟨S2064x512, .bf16⟩
  | .local _ .vmem, ⟨2, _⟩ => ⟨S2064x512, .bf16⟩
  | .local _ .vmem, ⟨3, _⟩ => ⟨S2064x512, .bf16⟩
  | .local _ .vmem, ⟨4, _⟩ => ⟨S2064x512, .bf16⟩
  | .local _ .vmem, ⟨5, _⟩ => ⟨S2064x512, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S2064x512, .bf16⟩
  | .local _ .vmem, ⟨12, _⟩ => ⟨S2064x512, .bf16⟩
  | .local _ .vmem, ⟨13, _⟩ => ⟨S4x9x128x256, .bf16⟩
  | .local _ .vmem, ⟨14, _⟩ => ⟨S2x4x256x512, .f32⟩
  | .local _ .vmem, ⟨15, _⟩ => ⟨S4x128x512, .f32⟩
  | _, _ => ⟨S16x2064x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![16, 1], ![false, false]⟩

@[reducible] def k0_t1_loop : Scf.Loop 32 :=
  let c1_i32 : BitVec 32 := 1#32
  let c8_i32 : BitVec 32 := 8#32
  let v581 : BitVec 32 := Scalar.addi c1_i32 c8_i32
  let c1_i32_313 : BitVec 32 := 1#32
  ⟨c1_i32, v581, c1_i32_313⟩
def k0_mult1 (k0_t1 : Fin k0_t1_loop.trips) : BitVec 32 :=
  let c16_i32 : BitVec 32 := 16#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let v584 : BitVec 32 := Scalar.addi c16_i32 v583
  v584
def k0_off1 (k0_t1 : Fin k0_t1_loop.trips) : Fin 2 → Nat :=
  let c16_i32 : BitVec 32 := 16#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let v584 : BitVec 32 := Scalar.addi c16_i32 v583
  let v585 : BitVec 32 := v584
  let v603 : Index := Scalar.indexCast v585
  let c0_323 : Index := 0#32
  ![v603.toNat, 0]
def k0_off2 (k0_t1 : Fin k0_t1_loop.trips) : Fin 2 → Nat :=
  let c16_i32 : BitVec 32 := 16#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let v584 : BitVec 32 := Scalar.addi c16_i32 v583
  let v585 : BitVec 32 := v584
  let v615 : Index := Scalar.indexCast v585
  let c128_327 : Index := 128#32
  ![v615.toNat, 128]
def k0_off3 (k0_t1 : Fin k0_t1_loop.trips) : Fin 2 → Nat :=
  let c16_i32 : BitVec 32 := 16#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let v584 : BitVec 32 := Scalar.addi c16_i32 v583
  let v585 : BitVec 32 := v584
  let v627 : Index := Scalar.indexCast v585
  let c256_331 : Index := 256#32
  ![v627.toNat, 256]
def k0_off4 (k0_t1 : Fin k0_t1_loop.trips) : Fin 2 → Nat :=
  let c16_i32 : BitVec 32 := 16#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let v584 : BitVec 32 := Scalar.addi c16_i32 v583
  let v585 : BitVec 32 := v584
  let v639 : Index := Scalar.indexCast v585
  let c384_335 : Index := 384#32
  ![v639.toNat, 384]
@[reducible] def k0_t2_loop (k0_t1 : Fin k0_t1_loop.trips) : Scf.Loop 32 :=
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_403 : BitVec 32 := 1#32
  ⟨c0_i32_401, v724, c1_i32_403⟩
def k0_mult2 (k0_t1 : Fin k0_t1_loop.trips) (k0_t2 : Fin (k0_t2_loop k0_t1).trips) : BitVec 32 :=
  let c16_i32_558 : BitVec 32 := 16#32
  let c2_i32_555 : BitVec 32 := 2#32
  let c0_i32_401 : BitVec 32 := 0#32
  let c1_i32_403 : BitVec 32 := 1#32
  let arg15 : BitVec 32 := Scf.iv c0_i32_401 c1_i32_403 k0_t2
  let v1073 : BitVec 32 := Scalar.muli c2_i32_555 arg15
  let c1_i32_556 : BitVec 32 := 1#32
  let v1074 : BitVec 32 := Scalar.addi v1073 c1_i32_556
  let c256_i32_557 : BitVec 32 := 256#32
  let v1075 : BitVec 32 := Scalar.muli v1074 c256_i32_557
  let v1076 : BitVec 32 := Scalar.addi c16_i32_558 v1075
  v1076
def k0_off5 (k0_t1 : Fin k0_t1_loop.trips) (k0_t2 : Fin (k0_t2_loop k0_t1).trips) : Fin 2 → Nat :=
  let c16_i32_558 : BitVec 32 := 16#32
  let c2_i32_555 : BitVec 32 := 2#32
  let c0_i32_401 : BitVec 32 := 0#32
  let c1_i32_403 : BitVec 32 := 1#32
  let arg15 : BitVec 32 := Scf.iv c0_i32_401 c1_i32_403 k0_t2
  let v1073 : BitVec 32 := Scalar.muli c2_i32_555 arg15
  let c1_i32_556 : BitVec 32 := 1#32
  let v1074 : BitVec 32 := Scalar.addi v1073 c1_i32_556
  let c256_i32_557 : BitVec 32 := 256#32
  let v1075 : BitVec 32 := Scalar.muli v1074 c256_i32_557
  let v1076 : BitVec 32 := Scalar.addi c16_i32_558 v1075
  let v1077 : BitVec 32 := v1076
  let v1078 : Index := Scalar.indexCast v1077
  let c0_559 : Index := 0#32
  ![v1078.toNat, 0]
def k0_off6 (k0_t1 : Fin k0_t1_loop.trips) (k0_t2 : Fin (k0_t2_loop k0_t1).trips) : Fin 2 → Nat :=
  let c16_i32_558 : BitVec 32 := 16#32
  let c2_i32_555 : BitVec 32 := 2#32
  let c0_i32_401 : BitVec 32 := 0#32
  let c1_i32_403 : BitVec 32 := 1#32
  let arg15 : BitVec 32 := Scf.iv c0_i32_401 c1_i32_403 k0_t2
  let v1073 : BitVec 32 := Scalar.muli c2_i32_555 arg15
  let c1_i32_556 : BitVec 32 := 1#32
  let v1074 : BitVec 32 := Scalar.addi v1073 c1_i32_556
  let c256_i32_557 : BitVec 32 := 256#32
  let v1075 : BitVec 32 := Scalar.muli v1074 c256_i32_557
  let v1076 : BitVec 32 := Scalar.addi c16_i32_558 v1075
  let v1077 : BitVec 32 := v1076
  let v1085 : Index := Scalar.indexCast v1077
  let c128_565 : Index := 128#32
  ![v1085.toNat, 128]
def k0_off7 (k0_t1 : Fin k0_t1_loop.trips) (k0_t2 : Fin (k0_t2_loop k0_t1).trips) : Fin 2 → Nat :=
  let c16_i32_558 : BitVec 32 := 16#32
  let c2_i32_555 : BitVec 32 := 2#32
  let c0_i32_401 : BitVec 32 := 0#32
  let c1_i32_403 : BitVec 32 := 1#32
  let arg15 : BitVec 32 := Scf.iv c0_i32_401 c1_i32_403 k0_t2
  let v1073 : BitVec 32 := Scalar.muli c2_i32_555 arg15
  let c1_i32_556 : BitVec 32 := 1#32
  let v1074 : BitVec 32 := Scalar.addi v1073 c1_i32_556
  let c256_i32_557 : BitVec 32 := 256#32
  let v1075 : BitVec 32 := Scalar.muli v1074 c256_i32_557
  let v1076 : BitVec 32 := Scalar.addi c16_i32_558 v1075
  let v1077 : BitVec 32 := v1076
  let v1092 : Index := Scalar.indexCast v1077
  let c256_571 : Index := 256#32
  ![v1092.toNat, 256]
def k0_off8 (k0_t1 : Fin k0_t1_loop.trips) (k0_t2 : Fin (k0_t2_loop k0_t1).trips) : Fin 2 → Nat :=
  let c16_i32_558 : BitVec 32 := 16#32
  let c2_i32_555 : BitVec 32 := 2#32
  let c0_i32_401 : BitVec 32 := 0#32
  let c1_i32_403 : BitVec 32 := 1#32
  let arg15 : BitVec 32 := Scf.iv c0_i32_401 c1_i32_403 k0_t2
  let v1073 : BitVec 32 := Scalar.muli c2_i32_555 arg15
  let c1_i32_556 : BitVec 32 := 1#32
  let v1074 : BitVec 32 := Scalar.addi v1073 c1_i32_556
  let c256_i32_557 : BitVec 32 := 256#32
  let v1075 : BitVec 32 := Scalar.muli v1074 c256_i32_557
  let v1076 : BitVec 32 := Scalar.addi c16_i32_558 v1075
  let v1077 : BitVec 32 := v1076
  let v1099 : Index := Scalar.indexCast v1077
  let c384_577 : Index := 384#32
  ![v1099.toNat, 384]
def k0_off9 (k0_t1 : Fin k0_t1_loop.trips) (k0_t2 : Fin (k0_t2_loop k0_t1).trips) : Fin 4 → Nat :=
  let c0_594 : Index := 0#32
  let c2_i32_555 : BitVec 32 := 2#32
  let c0_i32_401 : BitVec 32 := 0#32
  let c1_i32_403 : BitVec 32 := 1#32
  let arg15 : BitVec 32 := Scf.iv c0_i32_401 c1_i32_403 k0_t2
  let v1073 : BitVec 32 := Scalar.muli c2_i32_555 arg15
  let c1_i32_593 : BitVec 32 := 1#32
  let v1126 : BitVec 32 := Scalar.addi v1073 c1_i32_593
  let v1127 : Index := Scalar.indexCast v1126
  let c0_595 : Index := 0#32
  let c0_596 : Index := 0#32
  ![0, v1127.toNat, 0, 0]
def k0_off10 (k0_t1 : Fin k0_t1_loop.trips) (k0_t2 : Fin (k0_t2_loop k0_t1).trips) : Fin 4 → Nat :=
  let c1_612 : Index := 1#32
  let c2_i32_555 : BitVec 32 := 2#32
  let c0_i32_401 : BitVec 32 := 0#32
  let c1_i32_403 : BitVec 32 := 1#32
  let arg15 : BitVec 32 := Scf.iv c0_i32_401 c1_i32_403 k0_t2
  let v1073 : BitVec 32 := Scalar.muli c2_i32_555 arg15
  let c1_i32_611 : BitVec 32 := 1#32
  let v1155 : BitVec 32 := Scalar.addi v1073 c1_i32_611
  let v1156 : Index := Scalar.indexCast v1155
  let c0_613 : Index := 0#32
  let c0_614 : Index := 0#32
  ![1, v1156.toNat, 0, 0]
def k0_off11 (k0_t1 : Fin k0_t1_loop.trips) (k0_t2 : Fin (k0_t2_loop k0_t1).trips) : Fin 4 → Nat :=
  let c2_630 : Index := 2#32
  let c2_i32_555 : BitVec 32 := 2#32
  let c0_i32_401 : BitVec 32 := 0#32
  let c1_i32_403 : BitVec 32 := 1#32
  let arg15 : BitVec 32 := Scf.iv c0_i32_401 c1_i32_403 k0_t2
  let v1073 : BitVec 32 := Scalar.muli c2_i32_555 arg15
  let c1_i32_629 : BitVec 32 := 1#32
  let v1184 : BitVec 32 := Scalar.addi v1073 c1_i32_629
  let v1185 : Index := Scalar.indexCast v1184
  let c0_631 : Index := 0#32
  let c0_632 : Index := 0#32
  ![2, v1185.toNat, 0, 0]
def k0_off12 (k0_t1 : Fin k0_t1_loop.trips) (k0_t2 : Fin (k0_t2_loop k0_t1).trips) : Fin 4 → Nat :=
  let c3_648 : Index := 3#32
  let c2_i32_555 : BitVec 32 := 2#32
  let c0_i32_401 : BitVec 32 := 0#32
  let c1_i32_403 : BitVec 32 := 1#32
  let arg15 : BitVec 32 := Scf.iv c0_i32_401 c1_i32_403 k0_t2
  let v1073 : BitVec 32 := Scalar.muli c2_i32_555 arg15
  let c1_i32_647 : BitVec 32 := 1#32
  let v1213 : BitVec 32 := Scalar.addi v1073 c1_i32_647
  let v1214 : Index := Scalar.indexCast v1213
  let c0_649 : Index := 0#32
  let c0_650 : Index := 0#32
  ![3, v1214.toNat, 0, 0]
def k0_mult3 (k0_t1 : Fin k0_t1_loop.trips) (k0_t2 : Fin (k0_t2_loop k0_t1).trips) : BitVec 32 :=
  let c16_i32_657 : BitVec 32 := 16#32
  let c2_i32_553 : BitVec 32 := 2#32
  let c0_i32_401 : BitVec 32 := 0#32
  let c1_i32_403 : BitVec 32 := 1#32
  let arg15 : BitVec 32 := Scf.iv c0_i32_401 c1_i32_403 k0_t2
  let v1071 : BitVec 32 := Scalar.muli c2_i32_553 arg15
  let c1_i32_554 : BitVec 32 := 1#32
  let v1072 : BitVec 32 := Scalar.addi v1071 c1_i32_554
  let c1_i32_655 : BitVec 32 := 1#32
  let v1222 : BitVec 32 := Scalar.addi v1072 c1_i32_655
  let c256_i32_656 : BitVec 32 := 256#32
  let v1223 : BitVec 32 := Scalar.muli v1222 c256_i32_656
  let v1224 : BitVec 32 := Scalar.addi c16_i32_657 v1223
  v1224
def k0_off13 (k0_t1 : Fin k0_t1_loop.trips) (k0_t2 : Fin (k0_t2_loop k0_t1).trips) : Fin 2 → Nat :=
  let c16_i32_657 : BitVec 32 := 16#32
  let c2_i32_553 : BitVec 32 := 2#32
  let c0_i32_401 : BitVec 32 := 0#32
  let c1_i32_403 : BitVec 32 := 1#32
  let arg15 : BitVec 32 := Scf.iv c0_i32_401 c1_i32_403 k0_t2
  let v1071 : BitVec 32 := Scalar.muli c2_i32_553 arg15
  let c1_i32_554 : BitVec 32 := 1#32
  let v1072 : BitVec 32 := Scalar.addi v1071 c1_i32_554
  let c1_i32_655 : BitVec 32 := 1#32
  let v1222 : BitVec 32 := Scalar.addi v1072 c1_i32_655
  let c256_i32_656 : BitVec 32 := 256#32
  let v1223 : BitVec 32 := Scalar.muli v1222 c256_i32_656
  let v1224 : BitVec 32 := Scalar.addi c16_i32_657 v1223
  let v1225 : BitVec 32 := v1224
  let v1226 : Index := Scalar.indexCast v1225
  let c0_658 : Index := 0#32
  ![v1226.toNat, 0]
def k0_off14 (k0_t1 : Fin k0_t1_loop.trips) (k0_t2 : Fin (k0_t2_loop k0_t1).trips) : Fin 2 → Nat :=
  let c16_i32_657 : BitVec 32 := 16#32
  let c2_i32_553 : BitVec 32 := 2#32
  let c0_i32_401 : BitVec 32 := 0#32
  let c1_i32_403 : BitVec 32 := 1#32
  let arg15 : BitVec 32 := Scf.iv c0_i32_401 c1_i32_403 k0_t2
  let v1071 : BitVec 32 := Scalar.muli c2_i32_553 arg15
  let c1_i32_554 : BitVec 32 := 1#32
  let v1072 : BitVec 32 := Scalar.addi v1071 c1_i32_554
  let c1_i32_655 : BitVec 32 := 1#32
  let v1222 : BitVec 32 := Scalar.addi v1072 c1_i32_655
  let c256_i32_656 : BitVec 32 := 256#32
  let v1223 : BitVec 32 := Scalar.muli v1222 c256_i32_656
  let v1224 : BitVec 32 := Scalar.addi c16_i32_657 v1223
  let v1225 : BitVec 32 := v1224
  let v1233 : Index := Scalar.indexCast v1225
  let c128_664 : Index := 128#32
  ![v1233.toNat, 128]
def k0_off15 (k0_t1 : Fin k0_t1_loop.trips) (k0_t2 : Fin (k0_t2_loop k0_t1).trips) : Fin 2 → Nat :=
  let c16_i32_657 : BitVec 32 := 16#32
  let c2_i32_553 : BitVec 32 := 2#32
  let c0_i32_401 : BitVec 32 := 0#32
  let c1_i32_403 : BitVec 32 := 1#32
  let arg15 : BitVec 32 := Scf.iv c0_i32_401 c1_i32_403 k0_t2
  let v1071 : BitVec 32 := Scalar.muli c2_i32_553 arg15
  let c1_i32_554 : BitVec 32 := 1#32
  let v1072 : BitVec 32 := Scalar.addi v1071 c1_i32_554
  let c1_i32_655 : BitVec 32 := 1#32
  let v1222 : BitVec 32 := Scalar.addi v1072 c1_i32_655
  let c256_i32_656 : BitVec 32 := 256#32
  let v1223 : BitVec 32 := Scalar.muli v1222 c256_i32_656
  let v1224 : BitVec 32 := Scalar.addi c16_i32_657 v1223
  let v1225 : BitVec 32 := v1224
  let v1240 : Index := Scalar.indexCast v1225
  let c256_670 : Index := 256#32
  ![v1240.toNat, 256]
def k0_off16 (k0_t1 : Fin k0_t1_loop.trips) (k0_t2 : Fin (k0_t2_loop k0_t1).trips) : Fin 2 → Nat :=
  let c16_i32_657 : BitVec 32 := 16#32
  let c2_i32_553 : BitVec 32 := 2#32
  let c0_i32_401 : BitVec 32 := 0#32
  let c1_i32_403 : BitVec 32 := 1#32
  let arg15 : BitVec 32 := Scf.iv c0_i32_401 c1_i32_403 k0_t2
  let v1071 : BitVec 32 := Scalar.muli c2_i32_553 arg15
  let c1_i32_554 : BitVec 32 := 1#32
  let v1072 : BitVec 32 := Scalar.addi v1071 c1_i32_554
  let c1_i32_655 : BitVec 32 := 1#32
  let v1222 : BitVec 32 := Scalar.addi v1072 c1_i32_655
  let c256_i32_656 : BitVec 32 := 256#32
  let v1223 : BitVec 32 := Scalar.muli v1222 c256_i32_656
  let v1224 : BitVec 32 := Scalar.addi c16_i32_657 v1223
  let v1225 : BitVec 32 := v1224
  let v1247 : Index := Scalar.indexCast v1225
  let c384_676 : Index := 384#32
  ![v1247.toNat, 384]
def k0_off17 (k0_t1 : Fin k0_t1_loop.trips) (k0_t2 : Fin (k0_t2_loop k0_t1).trips) : Fin 4 → Nat :=
  let c0_693 : Index := 0#32
  let c2_i32_553 : BitVec 32 := 2#32
  let c0_i32_401 : BitVec 32 := 0#32
  let c1_i32_403 : BitVec 32 := 1#32
  let arg15 : BitVec 32 := Scf.iv c0_i32_401 c1_i32_403 k0_t2
  let v1071 : BitVec 32 := Scalar.muli c2_i32_553 arg15
  let c1_i32_554 : BitVec 32 := 1#32
  let v1072 : BitVec 32 := Scalar.addi v1071 c1_i32_554
  let c1_i32_692 : BitVec 32 := 1#32
  let v1274 : BitVec 32 := Scalar.addi v1072 c1_i32_692
  let v1275 : Index := Scalar.indexCast v1274
  let c0_694 : Index := 0#32
  let c0_695 : Index := 0#32
  ![0, v1275.toNat, 0, 0]
def k0_off18 (k0_t1 : Fin k0_t1_loop.trips) (k0_t2 : Fin (k0_t2_loop k0_t1).trips) : Fin 4 → Nat :=
  let c1_711 : Index := 1#32
  let c2_i32_553 : BitVec 32 := 2#32
  let c0_i32_401 : BitVec 32 := 0#32
  let c1_i32_403 : BitVec 32 := 1#32
  let arg15 : BitVec 32 := Scf.iv c0_i32_401 c1_i32_403 k0_t2
  let v1071 : BitVec 32 := Scalar.muli c2_i32_553 arg15
  let c1_i32_554 : BitVec 32 := 1#32
  let v1072 : BitVec 32 := Scalar.addi v1071 c1_i32_554
  let c1_i32_710 : BitVec 32 := 1#32
  let v1303 : BitVec 32 := Scalar.addi v1072 c1_i32_710
  let v1304 : Index := Scalar.indexCast v1303
  let c0_712 : Index := 0#32
  let c0_713 : Index := 0#32
  ![1, v1304.toNat, 0, 0]
def k0_off19 (k0_t1 : Fin k0_t1_loop.trips) (k0_t2 : Fin (k0_t2_loop k0_t1).trips) : Fin 4 → Nat :=
  let c2_729 : Index := 2#32
  let c2_i32_553 : BitVec 32 := 2#32
  let c0_i32_401 : BitVec 32 := 0#32
  let c1_i32_403 : BitVec 32 := 1#32
  let arg15 : BitVec 32 := Scf.iv c0_i32_401 c1_i32_403 k0_t2
  let v1071 : BitVec 32 := Scalar.muli c2_i32_553 arg15
  let c1_i32_554 : BitVec 32 := 1#32
  let v1072 : BitVec 32 := Scalar.addi v1071 c1_i32_554
  let c1_i32_728 : BitVec 32 := 1#32
  let v1332 : BitVec 32 := Scalar.addi v1072 c1_i32_728
  let v1333 : Index := Scalar.indexCast v1332
  let c0_730 : Index := 0#32
  let c0_731 : Index := 0#32
  ![2, v1333.toNat, 0, 0]
def k0_off20 (k0_t1 : Fin k0_t1_loop.trips) (k0_t2 : Fin (k0_t2_loop k0_t1).trips) : Fin 4 → Nat :=
  let c3_747 : Index := 3#32
  let c2_i32_553 : BitVec 32 := 2#32
  let c0_i32_401 : BitVec 32 := 0#32
  let c1_i32_403 : BitVec 32 := 1#32
  let arg15 : BitVec 32 := Scf.iv c0_i32_401 c1_i32_403 k0_t2
  let v1071 : BitVec 32 := Scalar.muli c2_i32_553 arg15
  let c1_i32_554 : BitVec 32 := 1#32
  let v1072 : BitVec 32 := Scalar.addi v1071 c1_i32_554
  let c1_i32_746 : BitVec 32 := 1#32
  let v1361 : BitVec 32 := Scalar.addi v1072 c1_i32_746
  let v1362 : Index := Scalar.indexCast v1361
  let c0_748 : Index := 0#32
  let c0_749 : Index := 0#32
  ![3, v1362.toNat, 0, 0]
@[reducible] def k0_t3_loop (k0_t1 : Fin k0_t1_loop.trips) : Scf.Loop 32 :=
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let v721 : BitVec 32 := Scalar.addi c0_i32_401 v720
  let c1_i32_404 : BitVec 32 := 1#32
  ⟨v724, v721, c1_i32_404⟩
def k0_mult4 (k0_t1 : Fin k0_t1_loop.trips) (k0_t3 : Fin (k0_t3_loop k0_t1).trips) : BitVec 32 :=
  let c16_i32_558 : BitVec 32 := 16#32
  let c2_i32_555 : BitVec 32 := 2#32
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_404 : BitVec 32 := 1#32
  let arg15 : BitVec 32 := Scf.iv v724 c1_i32_404 k0_t3
  let v1073 : BitVec 32 := Scalar.muli c2_i32_555 arg15
  let c1_i32_556 : BitVec 32 := 1#32
  let v1074 : BitVec 32 := Scalar.addi v1073 c1_i32_556
  let c256_i32_557 : BitVec 32 := 256#32
  let v1075 : BitVec 32 := Scalar.muli v1074 c256_i32_557
  let v1076 : BitVec 32 := Scalar.addi c16_i32_558 v1075
  v1076
def k0_off21 (k0_t1 : Fin k0_t1_loop.trips) (k0_t3 : Fin (k0_t3_loop k0_t1).trips) : Fin 2 → Nat :=
  let c16_i32_558 : BitVec 32 := 16#32
  let c2_i32_555 : BitVec 32 := 2#32
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_404 : BitVec 32 := 1#32
  let arg15 : BitVec 32 := Scf.iv v724 c1_i32_404 k0_t3
  let v1073 : BitVec 32 := Scalar.muli c2_i32_555 arg15
  let c1_i32_556 : BitVec 32 := 1#32
  let v1074 : BitVec 32 := Scalar.addi v1073 c1_i32_556
  let c256_i32_557 : BitVec 32 := 256#32
  let v1075 : BitVec 32 := Scalar.muli v1074 c256_i32_557
  let v1076 : BitVec 32 := Scalar.addi c16_i32_558 v1075
  let v1077 : BitVec 32 := v1076
  let v1078 : Index := Scalar.indexCast v1077
  let c0_559 : Index := 0#32
  ![v1078.toNat, 0]
def k0_off22 (k0_t1 : Fin k0_t1_loop.trips) (k0_t3 : Fin (k0_t3_loop k0_t1).trips) : Fin 2 → Nat :=
  let c16_i32_558 : BitVec 32 := 16#32
  let c2_i32_555 : BitVec 32 := 2#32
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_404 : BitVec 32 := 1#32
  let arg15 : BitVec 32 := Scf.iv v724 c1_i32_404 k0_t3
  let v1073 : BitVec 32 := Scalar.muli c2_i32_555 arg15
  let c1_i32_556 : BitVec 32 := 1#32
  let v1074 : BitVec 32 := Scalar.addi v1073 c1_i32_556
  let c256_i32_557 : BitVec 32 := 256#32
  let v1075 : BitVec 32 := Scalar.muli v1074 c256_i32_557
  let v1076 : BitVec 32 := Scalar.addi c16_i32_558 v1075
  let v1077 : BitVec 32 := v1076
  let v1085 : Index := Scalar.indexCast v1077
  let c128_565 : Index := 128#32
  ![v1085.toNat, 128]
def k0_off23 (k0_t1 : Fin k0_t1_loop.trips) (k0_t3 : Fin (k0_t3_loop k0_t1).trips) : Fin 2 → Nat :=
  let c16_i32_558 : BitVec 32 := 16#32
  let c2_i32_555 : BitVec 32 := 2#32
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_404 : BitVec 32 := 1#32
  let arg15 : BitVec 32 := Scf.iv v724 c1_i32_404 k0_t3
  let v1073 : BitVec 32 := Scalar.muli c2_i32_555 arg15
  let c1_i32_556 : BitVec 32 := 1#32
  let v1074 : BitVec 32 := Scalar.addi v1073 c1_i32_556
  let c256_i32_557 : BitVec 32 := 256#32
  let v1075 : BitVec 32 := Scalar.muli v1074 c256_i32_557
  let v1076 : BitVec 32 := Scalar.addi c16_i32_558 v1075
  let v1077 : BitVec 32 := v1076
  let v1092 : Index := Scalar.indexCast v1077
  let c256_571 : Index := 256#32
  ![v1092.toNat, 256]
def k0_off24 (k0_t1 : Fin k0_t1_loop.trips) (k0_t3 : Fin (k0_t3_loop k0_t1).trips) : Fin 2 → Nat :=
  let c16_i32_558 : BitVec 32 := 16#32
  let c2_i32_555 : BitVec 32 := 2#32
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_404 : BitVec 32 := 1#32
  let arg15 : BitVec 32 := Scf.iv v724 c1_i32_404 k0_t3
  let v1073 : BitVec 32 := Scalar.muli c2_i32_555 arg15
  let c1_i32_556 : BitVec 32 := 1#32
  let v1074 : BitVec 32 := Scalar.addi v1073 c1_i32_556
  let c256_i32_557 : BitVec 32 := 256#32
  let v1075 : BitVec 32 := Scalar.muli v1074 c256_i32_557
  let v1076 : BitVec 32 := Scalar.addi c16_i32_558 v1075
  let v1077 : BitVec 32 := v1076
  let v1099 : Index := Scalar.indexCast v1077
  let c384_577 : Index := 384#32
  ![v1099.toNat, 384]
def k0_off25 (k0_t1 : Fin k0_t1_loop.trips) (k0_t3 : Fin (k0_t3_loop k0_t1).trips) : Fin 4 → Nat :=
  let c0_594 : Index := 0#32
  let c2_i32_555 : BitVec 32 := 2#32
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_404 : BitVec 32 := 1#32
  let arg15 : BitVec 32 := Scf.iv v724 c1_i32_404 k0_t3
  let v1073 : BitVec 32 := Scalar.muli c2_i32_555 arg15
  let c1_i32_593 : BitVec 32 := 1#32
  let v1126 : BitVec 32 := Scalar.addi v1073 c1_i32_593
  let v1127 : Index := Scalar.indexCast v1126
  let c0_595 : Index := 0#32
  let c0_596 : Index := 0#32
  ![0, v1127.toNat, 0, 0]
def k0_off26 (k0_t1 : Fin k0_t1_loop.trips) (k0_t3 : Fin (k0_t3_loop k0_t1).trips) : Fin 4 → Nat :=
  let c1_612 : Index := 1#32
  let c2_i32_555 : BitVec 32 := 2#32
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_404 : BitVec 32 := 1#32
  let arg15 : BitVec 32 := Scf.iv v724 c1_i32_404 k0_t3
  let v1073 : BitVec 32 := Scalar.muli c2_i32_555 arg15
  let c1_i32_611 : BitVec 32 := 1#32
  let v1155 : BitVec 32 := Scalar.addi v1073 c1_i32_611
  let v1156 : Index := Scalar.indexCast v1155
  let c0_613 : Index := 0#32
  let c0_614 : Index := 0#32
  ![1, v1156.toNat, 0, 0]
def k0_off27 (k0_t1 : Fin k0_t1_loop.trips) (k0_t3 : Fin (k0_t3_loop k0_t1).trips) : Fin 4 → Nat :=
  let c2_630 : Index := 2#32
  let c2_i32_555 : BitVec 32 := 2#32
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_404 : BitVec 32 := 1#32
  let arg15 : BitVec 32 := Scf.iv v724 c1_i32_404 k0_t3
  let v1073 : BitVec 32 := Scalar.muli c2_i32_555 arg15
  let c1_i32_629 : BitVec 32 := 1#32
  let v1184 : BitVec 32 := Scalar.addi v1073 c1_i32_629
  let v1185 : Index := Scalar.indexCast v1184
  let c0_631 : Index := 0#32
  let c0_632 : Index := 0#32
  ![2, v1185.toNat, 0, 0]
def k0_off28 (k0_t1 : Fin k0_t1_loop.trips) (k0_t3 : Fin (k0_t3_loop k0_t1).trips) : Fin 4 → Nat :=
  let c3_648 : Index := 3#32
  let c2_i32_555 : BitVec 32 := 2#32
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_404 : BitVec 32 := 1#32
  let arg15 : BitVec 32 := Scf.iv v724 c1_i32_404 k0_t3
  let v1073 : BitVec 32 := Scalar.muli c2_i32_555 arg15
  let c1_i32_647 : BitVec 32 := 1#32
  let v1213 : BitVec 32 := Scalar.addi v1073 c1_i32_647
  let v1214 : Index := Scalar.indexCast v1213
  let c0_649 : Index := 0#32
  let c0_650 : Index := 0#32
  ![3, v1214.toNat, 0, 0]
def k0_mult5 (k0_t1 : Fin k0_t1_loop.trips) (k0_t3 : Fin (k0_t3_loop k0_t1).trips) : BitVec 32 :=
  let c16_i32_657 : BitVec 32 := 16#32
  let c2_i32_553 : BitVec 32 := 2#32
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_404 : BitVec 32 := 1#32
  let arg15 : BitVec 32 := Scf.iv v724 c1_i32_404 k0_t3
  let v1071 : BitVec 32 := Scalar.muli c2_i32_553 arg15
  let c1_i32_554 : BitVec 32 := 1#32
  let v1072 : BitVec 32 := Scalar.addi v1071 c1_i32_554
  let c1_i32_655 : BitVec 32 := 1#32
  let v1222 : BitVec 32 := Scalar.addi v1072 c1_i32_655
  let c256_i32_656 : BitVec 32 := 256#32
  let v1223 : BitVec 32 := Scalar.muli v1222 c256_i32_656
  let v1224 : BitVec 32 := Scalar.addi c16_i32_657 v1223
  v1224
def k0_off29 (k0_t1 : Fin k0_t1_loop.trips) (k0_t3 : Fin (k0_t3_loop k0_t1).trips) : Fin 2 → Nat :=
  let c16_i32_657 : BitVec 32 := 16#32
  let c2_i32_553 : BitVec 32 := 2#32
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_404 : BitVec 32 := 1#32
  let arg15 : BitVec 32 := Scf.iv v724 c1_i32_404 k0_t3
  let v1071 : BitVec 32 := Scalar.muli c2_i32_553 arg15
  let c1_i32_554 : BitVec 32 := 1#32
  let v1072 : BitVec 32 := Scalar.addi v1071 c1_i32_554
  let c1_i32_655 : BitVec 32 := 1#32
  let v1222 : BitVec 32 := Scalar.addi v1072 c1_i32_655
  let c256_i32_656 : BitVec 32 := 256#32
  let v1223 : BitVec 32 := Scalar.muli v1222 c256_i32_656
  let v1224 : BitVec 32 := Scalar.addi c16_i32_657 v1223
  let v1225 : BitVec 32 := v1224
  let v1226 : Index := Scalar.indexCast v1225
  let c0_658 : Index := 0#32
  ![v1226.toNat, 0]
def k0_off30 (k0_t1 : Fin k0_t1_loop.trips) (k0_t3 : Fin (k0_t3_loop k0_t1).trips) : Fin 2 → Nat :=
  let c16_i32_657 : BitVec 32 := 16#32
  let c2_i32_553 : BitVec 32 := 2#32
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_404 : BitVec 32 := 1#32
  let arg15 : BitVec 32 := Scf.iv v724 c1_i32_404 k0_t3
  let v1071 : BitVec 32 := Scalar.muli c2_i32_553 arg15
  let c1_i32_554 : BitVec 32 := 1#32
  let v1072 : BitVec 32 := Scalar.addi v1071 c1_i32_554
  let c1_i32_655 : BitVec 32 := 1#32
  let v1222 : BitVec 32 := Scalar.addi v1072 c1_i32_655
  let c256_i32_656 : BitVec 32 := 256#32
  let v1223 : BitVec 32 := Scalar.muli v1222 c256_i32_656
  let v1224 : BitVec 32 := Scalar.addi c16_i32_657 v1223
  let v1225 : BitVec 32 := v1224
  let v1233 : Index := Scalar.indexCast v1225
  let c128_664 : Index := 128#32
  ![v1233.toNat, 128]
def k0_off31 (k0_t1 : Fin k0_t1_loop.trips) (k0_t3 : Fin (k0_t3_loop k0_t1).trips) : Fin 2 → Nat :=
  let c16_i32_657 : BitVec 32 := 16#32
  let c2_i32_553 : BitVec 32 := 2#32
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_404 : BitVec 32 := 1#32
  let arg15 : BitVec 32 := Scf.iv v724 c1_i32_404 k0_t3
  let v1071 : BitVec 32 := Scalar.muli c2_i32_553 arg15
  let c1_i32_554 : BitVec 32 := 1#32
  let v1072 : BitVec 32 := Scalar.addi v1071 c1_i32_554
  let c1_i32_655 : BitVec 32 := 1#32
  let v1222 : BitVec 32 := Scalar.addi v1072 c1_i32_655
  let c256_i32_656 : BitVec 32 := 256#32
  let v1223 : BitVec 32 := Scalar.muli v1222 c256_i32_656
  let v1224 : BitVec 32 := Scalar.addi c16_i32_657 v1223
  let v1225 : BitVec 32 := v1224
  let v1240 : Index := Scalar.indexCast v1225
  let c256_670 : Index := 256#32
  ![v1240.toNat, 256]
def k0_off32 (k0_t1 : Fin k0_t1_loop.trips) (k0_t3 : Fin (k0_t3_loop k0_t1).trips) : Fin 2 → Nat :=
  let c16_i32_657 : BitVec 32 := 16#32
  let c2_i32_553 : BitVec 32 := 2#32
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_404 : BitVec 32 := 1#32
  let arg15 : BitVec 32 := Scf.iv v724 c1_i32_404 k0_t3
  let v1071 : BitVec 32 := Scalar.muli c2_i32_553 arg15
  let c1_i32_554 : BitVec 32 := 1#32
  let v1072 : BitVec 32 := Scalar.addi v1071 c1_i32_554
  let c1_i32_655 : BitVec 32 := 1#32
  let v1222 : BitVec 32 := Scalar.addi v1072 c1_i32_655
  let c256_i32_656 : BitVec 32 := 256#32
  let v1223 : BitVec 32 := Scalar.muli v1222 c256_i32_656
  let v1224 : BitVec 32 := Scalar.addi c16_i32_657 v1223
  let v1225 : BitVec 32 := v1224
  let v1247 : Index := Scalar.indexCast v1225
  let c384_676 : Index := 384#32
  ![v1247.toNat, 384]
def k0_off33 (k0_t1 : Fin k0_t1_loop.trips) (k0_t3 : Fin (k0_t3_loop k0_t1).trips) : Fin 4 → Nat :=
  let c0_693 : Index := 0#32
  let c2_i32_553 : BitVec 32 := 2#32
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_404 : BitVec 32 := 1#32
  let arg15 : BitVec 32 := Scf.iv v724 c1_i32_404 k0_t3
  let v1071 : BitVec 32 := Scalar.muli c2_i32_553 arg15
  let c1_i32_554 : BitVec 32 := 1#32
  let v1072 : BitVec 32 := Scalar.addi v1071 c1_i32_554
  let c1_i32_692 : BitVec 32 := 1#32
  let v1274 : BitVec 32 := Scalar.addi v1072 c1_i32_692
  let v1275 : Index := Scalar.indexCast v1274
  let c0_694 : Index := 0#32
  let c0_695 : Index := 0#32
  ![0, v1275.toNat, 0, 0]
def k0_off34 (k0_t1 : Fin k0_t1_loop.trips) (k0_t3 : Fin (k0_t3_loop k0_t1).trips) : Fin 4 → Nat :=
  let c1_711 : Index := 1#32
  let c2_i32_553 : BitVec 32 := 2#32
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_404 : BitVec 32 := 1#32
  let arg15 : BitVec 32 := Scf.iv v724 c1_i32_404 k0_t3
  let v1071 : BitVec 32 := Scalar.muli c2_i32_553 arg15
  let c1_i32_554 : BitVec 32 := 1#32
  let v1072 : BitVec 32 := Scalar.addi v1071 c1_i32_554
  let c1_i32_710 : BitVec 32 := 1#32
  let v1303 : BitVec 32 := Scalar.addi v1072 c1_i32_710
  let v1304 : Index := Scalar.indexCast v1303
  let c0_712 : Index := 0#32
  let c0_713 : Index := 0#32
  ![1, v1304.toNat, 0, 0]
def k0_off35 (k0_t1 : Fin k0_t1_loop.trips) (k0_t3 : Fin (k0_t3_loop k0_t1).trips) : Fin 4 → Nat :=
  let c2_729 : Index := 2#32
  let c2_i32_553 : BitVec 32 := 2#32
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_404 : BitVec 32 := 1#32
  let arg15 : BitVec 32 := Scf.iv v724 c1_i32_404 k0_t3
  let v1071 : BitVec 32 := Scalar.muli c2_i32_553 arg15
  let c1_i32_554 : BitVec 32 := 1#32
  let v1072 : BitVec 32 := Scalar.addi v1071 c1_i32_554
  let c1_i32_728 : BitVec 32 := 1#32
  let v1332 : BitVec 32 := Scalar.addi v1072 c1_i32_728
  let v1333 : Index := Scalar.indexCast v1332
  let c0_730 : Index := 0#32
  let c0_731 : Index := 0#32
  ![2, v1333.toNat, 0, 0]
def k0_off36 (k0_t1 : Fin k0_t1_loop.trips) (k0_t3 : Fin (k0_t3_loop k0_t1).trips) : Fin 4 → Nat :=
  let c3_747 : Index := 3#32
  let c2_i32_553 : BitVec 32 := 2#32
  let c0_i32_401 : BitVec 32 := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c0_i32_395 : BitVec 32 := 0#32
  let v704 : BitVec 1 := Scalar.cmpi .sgt v602 c0_i32_395
  let v705 : BitVec 32 := Scalar.extui v704
  let c0_i32_396 : BitVec 32 := 0#32
  let v706 : BitVec 1 := Scalar.cmpi .slt v602 c0_i32_396
  let v707 : BitVec 32 := Scalar.extui v706
  let v708 : BitVec 32 := Scalar.subi v705 v707
  let c2_i32 : BitVec 32 := 2#32
  let c0_i32_397 : BitVec 32 := 0#32
  let v709 : BitVec 1 := Scalar.cmpi .sgt c2_i32 c0_i32_397
  let v710 : BitVec 32 := Scalar.extui v709
  let c0_i32_398 : BitVec 32 := 0#32
  let v711 : BitVec 1 := Scalar.cmpi .slt c2_i32 c0_i32_398
  let v712 : BitVec 32 := Scalar.extui v711
  let v713 : BitVec 32 := Scalar.subi v710 v712
  let v714 : BitVec 1 := Scalar.cmpi .ne v708 v713
  let v715 : BitVec 32 := Scalar.remsi v602 c2_i32
  let c0_i32_399 : BitVec 32 := 0#32
  let v716 : BitVec 1 := Scalar.cmpi .ne v715 c0_i32_399
  let v717 : BitVec 1 := Scalar.andi v714 v716
  let v703 : BitVec 32 := Scalar.divsi v602 c2_i32
  let c1_i32_400 : BitVec 32 := 1#32
  let v718 : BitVec 32 := Scalar.subi v703 c1_i32_400
  let v719 : BitVec 32 := Scalar.select v717 v718 v703
  let v720 : BitVec 32 := Scalar.subi v719 c0_i32_401
  let c1_i32_402 : BitVec 32 := 1#32
  let v722 : BitVec 32 := Scalar.divsi v720 c1_i32_402
  let v723 : BitVec 32 := Scalar.muli v722 c1_i32_402
  let v724 : BitVec 32 := Scalar.addi c0_i32_401 v723
  let c1_i32_404 : BitVec 32 := 1#32
  let arg15 : BitVec 32 := Scf.iv v724 c1_i32_404 k0_t3
  let v1071 : BitVec 32 := Scalar.muli c2_i32_553 arg15
  let c1_i32_554 : BitVec 32 := 1#32
  let v1072 : BitVec 32 := Scalar.addi v1071 c1_i32_554
  let c1_i32_746 : BitVec 32 := 1#32
  let v1361 : BitVec 32 := Scalar.addi v1072 c1_i32_746
  let v1362 : Index := Scalar.indexCast v1361
  let c0_748 : Index := 0#32
  let c0_749 : Index := 0#32
  ![3, v1362.toNat, 0, 0]
def k0_cond1 (k0_t1 : Fin k0_t1_loop.trips) : BitVec 1 :=
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c2_i32_405 : BitVec 32 := 2#32
  let c0_i32_406 : BitVec 32 := 0#32
  let v727 : BitVec 1 := Scalar.cmpi .eq c2_i32_405 c0_i32_406
  let c1_i32_407 : BitVec 32 := 1#32
  let v728 : BitVec 32 := Scalar.select v727 c1_i32_407 c2_i32_405
  let v729 : BitVec 32 := Scalar.remsi v602 v728
  let c0_i32_409 : BitVec 32 := 0#32
  let v731 : BitVec 1 := Scalar.cmpi .slt v729 c0_i32_409
  let c0_i32_410 : BitVec 32 := 0#32
  let v732 : BitVec 1 := Scalar.cmpi .slt v728 c0_i32_410
  let v733 : BitVec 1 := Scalar.xori v731 v732
  let c0_i32_408 : BitVec 32 := 0#32
  let v730 : BitVec 1 := Scalar.cmpi .ne v729 c0_i32_408
  let v734 : BitVec 1 := Scalar.andi v733 v730
  let v735 : BitVec 32 := Scalar.addi v729 v728
  let v736 : BitVec 32 := Scalar.select v734 v735 v729
  let c1_i32_411 : BitVec 32 := 1#32
  let v737 : BitVec 1 := Scalar.cmpi .eq v736 c1_i32_411
  let v738 : BitVec 32 := Scalar.extui v737
  let c0_i32_412 : BitVec 32 := 0#32
  let v739 : BitVec 1 := Scalar.cmpi .ne v738 c0_i32_412
  v739

def k0_mult6 (k0_t1 : Fin k0_t1_loop.trips) : BitVec 32 :=
  let c16_i32_556 : BitVec 32 := 16#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c1_i32_553 : BitVec 32 := 1#32
  let v1071 : BitVec 32 := Scalar.subi v602 c1_i32_553
  let c1_i32_554 : BitVec 32 := 1#32
  let v1072 : BitVec 32 := Scalar.addi v1071 c1_i32_554
  let c256_i32_555 : BitVec 32 := 256#32
  let v1073 : BitVec 32 := Scalar.muli v1072 c256_i32_555
  let v1074 : BitVec 32 := Scalar.addi c16_i32_556 v1073
  v1074
def k0_off37 (k0_t1 : Fin k0_t1_loop.trips) : Fin 2 → Nat :=
  let c16_i32_556 : BitVec 32 := 16#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c1_i32_553 : BitVec 32 := 1#32
  let v1071 : BitVec 32 := Scalar.subi v602 c1_i32_553
  let c1_i32_554 : BitVec 32 := 1#32
  let v1072 : BitVec 32 := Scalar.addi v1071 c1_i32_554
  let c256_i32_555 : BitVec 32 := 256#32
  let v1073 : BitVec 32 := Scalar.muli v1072 c256_i32_555
  let v1074 : BitVec 32 := Scalar.addi c16_i32_556 v1073
  let v1075 : BitVec 32 := v1074
  let v1076 : Index := Scalar.indexCast v1075
  let c0_557 : Index := 0#32
  ![v1076.toNat, 0]
def k0_off38 (k0_t1 : Fin k0_t1_loop.trips) : Fin 2 → Nat :=
  let c16_i32_556 : BitVec 32 := 16#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c1_i32_553 : BitVec 32 := 1#32
  let v1071 : BitVec 32 := Scalar.subi v602 c1_i32_553
  let c1_i32_554 : BitVec 32 := 1#32
  let v1072 : BitVec 32 := Scalar.addi v1071 c1_i32_554
  let c256_i32_555 : BitVec 32 := 256#32
  let v1073 : BitVec 32 := Scalar.muli v1072 c256_i32_555
  let v1074 : BitVec 32 := Scalar.addi c16_i32_556 v1073
  let v1075 : BitVec 32 := v1074
  let v1083 : Index := Scalar.indexCast v1075
  let c128_563 : Index := 128#32
  ![v1083.toNat, 128]
def k0_off39 (k0_t1 : Fin k0_t1_loop.trips) : Fin 2 → Nat :=
  let c16_i32_556 : BitVec 32 := 16#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c1_i32_553 : BitVec 32 := 1#32
  let v1071 : BitVec 32 := Scalar.subi v602 c1_i32_553
  let c1_i32_554 : BitVec 32 := 1#32
  let v1072 : BitVec 32 := Scalar.addi v1071 c1_i32_554
  let c256_i32_555 : BitVec 32 := 256#32
  let v1073 : BitVec 32 := Scalar.muli v1072 c256_i32_555
  let v1074 : BitVec 32 := Scalar.addi c16_i32_556 v1073
  let v1075 : BitVec 32 := v1074
  let v1090 : Index := Scalar.indexCast v1075
  let c256_569 : Index := 256#32
  ![v1090.toNat, 256]
def k0_off40 (k0_t1 : Fin k0_t1_loop.trips) : Fin 2 → Nat :=
  let c16_i32_556 : BitVec 32 := 16#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c1_i32_553 : BitVec 32 := 1#32
  let v1071 : BitVec 32 := Scalar.subi v602 c1_i32_553
  let c1_i32_554 : BitVec 32 := 1#32
  let v1072 : BitVec 32 := Scalar.addi v1071 c1_i32_554
  let c256_i32_555 : BitVec 32 := 256#32
  let v1073 : BitVec 32 := Scalar.muli v1072 c256_i32_555
  let v1074 : BitVec 32 := Scalar.addi c16_i32_556 v1073
  let v1075 : BitVec 32 := v1074
  let v1097 : Index := Scalar.indexCast v1075
  let c384_575 : Index := 384#32
  ![v1097.toNat, 384]
def k0_off41 (k0_t1 : Fin k0_t1_loop.trips) : Fin 4 → Nat :=
  let c0_591 : Index := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c1_i32_553 : BitVec 32 := 1#32
  let v1071 : BitVec 32 := Scalar.subi v602 c1_i32_553
  let c1_i32_590 : BitVec 32 := 1#32
  let v1123 : BitVec 32 := Scalar.addi v1071 c1_i32_590
  let v1124 : Index := Scalar.indexCast v1123
  let c0_592 : Index := 0#32
  let c0_593 : Index := 0#32
  ![0, v1124.toNat, 0, 0]
def k0_off42 (k0_t1 : Fin k0_t1_loop.trips) : Fin 4 → Nat :=
  let c1_608 : Index := 1#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c1_i32_553 : BitVec 32 := 1#32
  let v1071 : BitVec 32 := Scalar.subi v602 c1_i32_553
  let c1_i32_607 : BitVec 32 := 1#32
  let v1151 : BitVec 32 := Scalar.addi v1071 c1_i32_607
  let v1152 : Index := Scalar.indexCast v1151
  let c0_609 : Index := 0#32
  let c0_610 : Index := 0#32
  ![1, v1152.toNat, 0, 0]
def k0_off43 (k0_t1 : Fin k0_t1_loop.trips) : Fin 4 → Nat :=
  let c2_625 : Index := 2#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c1_i32_553 : BitVec 32 := 1#32
  let v1071 : BitVec 32 := Scalar.subi v602 c1_i32_553
  let c1_i32_624 : BitVec 32 := 1#32
  let v1179 : BitVec 32 := Scalar.addi v1071 c1_i32_624
  let v1180 : Index := Scalar.indexCast v1179
  let c0_626 : Index := 0#32
  let c0_627 : Index := 0#32
  ![2, v1180.toNat, 0, 0]
def k0_off44 (k0_t1 : Fin k0_t1_loop.trips) : Fin 4 → Nat :=
  let c3_642 : Index := 3#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c1_i32_553 : BitVec 32 := 1#32
  let v1071 : BitVec 32 := Scalar.subi v602 c1_i32_553
  let c1_i32_641 : BitVec 32 := 1#32
  let v1207 : BitVec 32 := Scalar.addi v1071 c1_i32_641
  let v1208 : Index := Scalar.indexCast v1207
  let c0_643 : Index := 0#32
  let c0_644 : Index := 0#32
  ![3, v1208.toNat, 0, 0]
def k0_off45 (k0_t1 : Fin k0_t1_loop.trips) : Fin 4 → Nat :=
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c2_i32_421 : BitVec 32 := 2#32
  let c0_i32_422 : BitVec 32 := 0#32
  let v759 : BitVec 1 := Scalar.cmpi .eq c2_i32_421 c0_i32_422
  let c1_i32_423 : BitVec 32 := 1#32
  let v760 : BitVec 32 := Scalar.select v759 c1_i32_423 c2_i32_421
  let v761 : BitVec 32 := Scalar.remsi v602 v760
  let c0_i32_425 : BitVec 32 := 0#32
  let v763 : BitVec 1 := Scalar.cmpi .slt v761 c0_i32_425
  let c0_i32_426 : BitVec 32 := 0#32
  let v764 : BitVec 1 := Scalar.cmpi .slt v760 c0_i32_426
  let v765 : BitVec 1 := Scalar.xori v763 v764
  let c0_i32_424 : BitVec 32 := 0#32
  let v762 : BitVec 1 := Scalar.cmpi .ne v761 c0_i32_424
  let v766 : BitVec 1 := Scalar.andi v765 v762
  let v767 : BitVec 32 := Scalar.addi v761 v760
  let v768 : BitVec 32 := Scalar.select v766 v767 v761
  let v769 : Index := Scalar.indexCast v768
  let c0_427 : Index := 0#32
  let c0_428 : Index := 0#32
  let c0_429 : Index := 0#32
  ![v769.toNat, 0, 0, 0]
def k0_off46 (k0_t1 : Fin k0_t1_loop.trips) : Fin 4 → Nat :=
  let c0_438 : Index := 0#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c1_i32_413 : BitVec 32 := 1#32
  let v741 : BitVec 32 := Scalar.addi v602 c1_i32_413
  let v801 : Index := Scalar.indexCast v741
  let c0_439 : Index := 0#32
  let c0_440 : Index := 0#32
  ![0, v801.toNat, 0, 0]
def k0_off47 (k0_t1 : Fin k0_t1_loop.trips) : Fin 4 → Nat :=
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c2_i32_454 : BitVec 32 := 2#32
  let c0_i32_455 : BitVec 32 := 0#32
  let v837 : BitVec 1 := Scalar.cmpi .eq c2_i32_454 c0_i32_455
  let c1_i32_456 : BitVec 32 := 1#32
  let v838 : BitVec 32 := Scalar.select v837 c1_i32_456 c2_i32_454
  let v839 : BitVec 32 := Scalar.remsi v602 v838
  let c0_i32_458 : BitVec 32 := 0#32
  let v841 : BitVec 1 := Scalar.cmpi .slt v839 c0_i32_458
  let c0_i32_459 : BitVec 32 := 0#32
  let v842 : BitVec 1 := Scalar.cmpi .slt v838 c0_i32_459
  let v843 : BitVec 1 := Scalar.xori v841 v842
  let c0_i32_457 : BitVec 32 := 0#32
  let v840 : BitVec 1 := Scalar.cmpi .ne v839 c0_i32_457
  let v844 : BitVec 1 := Scalar.andi v843 v840
  let v845 : BitVec 32 := Scalar.addi v839 v838
  let v846 : BitVec 32 := Scalar.select v844 v845 v839
  let v847 : Index := Scalar.indexCast v846
  let c1_460 : Index := 1#32
  let c0_461 : Index := 0#32
  let c0_462 : Index := 0#32
  ![v847.toNat, 1, 0, 0]
def k0_off48 (k0_t1 : Fin k0_t1_loop.trips) : Fin 4 → Nat :=
  let c1_471 : Index := 1#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c1_i32_413 : BitVec 32 := 1#32
  let v741 : BitVec 32 := Scalar.addi v602 c1_i32_413
  let v879 : Index := Scalar.indexCast v741
  let c0_472 : Index := 0#32
  let c0_473 : Index := 0#32
  ![1, v879.toNat, 0, 0]
def k0_off49 (k0_t1 : Fin k0_t1_loop.trips) : Fin 4 → Nat :=
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c2_i32_487 : BitVec 32 := 2#32
  let c0_i32_488 : BitVec 32 := 0#32
  let v915 : BitVec 1 := Scalar.cmpi .eq c2_i32_487 c0_i32_488
  let c1_i32_489 : BitVec 32 := 1#32
  let v916 : BitVec 32 := Scalar.select v915 c1_i32_489 c2_i32_487
  let v917 : BitVec 32 := Scalar.remsi v602 v916
  let c0_i32_491 : BitVec 32 := 0#32
  let v919 : BitVec 1 := Scalar.cmpi .slt v917 c0_i32_491
  let c0_i32_492 : BitVec 32 := 0#32
  let v920 : BitVec 1 := Scalar.cmpi .slt v916 c0_i32_492
  let v921 : BitVec 1 := Scalar.xori v919 v920
  let c0_i32_490 : BitVec 32 := 0#32
  let v918 : BitVec 1 := Scalar.cmpi .ne v917 c0_i32_490
  let v922 : BitVec 1 := Scalar.andi v921 v918
  let v923 : BitVec 32 := Scalar.addi v917 v916
  let v924 : BitVec 32 := Scalar.select v922 v923 v917
  let v925 : Index := Scalar.indexCast v924
  let c2_493 : Index := 2#32
  let c0_494 : Index := 0#32
  let c0_495 : Index := 0#32
  ![v925.toNat, 2, 0, 0]
def k0_off50 (k0_t1 : Fin k0_t1_loop.trips) : Fin 4 → Nat :=
  let c2_504 : Index := 2#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c1_i32_413 : BitVec 32 := 1#32
  let v741 : BitVec 32 := Scalar.addi v602 c1_i32_413
  let v957 : Index := Scalar.indexCast v741
  let c0_505 : Index := 0#32
  let c0_506 : Index := 0#32
  ![2, v957.toNat, 0, 0]
def k0_off51 (k0_t1 : Fin k0_t1_loop.trips) : Fin 4 → Nat :=
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c2_i32_520 : BitVec 32 := 2#32
  let c0_i32_521 : BitVec 32 := 0#32
  let v993 : BitVec 1 := Scalar.cmpi .eq c2_i32_520 c0_i32_521
  let c1_i32_522 : BitVec 32 := 1#32
  let v994 : BitVec 32 := Scalar.select v993 c1_i32_522 c2_i32_520
  let v995 : BitVec 32 := Scalar.remsi v602 v994
  let c0_i32_524 : BitVec 32 := 0#32
  let v997 : BitVec 1 := Scalar.cmpi .slt v995 c0_i32_524
  let c0_i32_525 : BitVec 32 := 0#32
  let v998 : BitVec 1 := Scalar.cmpi .slt v994 c0_i32_525
  let v999 : BitVec 1 := Scalar.xori v997 v998
  let c0_i32_523 : BitVec 32 := 0#32
  let v996 : BitVec 1 := Scalar.cmpi .ne v995 c0_i32_523
  let v1000 : BitVec 1 := Scalar.andi v999 v996
  let v1001 : BitVec 32 := Scalar.addi v995 v994
  let v1002 : BitVec 32 := Scalar.select v1000 v1001 v995
  let v1003 : Index := Scalar.indexCast v1002
  let c3_526 : Index := 3#32
  let c0_527 : Index := 0#32
  let c0_528 : Index := 0#32
  ![v1003.toNat, 3, 0, 0]
def k0_off52 (k0_t1 : Fin k0_t1_loop.trips) : Fin 4 → Nat :=
  let c3_537 : Index := 3#32
  let c1_i32 : BitVec 32 := 1#32
  let c1_i32_313 : BitVec 32 := 1#32
  let arg14 : BitVec 32 := Scf.iv c1_i32 c1_i32_313 k0_t1
  let c1_i32_315 : BitVec 32 := 1#32
  let v582 : BitVec 32 := Scalar.subi arg14 c1_i32_315
  let c256_i32 : BitVec 32 := 256#32
  let v583 : BitVec 32 := Scalar.muli v582 c256_i32
  let c0_i32_317 : BitVec 32 := 0#32
  let v587 : BitVec 1 := Scalar.cmpi .sgt v583 c0_i32_317
  let v588 : BitVec 32 := Scalar.extui v587
  let c0_i32_318 : BitVec 32 := 0#32
  let v589 : BitVec 1 := Scalar.cmpi .slt v583 c0_i32_318
  let v590 : BitVec 32 := Scalar.extui v589
  let v591 : BitVec 32 := Scalar.subi v588 v590
  let c256_i32_316 : BitVec 32 := 256#32
  let c0_i32_319 : BitVec 32 := 0#32
  let v592 : BitVec 1 := Scalar.cmpi .sgt c256_i32_316 c0_i32_319
  let v593 : BitVec 32 := Scalar.extui v592
  let c0_i32_320 : BitVec 32 := 0#32
  let v594 : BitVec 1 := Scalar.cmpi .slt c256_i32_316 c0_i32_320
  let v595 : BitVec 32 := Scalar.extui v594
  let v596 : BitVec 32 := Scalar.subi v593 v595
  let v597 : BitVec 1 := Scalar.cmpi .ne v591 v596
  let v598 : BitVec 32 := Scalar.remsi v583 c256_i32_316
  let c0_i32_321 : BitVec 32 := 0#32
  let v599 : BitVec 1 := Scalar.cmpi .ne v598 c0_i32_321
  let v600 : BitVec 1 := Scalar.andi v597 v599
  let v586 : BitVec 32 := Scalar.divsi v583 c256_i32_316
  let c1_i32_322 : BitVec 32 := 1#32
  let v601 : BitVec 32 := Scalar.subi v586 c1_i32_322
  let v602 : BitVec 32 := Scalar.select v600 v601 v586
  let c1_i32_413 : BitVec 32 := 1#32
  let v741 : BitVec 32 := Scalar.addi v602 c1_i32_413
  let v1035 : Index := Scalar.indexCast v741
  let c0_538 : Index := 0#32
  let c0_539 : Index := 0#32
  ![3, v1035.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2064x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2064x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2064x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2064x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2064x4x2x64 : Shape := ⟨5, ![16, 2064, 4, 2, 64]⟩
abbrev S16x2064x4x128 : Shape := ⟨4, ![16, 2064, 4, 128]⟩
abbrev S64 : Shape := ⟨1, ![64]⟩
abbrev S128 : Shape := ⟨1, ![128]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S16x2064x4x1x64 : Shape := ⟨5, ![16, 2064, 4, 1, 64]⟩
abbrev S16x2064x4x64 : Shape := ⟨4, ![16, 2064, 4, 64]⟩
abbrev S_ : Shape := ⟨0, ![]⟩
abbrev S16x4x2064x2064 : Shape := ⟨4, ![16, 4, 2064, 2064]⟩
abbrev S16x4x2064 : Shape := ⟨3, ![16, 4, 2064]⟩
abbrev S16x4x2064x1 : Shape := ⟨4, ![16, 4, 2064, 1]⟩
abbrev S16x4x128x2064 : Shape := ⟨4, ![16, 4, 128, 2064]⟩
abbrev S16x2064x4 : Shape := ⟨3, ![16, 2064, 4]⟩
abbrev S16x2064x4x1 : Shape := ⟨4, ![16, 2064, 4, 1]⟩
abbrev S1x1x1x128 : Shape := ⟨4, ![1, 1, 1, 128]⟩
abbrev S33024x512 : Shape := ⟨2, ![33024, 512]⟩

abbrev nBuf : Space → Nat
  | .hbm => 106
  | .vmem => 0
  | .smem => 0
  | _ => 0

abbrev bufTy : (tb : Table) → Fin (tcTables nBuf tb) → BufTy
  | .hbm, ⟨0, _⟩ => ⟨S16x2064x4x2x64, .f32⟩
  | .hbm, ⟨1, _⟩ => ⟨S16x2064x4x2x64, .f32⟩
  | .hbm, ⟨2, _⟩ => ⟨S16x2064x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S2064, .i32⟩
  | .hbm, ⟨9, _⟩ => ⟨S1x2064, .i32⟩
  | .hbm, ⟨10, _⟩ => ⟨S2064, .i32⟩
  | .hbm, ⟨11, _⟩ => ⟨S2064x1, .i32⟩
  | .hbm, ⟨12, _⟩ => ⟨S2064x2064, .i32⟩
  | .hbm, ⟨13, _⟩ => ⟨S2064x2064, .i32⟩
  | .hbm, ⟨14, _⟩ => ⟨S2064x2064, .i1⟩
  | .hbm, ⟨15, _⟩ => ⟨S16x2064x4x1x64, .f32⟩
  | .hbm, ⟨16, _⟩ => ⟨S16x2064x4x64, .f32⟩
  | .hbm, ⟨17, _⟩ => ⟨S16x2064x4x1x64, .f32⟩
  | .hbm, ⟨18, _⟩ => ⟨S16x2064x4x64, .f32⟩
  | .hbm, ⟨19, _⟩ => ⟨S16x2064x4x1x64, .f32⟩
  | .hbm, ⟨20, _⟩ => ⟨S16x2064x4x64, .f32⟩
  | .hbm, ⟨21, _⟩ => ⟨S16x2064x4x1x64, .f32⟩
  | .hbm, ⟨22, _⟩ => ⟨S16x2064x4x64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16x4x2064x2064, .f32⟩
  | .hbm, ⟨35, _⟩ => ⟨S_, .f32⟩
  | .hbm, ⟨36, _⟩ => ⟨S16x4x2064x2064, .f32⟩
  | .hbm, ⟨37, _⟩ => ⟨S16x4x2064x2064, .f32⟩
  | .hbm, ⟨38, _⟩ => ⟨S16x4x2064x2064, .f32⟩
  | .hbm, ⟨39, _⟩ => ⟨S_, .f32⟩
  | .hbm, ⟨40, _⟩ => ⟨S16x4x2064x2064, .f32⟩
  | .hbm, ⟨41, _⟩ => ⟨S16x4x2064x2064, .f32⟩
  | .hbm, ⟨42, _⟩ => ⟨S_, .f32⟩
  | .hbm, ⟨43, _⟩ => ⟨S_, .f32⟩
  | .hbm, ⟨44, _⟩ => ⟨S16x4x2064x2064, .i1⟩
  | .hbm, ⟨45, _⟩ => ⟨S16x4x2064x2064, .f32⟩
  | .hbm, ⟨46, _⟩ => ⟨S16x4x2064x2064, .f32⟩
  | .hbm, ⟨47, _⟩ => ⟨S_, .f32⟩
  | .hbm, ⟨48, _⟩ => ⟨S16x4x2064, .f32⟩
  | .hbm, ⟨49, _⟩ => ⟨S_, .f32⟩
  | .hbm, ⟨50, _⟩ => ⟨S16x4x2064, .f32⟩
  | .hbm, ⟨51, _⟩ => ⟨S16x4x2064, .f32⟩
  | .hbm, ⟨52, _⟩ => ⟨S16x4x2064x1, .f32⟩
  | .hbm, ⟨53, _⟩ => ⟨S16x4x2064x2064, .f32⟩
  | .hbm, ⟨54, _⟩ => ⟨S16x4x2064x2064, .f32⟩
  | .hbm, ⟨55, _⟩ => ⟨S16x4x2064x2064, .f32⟩
  | .hbm, ⟨56, _⟩ => ⟨S_, .f32⟩
  | .hbm, ⟨57, _⟩ => ⟨S16x4x2064, .f32⟩
  | .hbm, ⟨58, _⟩ => ⟨S16x4x2064x1, .f32⟩
  | .hbm, ⟨59, _⟩ => ⟨S16x4x2064x2064, .f32⟩
  | .hbm, ⟨60, _⟩ => ⟨S16x4x2064x2064, .f32⟩
  | .hbm, ⟨61, _⟩ => ⟨S_, .f32⟩
  | .hbm, ⟨62, _⟩ => ⟨S_, .f32⟩
  | .hbm, ⟨63, _⟩ => ⟨S16x4x2064x2064, .i1⟩
  | .hbm, ⟨64, _⟩ => ⟨S16x4x2064x2064, .f32⟩
  | .hbm, ⟨65, _⟩ => ⟨S16x4x2064x2064, .f32⟩
  | .hbm, ⟨66, _⟩ => ⟨S_, .f32⟩
  | .hbm, ⟨67, _⟩ => ⟨S16x4x2064, .f32⟩
  | .hbm, ⟨68, _⟩ => ⟨S_, .f32⟩
  | .hbm, ⟨69, _⟩ => ⟨S16x4x2064, .f32⟩
  | .hbm, ⟨70, _⟩ => ⟨S16x4x2064, .f32⟩
  | .hbm, ⟨71, _⟩ => ⟨S16x4x2064x1, .f32⟩
  | .hbm, ⟨72, _⟩ => ⟨S16x4x2064x2064, .f32⟩
  | .hbm, ⟨73, _⟩ => ⟨S16x4x2064x2064, .f32⟩
  | .hbm, ⟨74, _⟩ => ⟨S16x4x2064x2064, .f32⟩
  | .hbm, ⟨75, _⟩ => ⟨S_, .f32⟩
  | .hbm, ⟨76, _⟩ => ⟨S16x4x2064, .f32⟩
  | .hbm, ⟨77, _⟩ => ⟨S16x4x2064x1, .f32⟩
  | .hbm, ⟨78, _⟩ => ⟨S16x4x2064x2064, .f32⟩
  | .hbm, ⟨79, _⟩ => ⟨S16x4x2064x2064, .f32⟩
  | .hbm, ⟨80, _⟩ => ⟨S16x4x2064x2064, .f32⟩
  | .hbm, ⟨81, _⟩ => ⟨S16x4x2064x2064, .f32⟩
  | .hbm, ⟨82, _⟩ => ⟨S16x4x2064x2064, .f32⟩
  | .hbm, ⟨83, _⟩ => ⟨S16x4x128x2064, .f32⟩
  | .hbm, ⟨84, _⟩ => ⟨S16x2064x4x128, .f32⟩
  | .hbm, ⟨85, _⟩ => ⟨S16x2064x4x128, .f32⟩
  | .hbm, ⟨86, _⟩ => ⟨S_, .f32⟩
  | .hbm, ⟨87, _⟩ => ⟨S16x2064x4, .f32⟩
  | .hbm, ⟨88, _⟩ => ⟨S16x2064x4x1, .f32⟩
  | .hbm, ⟨89, _⟩ => ⟨S_, .f32⟩
  | .hbm, ⟨90, _⟩ => ⟨S16x2064x4x1, .f32⟩
  | .hbm, ⟨91, _⟩ => ⟨S16x2064x4x1, .f32⟩
  | .hbm, ⟨92, _⟩ => ⟨S_, .f32⟩
  | .hbm, ⟨93, _⟩ => ⟨S16x2064x4x1, .f32⟩
  | .hbm, ⟨94, _⟩ => ⟨S16x2064x4x1, .f32⟩
  | .hbm, ⟨95, _⟩ => ⟨S16x2064x4x1, .f32⟩
  | .hbm, ⟨96, _⟩ => ⟨S16x2064x4x128, .f32⟩
  | .hbm, ⟨97, _⟩ => ⟨S16x2064x4x128, .f32⟩
  | .hbm, ⟨98, _⟩ => ⟨S1x1x1x128, .f32⟩
  | .hbm, ⟨99, _⟩ => ⟨S16x2064x4x128, .f32⟩
  | .hbm, ⟨100, _⟩ => ⟨S16x2064x4x128, .f32⟩
  | .hbm, ⟨101, _⟩ => ⟨S_, .f32⟩
  | .hbm, ⟨102, _⟩ => ⟨S16x2064x4x128, .f32⟩
  | .hbm, ⟨103, _⟩ => ⟨S16x2064x4x128, .f32⟩
  | .hbm, ⟨104, _⟩ => ⟨S33024x512, .f32⟩
  | .hbm, ⟨105, _⟩ => ⟨S33024x512, .bf16⟩
  | _, _ => ⟨S16x2064x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩

abbrev nD : Nat := 1
abbrev τ : Topo := Topo.v7x

variable {F : FTy → Type} [FloatOps F]
-- ==== Kernel2.lean ====
abbrev S16x2064x2048 : Shape := ⟨3, ![16, 2064, 2048]⟩
abbrev S2048 : Shape := ⟨1, ![2048]⟩
abbrev S2048x5632 : Shape := ⟨2, ![2048, 5632]⟩
abbrev S3x5632 : Shape := ⟨2, ![3, 5632]⟩
abbrev S5632x2048 : Shape := ⟨2, ![5632, 2048]⟩
abbrev S33024x2048 : Shape := ⟨2, ![33024, 2048]⟩
abbrev S1x2048 : Shape := ⟨2, ![1, 2048]⟩
abbrev S688x2048 : Shape := ⟨2, ![688, 2048]⟩
abbrev S16x2048 : Shape := ⟨2, ![16, 2048]⟩
abbrev S2048x512 : Shape := ⟨2, ![2048, 512]⟩
abbrev S3x512 : Shape := ⟨2, ![3, 512]⟩
abbrev S512x2048 : Shape := ⟨2, ![512, 2048]⟩
abbrev S704x2048 : Shape := ⟨2, ![704, 2048]⟩
abbrev S704x512 : Shape := ⟨2, ![704, 512]⟩
abbrev S16 : Shape := ⟨1, ![16]⟩
abbrev S16x1 : Shape := ⟨2, ![16, 1]⟩
abbrev S688 : Shape := ⟨1, ![688]⟩
abbrev S688x1 : Shape := ⟨2, ![688, 1]⟩
abbrev S688x512 : Shape := ⟨2, ![688, 512]⟩
abbrev S1x512 : Shape := ⟨2, ![1, 512]⟩

abbrev nBuf : Space → Nat
  | .hbm => 14
  | .vmem => 19
  | .smem => 0
  | _ => 0

abbrev bufTy : (tb : Table) → Fin (tcTables nBuf tb) → BufTy
  | .hbm, ⟨0, _⟩ => ⟨S16x2064x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S3x5632, .f32⟩
  | .hbm, ⟨5, _⟩ => ⟨S5632x2048, .f32⟩
  | .hbm, ⟨6, _⟩ => ⟨S2048, .f32⟩
  | .hbm, ⟨7, _⟩ => ⟨S33024x2048, .f32⟩
  | .hbm, ⟨8, _⟩ => ⟨S1x2048, .f32⟩
  | .hbm, ⟨9, _⟩ => ⟨S2048x5632, .bf16⟩
  | .hbm, ⟨10, _⟩ => ⟨S2048x5632, .bf16⟩
  | .hbm, ⟨11, _⟩ => ⟨S5632x2048, .bf16⟩
  | .hbm, ⟨12, _⟩ => ⟨S1x2048, .f32⟩
  | .hbm, ⟨13, _⟩ => ⟨S33024x2048, .f32⟩
  | .local _ .vmem, ⟨0, _⟩ => ⟨S688x2048, .f32⟩
  | .local _ .vmem, ⟨1, _⟩ => ⟨S688x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S688x2048, .f32⟩
  | .local _ .vmem, ⟨15, _⟩ => ⟨S688x2048, .f32⟩
  | .local _ .vmem, ⟨16, _⟩ => ⟨S704x2048, .bf16⟩
  | .local _ .vmem, ⟨17, _⟩ => ⟨S704x512, .f32⟩
  | .local _ .vmem, ⟨18, _⟩ => ⟨S688x2048, .f32⟩
  | _, _ => ⟨S16x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![48, 11], ![false, false]⟩

def k0_cond2 (i : grid0.Coords) : BitVec 1 :=
  let arg1 : BitVec 32 := BitVec.ofNat 32 (i 1).val
  let c10_i32 : BitVec 32 := 10#32
  let v46 : BitVec 1 := Scalar.cmpi .eq arg1 c10_i32
  let v47 : BitVec 32 := Scalar.extui v46
  let c0_i32_28 : BitVec 32 := 0#32
  let v48 : BitVec 1 := Scalar.cmpi .ne v47 c0_i32_28
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S688x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S16x2064x2048 : Shape := ⟨3, ![16, 2064, 2048]⟩
abbrev S2048 : Shape := ⟨1, ![2048]⟩
abbrev S2048x5632 : Shape := ⟨2, ![2048, 5632]⟩
abbrev S3x5632 : Shape := ⟨2, ![3, 5632]⟩
abbrev S5632x2048 : Shape := ⟨2, ![5632, 2048]⟩
abbrev S_ : Shape := ⟨0, ![]⟩
abbrev S16x2064 : Shape := ⟨2, ![16, 2064]⟩
abbrev S16x2064x1 : Shape := ⟨3, ![16, 2064, 1]⟩
abbrev S1x1x2048 : Shape := ⟨3, ![1, 1, 2048]⟩
abbrev S16x2064x5632 : Shape := ⟨3, ![16, 2064, 5632]⟩
abbrev S16x2066x5632 : Shape := ⟨3, ![16, 2066, 5632]⟩
abbrev S1x5632 : Shape := ⟨2, ![1, 5632]⟩
abbrev S5632 : Shape := ⟨1, ![5632]⟩
abbrev S1x1x5632 : Shape := ⟨3, ![1, 1, 5632]⟩
abbrev S33024x2048 : Shape := ⟨2, ![33024, 2048]⟩

abbrev nBuf : Space → Nat
  | .hbm => 80
  | .vmem => 0
  | .smem => 0
  | _ => 0

abbrev bufTy : (tb : Table) → Fin (tcTables nBuf tb) → BufTy
  | .hbm, ⟨0, _⟩ => ⟨S16x2064x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S3x5632, .f32⟩
  | .hbm, ⟨5, _⟩ => ⟨S5632x2048, .f32⟩
  | .hbm, ⟨6, _⟩ => ⟨S2048, .f32⟩
  | .hbm, ⟨7, _⟩ => ⟨S16x2064x2048, .f32⟩
  | .hbm, ⟨8, _⟩ => ⟨S_, .f32⟩
  | .hbm, ⟨9, _⟩ => ⟨S16x2064, .f32⟩
  | .hbm, ⟨10, _⟩ => ⟨S16x2064x1, .f32⟩
  | .hbm, ⟨11, _⟩ => ⟨S_, .f32⟩
  | .hbm, ⟨12, _⟩ => ⟨S16x2064x1, .f32⟩
  | .hbm, ⟨13, _⟩ => ⟨S16x2064x1, .f32⟩
  | .hbm, ⟨14, _⟩ => ⟨S_, .f32⟩
  | .hbm, ⟨15, _⟩ => ⟨S16x2064x1, .f32⟩
  | .hbm, ⟨16, _⟩ => ⟨S16x2064x1, .f32⟩
  | .hbm, ⟨17, _⟩ => ⟨S16x2064x1, .f32⟩
  | .hbm, ⟨18, _⟩ => ⟨S16x2064x2048, .f32⟩
  | .hbm, ⟨19, _⟩ => ⟨S16x2064x2048, .f32⟩
  | .hbm, ⟨20, _⟩ => ⟨S1x1x2048, .f32⟩
  | .hbm, ⟨21, _⟩ => ⟨S16x2064x2048, .f32⟩
  | .hbm, ⟨22, _⟩ => ⟨S16x2064x2048, .f32⟩
  | .hbm, ⟨23, _⟩ => ⟨S16x2064x5632, .f32⟩
  | .hbm, ⟨24, _⟩ => ⟨S_, .i32⟩
  | .hbm, ⟨25, _⟩ => ⟨S_, .f32⟩
  | .hbm, ⟨26, _⟩ => ⟨S16x2066x5632, .f32⟩
  | .hbm, ⟨27, _⟩ => ⟨S1x5632, .f32⟩
  | .hbm, ⟨28, _⟩ => ⟨S5632, .f32⟩
  | .hbm, ⟨29, _⟩ => ⟨S16x2064x5632, .f32⟩
  | .hbm, ⟨30, _⟩ => ⟨S1x1x5632, .f32⟩
  | .hbm, ⟨31, _⟩ => ⟨S16x2064x5632, .f32⟩
  | .hbm, ⟨32, _⟩ => ⟨S16x2064x5632, .f32⟩
  | .hbm, ⟨33, _⟩ => ⟨S_, .f32⟩
  | .hbm, ⟨34, _⟩ => ⟨S16x2064x5632, .f32⟩
  | .hbm, ⟨35, _⟩ => ⟨S16x2064x5632, .f32⟩
  | .hbm, ⟨36, _⟩ => ⟨S1x5632, .f32⟩
  | .hbm, ⟨37, _⟩ => ⟨S5632, .f32⟩
  | .hbm, ⟨38, _⟩ => ⟨S16x2064x5632, .f32⟩
  | .hbm, ⟨39, _⟩ => ⟨S1x1x5632, .f32⟩
  | .hbm, ⟨40, _⟩ => ⟨S16x2064x5632, .f32⟩
  | .hbm, ⟨41, _⟩ => ⟨S16x2064x5632, .f32⟩
  | .hbm, ⟨42, _⟩ => ⟨S16x2064x5632, .f32⟩
  | .hbm, ⟨43, _⟩ => ⟨S1x5632, .f32⟩
  | .hbm, ⟨44, _⟩ => ⟨S5632, .f32⟩
  | .hbm, ⟨45, _⟩ => ⟨S16x2064x5632, .f32⟩
  | .hbm, ⟨46, _⟩ => ⟨S1x1x5632, .f32⟩
  | .hbm, ⟨47, _⟩ => ⟨S16x2064x5632, .f32⟩
  | .hbm, ⟨48, _⟩ => ⟨S16x2064x5632, .f32⟩
  | .hbm, ⟨49, _⟩ => ⟨S16x2064x5632, .f32⟩
  | .hbm, ⟨50, _⟩ => ⟨S16x2064x5632, .f32⟩
  | .hbm, ⟨51, _⟩ => ⟨S16x2064x5632, .f32⟩
  | .hbm, ⟨52, _⟩ => ⟨S_, .f32⟩
  | .hbm, ⟨53, _⟩ => ⟨S16x2064x5632, .f32⟩
  | .hbm, ⟨54, _⟩ => ⟨S16x2064x5632, .f32⟩
  | .hbm, ⟨55, _⟩ => ⟨S_, .f32⟩
  | .hbm, ⟨56, _⟩ => ⟨S16x2064x5632, .f32⟩
  | .hbm, ⟨57, _⟩ => ⟨S16x2064x5632, .f32⟩
  | .hbm, ⟨58, _⟩ => ⟨S16x2064x5632, .f32⟩
  | .hbm, ⟨59, _⟩ => ⟨S16x2064x5632, .f32⟩
  | .hbm, ⟨60, _⟩ => ⟨S16x2064x5632, .f32⟩
  | .hbm, ⟨61, _⟩ => ⟨S16x2064x2048, .f32⟩
  | .hbm, ⟨62, _⟩ => ⟨S16x2064x2048, .f32⟩
  | .hbm, ⟨63, _⟩ => ⟨S_, .f32⟩
  | .hbm, ⟨64, _⟩ => ⟨S16x2064, .f32⟩
  | .hbm, ⟨65, _⟩ => ⟨S16x2064x1, .f32⟩
  | .hbm, ⟨66, _⟩ => ⟨S_, .f32⟩
  | .hbm, ⟨67, _⟩ => ⟨S16x2064x1, .f32⟩
  | .hbm, ⟨68, _⟩ => ⟨S16x2064x1, .f32⟩
  | .hbm, ⟨69, _⟩ => ⟨S_, .f32⟩
  | .hbm, ⟨70, _⟩ => ⟨S16x2064x1, .f32⟩
  | .hbm, ⟨71, _⟩ => ⟨S16x2064x1, .f32⟩
  | .hbm, ⟨72, _⟩ => ⟨S16x2064x1, .f32⟩
  | .hbm, ⟨73, _⟩ => ⟨S16x2064x2048, .f32⟩
  | .hbm, ⟨74, _⟩ => ⟨S16x2064x2048, .f32⟩
  | .hbm, ⟨75, _⟩ => ⟨S1x1x2048, .f32⟩
  | .hbm, ⟨76, _⟩ => ⟨S16x2064x2048, .f32⟩
  | .hbm, ⟨77, _⟩ => ⟨S16x2064x2048, .f32⟩
  | .hbm, ⟨78, _⟩ => ⟨S16x2064x2048, .f32⟩
  | .hbm, ⟨79, _⟩ => ⟨S33024x2048, .f32⟩
  | _, _ => ⟨S16x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_cst_4 : Ref sig .tc := ⟨.hbm, 66, rfl⟩
abbrev main_v44 : Ref sig .tc := ⟨.hbm, 67, rfl⟩
abbrev main_v45 : Ref sig .tc := ⟨.hbm, 68, rfl⟩
abbrev main_cst_5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== Kernel3.lean ====
abbrev S16x2064x768 : Shape := ⟨3, ![16, 2064, 768]⟩
abbrev S16x2064x512 : Shape := ⟨3, ![16, 2064, 512]⟩
abbrev S2048x2048 : Shape := ⟨2, ![2048, 2048]⟩
abbrev S16x2064x2048 : Shape := ⟨3, ![16, 2064, 2048]⟩
abbrev S2048 : Shape := ⟨1, ![2048]⟩
abbrev S33024x768 : Shape := ⟨2, ![33024, 768]⟩
abbrev S33024x512 : Shape := ⟨2, ![33024, 512]⟩
abbrev S33024x2048 : Shape := ⟨2, ![33024, 2048]⟩
abbrev S1x2048 : Shape := ⟨2, ![1, 2048]⟩
abbrev S688x768 : Shape := ⟨2, ![688, 768]⟩
abbrev S688x512 : Shape := ⟨2, ![688, 512]⟩
abbrev S688x2048 : Shape := ⟨2, ![688, 2048]⟩
abbrev S768x2048 : Shape := ⟨2, ![768, 2048]⟩
abbrev S512x2048 : Shape := ⟨2, ![512, 2048]⟩
abbrev S688 : Shape := ⟨1, ![688]⟩
abbrev S688x1 : Shape := ⟨2, ![688, 1]⟩

abbrev nBuf : Space → Nat
  | .hbm => 16
  | .vmem => 12
  | .smem => 0
  | _ => 0

abbrev bufTy : (tb : Table) → Fin (tcTables nBuf tb) → BufTy
  | .hbm, ⟨0, _⟩ => ⟨S16x2064x768, .f32⟩
  | .hbm, ⟨1, _⟩ => ⟨S16x2064x512, .f32⟩
  | .hbm, ⟨2, _⟩ => ⟨S16x2064x768, .f32⟩
  | .hbm, ⟨3, _⟩ => ⟨S2048x2048, .f32⟩
  | .hbm, ⟨4, _⟩ => ⟨S16x2064x2048, .f32⟩
  | .hbm, ⟨5, _⟩ => ⟨S2048, .f32⟩
  | .hbm, ⟨6, _⟩ => ⟨S33024x768, .f32⟩
  | .hbm, ⟨7, _⟩ => ⟨S33024x768, .bf16⟩
  | .hbm, ⟨8, _⟩ => ⟨S33024x512, .f32⟩
  | .hbm, ⟨9, _⟩ => ⟨S33024x512, .bf16⟩
  | .hbm, ⟨10, _⟩ => ⟨S33024x768, .f32⟩
  | .hbm, ⟨11, _⟩ => ⟨S33024x768, .bf16⟩
  | .hbm, ⟨12, _⟩ => ⟨S2048x2048, .bf16⟩
  | .hbm, ⟨13, _⟩ => ⟨S33024x2048, .f32⟩
  | .hbm, ⟨14, _⟩ => ⟨S1x2048, .f32⟩
  | .hbm, ⟨15, _⟩ => ⟨S33024x2048, .f32⟩
  | .local _ .vmem, ⟨0, _⟩ => ⟨S688x768, .bf16⟩
  | .local _ .vmem, ⟨1, _⟩ => ⟨S688x768, .bf16⟩
  | .local _ .vmem, ⟨2, _⟩ => ⟨S688x512, .bf16⟩
  | .local _ .vmem, ⟨3, _⟩ => ⟨S688x512, .bf16⟩
  | .local _ .vmem, ⟨4, _⟩ => ⟨S688x768, .bf16⟩
  | .local _ .vmem, ⟨5, _⟩ => ⟨S688x768, .bf16⟩
  | .local _ .vmem, ⟨6, _⟩ => ⟨S2048x2048, .bf16⟩
  | .local _ .vmem, ⟨7, _⟩ => ⟨S688x2048, .f32⟩
  | .local _ .vmem, ⟨8, _⟩ => ⟨S688x2048, .f32⟩
  | .local _ .vmem, ⟨9, _⟩ => ⟨S1x2048, .f32⟩
  | .local _ .vmem, ⟨10, _⟩ => ⟨S688x2048, .f32⟩
  | .local _ .vmem, ⟨11, _⟩ => ⟨S688x2048, .f32⟩
  | _, _ => ⟨S16x2064x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S688x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16x2064x768 : Shape := ⟨3, ![16, 2064, 768]⟩
abbrev S16x2064x512 : Shape := ⟨3, ![16, 2064, 512]⟩
abbrev S2048x2048 : Shape := ⟨2, ![2048, 2048]⟩
abbrev S16x2064x2048 : Shape := ⟨3, ![16, 2064, 2048]⟩
abbrev S2048 : Shape := ⟨1, ![2048]⟩
abbrev S_ : Shape := ⟨0, ![]⟩
abbrev S16x2064 : Shape := ⟨2, ![16, 2064]⟩
abbrev S16x2064x1 : Shape := ⟨3, ![16, 2064, 1]⟩
abbrev S1x1x2048 : Shape := ⟨3, ![1, 1, 2048]⟩
abbrev S33024x2048 : Shape := ⟨2, ![33024, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16x2064x768, .f32⟩
  | .hbm, ⟨1, _⟩ => ⟨S16x2064x512, .f32⟩
  | .hbm, ⟨2, _⟩ => ⟨S16x2064x768, .f32⟩
  | .hbm, ⟨3, _⟩ => ⟨S2048x2048, .f32⟩
  | .hbm, ⟨4, _⟩ => ⟨S16x2064x2048, .f32⟩
  | .hbm, ⟨5, _⟩ => ⟨S2048, .f32⟩
  | .hbm, ⟨6, _⟩ => ⟨S16x2064x2048, .f32⟩
  | .hbm, ⟨7, _⟩ => ⟨S16x2064x2048, .f32⟩
  | .hbm, ⟨8, _⟩ => ⟨S16x2064x2048, .f32⟩
  | .hbm, ⟨9, _⟩ => ⟨S_, .f32⟩
  | .hbm, ⟨10, _⟩ => ⟨S16x2064, .f32⟩
  | .hbm, ⟨11, _⟩ => ⟨S16x2064x1, .f32⟩
  | .hbm, ⟨12, _⟩ => ⟨S_, .f32⟩
  | .hbm, ⟨13, _⟩ => ⟨S16x2064x1, .f32⟩
  | .hbm, ⟨14, _⟩ => ⟨S16x2064x1, .f32⟩
  | .hbm, ⟨15, _⟩ => ⟨S_, .f32⟩
  | .hbm, ⟨16, _⟩ => ⟨S16x2064x1, .f32⟩
  | .hbm, ⟨17, _⟩ => ⟨S16x2064x1, .f32⟩
  | .hbm, ⟨18, _⟩ => ⟨S16x2064x1, .f32⟩
  | .hbm, ⟨19, _⟩ => ⟨S16x2064x2048, .f32⟩
  | .hbm, ⟨20, _⟩ => ⟨S16x2064x2048, .f32⟩
  | .hbm, ⟨21, _⟩ => ⟨S1x1x2048, .f32⟩
  | .hbm, ⟨22, _⟩ => ⟨S16x2064x2048, .f32⟩
  | .hbm, ⟨23, _⟩ => ⟨S16x2064x2048, .f32⟩
  | .hbm, ⟨24, _⟩ => ⟨S16x2064x2048, .f32⟩
  | .hbm, ⟨25, _⟩ => ⟨S33024x2048, .f32⟩
  | _, _ => ⟨S16x2064x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel4.lean ====
abbrev S16x2064x128 : Shape := ⟨3, ![16, 2064, 128]⟩
abbrev S128 : Shape := ⟨1, ![128]⟩
abbrev S33024x128 : Shape := ⟨2, ![33024, 128]⟩
abbrev S1x128 : Shape := ⟨2, ![1, 128]⟩
abbrev S2064x128 : Shape := ⟨2, ![2064, 128]⟩
abbrev S128x128 : Shape := ⟨2, ![128, 128]⟩
abbrev S16x128 : Shape := ⟨2, ![16, 128]⟩

abbrev nBuf : Space → Nat
  | .hbm => 5
  | .vmem => 5
  | .smem => 0
  | _ => 0

abbrev bufTy : (tb : Table) → Fin (tcTables nBuf tb) → BufTy
  | .hbm, ⟨0, _⟩ => ⟨S16x2064x128, .f32⟩
  | .hbm, ⟨1, _⟩ => ⟨S128, .f32⟩
  | .hbm, ⟨2, _⟩ => ⟨S33024x128, .f32⟩
  | .hbm, ⟨3, _⟩ => ⟨S1x128, .f32⟩
  | .hbm, ⟨4, _⟩ => ⟨S33024x128, .f32⟩
  | .local _ .vmem, ⟨0, _⟩ => ⟨S2064x128, .f32⟩
  | .local _ .vmem, ⟨1, _⟩ => ⟨S2064x128, .f32⟩
  | .local _ .vmem, ⟨2, _⟩ => ⟨S1x128, .f32⟩
  | .local _ .vmem, ⟨3, _⟩ => ⟨S2064x128, .f32⟩
  | .local _ .vmem, ⟨4, _⟩ => ⟨S2064x128, .f32⟩
  | _, _ => ⟨S16x2064x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2064x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2064x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S16x2064x128 : Shape := ⟨3, ![16, 2064, 128]⟩
abbrev S128 : Shape := ⟨1, ![128]⟩
abbrev S1x1x128 : Shape := ⟨3, ![1, 1, 128]⟩
abbrev S_ : Shape := ⟨0, ![]⟩
abbrev S33024x128 : Shape := ⟨2, ![33024, 128]⟩

abbrev nBuf : Space → Nat
  | .hbm => 25
  | .vmem => 0
  | .smem => 0
  | _ => 0

abbrev bufTy : (tb : Table) → Fin (tcTables nBuf tb) → BufTy
  | .hbm, ⟨0, _⟩ => ⟨S16x2064x128, .f32⟩
  | .hbm, ⟨1, _⟩ => ⟨S128, .f32⟩
  | .hbm, ⟨2, _⟩ => ⟨S1x1x128, .f32⟩
  | .hbm, ⟨3, _⟩ => ⟨S16x2064x128, .f32⟩
  | .hbm, ⟨4, _⟩ => ⟨S16x2064x128, .f32⟩
  | .hbm, ⟨5, _⟩ => ⟨S16x2064x128, .f32⟩
  | .hbm, ⟨6, _⟩ => ⟨S_, .f32⟩
  | .hbm, ⟨7, _⟩ => ⟨S16x2064x128, .f32⟩
  | .hbm, ⟨8, _⟩ => ⟨S16x2064x128, .f32⟩
  | .hbm, ⟨9, _⟩ => ⟨S16x2064x128, .f32⟩
  | .hbm, ⟨10, _⟩ => ⟨S16x2064x128, .f32⟩
  | .hbm, ⟨11, _⟩ => ⟨S16x2064x128, .i1⟩
  | .hbm, ⟨12, _⟩ => ⟨S16x2064x128, .f32⟩
  | .hbm, ⟨13, _⟩ => ⟨S16x2064x128, .f32⟩
  | .hbm, ⟨14, _⟩ => ⟨S16x2064x128, .f32⟩
  | .hbm, ⟨15, _⟩ => ⟨S16x2064x128, .f32⟩
  | .hbm, ⟨16, _⟩ => ⟨S16x2064x128, .f32⟩
  | .hbm, ⟨17, _⟩ => ⟨S16x2064x128, .f32⟩
  | .hbm, ⟨18, _⟩ => ⟨S16x2064x128, .f32⟩
  | .hbm, ⟨19, _⟩ => ⟨S16x2064x128, .f32⟩
  | .hbm, ⟨20, _⟩ => ⟨S16x2064x128, .f32⟩
  | .hbm, ⟨21, _⟩ => ⟨S_, .f32⟩
  | .hbm, ⟨22, _⟩ => ⟨S_, .f32⟩
  | .hbm, ⟨23, _⟩ => ⟨S16x2064x128, .f32⟩
  | .hbm, ⟨24, _⟩ => ⟨S33024x128, .f32⟩
  | _, _ => ⟨S16x2064x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v3 : Ref sig .tc := ⟨.hbm, 20, rfl⟩
abbrev main_call1_call0_cst : Ref sig .tc := ⟨.hbm, 21, rfl⟩
abbrev main_call1_call0_v0 : Ref sig .tc := ⟨.hbm, 22, rfl⟩
abbrev main_v4 : Ref sig .tc := ⟨.hbm, 23, rfl⟩
abbrev main_v5 : Ref sig .tc := ⟨.hbm, 24, rfl⟩

abbrev nD : Nat := 1
abbrev τ : Topo := Topo.v7x

variable {F : FTy → Type} [FloatOps F]
-- ==== Kernel5.lean ====
abbrev S2x2048x5382 : Shape := ⟨3, ![2, 2048, 5382]⟩
abbrev S2x2048x5376 : Shape := ⟨3, ![2, 2048, 5376]⟩
abbrev S2x2048x128 : Shape := ⟨3, ![2, 2048, 128]⟩
abbrev S1x256x5382 : Shape := ⟨3, ![1, 256, 5382]⟩
abbrev S1x256x5376 : Shape := ⟨3, ![1, 256, 5376]⟩
abbrev S1x256x128 : Shape := ⟨3, ![1, 256, 128]⟩
abbrev S1x256x512 : Shape := ⟨3, ![1, 256, 512]⟩
abbrev S256x512 : Shape := ⟨2, ![256, 512]⟩
abbrev S1x256x768 : Shape := ⟨3, ![1, 256, 768]⟩
abbrev S256x768 : Shape := ⟨2, ![256, 768]⟩
abbrev S1x256x1536 : Shape := ⟨3, ![1, 256, 1536]⟩
abbrev S256x1536 : Shape := ⟨2, ![256, 1536]⟩
abbrev S1x256x1024 : Shape := ⟨3, ![1, 256, 1024]⟩
abbrev S256x1024 : Shape := ⟨2, ![256, 1024]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S2x2048x5382, .f32⟩
  | .hbm, ⟨1, _⟩ => ⟨S2x2048x5376, .bf16⟩
  | .hbm, ⟨2, _⟩ => ⟨S2x2048x128, .bf16⟩
  | .local _ .vmem, ⟨0, _⟩ => ⟨S1x256x5382, .f32⟩
  | .local _ .vmem, ⟨1, _⟩ => ⟨S1x256x5382, .f32⟩
  | .local _ .vmem, ⟨2, _⟩ => ⟨S1x256x5376, .bf16⟩
  | .local _ .vmem, ⟨3, _⟩ => ⟨S1x256x5376, .bf16⟩
  | .local _ .vmem, ⟨4, _⟩ => ⟨S1x256x128, .bf16⟩
  | .local _ .vmem, ⟨5, _⟩ => ⟨S1x256x128, .bf16⟩
  | _, _ => ⟨S2x2048x5382, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x5382 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x5376 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2x2048x5382 : Shape := ⟨3, ![2, 2048, 5382]⟩
abbrev S2x2048x768 : Shape := ⟨3, ![2, 2048, 768]⟩
abbrev S2x2048x1536 : Shape := ⟨3, ![2, 2048, 1536]⟩
abbrev S2x2048x6 : Shape := ⟨3, ![2, 2048, 6]⟩
abbrev S2x2048x512 : Shape := ⟨3, ![2, 2048, 512]⟩
abbrev S2x2048x1024 : Shape := ⟨3, ![2, 2048, 1024]⟩
abbrev S_ : Shape := ⟨0, ![]⟩
abbrev S2x2048x5376 : Shape := ⟨3, ![2, 2048, 5376]⟩
abbrev S2x2048x128 : Shape := ⟨3, ![2, 2048, 128]⟩

abbrev nBuf : Space → Nat
  | .hbm => 19
  | .vmem => 0
  | .smem => 0
  | _ => 0

abbrev bufTy : (tb : Table) → Fin (tcTables nBuf tb) → BufTy
  | .hbm, ⟨0, _⟩ => ⟨S2x2048x5382, .f32⟩
  | .hbm, ⟨1, _⟩ => ⟨S2x2048x768, .f32⟩
  | .hbm, ⟨2, _⟩ => ⟨S2x2048x1536, .f32⟩
  | .hbm, ⟨3, _⟩ => ⟨S2x2048x6, .f32⟩
  | .hbm, ⟨4, _⟩ => ⟨S2x2048x512, .f32⟩
  | .hbm, ⟨5, _⟩ => ⟨S2x2048x1024, .f32⟩
  | .hbm, ⟨6, _⟩ => ⟨S2x2048x1536, .f32⟩
  | .hbm, ⟨7, _⟩ => ⟨S_, .f32⟩
  | .hbm, ⟨8, _⟩ => ⟨S2x2048x512, .f32⟩
  | .hbm, ⟨9, _⟩ => ⟨S2x2048x512, .f32⟩
  | .hbm, ⟨10, _⟩ => ⟨S_, .f32⟩
  | .hbm, ⟨11, _⟩ => ⟨S2x2048x768, .f32⟩
  | .hbm, ⟨12, _⟩ => ⟨S2x2048x768, .f32⟩
  | .hbm, ⟨13, _⟩ => ⟨S2x2048x5376, .f32⟩
  | .hbm, ⟨14, _⟩ => ⟨S_, .i32⟩
  | .hbm, ⟨15, _⟩ => ⟨S_, .f32⟩
  | .hbm, ⟨16, _⟩ => ⟨S2x2048x128, .f32⟩
  | .hbm, ⟨17, _⟩ => ⟨S2x2048x5376, .bf16⟩
  | .hbm, ⟨18, _⟩ => ⟨S2x2048x128, .bf16⟩
  | _, _ => ⟨S2x2048x5382, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Hand.Trip.lean ====
/- One trip of the loop over pairs of key tiles: what it carries on and what it leaves in its two scratch buffers, as
   two steps of the running softmax per head. -/
module

public import proofs.«01_k».proof.Proof.Gen.KernelIdeal.Loops
public import Idealize.ShloMosaic.Lib.WritesUnit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- The scores of a tile of keys against a head's queries. -/
abbrev sc (q : FVec F S512x128 .bf16) (kt : Vec F S256x128 .bf16) : FVec F S1x1x256x512 .f32 := k0_pay2 q kt
/-- The running maximum after a tile of scores. -/
abbrev sM (m : FVec F S1x512 .f32) (s : Vec F S1x1x256x512 .f32) : FVec F S1x512 .f32 := k0_pay8 m s
/-- The running sum after a tile of scores. -/
abbrev sL (m l : FVec F S1x512 .f32) (s : Vec F S1x1x256x512 .f32) : FVec F S1x512 .f32 := k0_pay11 m l s
/-- The running weighted values after a tile of scores and values. -/
abbrev sA (m : FVec F S1x512 .f32) (s : Vec F S1x1x256x512 .f32) (a : Vec F S1x128x512 .f32)
    (vt : Vec F S1x1x128x256 .bf16) : FVec F S1x128x512 .f32 := k0_pay12 m s a vt

/-- The eight running vectors a trip carries: maximum and sum per head. -/
abbrev Carry (F : FTy → Type) := FVec F S1x512 .f32 × FVec F S1x512 .f32 × FVec F S1x512 .f32 × FVec F S1x512 .f32 × FVec F S1x512 .f32 × FVec F S1x512 .f32 × FVec F S1x512 .f32 × FVec F S1x512 .f32

/-- The carry after one tile of scores per head. -/
def carryStep (s0 s1 s2 s3 : Vec F S1x1x256x512 .f32) (c : Carry F) : Carry F :=
  (sM c.1 s0, sL c.1 c.2.1 s0, sM c.2.2.1 s1, sL c.2.2.1 c.2.2.2.1 s1, sM c.2.2.2.2.1 s2, sL c.2.2.2.2.1 c.2.2.2.2.2.1 s2,
    sM c.2.2.2.2.2.2.1 s3, sL c.2.2.2.2.2.2.1 c.2.2.2.2.2.2.2 s3)

section reads
variable {sig : RefSig} {κ : Kind} {sp : Space} {s : Shape} {e : EltTy} {Val : EltTy → Type}

/-- A load of the newest store's rectangle reads its payload. -/
theorem readAt_writes_head (v : View sig κ sp s e) (f : v.ty.Contents Val) (r : Rect s) (w : r.shape.Idx → Val e)
    (L : List (View.Piece Val s e)) : v.readAt Val r.toLoadRect (v.writes Val f (⟨r, w⟩ :: L)) = w :=
  funext fun x => View.read_writes_cons_emb v f r w L x

/-- A load of a rectangle apart from the newest store's reads the stores before it. -/
theorem readAt_writes_skip (v : View sig κ sp s e) (f : v.ty.Contents Val) (r : Rect s) (w : r.shape.Idx → Val e)
    (L : List (View.Piece Val s e)) (B : LoadRect s) (h : LoadRect.disj r B = true) :
    v.readAt Val B (v.writes Val f (⟨r, w⟩ :: L)) = v.readAt Val B (v.writes Val f L) := by
  funext x
  rw [View.readAt_apply, View.readAt_apply, View.writes_cons]
  exact View.read_slice_write_of_not_mem _ _ _ _ (by rw [Rect.map_emb_univ]; exact LoadRect.idx_not_mem_of_disj h x)

end reads

section
variable (𝒱 : Variants) (c : Dev nD) (bd : Option 𝒱.V) (i : grid0.Coords)
  (arg2 : Memref sig .tc .vmem S2064x512 .bf16) (harg2 : arg2.IsWhole)
  (arg3 : Memref sig .tc .vmem S2064x512 .bf16) (harg3 : arg3.IsWhole)
  (arg4 : Memref sig .tc .vmem S2064x512 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S1x128 .f32) (harg9 : arg9.IsWhole)
  (arg10 : Memref sig .tc .vmem S2064x512 .bf16) (harg10 : arg10.IsWhole)
  (arg11 : Memref sig .tc .vmem S4x9x128x256 .bf16) (harg11 : arg11.IsWhole)
  (arg12 : Memref sig .tc .vmem S2x4x256x512 .f32) (harg12 : arg12.IsWhole)
  (arg13 : Memref sig .tc .vmem S4x128x512 .f32) (harg13 : arg13.IsWhole)
  (v315 v316 : FVec F S1x512 .f32) (k0_t1 : Fin k0_t1_loop.trips) (v583 v602 : BitVec 32) (v614 v626 v638 v650 : FVec F S512x128 .bf16)
  (c0_i32_401 v720 c1_i32_402 : BitVec 32) (X_arg3 : BufTy.Contents (Elt F) arg3.view.ty) (X_arg11 : BufTy.Contents (Elt F) arg11.view.ty)
  (k : Fin (k0_t2_loop k0_t1).trips) (acc : Carry F) (f_arg12 : BufTy.Contents (Elt F) arg12.view.ty) (f_arg13 : BufTy.Contents (Elt F) arg13.view.ty)

theorem cov12_0 : arg12.view.readCov (trip_k0_t2.sl.HW_arg12_8 arg3 k0_t1 v614 v626 v638 v650 X_arg3 k)
      (Rect.unit (s := S2x4x256x512) ![1, 0, 0, 0] S1x1x256x512.size inb_S2x4x256x512_S1x1x256x512_1_0_0_0).toLoadRect = (sc v614 (View.readAt (Elt F) arg3.view (Rect.unit (s := S2064x512) (k0_off5 k0_t1 k) S256x128.size (k0_off5_inb k0_t1 k)).toLoadRect X_arg3)) := by
  unfold trip_k0_t2.sl.HW_arg12_8
  iterate 7 rw [View.readCov_skip (h := by decide)]
  exact View.readCov_cons_toLoadRect ..

theorem cov12_1 : arg12.view.readCov (trip_k0_t2.sl.HW_arg12_8 arg3 k0_t1 v614 v626 v638 v650 X_arg3 k)
      (Rect.unit (s := S2x4x256x512) ![1, 1, 0, 0] S1x1x256x512.size inb_S2x4x256x512_S1x1x256x512_1_1_0_0).toLoadRect = (sc v626 (View.readAt (Elt F) arg3.view (Rect.unit (s := S2064x512) (k0_off6 k0_t1 k) S256x128.size (k0_off6_inb k0_t1 k)).toLoadRect X_arg3)) := by
  unfold trip_k0_t2.sl.HW_arg12_8
  iterate 6 rw [View.readCov_skip (h := by decide)]
  exact View.readCov_cons_toLoadRect ..

theorem cov12_2 : arg12.view.readCov (trip_k0_t2.sl.HW_arg12_8 arg3 k0_t1 v614 v626 v638 v650 X_arg3 k)
      (Rect.unit (s := S2x4x256x512) ![1, 2, 0, 0] S1x1x256x512.size inb_S2x4x256x512_S1x1x256x512_1_2_0_0).toLoadRect = (sc v638 (View.readAt (Elt F) arg3.view (Rect.unit (s := S2064x512) (k0_off7 k0_t1 k) S256x128.size (k0_off7_inb k0_t1 k)).toLoadRect X_arg3)) := by
  unfold trip_k0_t2.sl.HW_arg12_8
  iterate 5 rw [View.readCov_skip (h := by decide)]
  exact View.readCov_cons_toLoadRect ..

theorem cov12_3 : arg12.view.readCov (trip_k0_t2.sl.HW_arg12_8 arg3 k0_t1 v614 v626 v638 v650 X_arg3 k)
      (Rect.unit (s := S2x4x256x512) ![1, 3, 0, 0] S1x1x256x512.size inb_S2x4x256x512_S1x1x256x512_1_3_0_0).toLoadRect = (sc v650 (View.readAt (Elt F) arg3.view (Rect.unit (s := S2064x512) (k0_off8 k0_t1 k) S256x128.size (k0_off8_inb k0_t1 k)).toLoadRect X_arg3)) := by
  unfold trip_k0_t2.sl.HW_arg12_8
  iterate 4 rw [View.readCov_skip (h := by decide)]
  exact View.readCov_cons_toLoadRect ..

theorem trip_m0 : (tripR_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 k acc f_arg12 f_arg13).1
    = (sM (sM acc.1 (View.readAt (Elt F) arg12.view (Rect.unit (s := S2x4x256x512) ![0, 0, 0, 0] S1x1x256x512.size inb_S2x4x256x512_S1x1x256x512_0_0_0_0).toLoadRect f_arg12)) (sc v614 (View.readAt (Elt F) arg3.view (Rect.unit (s := S2064x512) (k0_off5 k0_t1 k) S256x128.size (k0_off5_inb k0_t1 k)).toLoadRect X_arg3))) := by
  rw [← cov12_0 arg3 arg12]
  delta tripR_k0_t2
  rw [trip_k0_t2.eq_def]
  rfl

theorem trip_l0 : (tripR_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 k acc f_arg12 f_arg13).2.1
    = (sL (sM acc.1 (View.readAt (Elt F) arg12.view (Rect.unit (s := S2x4x256x512) ![0, 0, 0, 0] S1x1x256x512.size inb_S2x4x256x512_S1x1x256x512_0_0_0_0).toLoadRect f_arg12)) (sL acc.1 acc.2.1 (View.readAt (Elt F) arg12.view (Rect.unit (s := S2x4x256x512) ![0, 0, 0, 0] S1x1x256x512.size inb_S2x4x256x512_S1x1x256x512_0_0_0_0).toLoadRect f_arg12)) (sc v614 (View.readAt (Elt F) arg3.view (Rect.unit (s := S2064x512) (k0_off5 k0_t1 k) S256x128.size (k0_off5_inb k0_t1 k)).toLoadRect X_arg3))) := by
  rw [← cov12_0 arg3 arg12]
  delta tripR_k0_t2
  rw [trip_k0_t2.eq_def]
  rfl

theorem trip_m1 : (tripR_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 k acc f_arg12 f_arg13).2.2.1
    = (sM (sM acc.2.2.1 (View.readAt (Elt F) arg12.view (Rect.unit (s := S2x4x256x512) ![0, 1, 0, 0] S1x1x256x512.size inb_S2x4x256x512_S1x1x256x512_0_1_0_0).toLoadRect f_arg12)) (sc v626 (View.readAt (Elt F) arg3.view (Rect.unit (s := S2064x512) (k0_off6 k0_t1 k) S256x128.size (k0_off6_inb k0_t1 k)).toLoadRect X_arg3))) := by
  rw [← cov12_1 arg3 arg12]
  delta tripR_k0_t2
  rw [trip_k0_t2.eq_def]
  rfl

theorem trip_l1 : (tripR_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 k acc f_arg12 f_arg13).2.2.2.1
    = (sL (sM acc.2.2.1 (View.readAt (Elt F) arg12.view (Rect.unit (s := S2x4x256x512) ![0, 1, 0, 0] S1x1x256x512.size inb_S2x4x256x512_S1x1x256x512_0_1_0_0).toLoadRect f_arg12)) (sL acc.2.2.1 acc.2.2.2.1 (View.readAt (Elt F) arg12.view (Rect.unit (s := S2x4x256x512) ![0, 1, 0, 0] S1x1x256x512.size inb_S2x4x256x512_S1x1x256x512_0_1_0_0).toLoadRect f_arg12)) (sc v626 (View.readAt (Elt F) arg3.view (Rect.unit (s := S2064x512) (k0_off6 k0_t1 k) S256x128.size (k0_off6_inb k0_t1 k)).toLoadRect X_arg3))) := by
  rw [← cov12_1 arg3 arg12]
  delta tripR_k0_t2
  rw [trip_k0_t2.eq_def]
  rfl

theorem trip_m2 : (tripR_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 k acc f_arg12 f_arg13).2.2.2.2.1
    = (sM (sM acc.2.2.2.2.1 (View.readAt (Elt F) arg12.view (Rect.unit (s := S2x4x256x512) ![0, 2, 0, 0] S1x1x256x512.size inb_S2x4x256x512_S1x1x256x512_0_2_0_0).toLoadRect f_arg12)) (sc v638 (View.readAt (Elt F) arg3.view (Rect.unit (s := S2064x512) (k0_off7 k0_t1 k) S256x128.size (k0_off7_inb k0_t1 k)).toLoadRect X_arg3))) := by
  rw [← cov12_2 arg3 arg12]
  delta tripR_k0_t2
  rw [trip_k0_t2.eq_def]
  rfl

theorem trip_l2 : (tripR_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 k acc f_arg12 f_arg13).2.2.2.2.2.1
    = (sL (sM acc.2.2.2.2.1 (View.readAt (Elt F) arg12.view (Rect.unit (s := S2x4x256x512) ![0, 2, 0, 0] S1x1x256x512.size inb_S2x4x256x512_S1x1x256x512_0_2_0_0).toLoadRect f_arg12)) (sL acc.2.2.2.2.1 acc.2.2.2.2.2.1 (View.readAt (Elt F) arg12.view (Rect.unit (s := S2x4x256x512) ![0, 2, 0, 0] S1x1x256x512.size inb_S2x4x256x512_S1x1x256x512_0_2_0_0).toLoadRect f_arg12)) (sc v638 (View.readAt (Elt F) arg3.view (Rect.unit (s := S2064x512) (k0_off7 k0_t1 k) S256x128.size (k0_off7_inb k0_t1 k)).toLoadRect X_arg3))) := by
  rw [← cov12_2 arg3 arg12]
  delta tripR_k0_t2
  rw [trip_k0_t2.eq_def]
  rfl

theorem trip_m3 : (tripR_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 k acc f_arg12 f_arg13).2.2.2.2.2.2.1
    = (sM (sM acc.2.2.2.2.2.2.1 (View.readAt (Elt F) arg12.view (Rect.unit (s := S2x4x256x512) ![0, 3, 0, 0] S1x1x256x512.size inb_S2x4x256x512_S1x1x256x512_0_3_0_0).toLoadRect f_arg12)) (sc v650 (View.readAt (Elt F) arg3.view (Rect.unit (s := S2064x512) (k0_off8 k0_t1 k) S256x128.size (k0_off8_inb k0_t1 k)).toLoadRect X_arg3))) := by
  rw [← cov12_3 arg3 arg12]
  delta tripR_k0_t2
  rw [trip_k0_t2.eq_def]
  rfl

theorem trip_l3 : (tripR_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 k acc f_arg12 f_arg13).2.2.2.2.2.2.2
    = (sL (sM acc.2.2.2.2.2.2.1 (View.readAt (Elt F) arg12.view (Rect.unit (s := S2x4x256x512) ![0, 3, 0, 0] S1x1x256x512.size inb_S2x4x256x512_S1x1x256x512_0_3_0_0).toLoadRect f_arg12)) (sL acc.2.2.2.2.2.2.1 acc.2.2.2.2.2.2.2 (View.readAt (Elt F) arg12.view (Rect.unit (s := S2x4x256x512) ![0, 3, 0, 0] S1x1x256x512.size inb_S2x4x256x512_S1x1x256x512_0_3_0_0).toLoadRect f_arg12)) (sc v650 (View.readAt (Elt F) arg3.view (Rect.unit (s := S2064x512) (k0_off8 k0_t1 k) S256x128.size (k0_off8_inb k0_t1 k)).toLoadRect X_arg3))) := by
  rw [← cov12_3 arg3 arg12]
  delta tripR_k0_t2
  rw [trip_k0_t2.eq_def]
  rfl

theorem cov13_0 : arg13.view.readCov (trip_k0_t2.sl.HW_arg13_4 arg11 arg12 arg13 k0_t1 X_arg11 k acc f_arg12 f_arg13)
      (Rect.unit (s := S4x128x512) ![0, 0, 0] S1x128x512.size inb_S4x128x512_S1x128x512_0_0_0).toLoadRect = (sA acc.1 (View.readAt (Elt F) arg12.view (Rect.unit (s := S2x4x256x512) ![0, 0, 0, 0] S1x1x256x512.size inb_S2x4x256x512_S1x1x256x512_0_0_0_0).toLoadRect f_arg12) (View.readAt (Elt F) arg13.view (Rect.unit (s := S4x128x512) ![0, 0, 0] S1x128x512.size inb_S4x128x512_S1x128x512_0_0_0).toLoadRect f_arg13) (View.readAt (Elt F) arg11.view (Rect.unit (s := S4x9x128x256) (k0_off9 k0_t1 k) S1x1x128x256.size (k0_off9_inb k0_t1 k)).toLoadRect X_arg11)) := by
  unfold trip_k0_t2.sl.HW_arg13_4
  iterate 3 rw [View.readCov_skip (h := by decide)]
  exact View.readCov_cons_toLoadRect ..

theorem cov13_1 : arg13.view.readCov (trip_k0_t2.sl.HW_arg13_5 arg3 arg11 arg12 arg13 k0_t1 v614 v626 v638 v650 X_arg3 X_arg11 k acc f_arg12 f_arg13)
      (Rect.unit (s := S4x128x512) ![1, 0, 0] S1x128x512.size inb_S4x128x512_S1x128x512_1_0_0).toLoadRect = (sA acc.2.2.1 (View.readAt (Elt F) arg12.view (Rect.unit (s := S2x4x256x512) ![0, 1, 0, 0] S1x1x256x512.size inb_S2x4x256x512_S1x1x256x512_0_1_0_0).toLoadRect f_arg12) (View.readAt (Elt F) arg13.view (Rect.unit (s := S4x128x512) ![1, 0, 0] S1x128x512.size inb_S4x128x512_S1x128x512_1_0_0).toLoadRect f_arg13) (View.readAt (Elt F) arg11.view (Rect.unit (s := S4x9x128x256) (k0_off10 k0_t1 k) S1x1x128x256.size (k0_off10_inb k0_t1 k)).toLoadRect X_arg11)) := by
  unfold trip_k0_t2.sl.HW_arg13_5 trip_k0_t2.sl.HW_arg13_4
  iterate 3 rw [View.readCov_skip (h := by decide)]
  exact View.readCov_cons_toLoadRect ..

theorem cov13_2 : arg13.view.readCov (trip_k0_t2.sl.HW_arg13_6 arg3 arg11 arg12 arg13 k0_t1 v614 v626 v638 v650 X_arg3 X_arg11 k acc f_arg12 f_arg13)
      (Rect.unit (s := S4x128x512) ![2, 0, 0] S1x128x512.size inb_S4x128x512_S1x128x512_2_0_0).toLoadRect = (sA acc.2.2.2.2.1 (View.readAt (Elt F) arg12.view (Rect.unit (s := S2x4x256x512) ![0, 2, 0, 0] S1x1x256x512.size inb_S2x4x256x512_S1x1x256x512_0_2_0_0).toLoadRect f_arg12) (View.readAt (Elt F) arg13.view (Rect.unit (s := S4x128x512) ![2, 0, 0] S1x128x512.size inb_S4x128x512_S1x128x512_2_0_0).toLoadRect f_arg13) (View.readAt (Elt F) arg11.view (Rect.unit (s := S4x9x128x256) (k0_off11 k0_t1 k) S1x1x128x256.size (k0_off11_inb k0_t1 k)).toLoadRect X_arg11)) := by
  unfold trip_k0_t2.sl.HW_arg13_6 trip_k0_t2.sl.HW_arg13_5 trip_k0_t2.sl.HW_arg13_4
  iterate 3 rw [View.readCov_skip (h := by decide)]
  exact View.readCov_cons_toLoadRect ..

theorem cov13_3 : arg13.view.readCov (trip_k0_t2.sl.HW_arg13_7 arg3 arg11 arg12 arg13 k0_t1 v614 v626 v638 v650 X_arg3 X_arg11 k acc f_arg12 f_arg13)
      (Rect.unit (s := S4x128x512) ![3, 0, 0] S1x128x512.size inb_S4x128x512_S1x128x512_3_0_0).toLoadRect = (sA acc.2.2.2.2.2.2.1 (View.readAt (Elt F) arg12.view (Rect.unit (s := S2x4x256x512) ![0, 3, 0, 0] S1x1x256x512.size inb_S2x4x256x512_S1x1x256x512_0_3_0_0).toLoadRect f_arg12) (View.readAt (Elt F) arg13.view (Rect.unit (s := S4x128x512) ![3, 0, 0] S1x128x512.size inb_S4x128x512_S1x128x512_3_0_0).toLoadRect f_arg13) (View.readAt (Elt F) arg11.view (Rect.unit (s := S4x9x128x256) (k0_off12 k0_t1 k) S1x1x128x256.size (k0_off12_inb k0_t1 k)).toLoadRect X_arg11)) := by
  unfold trip_k0_t2.sl.HW_arg13_7 trip_k0_t2.sl.HW_arg13_6 trip_k0_t2.sl.HW_arg13_5 trip_k0_t2.sl.HW_arg13_4
  iterate 3 rw [View.readCov_skip (h := by decide)]
  exact View.readCov_cons_toLoadRect ..

theorem trip_a0 (f : BufTy.Contents (Elt F) arg13.view.ty) : View.readAt (Elt F) arg13.view (Rect.unit (s := S4x128x512) ![0, 0, 0] S1x128x512.size inb_S4x128x512_S1x128x512_0_0_0).toLoadRect
      (arg13.view.writes (Elt F) f (tripL_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 k acc f_arg12 f_arg13).2) = (sA (sM acc.1 (View.readAt (Elt F) arg12.view (Rect.unit (s := S2x4x256x512) ![0, 0, 0, 0] S1x1x256x512.size inb_S2x4x256x512_S1x1x256x512_0_0_0_0).toLoadRect f_arg12)) (sc v614 (View.readAt (Elt F) arg3.view (Rect.unit (s := S2064x512) (k0_off5 k0_t1 k) S256x128.size (k0_off5_inb k0_t1 k)).toLoadRect X_arg3)) (sA acc.1 (View.readAt (Elt F) arg12.view (Rect.unit (s := S2x4x256x512) ![0, 0, 0, 0] S1x1x256x512.size inb_S2x4x256x512_S1x1x256x512_0_0_0_0).toLoadRect f_arg12) (View.readAt (Elt F) arg13.view (Rect.unit (s := S4x128x512) ![0, 0, 0] S1x128x512.size inb_S4x128x512_S1x128x512_0_0_0).toLoadRect f_arg13) (View.readAt (Elt F) arg11.view (Rect.unit (s := S4x9x128x256) (k0_off9 k0_t1 k) S1x1x128x256.size (k0_off9_inb k0_t1 k)).toLoadRect X_arg11)) (View.readAt (Elt F) arg11.view (Rect.unit (s := S4x9x128x256) (k0_off17 k0_t1 k) S1x1x128x256.size (k0_off17_inb k0_t1 k)).toLoadRect X_arg11)) := by
  rw [← cov12_0 arg3 arg12, ← cov13_0 arg11 arg12 arg13 k0_t1]
  delta tripL_k0_t2
  rw [trip_k0_t2.eq_def]
  dsimp only
  unfold trip_k0_t2.sl.HW_arg13_7 trip_k0_t2.sl.HW_arg13_6 trip_k0_t2.sl.HW_arg13_5
  iterate 3 rw [readAt_writes_skip (h := by decide)]
  exact readAt_writes_head ..

theorem trip_s0 (f : BufTy.Contents (Elt F) arg12.view.ty) : View.readAt (Elt F) arg12.view (Rect.unit (s := S2x4x256x512) ![0, 0, 0, 0] S1x1x256x512.size inb_S2x4x256x512_S1x1x256x512_0_0_0_0).toLoadRect
      (arg12.view.writes (Elt F) f (tripL_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 k acc f_arg12 f_arg13).1) = (sc v614 (View.readAt (Elt F) arg3.view (Rect.unit (s := S2064x512) (k0_off13 k0_t1 k) S256x128.size (k0_off13_inb k0_t1 k)).toLoadRect X_arg3)) := by
  delta tripL_k0_t2
  rw [trip_k0_t2.eq_def]
  dsimp only
  unfold trip_k0_t2.sl.HW_arg12_8
  iterate 3 rw [readAt_writes_skip (h := by decide)]
  exact readAt_writes_head ..

theorem trip_a1 (f : BufTy.Contents (Elt F) arg13.view.ty) : View.readAt (Elt F) arg13.view (Rect.unit (s := S4x128x512) ![1, 0, 0] S1x128x512.size inb_S4x128x512_S1x128x512_1_0_0).toLoadRect
      (arg13.view.writes (Elt F) f (tripL_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 k acc f_arg12 f_arg13).2) = (sA (sM acc.2.2.1 (View.readAt (Elt F) arg12.view (Rect.unit (s := S2x4x256x512) ![0, 1, 0, 0] S1x1x256x512.size inb_S2x4x256x512_S1x1x256x512_0_1_0_0).toLoadRect f_arg12)) (sc v626 (View.readAt (Elt F) arg3.view (Rect.unit (s := S2064x512) (k0_off6 k0_t1 k) S256x128.size (k0_off6_inb k0_t1 k)).toLoadRect X_arg3)) (sA acc.2.2.1 (View.readAt (Elt F) arg12.view (Rect.unit (s := S2x4x256x512) ![0, 1, 0, 0] S1x1x256x512.size inb_S2x4x256x512_S1x1x256x512_0_1_0_0).toLoadRect f_arg12) (View.readAt (Elt F) arg13.view (Rect.unit (s := S4x128x512) ![1, 0, 0] S1x128x512.size inb_S4x128x512_S1x128x512_1_0_0).toLoadRect f_arg13) (View.readAt (Elt F) arg11.view (Rect.unit (s := S4x9x128x256) (k0_off10 k0_t1 k) S1x1x128x256.size (k0_off10_inb k0_t1 k)).toLoadRect X_arg11)) (View.readAt (Elt F) arg11.view (Rect.unit (s := S4x9x128x256) (k0_off18 k0_t1 k) S1x1x128x256.size (k0_off18_inb k0_t1 k)).toLoadRect X_arg11)) := by
  rw [← cov12_1 arg3 arg12, ← cov13_1 arg3 arg11 arg12 arg13 k0_t1 v614 v626 v638 v650]
  delta tripL_k0_t2
  rw [trip_k0_t2.eq_def]
  dsimp only
  unfold trip_k0_t2.sl.HW_arg13_7 trip_k0_t2.sl.HW_arg13_6 trip_k0_t2.sl.HW_arg13_5
  iterate 2 rw [readAt_writes_skip (h := by decide)]
  exact readAt_writes_head ..

theorem trip_s1 (f : BufTy.Contents (Elt F) arg12.view.ty) : View.readAt (Elt F) arg12.view (Rect.unit (s := S2x4x256x512) ![0, 1, 0, 0] S1x1x256x512.size inb_S2x4x256x512_S1x1x256x512_0_1_0_0).toLoadRect
      (arg12.view.writes (Elt F) f (tripL_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 k acc f_arg12 f_arg13).1) = (sc v626 (View.readAt (Elt F) arg3.view (Rect.unit (s := S2064x512) (k0_off14 k0_t1 k) S256x128.size (k0_off14_inb k0_t1 k)).toLoadRect X_arg3)) := by
  delta tripL_k0_t2
  rw [trip_k0_t2.eq_def]
  dsimp only
  unfold trip_k0_t2.sl.HW_arg12_8
  iterate 2 rw [readAt_writes_skip (h := by decide)]
  exact readAt_writes_head ..

theorem trip_a2 (f : BufTy.Contents (Elt F) arg13.view.ty) : View.readAt (Elt F) arg13.view (Rect.unit (s := S4x128x512) ![2, 0, 0] S1x128x512.size inb_S4x128x512_S1x128x512_2_0_0).toLoadRect
      (arg13.view.writes (Elt F) f (tripL_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 k acc f_arg12 f_arg13).2) = (sA (sM acc.2.2.2.2.1 (View.readAt (Elt F) arg12.view (Rect.unit (s := S2x4x256x512) ![0, 2, 0, 0] S1x1x256x512.size inb_S2x4x256x512_S1x1x256x512_0_2_0_0).toLoadRect f_arg12)) (sc v638 (View.readAt (Elt F) arg3.view (Rect.unit (s := S2064x512) (k0_off7 k0_t1 k) S256x128.size (k0_off7_inb k0_t1 k)).toLoadRect X_arg3)) (sA acc.2.2.2.2.1 (View.readAt (Elt F) arg12.view (Rect.unit (s := S2x4x256x512) ![0, 2, 0, 0] S1x1x256x512.size inb_S2x4x256x512_S1x1x256x512_0_2_0_0).toLoadRect f_arg12) (View.readAt (Elt F) arg13.view (Rect.unit (s := S4x128x512) ![2, 0, 0] S1x128x512.size inb_S4x128x512_S1x128x512_2_0_0).toLoadRect f_arg13) (View.readAt (Elt F) arg11.view (Rect.unit (s := S4x9x128x256) (k0_off11 k0_t1 k) S1x1x128x256.size (k0_off11_inb k0_t1 k)).toLoadRect X_arg11)) (View.readAt (Elt F) arg11.view (Rect.unit (s := S4x9x128x256) (k0_off19 k0_t1 k) S1x1x128x256.size (k0_off19_inb k0_t1 k)).toLoadRect X_arg11)) := by
  rw [← cov12_2 arg3 arg12, ← cov13_2 arg3 arg11 arg12 arg13 k0_t1 v614 v626 v638 v650]
  delta tripL_k0_t2
  rw [trip_k0_t2.eq_def]
  dsimp only
  unfold trip_k0_t2.sl.HW_arg13_7 trip_k0_t2.sl.HW_arg13_6 trip_k0_t2.sl.HW_arg13_5
  iterate 1 rw [readAt_writes_skip (h := by decide)]
  exact readAt_writes_head ..

theorem trip_s2 (f : BufTy.Contents (Elt F) arg12.view.ty) : View.readAt (Elt F) arg12.view (Rect.unit (s := S2x4x256x512) ![0, 2, 0, 0] S1x1x256x512.size inb_S2x4x256x512_S1x1x256x512_0_2_0_0).toLoadRect
      (arg12.view.writes (Elt F) f (tripL_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 k acc f_arg12 f_arg13).1) = (sc v638 (View.readAt (Elt F) arg3.view (Rect.unit (s := S2064x512) (k0_off15 k0_t1 k) S256x128.size (k0_off15_inb k0_t1 k)).toLoadRect X_arg3)) := by
  delta tripL_k0_t2
  rw [trip_k0_t2.eq_def]
  dsimp only
  unfold trip_k0_t2.sl.HW_arg12_8
  iterate 1 rw [readAt_writes_skip (h := by decide)]
  exact readAt_writes_head ..

theorem trip_a3 (f : BufTy.Contents (Elt F) arg13.view.ty) : View.readAt (Elt F) arg13.view (Rect.unit (s := S4x128x512) ![3, 0, 0] S1x128x512.size inb_S4x128x512_S1x128x512_3_0_0).toLoadRect
      (arg13.view.writes (Elt F) f (tripL_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 k acc f_arg12 f_arg13).2) = (sA (sM acc.2.2.2.2.2.2.1 (View.readAt (Elt F) arg12.view (Rect.unit (s := S2x4x256x512) ![0, 3, 0, 0] S1x1x256x512.size inb_S2x4x256x512_S1x1x256x512_0_3_0_0).toLoadRect f_arg12)) (sc v650 (View.readAt (Elt F) arg3.view (Rect.unit (s := S2064x512) (k0_off8 k0_t1 k) S256x128.size (k0_off8_inb k0_t1 k)).toLoadRect X_arg3)) (sA acc.2.2.2.2.2.2.1 (View.readAt (Elt F) arg12.view (Rect.unit (s := S2x4x256x512) ![0, 3, 0, 0] S1x1x256x512.size inb_S2x4x256x512_S1x1x256x512_0_3_0_0).toLoadRect f_arg12) (View.readAt (Elt F) arg13.view (Rect.unit (s := S4x128x512) ![3, 0, 0] S1x128x512.size inb_S4x128x512_S1x128x512_3_0_0).toLoadRect f_arg13) (View.readAt (Elt F) arg11.view (Rect.unit (s := S4x9x128x256) (k0_off12 k0_t1 k) S1x1x128x256.size (k0_off12_inb k0_t1 k)).toLoadRect X_arg11)) (View.readAt (Elt F) arg11.view (Rect.unit (s := S4x9x128x256) (k0_off20 k0_t1 k) S1x1x128x256.size (k0_off20_inb k0_t1 k)).toLoadRect X_arg11)) := by
  rw [← cov12_3 arg3 arg12, ← cov13_3 arg3 arg11 arg12 arg13 k0_t1 v614 v626 v638 v650]
  delta tripL_k0_t2
  rw [trip_k0_t2.eq_def]
  dsimp only
  unfold trip_k0_t2.sl.HW_arg13_7 trip_k0_t2.sl.HW_arg13_6 trip_k0_t2.sl.HW_arg13_5
  iterate 0 rw [readAt_writes_skip (h := by decide)]
  exact readAt_writes_head ..

theorem trip_s3 (f : BufTy.Contents (Elt F) arg12.view.ty) : View.readAt (Elt F) arg12.view (Rect.unit (s := S2x4x256x512) ![0, 3, 0, 0] S1x1x256x512.size inb_S2x4x256x512_S1x1x256x512_0_3_0_0).toLoadRect
      (arg12.view.writes (Elt F) f (tripL_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 k acc f_arg12 f_arg13).1) = (sc v650 (View.readAt (Elt F) arg3.view (Rect.unit (s := S2064x512) (k0_off16 k0_t1 k) S256x128.size (k0_off16_inb k0_t1 k)).toLoadRect X_arg3)) := by
  delta tripL_k0_t2
  rw [trip_k0_t2.eq_def]
  dsimp only
  unfold trip_k0_t2.sl.HW_arg12_8
  iterate 0 rw [readAt_writes_skip (h := by decide)]
  exact readAt_writes_head ..

end

end Cert.KernelIdeal.Gen
-- ==== Proof.Hand.Outer.lean ====
/- One trip of the loop over query tiles, run at a symbolic trip, with and without the odd last full key tile. -/
module

public import proofs.«01_k».proof.Proof.Hand.Trip

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What a trip over a query tile holds: queries, keys, the norm's weights and the transposed values at their contents,
   the output block and the two scratch buffers at any. -/
abbrev TripQ (c : Dev nD) (arg2 arg3 : Memref sig .tc .vmem S2064x512 .bf16) (arg9 : Memref sig .tc .vmem S1x128 .f32)
    (arg10 : Memref sig .tc .vmem S2064x512 .bf16) (arg11 : Memref sig .tc .vmem S4x9x128x256 .bf16)
    (arg12 : Memref sig .tc .vmem S2x4x256x512 .f32) (arg13 : Memref sig .tc .vmem S4x128x512 .f32)
    (X2 : BufTy.Contents (Elt F) arg2.view.ty) (X3 : BufTy.Contents (Elt F) arg3.view.ty) (X9 : BufTy.Contents (Elt F) arg9.view.ty)
    (X11 : BufTy.Contents (Elt F) arg11.view.ty) (f10 : BufTy.Contents (Elt F) arg10.view.ty)
    (f12 : BufTy.Contents (Elt F) arg12.view.ty) (f13 : BufTy.Contents (Elt F) arg13.view.ty) : sProp 𝕄G :=
  iprop((arg2.view.loc (c : Thread nD τ) ↦[arg2.view.set]{fullShare} X2) ∗ (arg3.view.loc (c : Thread nD τ) ↦[arg3.view.set]{fullShare} X3)
    ∗ (arg9.view.loc (c : Thread nD τ) ↦[arg9.view.set]{fullShare} X9) ∗ (arg10.view.loc (c : Thread nD τ) ↦[arg10.view.set]{fullShare} f10)
    ∗ (arg11.view.loc (c : Thread nD τ) ↦[arg11.view.set]{fullShare} X11) ∗ (arg12.view.loc (c : Thread nD τ) ↦[arg12.view.set]{fullShare} f12)
    ∗ (arg13.view.loc (c : Thread nD τ) ↦[arg13.view.set]{fullShare} f13))

set_option warn.classDefReducibility false
section
variable (𝒱 : Variants) (c : Dev nD) (bd : Option 𝒱.V) (i : grid0.Coords)
  (arg2 : Memref sig .tc .vmem S2064x512 .bf16) (harg2 : arg2.IsWhole)
  (arg3 : Memref sig .tc .vmem S2064x512 .bf16) (harg3 : arg3.IsWhole)
  (arg4 : Memref sig .tc .vmem S2064x512 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S1x128 .f32) (harg9 : arg9.IsWhole)
  (arg10 : Memref sig .tc .vmem S2064x512 .bf16) (harg10 : arg10.IsWhole)
  (arg11 : Memref sig .tc .vmem S4x9x128x256 .bf16) (harg11 : arg11.IsWhole)
  (arg12 : Memref sig .tc .vmem S2x4x256x512 .f32) (harg12 : arg12.IsWhole)
  (arg13 : Memref sig .tc .vmem S4x128x512 .f32) (harg13 : arg13.IsWhole)
  (v18 : FVec F S1x1 .f32) (v315 v316 : FVec F S1x512 .f32)
  (X2 : BufTy.Contents (Elt F) arg2.view.ty) (X3 : BufTy.Contents (Elt F) arg3.view.ty) (X9 : BufTy.Contents (Elt F) arg9.view.ty)
  (X11 : BufTy.Contents (Elt F) arg11.view.ty) (k0_t1 : Fin k0_t1_loop.trips)

/-- The inner loop by its generated invariant, the words its region does not use fixed. -/
@[sl_loop] def loopKeys2 (𝒱 : Variants) (c : Dev nD) (bd : Option 𝒱.V) (E : Set ℕ) (i : grid0.Coords) (arg2 : Memref sig .tc .vmem S2064x512 .bf16) (harg2 : arg2.IsWhole) (arg3 : Memref sig .tc .vmem S2064x512 .bf16) (harg3 : arg3.IsWhole) (arg4 : Memref sig .tc .vmem S2064x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S2064x512 .bf16) (harg10 : arg10.IsWhole) (arg11 : Memref sig .tc .vmem S4x9x128x256 .bf16) (harg11 : arg11.IsWhole) (arg12 : Memref sig .tc .vmem S2x4x256x512 .f32) (harg12 : arg12.IsWhole) (arg13 : Memref sig .tc .vmem S4x128x512 .f32) (harg13 : arg13.IsWhole) (k0_t1 : Fin k0_t1_loop.trips) (v614 v626 v638 v650 : FVec F S512x128 .bf16) (X_arg3 : BufTy.Contents (Elt F) arg3.view.ty) (X_arg11 : BufTy.Contents (Elt F) arg11.view.ty) (G_arg12 : BufTy.Contents (Elt F) arg12.view.ty) (G_arg13 : BufTy.Contents (Elt F) arg13.view.ty) (init : Carry F) :=
  loopInv_k0_t2 𝒱 c bd E i arg2 harg2 arg3 harg3 arg4 harg4 arg5 harg5 arg6 harg6 arg7 harg7 arg8 harg8 arg9 harg9 arg10 harg10 arg11 harg11 arg12 harg12 arg13 harg13 init.1 init.1 k0_t1 0#32 0#32 v614 v626 v638 v650 0#32 0#32 0#32 X_arg3 X_arg11 G_arg12 G_arg13 init

/-- The loop over a leftover key tile makes no trip. -/
theorem keys3_trips : ∀ k : Fin k0_t1_loop.trips, (k0_t3_loop k).trips = 0 := by decide +kernel

theorem off45_odd : ∀ k : Fin k0_t1_loop.trips, k0_cond1 k = 1#1 → k0_off45 k = ![1, 0, 0, 0] := by decide +kernel
theorem off45_even : ∀ k : Fin k0_t1_loop.trips, ¬ k0_cond1 k = 1#1 → k0_off45 k = ![0, 0, 0, 0] := by decide +kernel
instance closed45_odd (k : Fin k0_t1_loop.trips) [h : Fact (k0_cond1 k = 1#1)] : ClosedOff (k0_off45 k) := ⟨![1, 0, 0, 0], off45_odd k h.out⟩
instance closed45_even (k : Fin k0_t1_loop.trips) [h : Fact (¬ k0_cond1 k = 1#1)] : ClosedOff (k0_off45 k) := ⟨![0, 0, 0, 0], off45_even k h.out⟩
theorem off47_odd : ∀ k : Fin k0_t1_loop.trips, k0_cond1 k = 1#1 → k0_off47 k = ![1, 1, 0, 0] := by decide +kernel
theorem off47_even : ∀ k : Fin k0_t1_loop.trips, ¬ k0_cond1 k = 1#1 → k0_off47 k = ![0, 1, 0, 0] := by decide +kernel
instance closed47_odd (k : Fin k0_t1_loop.trips) [h : Fact (k0_cond1 k = 1#1)] : ClosedOff (k0_off47 k) := ⟨![1, 1, 0, 0], off47_odd k h.out⟩
instance closed47_even (k : Fin k0_t1_loop.trips) [h : Fact (¬ k0_cond1 k = 1#1)] : ClosedOff (k0_off47 k) := ⟨![0, 1, 0, 0], off47_even k h.out⟩
theorem off49_odd : ∀ k : Fin k0_t1_loop.trips, k0_cond1 k = 1#1 → k0_off49 k = ![1, 2, 0, 0] := by decide +kernel
theorem off49_even : ∀ k : Fin k0_t1_loop.trips, ¬ k0_cond1 k = 1#1 → k0_off49 k = ![0, 2, 0, 0] := by decide +kernel
instance closed49_odd (k : Fin k0_t1_loop.trips) [h : Fact (k0_cond1 k = 1#1)] : ClosedOff (k0_off49 k) := ⟨![1, 2, 0, 0], off49_odd k h.out⟩
instance closed49_even (k : Fin k0_t1_loop.trips) [h : Fact (¬ k0_cond1 k = 1#1)] : ClosedOff (k0_off49 k) := ⟨![0, 2, 0, 0], off49_even k h.out⟩
theorem off51_odd : ∀ k : Fin k0_t1_loop.trips, k0_cond1 k = 1#1 → k0_off51 k = ![1, 3, 0, 0] := by decide +kernel
theorem off51_even : ∀ k : Fin k0_t1_loop.trips, ¬ k0_cond1 k = 1#1 → k0_off51 k = ![0, 3, 0, 0] := by decide +kernel
instance closed51_odd (k : Fin k0_t1_loop.trips) [h : Fact (k0_cond1 k = 1#1)] : ClosedOff (k0_off51 k) := ⟨![1, 3, 0, 0], off51_odd k h.out⟩
instance closed51_even (k : Fin k0_t1_loop.trips) [h : Fact (¬ k0_cond1 k = 1#1)] : ClosedOff (k0_off51 k) := ⟨![0, 3, 0, 0], off51_even k h.out⟩
/-- One trip (odd number of full key tiles before it): the pieces it stores into the output block, as the run finds them. -/
@[irreducible] def tripQ_odd (hc : k0_cond1 k0_t1 = 1#1) :
    { L : (BufTy.Contents (Elt F) arg12.view.ty → BufTy.Contents (Elt F) arg13.view.ty → List (View.Piece (Elt F) S2064x512 .bf16)) //
      ∀ (E : Set ℕ) (f10 : BufTy.Contents (Elt F) arg10.view.ty) (f12 : BufTy.Contents (Elt F) arg12.view.ty) (f13 : BufTy.Contents (Elt F) arg13.view.ty),
      TripQ (F := F) c arg2 arg3 arg9 arg10 arg11 arg12 arg13 X2 X3 X9 X11 f10 f12 f13
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 v18 v315 v316 k0_t1 ())
          (fun _ => iprop(∃ g12, ∃ g13, TripQ (F := F) c arg2 arg3 arg9 arg10 arg11 arg12 arg13 X2 X3 X9 X11 (arg10.view.writes (Elt F) f10 (L f12 f13)) g12 g13)) } := by
  refine ⟨?_, fun E f10 f12 f13 => ?run⟩
  case run =>
    unfold k0_t1_body
    have htr := keys3_trips k0_t1
    haveI := Fact.mk hc
    iintro ⟨H2, H3, H9, H10, H11, H12, H13⟩
    sl_exec
    sl_step
    sl_close

/-- One trip (even number of full key tiles before it): the pieces it stores into the output block, as the run finds them. -/
@[irreducible] def tripQ_even (hc : ¬ k0_cond1 k0_t1 = 1#1) :
    { L : (BufTy.Contents (Elt F) arg12.view.ty → BufTy.Contents (Elt F) arg13.view.ty → List (View.Piece (Elt F) S2064x512 .bf16)) //
      ∀ (E : Set ℕ) (f10 : BufTy.Contents (Elt F) arg10.view.ty) (f12 : BufTy.Contents (Elt F) arg12.view.ty) (f13 : BufTy.Contents (Elt F) arg13.view.ty),
      TripQ (F := F) c arg2 arg3 arg9 arg10 arg11 arg12 arg13 X2 X3 X9 X11 f10 f12 f13
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 v18 v315 v316 k0_t1 ())
          (fun _ => iprop(∃ g12, ∃ g13, TripQ (F := F) c arg2 arg3 arg9 arg10 arg11 arg12 arg13 X2 X3 X9 X11 (arg10.view.writes (Elt F) f10 (L f12 f13)) g12 g13)) } := by
  refine ⟨?_, fun E f10 f12 f13 => ?run⟩
  case run =>
    unfold k0_t1_body
    have htr := keys3_trips k0_t1
    haveI := Fact.mk hc
    iintro ⟨H2, H3, H9, H10, H11, H12, H13⟩
    sl_exec
    sl_step
    sl_close

end

end Cert.KernelIdeal.Gen
-- ==== Proof.Hand.Model.lean ====
/- The kernel's running softmax written over whole arrays: tiles read off an array, a head's state after some tiles of
   keys, and the block of output rows it gives. -/
module

public import proofs.«01_k».proof.Proof.Hand.Trip

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- The tile of an array at an offset. -/
def tileOf {s : Shape} {Val : EltTy → Type} [∀ e, Nonempty (Val e)] {e : EltTy} (A : s.Idx → Val e) (off size : Fin s.rank → ℕ) :
    (⟨s.rank, size⟩ : Shape).Idx → Val e :=
  if h : ∀ a, off a + size a ≤ s.size a then fun x => A ((Rect.unit off size h).toLoadRect.idx x)
  else fun _ => Classical.arbitrary (Val e)

theorem tileOf_apply {s : Shape} {Val : EltTy → Type} [∀ e, Nonempty (Val e)] {e : EltTy} (A : s.Idx → Val e) (off size : Fin s.rank → ℕ)
    (h : ∀ a, off a + size a ≤ s.size a) (x : (⟨s.rank, size⟩ : Shape).Idx) :
    tileOf A off size x = A ((Rect.unit off size h).toLoadRect.idx x) := by
  unfold tileOf; rw [dif_pos h]

theorem readAt_tileOf {sig : RefSig} {κ : Kind} {sp : Space} {s : Shape} {e : EltTy} {Val : EltTy → Type} [∀ e, Nonempty (Val e)]
    (v : View sig κ sp s e) (X : v.ty.Contents Val) (off size : Fin s.rank → ℕ) (inb : ∀ a, off a + size a ≤ s.size a) :
    v.readAt Val (Rect.unit off size inb).toLoadRect X = tileOf (v.read Val X) off size := by
  unfold tileOf; rw [dif_pos inb]; rfl

/-- A head's two rows of queries per query, from its columns of a tile of rows. -/
def hQ (Q : S2064x512.Idx → Elt F .bf16) (c k : ℕ) : FVec F S512x128 .bf16 :=
  k0_pay147 (tileOf (Val := Elt F) Q ![16 + 256 * k, c] S256x128.size)
/-- A head's tile of keys. -/
def hK (K : S2064x512.Idx → Elt F .bf16) (c j : ℕ) : Vec F S256x128 .bf16 := tileOf (Val := Elt F) K ![16 + 256 * j, c] S256x128.size
/-- A head's first keys. -/
def hK0 (K : S2064x512.Idx → Elt F .bf16) (c : ℕ) : Vec F S16x128 .bf16 := tileOf (Val := Elt F) K ![0, c] S16x128.size
/-- A head's tile of transposed values. -/
def hV (V : S4x9x128x256.Idx → Elt F .bf16) (g j : ℕ) : Vec F S1x1x128x256 .bf16 :=
  tileOf (Val := Elt F) V ![g, j + 1, 0, 0] S1x1x128x256.size
/-- A head's first transposed values. -/
def hV0 (V : S4x9x128x256.Idx → Elt F .bf16) (g : ℕ) : Vec F S1x1x128x16 .bf16 := tileOf (Val := Elt F) V ![g, 0, 0, 0] S1x1x128x16.size

/-- A head's running maximum, sum and weighted values after `j` whole tiles of keys. -/
def hst (m l : FVec F S1x512 .f32) (q : FVec F S512x128 .bf16) (kt : ℕ → Vec F S256x128 .bf16)
    (vt : ℕ → Vec F S1x1x128x256 .bf16) : ℕ → FVec F S1x512 .f32 × FVec F S1x512 .f32 × FVec F S1x128x512 .f32
  | 0 => (m, l, k0_pay164)
  | j + 1 =>
    (sM (hst m l q kt vt j).1 (sc q (kt j)), sL (hst m l q kt vt j).1 (hst m l q kt vt j).2.1 (sc q (kt j)),
      sA (hst m l q kt vt j).1 (sc q (kt j)) (hst m l q kt vt j).2.2 (vt j))

theorem hst_succ (m l : FVec F S1x512 .f32) (q : FVec F S512x128 .bf16) (kt : ℕ → Vec F S256x128 .bf16)
    (vt : ℕ → Vec F S1x1x128x256 .bf16) (j : ℕ) : hst m l q kt vt (j + 1) =
    (sM (hst m l q kt vt j).1 (sc q (kt j)), sL (hst m l q kt vt j).1 (hst m l q kt vt j).2.1 (sc q (kt j)),
      sA (hst m l q kt vt j).1 (sc q (kt j)) (hst m l q kt vt j).2.2 (vt j)) := rfl

/-- The causal mask of a tile of queries against the keys of its own rows. -/
def diagMask : IVec S256x512 1 := k0_pay178 0#32

/-- A block of output rows: the running state joined with the diagonal tile and the first keys, divided, the two maps
   subtracted and the rows normalized. -/
def finT (lam : FVec F S1x1 .f32) (s0 : FVec F S16x512 .f32) (m l : FVec F S1x512 .f32) (s : Vec F S1x1x256x512 .f32)
    (a : Vec F S1x128x512 .f32) (vd : Vec F S1x1x128x256 .bf16) (v0 : Vec F S1x1x128x16 .bf16) (w : Vec F S1x128 .f32) :
    FVec F S256x128 .bf16 :=
  k0_pay189 lam (k0_pay183 s0 m diagMask s) (k0_pay185 s0 m l diagMask s) (k0_pay186 s0 m diagMask s)
    (k0_pay187 s0 m diagMask s a) (k0_pay188 vd) v0 w

/-- The block of output rows of a head at a tile of queries. -/
def outT (lam : FVec F S1x1 .f32) (m l : FVec F S1x512 .f32) (Q K : S2064x512.Idx → Elt F .bf16)
    (V : S4x9x128x256.Idx → Elt F .bf16) (W : S1x128.Idx → Elt F .f32) (g c k : ℕ) : FVec F S256x128 .bf16 :=
  finT lam (k0_pay154 (hQ Q c k) (hK0 K c)) (hst m l (hQ Q c k) (hK K c) (hV V g) k).1
    (hst m l (hQ Q c k) (hK K c) (hV V g) k).2.1 (sc (hQ Q c k) (hK K c k))
    (hst m l (hQ Q c k) (hK K c) (hV V g) k).2.2 (hV V g k) (hV0 V g) (tileOf (Val := Elt F) W ![0, 0] S1x128.size)

end Cert.KernelIdeal.Gen
-- ==== Proof.Hand.State.lean ====
/- The loop over pairs of key tiles after some trips: per head, the state after twice as many tiles. -/
module

public import proofs.«01_k».proof.Proof.Hand.Model

@[expose] public section

set_option maxRecDepth 16384

noncomputable section

namespace Cert.KernelIdeal.Gen

open Idealize.ShloMosaic Idealize.ShloMosaic.TcCoe Idealize.ShloMosaic.Tactic

variable {F : FTy → Type} [FloatOps F] [Named F]

theorem off5_eq : ∀ (k : Fin k0_t1_loop.trips) (p : Fin (k0_t2_loop k).trips), k0_off5 k p = ![16 + 256 * (2 * p.val + 1), 0] := by decide +kernel
theorem off9_eq : ∀ (k : Fin k0_t1_loop.trips) (p : Fin (k0_t2_loop k).trips), k0_off9 k p = ![0, 2 * p.val + 1, 0, 0] := by decide +kernel
theorem off13_eq : ∀ (k : Fin k0_t1_loop.trips) (p : Fin (k0_t2_loop k).trips), k0_off13 k p = ![16 + 256 * (2 * p.val + 2), 0] := by decide +kernel
theorem off17_eq : ∀ (k : Fin k0_t1_loop.trips) (p : Fin (k0_t2_loop k).trips), k0_off17 k p = ![0, 2 * p.val + 2, 0, 0] := by decide +kernel
theorem off6_eq : ∀ (k : Fin k0_t1_loop.trips) (p : Fin (k0_t2_loop k).trips), k0_off6 k p = ![16 + 256 * (2 * p.val + 1), 128] := by decide +kernel
theorem off10_eq : ∀ (k : Fin k0_t1_loop.trips) (p : Fin (k0_t2_loop k).trips), k0_off10 k p = ![1, 2 * p.val + 1, 0, 0] := by decide +kernel
theorem off14_eq : ∀ (k : Fin k0_t1_loop.trips) (p : Fin (k0_t2_loop k).trips), k0_off14 k p = ![16 + 256 * (2 * p.val + 2), 128] := by decide +kernel
theorem off18_eq : ∀ (k : Fin k0_t1_loop.trips) (p : Fin (k0_t2_loop k).trips), k0_off18 k p = ![1, 2 * p.val + 2, 0, 0] := by decide +kernel
theorem off7_eq : ∀ (k : Fin k0_t1_loop.trips) (p : Fin (k0_t2_loop k).trips), k0_off7 k p = ![16 + 256 * (2 * p.val + 1), 256] := by decide +kernel
theorem off11_eq : ∀ (k : Fin k0_t1_loop.trips) (p : Fin (k0_t2_loop k).trips), k0_off11 k p = ![2, 2 * p.val + 1, 0, 0] := by decide +kernel
theorem off15_eq : ∀ (k : Fin k0_t1_loop.trips) (p : Fin (k0_t2_loop k).trips), k0_off15 k p = ![16 + 256 * (2 * p.val + 2), 256] := by decide +kernel
theorem off19_eq : ∀ (k : Fin k0_t1_loop.trips) (p : Fin (k0_t2_loop k).trips), k0_off19 k p = ![2, 2 * p.val + 2, 0, 0] := by decide +kernel
theorem off8_eq : ∀ (k : Fin k0_t1_loop.trips) (p : Fin (k0_t2_loop k).trips), k0_off8 k p = ![16 + 256 * (2 * p.val + 1), 384] := by decide +kernel
theorem off12_eq : ∀ (k : Fin k0_t1_loop.trips) (p : Fin (k0_t2_loop k).trips), k0_off12 k p = ![3, 2 * p.val + 1, 0, 0] := by decide +kernel
theorem off16_eq : ∀ (k : Fin k0_t1_loop.trips) (p : Fin (k0_t2_loop k).trips), k0_off16 k p = ![16 + 256 * (2 * p.val + 2), 384] := by decide +kernel
theorem off20_eq : ∀ (k : Fin k0_t1_loop.trips) (p : Fin (k0_t2_loop k).trips), k0_off20 k p = ![3, 2 * p.val + 2, 0, 0] := by decide +kernel

section
variable (𝒱 : Variants) (c : Dev nD) (bd : Option 𝒱.V) (i : grid0.Coords)
  (arg2 : Memref sig .tc .vmem S2064x512 .bf16) (harg2 : arg2.IsWhole)
  (arg3 : Memref sig .tc .vmem S2064x512 .bf16) (harg3 : arg3.IsWhole)
  (arg4 : Memref sig .tc .vmem S2064x512 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S1x128 .f32) (harg9 : arg9.IsWhole)
  (arg10 : Memref sig .tc .vmem S2064x512 .bf16) (harg10 : arg10.IsWhole)
  (arg11 : Memref sig .tc .vmem S4x9x128x256 .bf16) (harg11 : arg11.IsWhole)
  (arg12 : Memref sig .tc .vmem S2x4x256x512 .f32) (harg12 : arg12.IsWhole)
  (arg13 : Memref sig .tc .vmem S4x128x512 .f32) (harg13 : arg13.IsWhole)
  (v315 v316 : FVec F S1x512 .f32) (k0_t1 : Fin k0_t1_loop.trips) (v583 v602 : BitVec 32) (v614 v626 v638 v650 : FVec F S512x128 .bf16)
  (c0_i32_401 v720 c1_i32_402 : BitVec 32) (X_arg3 : BufTy.Contents (Elt F) arg3.view.ty) (X_arg11 : BufTy.Contents (Elt F) arg11.view.ty)
  (G12 : BufTy.Contents (Elt F) arg12.view.ty) (G13 : BufTy.Contents (Elt F) arg13.view.ty) (init : Carry F)

theorem st_head0 (h12 : arg12.view.readAt (Elt F) (Rect.unit (s := S2x4x256x512) ![0, 0, 0, 0] S1x1x256x512.size inb_S2x4x256x512_S1x1x256x512_0_0_0_0).toLoadRect G12 = sc v614 (hK (arg3.view.read (Elt F) X_arg3) 0 0))
    (h13 : arg13.view.readAt (Elt F) (Rect.unit (s := S4x128x512) ![0, 0, 0] S1x128x512.size inb_S4x128x512_S1x128x512_0_0_0).toLoadRect G13 = k0_pay164) (p : ℕ) (hp : p ≤ (k0_t2_loop k0_t1).trips) :
    (st_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init p).1.1 = (hst init.1 init.2.1 v614 (hK (arg3.view.read (Elt F) X_arg3) 0) (hV (arg11.view.read (Elt F) X_arg11) 0) (2 * p)).1
    ∧ (st_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init p).1.2.1 = (hst init.1 init.2.1 v614 (hK (arg3.view.read (Elt F) X_arg3) 0) (hV (arg11.view.read (Elt F) X_arg11) 0) (2 * p)).2.1
    ∧ arg13.view.readAt (Elt F) (Rect.unit (s := S4x128x512) ![0, 0, 0] S1x128x512.size inb_S4x128x512_S1x128x512_0_0_0).toLoadRect (arg13.view.writes (Elt F) G13 (st_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init p).2.2) = (hst init.1 init.2.1 v614 (hK (arg3.view.read (Elt F) X_arg3) 0) (hV (arg11.view.read (Elt F) X_arg11) 0) (2 * p)).2.2
    ∧ ∀ f, arg12.view.readAt (Elt F) (Rect.unit (s := S2x4x256x512) ![0, 0, 0, 0] S1x1x256x512.size inb_S2x4x256x512_S1x1x256x512_0_0_0_0).toLoadRect f = sc v614 (hK (arg3.view.read (Elt F) X_arg3) 0 0) →
        arg12.view.readAt (Elt F) (Rect.unit (s := S2x4x256x512) ![0, 0, 0, 0] S1x1x256x512.size inb_S2x4x256x512_S1x1x256x512_0_0_0_0).toLoadRect (arg12.view.writes (Elt F) f (st_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init p).2.1) = sc v614 (hK (arg3.view.read (Elt F) X_arg3) 0 (2 * p)) := by
  induction p with
  | zero => exact ⟨rfl, rfl, h13, fun f hf => hf⟩
  | succ p ih =>
    obtain ⟨i1, i2, i3, i4⟩ := ih (Nat.le_of_succ_le hp)
    have j4 := i4 G12 h12
    have e := st_k0_t2_succ (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init ⟨p, hp⟩
    dsimp only at e
    have c5 : ∀ ib, arg3.view.readAt (Elt F) (Rect.unit (s := S2064x512) (k0_off5 k0_t1 ⟨p, hp⟩) S256x128.size ib).toLoadRect X_arg3 = hK (arg3.view.read (Elt F) X_arg3) 0 (2 * p + 1) :=
      fun ib => (readAt_tileOf ..).trans (congrArg (fun o => tileOf (Val := Elt F) (arg3.view.read (Elt F) X_arg3) o S256x128.size) (off5_eq ..))
    have c13 : ∀ ib, arg3.view.readAt (Elt F) (Rect.unit (s := S2064x512) (k0_off13 k0_t1 ⟨p, hp⟩) S256x128.size ib).toLoadRect X_arg3 = hK (arg3.view.read (Elt F) X_arg3) 0 (2 * p + 2) :=
      fun ib => (readAt_tileOf ..).trans (congrArg (fun o => tileOf (Val := Elt F) (arg3.view.read (Elt F) X_arg3) o S256x128.size) (off13_eq ..))
    have c9 : ∀ ib, arg11.view.readAt (Elt F) (Rect.unit (s := S4x9x128x256) (k0_off9 k0_t1 ⟨p, hp⟩) S1x1x128x256.size ib).toLoadRect X_arg11 = hV (arg11.view.read (Elt F) X_arg11) 0 (2 * p) :=
      fun ib => (readAt_tileOf ..).trans (congrArg (fun o => tileOf (Val := Elt F) (arg11.view.read (Elt F) X_arg11) o S1x1x128x256.size) (off9_eq ..))
    have c17 : ∀ ib, arg11.view.readAt (Elt F) (Rect.unit (s := S4x9x128x256) (k0_off17 k0_t1 ⟨p, hp⟩) S1x1x128x256.size ib).toLoadRect X_arg11 = hV (arg11.view.read (Elt F) X_arg11) 0 (2 * p + 1) :=
      fun ib => (readAt_tileOf ..).trans (congrArg (fun o => tileOf (Val := Elt F) (arg11.view.read (Elt F) X_arg11) o S1x1x128x256.size) (off17_eq ..))
    rw [e]
    have h2 : 2 * (p + 1) = 2 * p + 1 + 1 := by ring
    rw [h2, hst_succ, hst_succ]
    refine ⟨(trip_m0 ..).trans ?_, (trip_l0 ..).trans ?_, ?_, fun f hf => ?_⟩
    · rw [c5, i1, j4]
    · rw [c5, i1, i2, j4]
    · rw [View.writes_append]
      refine (trip_a0 ..).trans ?_
      rw [c5, c9, c17, i1, i3, j4]
    · rw [View.writes_append]
      refine (trip_s0 ..).trans ?_
      rw [c13]

theorem st_head1 (h12 : arg12.view.readAt (Elt F) (Rect.unit (s := S2x4x256x512) ![0, 1, 0, 0] S1x1x256x512.size inb_S2x4x256x512_S1x1x256x512_0_1_0_0).toLoadRect G12 = sc v626 (hK (arg3.view.read (Elt F) X_arg3) 128 0))
    (h13 : arg13.view.readAt (Elt F) (Rect.unit (s := S4x128x512) ![1, 0, 0] S1x128x512.size inb_S4x128x512_S1x128x512_1_0_0).toLoadRect G13 = k0_pay164) (p : ℕ) (hp : p ≤ (k0_t2_loop k0_t1).trips) :
    (st_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init p).1.2.2.1 = (hst init.2.2.1 init.2.2.2.1 v626 (hK (arg3.view.read (Elt F) X_arg3) 128) (hV (arg11.view.read (Elt F) X_arg11) 1) (2 * p)).1
    ∧ (st_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init p).1.2.2.2.1 = (hst init.2.2.1 init.2.2.2.1 v626 (hK (arg3.view.read (Elt F) X_arg3) 128) (hV (arg11.view.read (Elt F) X_arg11) 1) (2 * p)).2.1
    ∧ arg13.view.readAt (Elt F) (Rect.unit (s := S4x128x512) ![1, 0, 0] S1x128x512.size inb_S4x128x512_S1x128x512_1_0_0).toLoadRect (arg13.view.writes (Elt F) G13 (st_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init p).2.2) = (hst init.2.2.1 init.2.2.2.1 v626 (hK (arg3.view.read (Elt F) X_arg3) 128) (hV (arg11.view.read (Elt F) X_arg11) 1) (2 * p)).2.2
    ∧ ∀ f, arg12.view.readAt (Elt F) (Rect.unit (s := S2x4x256x512) ![0, 1, 0, 0] S1x1x256x512.size inb_S2x4x256x512_S1x1x256x512_0_1_0_0).toLoadRect f = sc v626 (hK (arg3.view.read (Elt F) X_arg3) 128 0) →
        arg12.view.readAt (Elt F) (Rect.unit (s := S2x4x256x512) ![0, 1, 0, 0] S1x1x256x512.size inb_S2x4x256x512_S1x1x256x512_0_1_0_0).toLoadRect (arg12.view.writes (Elt F) f (st_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init p).2.1) = sc v626 (hK (arg3.view.read (Elt F) X_arg3) 128 (2 * p)) := by
  induction p with
  | zero => exact ⟨rfl, rfl, h13, fun f hf => hf⟩
  | succ p ih =>
    obtain ⟨i1, i2, i3, i4⟩ := ih (Nat.le_of_succ_le hp)
    have j4 := i4 G12 h12
    have e := st_k0_t2_succ (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init ⟨p, hp⟩
    dsimp only at e
    have c5 : ∀ ib, arg3.view.readAt (Elt F) (Rect.unit (s := S2064x512) (k0_off6 k0_t1 ⟨p, hp⟩) S256x128.size ib).toLoadRect X_arg3 = hK (arg3.view.read (Elt F) X_arg3) 128 (2 * p + 1) :=
      fun ib => (readAt_tileOf ..).trans (congrArg (fun o => tileOf (Val := Elt F) (arg3.view.read (Elt F) X_arg3) o S256x128.size) (off6_eq ..))
    have c13 : ∀ ib, arg3.view.readAt (Elt F) (Rect.unit (s := S2064x512) (k0_off14 k0_t1 ⟨p, hp⟩) S256x128.size ib).toLoadRect X_arg3 = hK (arg3.view.read (Elt F) X_arg3) 128 (2 * p + 2) :=
      fun ib => (readAt_tileOf ..).trans (congrArg (fun o => tileOf (Val := Elt F) (arg3.view.read (Elt F) X_arg3) o S256x128.size) (off14_eq ..))
    have c9 : ∀ ib, arg11.view.readAt (Elt F) (Rect.unit (s := S4x9x128x256) (k0_off10 k0_t1 ⟨p, hp⟩) S1x1x128x256.size ib).toLoadRect X_arg11 = hV (arg11.view.read (Elt F) X_arg11) 1 (2 * p) :=
      fun ib => (readAt_tileOf ..).trans (congrArg (fun o => tileOf (Val := Elt F) (arg11.view.read (Elt F) X_arg11) o S1x1x128x256.size) (off10_eq ..))
    have c17 : ∀ ib, arg11.view.readAt (Elt F) (Rect.unit (s := S4x9x128x256) (k0_off18 k0_t1 ⟨p, hp⟩) S1x1x128x256.size ib).toLoadRect X_arg11 = hV (arg11.view.read (Elt F) X_arg11) 1 (2 * p + 1) :=
      fun ib => (readAt_tileOf ..).trans (congrArg (fun o => tileOf (Val := Elt F) (arg11.view.read (Elt F) X_arg11) o S1x1x128x256.size) (off18_eq ..))
    rw [e]
    have h2 : 2 * (p + 1) = 2 * p + 1 + 1 := by ring
    rw [h2, hst_succ, hst_succ]
    refine ⟨(trip_m1 ..).trans ?_, (trip_l1 ..).trans ?_, ?_, fun f hf => ?_⟩
    · rw [c5, i1, j4]
    · rw [c5, i1, i2, j4]
    · rw [View.writes_append]
      refine (trip_a1 ..).trans ?_
      rw [c5, c9, c17, i1, i3, j4]
    · rw [View.writes_append]
      refine (trip_s1 ..).trans ?_
      rw [c13]

theorem st_head2 (h12 : arg12.view.readAt (Elt F) (Rect.unit (s := S2x4x256x512) ![0, 2, 0, 0] S1x1x256x512.size inb_S2x4x256x512_S1x1x256x512_0_2_0_0).toLoadRect G12 = sc v638 (hK (arg3.view.read (Elt F) X_arg3) 256 0))
    (h13 : arg13.view.readAt (Elt F) (Rect.unit (s := S4x128x512) ![2, 0, 0] S1x128x512.size inb_S4x128x512_S1x128x512_2_0_0).toLoadRect G13 = k0_pay164) (p : ℕ) (hp : p ≤ (k0_t2_loop k0_t1).trips) :
    (st_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init p).1.2.2.2.2.1 = (hst init.2.2.2.2.1 init.2.2.2.2.2.1 v638 (hK (arg3.view.read (Elt F) X_arg3) 256) (hV (arg11.view.read (Elt F) X_arg11) 2) (2 * p)).1
    ∧ (st_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init p).1.2.2.2.2.2.1 = (hst init.2.2.2.2.1 init.2.2.2.2.2.1 v638 (hK (arg3.view.read (Elt F) X_arg3) 256) (hV (arg11.view.read (Elt F) X_arg11) 2) (2 * p)).2.1
    ∧ arg13.view.readAt (Elt F) (Rect.unit (s := S4x128x512) ![2, 0, 0] S1x128x512.size inb_S4x128x512_S1x128x512_2_0_0).toLoadRect (arg13.view.writes (Elt F) G13 (st_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init p).2.2) = (hst init.2.2.2.2.1 init.2.2.2.2.2.1 v638 (hK (arg3.view.read (Elt F) X_arg3) 256) (hV (arg11.view.read (Elt F) X_arg11) 2) (2 * p)).2.2
    ∧ ∀ f, arg12.view.readAt (Elt F) (Rect.unit (s := S2x4x256x512) ![0, 2, 0, 0] S1x1x256x512.size inb_S2x4x256x512_S1x1x256x512_0_2_0_0).toLoadRect f = sc v638 (hK (arg3.view.read (Elt F) X_arg3) 256 0) →
        arg12.view.readAt (Elt F) (Rect.unit (s := S2x4x256x512) ![0, 2, 0, 0] S1x1x256x512.size inb_S2x4x256x512_S1x1x256x512_0_2_0_0).toLoadRect (arg12.view.writes (Elt F) f (st_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init p).2.1) = sc v638 (hK (arg3.view.read (Elt F) X_arg3) 256 (2 * p)) := by
  induction p with
  | zero => exact ⟨rfl, rfl, h13, fun f hf => hf⟩
  | succ p ih =>
    obtain ⟨i1, i2, i3, i4⟩ := ih (Nat.le_of_succ_le hp)
    have j4 := i4 G12 h12
    have e := st_k0_t2_succ (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init ⟨p, hp⟩
    dsimp only at e
    have c5 : ∀ ib, arg3.view.readAt (Elt F) (Rect.unit (s := S2064x512) (k0_off7 k0_t1 ⟨p, hp⟩) S256x128.size ib).toLoadRect X_arg3 = hK (arg3.view.read (Elt F) X_arg3) 256 (2 * p + 1) :=
      fun ib => (readAt_tileOf ..).trans (congrArg (fun o => tileOf (Val := Elt F) (arg3.view.read (Elt F) X_arg3) o S256x128.size) (off7_eq ..))
    have c13 : ∀ ib, arg3.view.readAt (Elt F) (Rect.unit (s := S2064x512) (k0_off15 k0_t1 ⟨p, hp⟩) S256x128.size ib).toLoadRect X_arg3 = hK (arg3.view.read (Elt F) X_arg3) 256 (2 * p + 2) :=
      fun ib => (readAt_tileOf ..).trans (congrArg (fun o => tileOf (Val := Elt F) (arg3.view.read (Elt F) X_arg3) o S256x128.size) (off15_eq ..))
    have c9 : ∀ ib, arg11.view.readAt (Elt F) (Rect.unit (s := S4x9x128x256) (k0_off11 k0_t1 ⟨p, hp⟩) S1x1x128x256.size ib).toLoadRect X_arg11 = hV (arg11.view.read (Elt F) X_arg11) 2 (2 * p) :=
      fun ib => (readAt_tileOf ..).trans (congrArg (fun o => tileOf (Val := Elt F) (arg11.view.read (Elt F) X_arg11) o S1x1x128x256.size) (off11_eq ..))
    have c17 : ∀ ib, arg11.view.readAt (Elt F) (Rect.unit (s := S4x9x128x256) (k0_off19 k0_t1 ⟨p, hp⟩) S1x1x128x256.size ib).toLoadRect X_arg11 = hV (arg11.view.read (Elt F) X_arg11) 2 (2 * p + 1) :=
      fun ib => (readAt_tileOf ..).trans (congrArg (fun o => tileOf (Val := Elt F) (arg11.view.read (Elt F) X_arg11) o S1x1x128x256.size) (off19_eq ..))
    rw [e]
    have h2 : 2 * (p + 1) = 2 * p + 1 + 1 := by ring
    rw [h2, hst_succ, hst_succ]
    refine ⟨(trip_m2 ..).trans ?_, (trip_l2 ..).trans ?_, ?_, fun f hf => ?_⟩
    · rw [c5, i1, j4]
    · rw [c5, i1, i2, j4]
    · rw [View.writes_append]
      refine (trip_a2 ..).trans ?_
      rw [c5, c9, c17, i1, i3, j4]
    · rw [View.writes_append]
      refine (trip_s2 ..).trans ?_
      rw [c13]

theorem st_head3 (h12 : arg12.view.readAt (Elt F) (Rect.unit (s := S2x4x256x512) ![0, 3, 0, 0] S1x1x256x512.size inb_S2x4x256x512_S1x1x256x512_0_3_0_0).toLoadRect G12 = sc v650 (hK (arg3.view.read (Elt F) X_arg3) 384 0))
    (h13 : arg13.view.readAt (Elt F) (Rect.unit (s := S4x128x512) ![3, 0, 0] S1x128x512.size inb_S4x128x512_S1x128x512_3_0_0).toLoadRect G13 = k0_pay164) (p : ℕ) (hp : p ≤ (k0_t2_loop k0_t1).trips) :
    (st_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init p).1.2.2.2.2.2.2.1 = (hst init.2.2.2.2.2.2.1 init.2.2.2.2.2.2.2 v650 (hK (arg3.view.read (Elt F) X_arg3) 384) (hV (arg11.view.read (Elt F) X_arg11) 3) (2 * p)).1
    ∧ (st_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init p).1.2.2.2.2.2.2.2 = (hst init.2.2.2.2.2.2.1 init.2.2.2.2.2.2.2 v650 (hK (arg3.view.read (Elt F) X_arg3) 384) (hV (arg11.view.read (Elt F) X_arg11) 3) (2 * p)).2.1
    ∧ arg13.view.readAt (Elt F) (Rect.unit (s := S4x128x512) ![3, 0, 0] S1x128x512.size inb_S4x128x512_S1x128x512_3_0_0).toLoadRect (arg13.view.writes (Elt F) G13 (st_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init p).2.2) = (hst init.2.2.2.2.2.2.1 init.2.2.2.2.2.2.2 v650 (hK (arg3.view.read (Elt F) X_arg3) 384) (hV (arg11.view.read (Elt F) X_arg11) 3) (2 * p)).2.2
    ∧ ∀ f, arg12.view.readAt (Elt F) (Rect.unit (s := S2x4x256x512) ![0, 3, 0, 0] S1x1x256x512.size inb_S2x4x256x512_S1x1x256x512_0_3_0_0).toLoadRect f = sc v650 (hK (arg3.view.read (Elt F) X_arg3) 384 0) →
        arg12.view.readAt (Elt F) (Rect.unit (s := S2x4x256x512) ![0, 3, 0, 0] S1x1x256x512.size inb_S2x4x256x512_S1x1x256x512_0_3_0_0).toLoadRect (arg12.view.writes (Elt F) f (st_k0_t2 (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init p).2.1) = sc v650 (hK (arg3.view.read (Elt F) X_arg3) 384 (2 * p)) := by
  induction p with
  | zero => exact ⟨rfl, rfl, h13, fun f hf => hf⟩
  | succ p ih =>
    obtain ⟨i1, i2, i3, i4⟩ := ih (Nat.le_of_succ_le hp)
    have j4 := i4 G12 h12
    have e := st_k0_t2_succ (F := F) 𝒱 c bd i arg2 harg2 arg3 harg3 arg4 harg4 arg5 harg5 arg6 harg6 arg7 harg7 arg8 harg8 arg9 harg9 arg10 harg10 arg11 harg11 arg12 harg12 arg13 harg13 v315 v316 k0_t1 v583 v602 v614 v626 v638 v650 c0_i32_401 v720 c1_i32_402 X_arg3 X_arg11 G12 G13 init ⟨p, hp⟩
    dsimp only at e
    have c5 : ∀ ib, arg3.view.readAt (Elt F) (Rect.unit (s := S2064x512) (k0_off8 k0_t1 ⟨p, hp⟩) S256x128.size ib).toLoadRect X_arg3 = hK (arg3.view.read (Elt F) X_arg3) 384 (2 * p + 1) :=
      fun ib => (readAt_tileOf ..).trans (congrArg (fun o => tileOf (Val := Elt F) (arg3.view.read (Elt F) X_arg3) o S256x128.size) (off8_eq ..))
    have c13 : ∀ ib, arg3.view.readAt (Elt F) (Rect.unit (s := S2064x512) (k0_off16 k0_t1 ⟨p, hp⟩) S256x128.size ib).toLoadRect X_arg3 = hK (arg3.view.read (Elt F) X_arg3) 384 (2 * p + 2) :=
      fun ib => (readAt_tileOf ..).trans (congrArg (fun o => tileOf (Val := Elt F) (arg3.view.read (Elt F) X_arg3) o S256x128.size) (off16_eq ..))
    have c9 : ∀ ib, arg11.view.readAt (Elt F) (Rect.unit (s := S4x9x128x256) (k0_off12 k0_t1 ⟨p, hp⟩) S1x1x128x256.size ib).toLoadRect X_arg11 = hV (arg11.view.read (Elt F) X_arg11) 3 (2 * p) :=
      fun ib => (readAt_tileOf ..).trans (congrArg (fun o => tileOf (Val := Elt F) (arg11.view.read (Elt F) X_arg11) o S1x1x128x256.size) (off12_eq ..))
    have c17 : ∀ ib, arg11.view.readAt (Elt F) (Rect.unit (s := S4x9x128x256) (k0_off20 k0_t1 ⟨p, hp⟩) S1x1x128x256.size ib).toLoadRect X_arg11 = hV (arg11.view.read (Elt F) X_arg11) 3 (2 * p + 1) :=
      fun ib => (readAt_tileOf ..).trans (congrArg (fun o => tileOf (Val := Elt F) (arg11.view.read (Elt F) X_arg11) o S1x1x128x256.size) (off20_eq ..))
    rw [e]
    have h2 : 2 * (p + 1) = 2 * p + 1 + 1 := by ring
    rw [h2, hst_succ, hst_succ]
    refine ⟨(trip_m3 ..).trans ?_, (trip_l3 ..).trans ?_, ?_, fun f hf => ?_⟩
    · rw [c5, i1, j4]
    · rw [c5, i1, i2, j4]
    · rw [View.writes_append]
      refine (trip_a3 ..).trans ?_
      rw [c5, c9, c17, i1, i3, j4]
    · rw [View.writes_append]
      refine (trip_s3 ..).trans ?_
      rw [c13]

end

end Cert.KernelIdeal.Gen
-- ==== Proof.Hand.Pieces.lean ====
/- The pieces a trip over a query tile stores: per head the block of output rows of the model. -/
module

public import proofs.«01_k».proof.Proof.Hand.Outer
public import proofs.«01_k».proof.Proof.Hand.State

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- A load at equal offsets. -/
theorem readAt_off_congr {sig : RefSig} {κ : Kind} {sp : Space} {s : Shape} {e : EltTy} {Val : EltTy → Type} {off off' : Fin s.rank → ℕ} (h : off = off')
    (v : View sig κ sp s e) (X : v.ty.Contents Val) (size : Fin s.rank → ℕ) (ib : ∀ a, off a + size a ≤ s.size a) (ib' : ∀ a, off' a + size a ≤ s.size a) :
    v.readAt Val (Rect.unit off size ib).toLoadRect X = v.readAt Val (Rect.unit off' size ib').toLoadRect X := by subst h; rfl

theorem off37_eq : ∀ k : Fin k0_t1_loop.trips, k0_cond1 k = 1#1 → k0_off37 k = ![16 + 256 * k.val, 0] := by decide +kernel
theorem off41_eq : ∀ k : Fin k0_t1_loop.trips, k0_cond1 k = 1#1 → k0_off41 k = ![0, k.val, 0, 0] := by decide +kernel
theorem off46_eq : ∀ k : Fin k0_t1_loop.trips, k0_off46 k = ![0, k.val + 1, 0, 0] := by decide +kernel
theorem off1_eq : ∀ k : Fin k0_t1_loop.trips, k0_off1 k = ![16 + 256 * k.val, 0] := by decide +kernel
theorem off38_eq : ∀ k : Fin k0_t1_loop.trips, k0_cond1 k = 1#1 → k0_off38 k = ![16 + 256 * k.val, 128] := by decide +kernel
theorem off42_eq : ∀ k : Fin k0_t1_loop.trips, k0_cond1 k = 1#1 → k0_off42 k = ![1, k.val, 0, 0] := by decide +kernel
theorem off48_eq : ∀ k : Fin k0_t1_loop.trips, k0_off48 k = ![1, k.val + 1, 0, 0] := by decide +kernel
theorem off2_eq : ∀ k : Fin k0_t1_loop.trips, k0_off2 k = ![16 + 256 * k.val, 128] := by decide +kernel
theorem off39_eq : ∀ k : Fin k0_t1_loop.trips, k0_cond1 k = 1#1 → k0_off39 k = ![16 + 256 * k.val, 256] := by decide +kernel
theorem off43_eq : ∀ k : Fin k0_t1_loop.trips, k0_cond1 k = 1#1 → k0_off43 k = ![2, k.val, 0, 0] := by decide +kernel
theorem off50_eq : ∀ k : Fin k0_t1_loop.trips, k0_off50 k = ![2, k.val + 1, 0, 0] := by decide +kernel
theorem off3_eq : ∀ k : Fin k0_t1_loop.trips, k0_off3 k = ![16 + 256 * k.val, 256] := by decide +kernel
theorem off40_eq : ∀ k : Fin k0_t1_loop.trips, k0_cond1 k = 1#1 → k0_off40 k = ![16 + 256 * k.val, 384] := by decide +kernel
theorem off44_eq : ∀ k : Fin k0_t1_loop.trips, k0_cond1 k = 1#1 → k0_off44 k = ![3, k.val, 0, 0] := by decide +kernel
theorem off52_eq : ∀ k : Fin k0_t1_loop.trips, k0_off52 k = ![3, k.val + 1, 0, 0] := by decide +kernel
theorem off4_eq : ∀ k : Fin k0_t1_loop.trips, k0_off4 k = ![16 + 256 * k.val, 384] := by decide +kernel

theorem keys2_trips_odd : ∀ k : Fin k0_t1_loop.trips, k0_cond1 k = 1#1 → k.val = 2 * (k0_t2_loop k).trips + 1 := by decide +kernel
theorem keys2_trips_even : ∀ k : Fin k0_t1_loop.trips, ¬ k0_cond1 k = 1#1 → k.val = 2 * (k0_t2_loop k).trips := by decide +kernel

section
variable (𝒱 : Variants) (c : Dev nD) (bd : Option 𝒱.V) (i : grid0.Coords)
  (arg2 : Memref sig .tc .vmem S2064x512 .bf16) (harg2 : arg2.IsWhole)
  (arg3 : Memref sig .tc .vmem S2064x512 .bf16) (harg3 : arg3.IsWhole)
  (arg4 : Memref sig .tc .vmem S2064x512 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S1x128 .f32) (harg9 : arg9.IsWhole)
  (arg10 : Memref sig .tc .vmem S2064x512 .bf16) (harg10 : arg10.IsWhole)
  (arg11 : Memref sig .tc .vmem S4x9x128x256 .bf16) (harg11 : arg11.IsWhole)
  (arg12 : Memref sig .tc .vmem S2x4x256x512 .f32) (harg12 : arg12.IsWhole)
  (arg13 : Memref sig .tc .vmem S4x128x512 .f32) (harg13 : arg13.IsWhole)
  (v18 : FVec F S1x1 .f32) (v315 v316 : FVec F S1x512 .f32)
  (X2 : BufTy.Contents (Elt F) arg2.view.ty) (X3 : BufTy.Contents (Elt F) arg3.view.ty) (X9 : BufTy.Contents (Elt F) arg9.view.ty)
  (X11 : BufTy.Contents (Elt F) arg11.view.ty) (k0_t1 : Fin k0_t1_loop.trips)
  (f12 : BufTy.Contents (Elt F) arg12.view.ty) (f13 : BufTy.Contents (Elt F) arg13.view.ty)

set_option maxHeartbeats 1000000 in
theorem pay_odd0 (hc : k0_cond1 k0_t1 = 1#1) : tripQ_odd.sl.v834 𝒱 c bd i arg2 harg2 arg3 harg3 arg4 harg4 arg5 harg5 arg6 harg6 arg7 harg7 arg8 harg8 arg9 harg9 arg10 harg10 arg11 harg11 arg12 harg12 arg13 harg13 v18 v315 v316 X2 X3 X9 X11 k0_t1 hc f12 = outT v18 v315 v316 (arg2.view.read (Elt F) X2) (arg3.view.read (Elt F) X3) (arg11.view.read (Elt F) X11) (arg9.view.read (Elt F) X9) 0 0 k0_t1.val := by
  have hq : (tripQ_odd.sl.v614 arg2 X2 k0_t1) = (hQ (arg2.view.read (Elt F) X2) 0 k0_t1.val) := by
    unfold hQ
    rw [← off1_eq, ← readAt_tileOf (Val := Elt F) arg2.view X2 (k0_off1 k0_t1) S256x128.size (k0_off1_inb k0_t1)]
    rfl
  have hs : tripQ_odd.sl.v668 arg2 arg3 X2 X3 k0_t1 = sc (tripQ_odd.sl.v614 arg2 X2 k0_t1) (hK (arg3.view.read (Elt F) X3) 0 0) := by
    unfold hK
    rw [show (![16 + 256 * 0, 0] : Fin 2 → ℕ) = ![16, 0] from rfl, ← readAt_tileOf (Val := Elt F) arg3.view X3 ![16, 0] S256x128.size inb_S2064x512_S256x128_16_0]
    rfl
  have hb : ∀ f, arg12.view.readAt (Elt F) (Rect.unit (s := S2x4x256x512) ![0, 0, 0, 0] S1x1x256x512.size inb_S2x4x256x512_S1x1x256x512_0_0_0_0).toLoadRect (arg12.view.writes (Elt F) f [⟨Rect.unit (s := S2x4x256x512) ![0, 3, 0, 0] S1x1x256x512.size inb_S2x4x256x512_S1x1x256x512_0_3_0_0, tripQ_odd.sl.v686 arg2 arg3 X2 X3 k0_t1⟩, ⟨Rect.unit (s := S2x4x256x512) ![0, 2, 0, 0] S1x1x256x512.size inb_S2x4x256x512_S1x1x256x512_0_2_0_0, tripQ_odd.sl.v680 arg2 arg3 X2 X3 k0_t1⟩, ⟨Rect.unit (s := S2x4x256x512) ![0, 1, 0, 0] S1x1x256x512.size inb_S2x4x256x512_S1x1x256x512_0_1_0_0, tripQ_odd.sl.v674 arg2 arg3 X2 X3 k0_t1⟩, ⟨Rect.unit (s := S2x4x256x512) ![0, 0, 0, 0] S1x1x256x512.size inb_S2x4x256x512_S1x1x256x512_0_0_0_0, tripQ_odd.sl.v668 arg2 arg3 X2 X3 k0_t1⟩]) = sc (tripQ_odd.sl.v614 arg2 X2 k0_t1) (hK (arg3.view.read (Elt F) X3) 0 0) := by
    intro f
    iterate 3 rw [readAt_writes_skip (h := by decide)]
    exact (readAt_writes_head ..).trans hs
  have hz : arg13.view.readAt (Elt F) (Rect.unit (s := S4x128x512) ![0, 0, 0] S1x128x512.size inb_S4x128x512_S1x128x512_0_0_0).toLoadRect (arg13.view.writes (Elt F) arg13.view.junk tripQ_odd.sl.H13_4) = k0_pay164 := by
    unfold tripQ_odd.sl.H13_4
    iterate 3 rw [readAt_writes_skip (h := by decide)]
    exact (readAt_writes_head ..).trans rfl
  obtain ⟨i1, i2, i3, i4⟩ := st_head0 (F := F) 𝒱 c bd i arg2 harg2 arg3 harg3 arg4 harg4 arg5 harg5 arg6 harg6 arg7 harg7 arg8 harg8 arg9 harg9 arg10 harg10 arg11 harg11 arg12 harg12 arg13 harg13 v315 v315 k0_t1 0#32 0#32 (tripQ_odd.sl.v614 arg2 X2 k0_t1) (tripQ_odd.sl.v626 arg2 X2 k0_t1) (tripQ_odd.sl.v638 arg2 X2 k0_t1) (tripQ_odd.sl.v650 arg2 X2 k0_t1) 0#32 0#32 0#32 X3 X11 (arg12.view.writes (Elt F) f12 [⟨Rect.unit (s := S2x4x256x512) ![0, 3, 0, 0] S1x1x256x512.size inb_S2x4x256x512_S1x1x256x512_0_3_0_0, tripQ_odd.sl.v686 arg2 arg3 X2 X3 k0_t1⟩, ⟨Rect.unit (s := S2x4x256x512) ![0, 2, 0, 0] S1x1x256x512.size inb_S2x4x256x512_S1x1x256x512_0_2_0_0, tripQ_odd.sl.v680 arg2 arg3 X2 X3 k0_t1⟩, ⟨Rect.unit (s := S2x4x256x512) ![0, 1, 0, 0] S1x1x256x512.size inb_S2x4x256x512_S1x1x256x512_0_1_0_0, tripQ_odd.sl.v674 arg2 arg3 X2 X3 k0_t1⟩, ⟨Rect.unit (s := S2x4x256x512) ![0, 0, 0, 0] S1x1x256x512.size inb_S2x4x256x512_S1x1x256x512_0_0_0_0, tripQ_odd.sl.v668 arg2 arg3 X2 X3 k0_t1⟩]) (arg13.view.writes (Elt F) arg13.view.junk tripQ_odd.sl.H13_4) (v315, v316, v315, v316, v315, v316, v315, v316) (hb f12) hz (k0_t2_loop k0_t1).trips le_rfl
  have hk0 : arg3.view.readAt (Elt F) (Rect.unit (s := S2064x512) ![0, 0] S16x128.size inb_S2064x512_S16x128_0_0).toLoadRect X3 = hK0 (arg3.view.read (Elt F) X3) 0 := readAt_tileOf ..
  have hvd : arg11.view.readAt (Elt F) (Rect.unit (s := S4x9x128x256) (k0_off46 k0_t1) S1x1x128x256.size (k0_off46_inb k0_t1)).toLoadRect X11 = hV (arg11.view.read (Elt F) X11) 0 k0_t1.val :=
    (readAt_tileOf ..).trans (congrArg (fun o => tileOf (Val := Elt F) (arg11.view.read (Elt F) X11) o S1x1x128x256.size) (off46_eq ..))
  have hv0 : arg11.view.readAt (Elt F) (Rect.unit (s := S4x9x128x256) ![0, 0, 0, 0] S1x1x128x16.size inb_S4x9x128x256_S1x1x128x16_0_0_0_0).toLoadRect X11 = hV0 (arg11.view.read (Elt F) X11) 0 := readAt_tileOf ..
  have hw : arg9.view.readAt (Elt F) (Rect.unit (s := S1x128) ![0, 0] S1x128.size inb_S1x128_S1x128_0_0).toLoadRect X9 = tileOf (Val := Elt F) (arg9.view.read (Elt F) X9) ![0, 0] S1x128.size := readAt_tileOf ..
  have hsp : tripQ_odd.sl.v1082 arg2 arg3 X2 X3 k0_t1 hc = sc (tripQ_odd.sl.v614 arg2 X2 k0_t1) (hK (arg3.view.read (Elt F) X3) 0 k0_t1.val) := by
    unfold hK
    rw [← off37_eq k0_t1 hc, ← readAt_tileOf (Val := Elt F) arg3.view X3 (k0_off37 k0_t1) S256x128.size (k0_off37_inb k0_t1 hc)]
    rfl
  have hS : tripQ_odd.sl.v770 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 = sc (tripQ_odd.sl.v614 arg2 X2 k0_t1) (hK (arg3.view.read (Elt F) X3) 0 k0_t1.val) := by
    unfold tripQ_odd.sl.v770 View.readCov
    rw [readAt_off_congr (off := k0_off45 k0_t1) (Val := Elt F) (off45_odd k0_t1 hc) arg12.view (arg12.view.writes (Elt F) arg12.view.junk (tripQ_odd.sl.H12_4 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12)) S1x1x256x512.size (k0_off45_inb k0_t1) inb_S2x4x256x512_S1x1x256x512_1_0_0_0]
    unfold tripQ_odd.sl.H12_4 tripQ_odd.sl.H12_3 tripQ_odd.sl.H12_2 tripQ_odd.sl.H12_1
    iterate 3 rw [readAt_writes_skip (h := by decide)]
    exact (readAt_writes_head ..).trans hsp
  have hS0 : tripQ_odd.sl.v1104 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 = sc (tripQ_odd.sl.v614 arg2 X2 k0_t1) (hK (arg3.view.read (Elt F) X3) 0 (2 * (k0_t2_loop k0_t1).trips)) := by
    unfold tripQ_odd.sl.v1104 View.readCov tripQ_odd.sl.H12_4 tripQ_odd.sl.H12_3 tripQ_odd.sl.H12_2 tripQ_odd.sl.H12_1
    iterate 4 rw [readAt_writes_skip (h := by decide)]
    rw [View.writes_append]
    exact i4 _ (hb arg12.view.junk)
  have hA0 : tripQ_odd.sl.v1119 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 f12 = (hst v315 v316 (tripQ_odd.sl.v614 arg2 X2 k0_t1) (hK (arg3.view.read (Elt F) X3) 0) (hV (arg11.view.read (Elt F) X11) 0) (2 * (k0_t2_loop k0_t1).trips)).2.2 := by
    unfold tripQ_odd.sl.v1119 View.readCov
    skip
    rw [View.writes_append]
    exact i3
  have hvt : arg11.view.readAt (Elt F) (Rect.unit (s := S4x9x128x256) (k0_off41 k0_t1) S1x1x128x256.size (k0_off41_inb k0_t1 hc)).toLoadRect X11 = hV (arg11.view.read (Elt F) X11) 0 (2 * (k0_t2_loop k0_t1).trips) :=
    (readAt_tileOf ..).trans (congrArg (fun o => tileOf (Val := Elt F) (arg11.view.read (Elt F) X11) o S1x1x128x256.size) ((off41_eq _ hc).trans (by rw [← keys2_trips_odd k0_t1 hc])))
  have hA : tripQ_odd.sl.v797 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 = tripQ_odd.sl.v1131 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 := by
    unfold tripQ_odd.sl.v797 View.readCov tripQ_odd.sl.H13_4_1 tripQ_odd.sl.H13_3 tripQ_odd.sl.H13_2 tripQ_odd.sl.H13_1
    iterate 3 rw [readAt_writes_skip (h := by decide)]
    exact readAt_writes_head ..
  have hkv := keys2_trips_odd k0_t1 hc
  unfold outT
  rw [← hk0, ← hvd, ← hv0, ← hw, ← hq, ← hS]
  have hst' : hst v315 v316 (tripQ_odd.sl.v614 arg2 X2 k0_t1) (hK (arg3.view.read (Elt F) X3) 0) (hV (arg11.view.read (Elt F) X11) 0) k0_t1.val = hst v315 v316 (tripQ_odd.sl.v614 arg2 X2 k0_t1) (hK (arg3.view.read (Elt F) X3) 0) (hV (arg11.view.read (Elt F) X11) 0) (2 * (k0_t2_loop k0_t1).trips + 1) := congrArg _ hkv
  rw [hst', hst_succ, ← hS0, ← hvt, ← hA0, ← i1, ← i2]
  dsimp only
  refine Eq.trans ?_ (congrArg (fun a => finT v18 _ _ _ _ a _ _ _) hA)
  rfl

set_option maxHeartbeats 1000000 in
theorem pay_odd1 (hc : k0_cond1 k0_t1 = 1#1) : tripQ_odd.sl.v912 𝒱 c bd i arg2 harg2 arg3 harg3 arg4 harg4 arg5 harg5 arg6 harg6 arg7 harg7 arg8 harg8 arg9 harg9 arg10 harg10 arg11 harg11 arg12 harg12 arg13 harg13 v18 v315 v316 X2 X3 X9 X11 k0_t1 hc f12 = outT v18 v315 v316 (arg2.view.read (Elt F) X2) (arg3.view.read (Elt F) X3) (arg11.view.read (Elt F) X11) (arg9.view.read (Elt F) X9) 1 128 k0_t1.val := by
  have hq : (tripQ_odd.sl.v626 arg2 X2 k0_t1) = (hQ (arg2.view.read (Elt F) X2) 128 k0_t1.val) := by
    unfold hQ
    rw [← off2_eq, ← readAt_tileOf (Val := Elt F) arg2.view X2 (k0_off2 k0_t1) S256x128.size (k0_off2_inb k0_t1)]
    rfl
  have hs : tripQ_odd.sl.v674 arg2 arg3 X2 X3 k0_t1 = sc (tripQ_odd.sl.v626 arg2 X2 k0_t1) (hK (arg3.view.read (Elt F) X3) 128 0) := by
    unfold hK
    rw [show (![16 + 256 * 0, 128] : Fin 2 → ℕ) = ![16, 128] from rfl, ← readAt_tileOf (Val := Elt F) arg3.view X3 ![16, 128] S256x128.size inb_S2064x512_S256x128_16_128]
    rfl
  have hb : ∀ f, arg12.view.readAt (Elt F) (Rect.unit (s := S2x4x256x512) ![0, 1, 0, 0] S1x1x256x512.size inb_S2x4x256x512_S1x1x256x512_0_1_0_0).toLoadRect (arg12.view.writes (Elt F) f [⟨Rect.unit (s := S2x4x256x512) ![0, 3, 0, 0] S1x1x256x512.size inb_S2x4x256x512_S1x1x256x512_0_3_0_0, tripQ_odd.sl.v686 arg2 arg3 X2 X3 k0_t1⟩, ⟨Rect.unit (s := S2x4x256x512) ![0, 2, 0, 0] S1x1x256x512.size inb_S2x4x256x512_S1x1x256x512_0_2_0_0, tripQ_odd.sl.v680 arg2 arg3 X2 X3 k0_t1⟩, ⟨Rect.unit (s := S2x4x256x512) ![0, 1, 0, 0] S1x1x256x512.size inb_S2x4x256x512_S1x1x256x512_0_1_0_0, tripQ_odd.sl.v674 arg2 arg3 X2 X3 k0_t1⟩, ⟨Rect.unit (s := S2x4x256x512) ![0, 0, 0, 0] S1x1x256x512.size inb_S2x4x256x512_S1x1x256x512_0_0_0_0, tripQ_odd.sl.v668 arg2 arg3 X2 X3 k0_t1⟩]) = sc (tripQ_odd.sl.v626 arg2 X2 k0_t1) (hK (arg3.view.read (Elt F) X3) 128 0) := by
    intro f
    iterate 2 rw [readAt_writes_skip (h := by decide)]
    exact (readAt_writes_head ..).trans hs
  have hz : arg13.view.readAt (Elt F) (Rect.unit (s := S4x128x512) ![1, 0, 0] S1x128x512.size inb_S4x128x512_S1x128x512_1_0_0).toLoadRect (arg13.view.writes (Elt F) arg13.view.junk tripQ_odd.sl.H13_4) = k0_pay164 := by
    unfold tripQ_odd.sl.H13_4
    iterate 2 rw [readAt_writes_skip (h := by decide)]
    exact (readAt_writes_head ..).trans rfl
  obtain ⟨i1, i2, i3, i4⟩ := st_head1 (F := F) 𝒱 c bd i arg2 harg2 arg3 harg3 arg4 harg4 arg5 harg5 arg6 harg6 arg7 harg7 arg8 harg8 arg9 harg9 arg10 harg10 arg11 harg11 arg12 harg12 arg13 harg13 v315 v315 k0_t1 0#32 0#32 (tripQ_odd.sl.v614 arg2 X2 k0_t1) (tripQ_odd.sl.v626 arg2 X2 k0_t1) (tripQ_odd.sl.v638 arg2 X2 k0_t1) (tripQ_odd.sl.v650 arg2 X2 k0_t1) 0#32 0#32 0#32 X3 X11 (arg12.view.writes (Elt F) f12 [⟨Rect.unit (s := S2x4x256x512) ![0, 3, 0, 0] S1x1x256x512.size inb_S2x4x256x512_S1x1x256x512_0_3_0_0, tripQ_odd.sl.v686 arg2 arg3 X2 X3 k0_t1⟩, ⟨Rect.unit (s := S2x4x256x512) ![0, 2, 0, 0] S1x1x256x512.size inb_S2x4x256x512_S1x1x256x512_0_2_0_0, tripQ_odd.sl.v680 arg2 arg3 X2 X3 k0_t1⟩, ⟨Rect.unit (s := S2x4x256x512) ![0, 1, 0, 0] S1x1x256x512.size inb_S2x4x256x512_S1x1x256x512_0_1_0_0, tripQ_odd.sl.v674 arg2 arg3 X2 X3 k0_t1⟩, ⟨Rect.unit (s := S2x4x256x512) ![0, 0, 0, 0] S1x1x256x512.size inb_S2x4x256x512_S1x1x256x512_0_0_0_0, tripQ_odd.sl.v668 arg2 arg3 X2 X3 k0_t1⟩]) (arg13.view.writes (Elt F) arg13.view.junk tripQ_odd.sl.H13_4) (v315, v316, v315, v316, v315, v316, v315, v316) (hb f12) hz (k0_t2_loop k0_t1).trips le_rfl
  have hk0 : arg3.view.readAt (Elt F) (Rect.unit (s := S2064x512) ![0, 128] S16x128.size inb_S2064x512_S16x128_0_128).toLoadRect X3 = hK0 (arg3.view.read (Elt F) X3) 128 := readAt_tileOf ..
  have hvd : arg11.view.readAt (Elt F) (Rect.unit (s := S4x9x128x256) (k0_off48 k0_t1) S1x1x128x256.size (k0_off48_inb k0_t1)).toLoadRect X11 = hV (arg11.view.read (Elt F) X11) 1 k0_t1.val :=
    (readAt_tileOf ..).trans (congrArg (fun o => tileOf (Val := Elt F) (arg11.view.read (Elt F) X11) o S1x1x128x256.size) (off48_eq ..))
  have hv0 : arg11.view.readAt (Elt F) (Rect.unit (s := S4x9x128x256) ![1, 0, 0, 0] S1x1x128x16.size inb_S4x9x128x256_S1x1x128x16_1_0_0_0).toLoadRect X11 = hV0 (arg11.view.read (Elt F) X11) 1 := readAt_tileOf ..
  have hw : arg9.view.readAt (Elt F) (Rect.unit (s := S1x128) ![0, 0] S1x128.size inb_S1x128_S1x128_0_0).toLoadRect X9 = tileOf (Val := Elt F) (arg9.view.read (Elt F) X9) ![0, 0] S1x128.size := readAt_tileOf ..
  have hsp : tripQ_odd.sl.v1089 arg2 arg3 X2 X3 k0_t1 hc = sc (tripQ_odd.sl.v626 arg2 X2 k0_t1) (hK (arg3.view.read (Elt F) X3) 128 k0_t1.val) := by
    unfold hK
    rw [← off38_eq k0_t1 hc, ← readAt_tileOf (Val := Elt F) arg3.view X3 (k0_off38 k0_t1) S256x128.size (k0_off38_inb k0_t1 hc)]
    rfl
  have hS : tripQ_odd.sl.v848 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 = sc (tripQ_odd.sl.v626 arg2 X2 k0_t1) (hK (arg3.view.read (Elt F) X3) 128 k0_t1.val) := by
    unfold tripQ_odd.sl.v848 View.readCov
    rw [readAt_off_congr (off := k0_off47 k0_t1) (Val := Elt F) (off47_odd k0_t1 hc) arg12.view (arg12.view.writes (Elt F) arg12.view.junk (tripQ_odd.sl.H12_4 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12)) S1x1x256x512.size (k0_off47_inb k0_t1) inb_S2x4x256x512_S1x1x256x512_1_1_0_0]
    unfold tripQ_odd.sl.H12_4 tripQ_odd.sl.H12_3 tripQ_odd.sl.H12_2
    iterate 2 rw [readAt_writes_skip (h := by decide)]
    exact (readAt_writes_head ..).trans hsp
  have hS0 : tripQ_odd.sl.v1132 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 = sc (tripQ_odd.sl.v626 arg2 X2 k0_t1) (hK (arg3.view.read (Elt F) X3) 128 (2 * (k0_t2_loop k0_t1).trips)) := by
    unfold tripQ_odd.sl.v1132 View.readCov tripQ_odd.sl.H12_4 tripQ_odd.sl.H12_3 tripQ_odd.sl.H12_2 tripQ_odd.sl.H12_1
    iterate 4 rw [readAt_writes_skip (h := by decide)]
    rw [View.writes_append]
    exact i4 _ (hb arg12.view.junk)
  have hA0 : tripQ_odd.sl.v1147 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 = (hst v315 v316 (tripQ_odd.sl.v626 arg2 X2 k0_t1) (hK (arg3.view.read (Elt F) X3) 128) (hV (arg11.view.read (Elt F) X11) 1) (2 * (k0_t2_loop k0_t1).trips)).2.2 := by
    unfold tripQ_odd.sl.v1147 View.readCov tripQ_odd.sl.H13_1
    iterate 1 rw [readAt_writes_skip (h := by decide)]
    rw [View.writes_append]
    exact i3
  have hvt : arg11.view.readAt (Elt F) (Rect.unit (s := S4x9x128x256) (k0_off42 k0_t1) S1x1x128x256.size (k0_off42_inb k0_t1 hc)).toLoadRect X11 = hV (arg11.view.read (Elt F) X11) 1 (2 * (k0_t2_loop k0_t1).trips) :=
    (readAt_tileOf ..).trans (congrArg (fun o => tileOf (Val := Elt F) (arg11.view.read (Elt F) X11) o S1x1x128x256.size) ((off42_eq _ hc).trans (by rw [← keys2_trips_odd k0_t1 hc])))
  have hA : tripQ_odd.sl.v875 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 = tripQ_odd.sl.v1159 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 := by
    unfold tripQ_odd.sl.v875 View.readCov tripQ_odd.sl.H13_4_1 tripQ_odd.sl.H13_3 tripQ_odd.sl.H13_2
    iterate 2 rw [readAt_writes_skip (h := by decide)]
    exact readAt_writes_head ..
  have hkv := keys2_trips_odd k0_t1 hc
  unfold outT
  rw [← hk0, ← hvd, ← hv0, ← hw, ← hq, ← hS]
  have hst' : hst v315 v316 (tripQ_odd.sl.v626 arg2 X2 k0_t1) (hK (arg3.view.read (Elt F) X3) 128) (hV (arg11.view.read (Elt F) X11) 1) k0_t1.val = hst v315 v316 (tripQ_odd.sl.v626 arg2 X2 k0_t1) (hK (arg3.view.read (Elt F) X3) 128) (hV (arg11.view.read (Elt F) X11) 1) (2 * (k0_t2_loop k0_t1).trips + 1) := congrArg _ hkv
  rw [hst', hst_succ, ← hS0, ← hvt, ← hA0, ← i1, ← i2]
  dsimp only
  refine Eq.trans ?_ (congrArg (fun a => finT v18 _ _ _ _ a _ _ _) hA)
  rfl

set_option maxHeartbeats 1000000 in
theorem pay_odd2 (hc : k0_cond1 k0_t1 = 1#1) : k0_pay202 v18 (tripQ_odd.sl.r_9 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12) (tripQ_odd.sl.r_10 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12) (View.readAt (Elt F) arg9.view (Rect.unit (s := S1x128) ![0, 0] S1x128.size inb_S1x128_S1x128_0_0).toLoadRect X9) = outT v18 v315 v316 (arg2.view.read (Elt F) X2) (arg3.view.read (Elt F) X3) (arg11.view.read (Elt F) X11) (arg9.view.read (Elt F) X9) 2 256 k0_t1.val := by
  have hq : (tripQ_odd.sl.v638 arg2 X2 k0_t1) = (hQ (arg2.view.read (Elt F) X2) 256 k0_t1.val) := by
    unfold hQ
    rw [← off3_eq, ← readAt_tileOf (Val := Elt F) arg2.view X2 (k0_off3 k0_t1) S256x128.size (k0_off3_inb k0_t1)]
    rfl
  have hs : tripQ_odd.sl.v680 arg2 arg3 X2 X3 k0_t1 = sc (tripQ_odd.sl.v638 arg2 X2 k0_t1) (hK (arg3.view.read (Elt F) X3) 256 0) := by
    unfold hK
    rw [show (![16 + 256 * 0, 256] : Fin 2 → ℕ) = ![16, 256] from rfl, ← readAt_tileOf (Val := Elt F) arg3.view X3 ![16, 256] S256x128.size inb_S2064x512_S256x128_16_256]
    rfl
  have hb : ∀ f, arg12.view.readAt (Elt F) (Rect.unit (s := S2x4x256x512) ![0, 2, 0, 0] S1x1x256x512.size inb_S2x4x256x512_S1x1x256x512_0_2_0_0).toLoadRect (arg12.view.writes (Elt F) f [⟨Rect.unit (s := S2x4x256x512) ![0, 3, 0, 0] S1x1x256x512.size inb_S2x4x256x512_S1x1x256x512_0_3_0_0, tripQ_odd.sl.v686 arg2 arg3 X2 X3 k0_t1⟩, ⟨Rect.unit (s := S2x4x256x512) ![0, 2, 0, 0] S1x1x256x512.size inb_S2x4x256x512_S1x1x256x512_0_2_0_0, tripQ_odd.sl.v680 arg2 arg3 X2 X3 k0_t1⟩, ⟨Rect.unit (s := S2x4x256x512) ![0, 1, 0, 0] S1x1x256x512.size inb_S2x4x256x512_S1x1x256x512_0_1_0_0, tripQ_odd.sl.v674 arg2 arg3 X2 X3 k0_t1⟩, ⟨Rect.unit (s := S2x4x256x512) ![0, 0, 0, 0] S1x1x256x512.size inb_S2x4x256x512_S1x1x256x512_0_0_0_0, tripQ_odd.sl.v668 arg2 arg3 X2 X3 k0_t1⟩]) = sc (tripQ_odd.sl.v638 arg2 X2 k0_t1) (hK (arg3.view.read (Elt F) X3) 256 0) := by
    intro f
    iterate 1 rw [readAt_writes_skip (h := by decide)]
    exact (readAt_writes_head ..).trans hs
  have hz : arg13.view.readAt (Elt F) (Rect.unit (s := S4x128x512) ![2, 0, 0] S1x128x512.size inb_S4x128x512_S1x128x512_2_0_0).toLoadRect (arg13.view.writes (Elt F) arg13.view.junk tripQ_odd.sl.H13_4) = k0_pay164 := by
    unfold tripQ_odd.sl.H13_4
    iterate 1 rw [readAt_writes_skip (h := by decide)]
    exact (readAt_writes_head ..).trans rfl
  obtain ⟨i1, i2, i3, i4⟩ := st_head2 (F := F) 𝒱 c bd i arg2 harg2 arg3 harg3 arg4 harg4 arg5 harg5 arg6 harg6 arg7 harg7 arg8 harg8 arg9 harg9 arg10 harg10 arg11 harg11 arg12 harg12 arg13 harg13 v315 v315 k0_t1 0#32 0#32 (tripQ_odd.sl.v614 arg2 X2 k0_t1) (tripQ_odd.sl.v626 arg2 X2 k0_t1) (tripQ_odd.sl.v638 arg2 X2 k0_t1) (tripQ_odd.sl.v650 arg2 X2 k0_t1) 0#32 0#32 0#32 X3 X11 (arg12.view.writes (Elt F) f12 [⟨Rect.unit (s := S2x4x256x512) ![0, 3, 0, 0] S1x1x256x512.size inb_S2x4x256x512_S1x1x256x512_0_3_0_0, tripQ_odd.sl.v686 arg2 arg3 X2 X3 k0_t1⟩, ⟨Rect.unit (s := S2x4x256x512) ![0, 2, 0, 0] S1x1x256x512.size inb_S2x4x256x512_S1x1x256x512_0_2_0_0, tripQ_odd.sl.v680 arg2 arg3 X2 X3 k0_t1⟩, ⟨Rect.unit (s := S2x4x256x512) ![0, 1, 0, 0] S1x1x256x512.size inb_S2x4x256x512_S1x1x256x512_0_1_0_0, tripQ_odd.sl.v674 arg2 arg3 X2 X3 k0_t1⟩, ⟨Rect.unit (s := S2x4x256x512) ![0, 0, 0, 0] S1x1x256x512.size inb_S2x4x256x512_S1x1x256x512_0_0_0_0, tripQ_odd.sl.v668 arg2 arg3 X2 X3 k0_t1⟩]) (arg13.view.writes (Elt F) arg13.view.junk tripQ_odd.sl.H13_4) (v315, v316, v315, v316, v315, v316, v315, v316) (hb f12) hz (k0_t2_loop k0_t1).trips le_rfl
  have hk0 : arg3.view.readAt (Elt F) (Rect.unit (s := S2064x512) ![0, 256] S16x128.size inb_S2064x512_S16x128_0_256).toLoadRect X3 = hK0 (arg3.view.read (Elt F) X3) 256 := readAt_tileOf ..
  have hvd : arg11.view.readAt (Elt F) (Rect.unit (s := S4x9x128x256) (k0_off50 k0_t1) S1x1x128x256.size (k0_off50_inb k0_t1)).toLoadRect X11 = hV (arg11.view.read (Elt F) X11) 2 k0_t1.val :=
    (readAt_tileOf ..).trans (congrArg (fun o => tileOf (Val := Elt F) (arg11.view.read (Elt F) X11) o S1x1x128x256.size) (off50_eq ..))
  have hv0 : arg11.view.readAt (Elt F) (Rect.unit (s := S4x9x128x256) ![2, 0, 0, 0] S1x1x128x16.size inb_S4x9x128x256_S1x1x128x16_2_0_0_0).toLoadRect X11 = hV0 (arg11.view.read (Elt F) X11) 2 := readAt_tileOf ..
  have hw : arg9.view.readAt (Elt F) (Rect.unit (s := S1x128) ![0, 0] S1x128.size inb_S1x128_S1x128_0_0).toLoadRect X9 = tileOf (Val := Elt F) (arg9.view.read (Elt F) X9) ![0, 0] S1x128.size := readAt_tileOf ..
  have hsp : tripQ_odd.sl.v1096 arg2 arg3 X2 X3 k0_t1 hc = sc (tripQ_odd.sl.v638 arg2 X2 k0_t1) (hK (arg3.view.read (Elt F) X3) 256 k0_t1.val) := by
    unfold hK
    rw [← off39_eq k0_t1 hc, ← readAt_tileOf (Val := Elt F) arg3.view X3 (k0_off39 k0_t1) S256x128.size (k0_off39_inb k0_t1 hc)]
    rfl
  have hS : tripQ_odd.sl.v 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 = sc (tripQ_odd.sl.v638 arg2 X2 k0_t1) (hK (arg3.view.read (Elt F) X3) 256 k0_t1.val) := by
    unfold tripQ_odd.sl.v View.readCov
    rw [readAt_off_congr (off := k0_off49 k0_t1) (Val := Elt F) (off49_odd k0_t1 hc) arg12.view (arg12.view.writes (Elt F) arg12.view.junk (tripQ_odd.sl.H12_4 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12)) S1x1x256x512.size (k0_off49_inb k0_t1) inb_S2x4x256x512_S1x1x256x512_1_2_0_0]
    unfold tripQ_odd.sl.H12_4 tripQ_odd.sl.H12_3
    iterate 1 rw [readAt_writes_skip (h := by decide)]
    exact (readAt_writes_head ..).trans hsp
  have hS0 : tripQ_odd.sl.v1160 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 = sc (tripQ_odd.sl.v638 arg2 X2 k0_t1) (hK (arg3.view.read (Elt F) X3) 256 (2 * (k0_t2_loop k0_t1).trips)) := by
    unfold tripQ_odd.sl.v1160 View.readCov tripQ_odd.sl.H12_4 tripQ_odd.sl.H12_3 tripQ_odd.sl.H12_2 tripQ_odd.sl.H12_1
    iterate 4 rw [readAt_writes_skip (h := by decide)]
    rw [View.writes_append]
    exact i4 _ (hb arg12.view.junk)
  have hA0 : tripQ_odd.sl.v1175 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 = (hst v315 v316 (tripQ_odd.sl.v638 arg2 X2 k0_t1) (hK (arg3.view.read (Elt F) X3) 256) (hV (arg11.view.read (Elt F) X11) 2) (2 * (k0_t2_loop k0_t1).trips)).2.2 := by
    unfold tripQ_odd.sl.v1175 View.readCov tripQ_odd.sl.H13_2 tripQ_odd.sl.H13_1
    iterate 2 rw [readAt_writes_skip (h := by decide)]
    rw [View.writes_append]
    exact i3
  have hvt : arg11.view.readAt (Elt F) (Rect.unit (s := S4x9x128x256) (k0_off43 k0_t1) S1x1x128x256.size (k0_off43_inb k0_t1 hc)).toLoadRect X11 = hV (arg11.view.read (Elt F) X11) 2 (2 * (k0_t2_loop k0_t1).trips) :=
    (readAt_tileOf ..).trans (congrArg (fun o => tileOf (Val := Elt F) (arg11.view.read (Elt F) X11) o S1x1x128x256.size) ((off43_eq _ hc).trans (by rw [← keys2_trips_odd k0_t1 hc])))
  have hA : tripQ_odd.sl.v953 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 = tripQ_odd.sl.v1187 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 := by
    unfold tripQ_odd.sl.v953 View.readCov tripQ_odd.sl.H13_4_1 tripQ_odd.sl.H13_3
    iterate 1 rw [readAt_writes_skip (h := by decide)]
    exact readAt_writes_head ..
  have hkv := keys2_trips_odd k0_t1 hc
  unfold outT
  rw [← hk0, ← hvd, ← hv0, ← hw, ← hq, ← hS]
  have hst' : hst v315 v316 (tripQ_odd.sl.v638 arg2 X2 k0_t1) (hK (arg3.view.read (Elt F) X3) 256) (hV (arg11.view.read (Elt F) X11) 2) k0_t1.val = hst v315 v316 (tripQ_odd.sl.v638 arg2 X2 k0_t1) (hK (arg3.view.read (Elt F) X3) 256) (hV (arg11.view.read (Elt F) X11) 2) (2 * (k0_t2_loop k0_t1).trips + 1) := congrArg _ hkv
  rw [hst', hst_succ, ← hS0, ← hvt, ← hA0, ← i1, ← i2]
  dsimp only
  refine Eq.trans ?_ (congrArg (fun a => finT v18 _ _ _ _ a _ _ _) hA)
  rfl

set_option maxHeartbeats 1000000 in
theorem pay_odd3 (hc : k0_cond1 k0_t1 = 1#1) : k0_pay1 (tripQ_odd.sl.v1051 𝒱 c bd i arg2 harg2 arg3 harg3 arg4 harg4 arg5 harg5 arg6 harg6 arg7 harg7 arg8 harg8 arg9 harg9 arg10 harg10 arg11 harg11 arg12 harg12 arg13 harg13 v18 v315 v316 X2 X3 X11 k0_t1 hc f12) (tripQ_odd.sl.v819 arg9 X9) = outT v18 v315 v316 (arg2.view.read (Elt F) X2) (arg3.view.read (Elt F) X3) (arg11.view.read (Elt F) X11) (arg9.view.read (Elt F) X9) 3 384 k0_t1.val := by
  have hq : (tripQ_odd.sl.v650 arg2 X2 k0_t1) = (hQ (arg2.view.read (Elt F) X2) 384 k0_t1.val) := by
    unfold hQ
    rw [← off4_eq, ← readAt_tileOf (Val := Elt F) arg2.view X2 (k0_off4 k0_t1) S256x128.size (k0_off4_inb k0_t1)]
    rfl
  have hs : tripQ_odd.sl.v686 arg2 arg3 X2 X3 k0_t1 = sc (tripQ_odd.sl.v650 arg2 X2 k0_t1) (hK (arg3.view.read (Elt F) X3) 384 0) := by
    unfold hK
    rw [show (![16 + 256 * 0, 384] : Fin 2 → ℕ) = ![16, 384] from rfl, ← readAt_tileOf (Val := Elt F) arg3.view X3 ![16, 384] S256x128.size inb_S2064x512_S256x128_16_384]
    rfl
  have hb : ∀ f, arg12.view.readAt (Elt F) (Rect.unit (s := S2x4x256x512) ![0, 3, 0, 0] S1x1x256x512.size inb_S2x4x256x512_S1x1x256x512_0_3_0_0).toLoadRect (arg12.view.writes (Elt F) f [⟨Rect.unit (s := S2x4x256x512) ![0, 3, 0, 0] S1x1x256x512.size inb_S2x4x256x512_S1x1x256x512_0_3_0_0, tripQ_odd.sl.v686 arg2 arg3 X2 X3 k0_t1⟩, ⟨Rect.unit (s := S2x4x256x512) ![0, 2, 0, 0] S1x1x256x512.size inb_S2x4x256x512_S1x1x256x512_0_2_0_0, tripQ_odd.sl.v680 arg2 arg3 X2 X3 k0_t1⟩, ⟨Rect.unit (s := S2x4x256x512) ![0, 1, 0, 0] S1x1x256x512.size inb_S2x4x256x512_S1x1x256x512_0_1_0_0, tripQ_odd.sl.v674 arg2 arg3 X2 X3 k0_t1⟩, ⟨Rect.unit (s := S2x4x256x512) ![0, 0, 0, 0] S1x1x256x512.size inb_S2x4x256x512_S1x1x256x512_0_0_0_0, tripQ_odd.sl.v668 arg2 arg3 X2 X3 k0_t1⟩]) = sc (tripQ_odd.sl.v650 arg2 X2 k0_t1) (hK (arg3.view.read (Elt F) X3) 384 0) := by
    intro f
    skip
    exact (readAt_writes_head ..).trans hs
  have hz : arg13.view.readAt (Elt F) (Rect.unit (s := S4x128x512) ![3, 0, 0] S1x128x512.size inb_S4x128x512_S1x128x512_3_0_0).toLoadRect (arg13.view.writes (Elt F) arg13.view.junk tripQ_odd.sl.H13_4) = k0_pay164 := by
    unfold tripQ_odd.sl.H13_4
    skip
    exact (readAt_writes_head ..).trans rfl
  obtain ⟨i1, i2, i3, i4⟩ := st_head3 (F := F) 𝒱 c bd i arg2 harg2 arg3 harg3 arg4 harg4 arg5 harg5 arg6 harg6 arg7 harg7 arg8 harg8 arg9 harg9 arg10 harg10 arg11 harg11 arg12 harg12 arg13 harg13 v315 v315 k0_t1 0#32 0#32 (tripQ_odd.sl.v614 arg2 X2 k0_t1) (tripQ_odd.sl.v626 arg2 X2 k0_t1) (tripQ_odd.sl.v638 arg2 X2 k0_t1) (tripQ_odd.sl.v650 arg2 X2 k0_t1) 0#32 0#32 0#32 X3 X11 (arg12.view.writes (Elt F) f12 [⟨Rect.unit (s := S2x4x256x512) ![0, 3, 0, 0] S1x1x256x512.size inb_S2x4x256x512_S1x1x256x512_0_3_0_0, tripQ_odd.sl.v686 arg2 arg3 X2 X3 k0_t1⟩, ⟨Rect.unit (s := S2x4x256x512) ![0, 2, 0, 0] S1x1x256x512.size inb_S2x4x256x512_S1x1x256x512_0_2_0_0, tripQ_odd.sl.v680 arg2 arg3 X2 X3 k0_t1⟩, ⟨Rect.unit (s := S2x4x256x512) ![0, 1, 0, 0] S1x1x256x512.size inb_S2x4x256x512_S1x1x256x512_0_1_0_0, tripQ_odd.sl.v674 arg2 arg3 X2 X3 k0_t1⟩, ⟨Rect.unit (s := S2x4x256x512) ![0, 0, 0, 0] S1x1x256x512.size inb_S2x4x256x512_S1x1x256x512_0_0_0_0, tripQ_odd.sl.v668 arg2 arg3 X2 X3 k0_t1⟩]) (arg13.view.writes (Elt F) arg13.view.junk tripQ_odd.sl.H13_4) (v315, v316, v315, v316, v315, v316, v315, v316) (hb f12) hz (k0_t2_loop k0_t1).trips le_rfl
  have hk0 : arg3.view.readAt (Elt F) (Rect.unit (s := S2064x512) ![0, 384] S16x128.size inb_S2064x512_S16x128_0_384).toLoadRect X3 = hK0 (arg3.view.read (Elt F) X3) 384 := readAt_tileOf ..
  have hvd : arg11.view.readAt (Elt F) (Rect.unit (s := S4x9x128x256) (k0_off52 k0_t1) S1x1x128x256.size (k0_off52_inb k0_t1)).toLoadRect X11 = hV (arg11.view.read (Elt F) X11) 3 k0_t1.val :=
    (readAt_tileOf ..).trans (congrArg (fun o => tileOf (Val := Elt F) (arg11.view.read (Elt F) X11) o S1x1x128x256.size) (off52_eq ..))
  have hv0 : arg11.view.readAt (Elt F) (Rect.unit (s := S4x9x128x256) ![3, 0, 0, 0] S1x1x128x16.size inb_S4x9x128x256_S1x1x128x16_3_0_0_0).toLoadRect X11 = hV0 (arg11.view.read (Elt F) X11) 3 := readAt_tileOf ..
  have hw : arg9.view.readAt (Elt F) (Rect.unit (s := S1x128) ![0, 0] S1x128.size inb_S1x128_S1x128_0_0).toLoadRect X9 = tileOf (Val := Elt F) (arg9.view.read (Elt F) X9) ![0, 0] S1x128.size := readAt_tileOf ..
  have hsp : tripQ_odd.sl.v1103 arg2 arg3 X2 X3 k0_t1 hc = sc (tripQ_odd.sl.v650 arg2 X2 k0_t1) (hK (arg3.view.read (Elt F) X3) 384 k0_t1.val) := by
    unfold hK
    rw [← off40_eq k0_t1 hc, ← readAt_tileOf (Val := Elt F) arg3.view X3 (k0_off40 k0_t1) S256x128.size (k0_off40_inb k0_t1 hc)]
    rfl
  have hS : tripQ_odd.sl.v1004 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 = sc (tripQ_odd.sl.v650 arg2 X2 k0_t1) (hK (arg3.view.read (Elt F) X3) 384 k0_t1.val) := by
    unfold tripQ_odd.sl.v1004 View.readCov
    rw [readAt_off_congr (off := k0_off51 k0_t1) (Val := Elt F) (off51_odd k0_t1 hc) arg12.view (arg12.view.writes (Elt F) arg12.view.junk (tripQ_odd.sl.H12_4 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12)) S1x1x256x512.size (k0_off51_inb k0_t1) inb_S2x4x256x512_S1x1x256x512_1_3_0_0]
    unfold tripQ_odd.sl.H12_4
    skip
    exact (readAt_writes_head ..).trans hsp
  have hS0 : tripQ_odd.sl.v1188 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 = sc (tripQ_odd.sl.v650 arg2 X2 k0_t1) (hK (arg3.view.read (Elt F) X3) 384 (2 * (k0_t2_loop k0_t1).trips)) := by
    unfold tripQ_odd.sl.v1188 View.readCov tripQ_odd.sl.H12_4 tripQ_odd.sl.H12_3 tripQ_odd.sl.H12_2 tripQ_odd.sl.H12_1
    iterate 4 rw [readAt_writes_skip (h := by decide)]
    rw [View.writes_append]
    exact i4 _ (hb arg12.view.junk)
  have hA0 : tripQ_odd.sl.v1203 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 = (hst v315 v316 (tripQ_odd.sl.v650 arg2 X2 k0_t1) (hK (arg3.view.read (Elt F) X3) 384) (hV (arg11.view.read (Elt F) X11) 3) (2 * (k0_t2_loop k0_t1).trips)).2.2 := by
    unfold tripQ_odd.sl.v1203 View.readCov tripQ_odd.sl.H13_3 tripQ_odd.sl.H13_2 tripQ_odd.sl.H13_1
    iterate 3 rw [readAt_writes_skip (h := by decide)]
    rw [View.writes_append]
    exact i3
  have hvt : arg11.view.readAt (Elt F) (Rect.unit (s := S4x9x128x256) (k0_off44 k0_t1) S1x1x128x256.size (k0_off44_inb k0_t1 hc)).toLoadRect X11 = hV (arg11.view.read (Elt F) X11) 3 (2 * (k0_t2_loop k0_t1).trips) :=
    (readAt_tileOf ..).trans (congrArg (fun o => tileOf (Val := Elt F) (arg11.view.read (Elt F) X11) o S1x1x128x256.size) ((off44_eq _ hc).trans (by rw [← keys2_trips_odd k0_t1 hc])))
  have hA : tripQ_odd.sl.v1031 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 = tripQ_odd.sl.v1215 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 hc f12 := by
    unfold tripQ_odd.sl.v1031 View.readCov tripQ_odd.sl.H13_4_1
    skip
    exact readAt_writes_head ..
  have hkv := keys2_trips_odd k0_t1 hc
  unfold outT
  rw [← hk0, ← hvd, ← hv0, ← hw, ← hq, ← hS]
  have hst' : hst v315 v316 (tripQ_odd.sl.v650 arg2 X2 k0_t1) (hK (arg3.view.read (Elt F) X3) 384) (hV (arg11.view.read (Elt F) X11) 3) k0_t1.val = hst v315 v316 (tripQ_odd.sl.v650 arg2 X2 k0_t1) (hK (arg3.view.read (Elt F) X3) 384) (hV (arg11.view.read (Elt F) X11) 3) (2 * (k0_t2_loop k0_t1).trips + 1) := congrArg _ hkv
  rw [hst', hst_succ, ← hS0, ← hvt, ← hA0, ← i1, ← i2]
  dsimp only
  refine Eq.trans ?_ (congrArg (fun a => finT v18 _ _ _ _ a _ _ _) hA)
  rfl

set_option maxHeartbeats 1000000 in
theorem pay_even0 (hc : ¬ k0_cond1 k0_t1 = 1#1) : tripQ_even.sl.v834 𝒱 c bd i arg2 harg2 arg3 harg3 arg4 harg4 arg5 harg5 arg6 harg6 arg7 harg7 arg8 harg8 arg9 harg9 arg10 harg10 arg11 harg11 arg12 harg12 arg13 harg13 v18 v315 v316 X2 X3 X9 X11 k0_t1 f12 = outT v18 v315 v316 (arg2.view.read (Elt F) X2) (arg3.view.read (Elt F) X3) (arg11.view.read (Elt F) X11) (arg9.view.read (Elt F) X9) 0 0 k0_t1.val := by
  have hq : (tripQ_even.sl.v614 arg2 X2 k0_t1) = (hQ (arg2.view.read (Elt F) X2) 0 k0_t1.val) := by
    unfold hQ
    rw [← off1_eq, ← readAt_tileOf (Val := Elt F) arg2.view X2 (k0_off1 k0_t1) S256x128.size (k0_off1_inb k0_t1)]
    rfl
  have hs : tripQ_even.sl.v668 arg2 arg3 X2 X3 k0_t1 = sc (tripQ_even.sl.v614 arg2 X2 k0_t1) (hK (arg3.view.read (Elt F) X3) 0 0) := by
    unfold hK
    rw [show (![16 + 256 * 0, 0] : Fin 2 → ℕ) = ![16, 0] from rfl, ← readAt_tileOf (Val := Elt F) arg3.view X3 ![16, 0] S256x128.size inb_S2064x512_S256x128_16_0]
    rfl
  have hb : ∀ f, arg12.view.readAt (Elt F) (Rect.unit (s := S2x4x256x512) ![0, 0, 0, 0] S1x1x256x512.size inb_S2x4x256x512_S1x1x256x512_0_0_0_0).toLoadRect (arg12.view.writes (Elt F) f [⟨Rect.unit (s := S2x4x256x512) ![0, 3, 0, 0] S1x1x256x512.size inb_S2x4x256x512_S1x1x256x512_0_3_0_0, tripQ_even.sl.v686 arg2 arg3 X2 X3 k0_t1⟩, ⟨Rect.unit (s := S2x4x256x512) ![0, 2, 0, 0] S1x1x256x512.size inb_S2x4x256x512_S1x1x256x512_0_2_0_0, tripQ_even.sl.v680 arg2 arg3 X2 X3 k0_t1⟩, ⟨Rect.unit (s := S2x4x256x512) ![0, 1, 0, 0] S1x1x256x512.size inb_S2x4x256x512_S1x1x256x512_0_1_0_0, tripQ_even.sl.v674 arg2 arg3 X2 X3 k0_t1⟩, ⟨Rect.unit (s := S2x4x256x512) ![0, 0, 0, 0] S1x1x256x512.size inb_S2x4x256x512_S1x1x256x512_0_0_0_0, tripQ_even.sl.v668 arg2 arg3 X2 X3 k0_t1⟩]) = sc (tripQ_even.sl.v614 arg2 X2 k0_t1) (hK (arg3.view.read (Elt F) X3) 0 0) := by
    intro f
    iterate 3 rw [readAt_writes_skip (h := by decide)]
    exact (readAt_writes_head ..).trans hs
  have hz : arg13.view.readAt (Elt F) (Rect.unit (s := S4x128x512) ![0, 0, 0] S1x128x512.size inb_S4x128x512_S1x128x512_0_0_0).toLoadRect (arg13.view.writes (Elt F) arg13.view.junk tripQ_even.sl.H13_4) = k0_pay164 := by
    unfold tripQ_even.sl.H13_4
    iterate 3 rw [readAt_writes_skip (h := by decide)]
    exact (readAt_writes_head ..).trans rfl
  obtain ⟨i1, i2, i3, i4⟩ := st_head0 (F := F) 𝒱 c bd i arg2 harg2 arg3 harg3 arg4 harg4 arg5 harg5 arg6 harg6 arg7 harg7 arg8 harg8 arg9 harg9 arg10 harg10 arg11 harg11 arg12 harg12 arg13 harg13 v315 v315 k0_t1 0#32 0#32 (tripQ_even.sl.v614 arg2 X2 k0_t1) (tripQ_even.sl.v626 arg2 X2 k0_t1) (tripQ_even.sl.v638 arg2 X2 k0_t1) (tripQ_even.sl.v650 arg2 X2 k0_t1) 0#32 0#32 0#32 X3 X11 (arg12.view.writes (Elt F) f12 [⟨Rect.unit (s := S2x4x256x512) ![0, 3, 0, 0] S1x1x256x512.size inb_S2x4x256x512_S1x1x256x512_0_3_0_0, tripQ_even.sl.v686 arg2 arg3 X2 X3 k0_t1⟩, ⟨Rect.unit (s := S2x4x256x512) ![0, 2, 0, 0] S1x1x256x512.size inb_S2x4x256x512_S1x1x256x512_0_2_0_0, tripQ_even.sl.v680 arg2 arg3 X2 X3 k0_t1⟩, ⟨Rect.unit (s := S2x4x256x512) ![0, 1, 0, 0] S1x1x256x512.size inb_S2x4x256x512_S1x1x256x512_0_1_0_0, tripQ_even.sl.v674 arg2 arg3 X2 X3 k0_t1⟩, ⟨Rect.unit (s := S2x4x256x512) ![0, 0, 0, 0] S1x1x256x512.size inb_S2x4x256x512_S1x1x256x512_0_0_0_0, tripQ_even.sl.v668 arg2 arg3 X2 X3 k0_t1⟩]) (arg13.view.writes (Elt F) arg13.view.junk tripQ_even.sl.H13_4) (v315, v316, v315, v316, v315, v316, v315, v316) (hb f12) hz (k0_t2_loop k0_t1).trips le_rfl
  have hk0 : arg3.view.readAt (Elt F) (Rect.unit (s := S2064x512) ![0, 0] S16x128.size inb_S2064x512_S16x128_0_0).toLoadRect X3 = hK0 (arg3.view.read (Elt F) X3) 0 := readAt_tileOf ..
  have hvd : arg11.view.readAt (Elt F) (Rect.unit (s := S4x9x128x256) (k0_off46 k0_t1) S1x1x128x256.size (k0_off46_inb k0_t1)).toLoadRect X11 = hV (arg11.view.read (Elt F) X11) 0 k0_t1.val :=
    (readAt_tileOf ..).trans (congrArg (fun o => tileOf (Val := Elt F) (arg11.view.read (Elt F) X11) o S1x1x128x256.size) (off46_eq ..))
  have hv0 : arg11.view.readAt (Elt F) (Rect.unit (s := S4x9x128x256) ![0, 0, 0, 0] S1x1x128x16.size inb_S4x9x128x256_S1x1x128x16_0_0_0_0).toLoadRect X11 = hV0 (arg11.view.read (Elt F) X11) 0 := readAt_tileOf ..
  have hw : arg9.view.readAt (Elt F) (Rect.unit (s := S1x128) ![0, 0] S1x128.size inb_S1x128_S1x128_0_0).toLoadRect X9 = tileOf (Val := Elt F) (arg9.view.read (Elt F) X9) ![0, 0] S1x128.size := readAt_tileOf ..
  have hS : tripQ_even.sl.v770 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 f12 = sc (tripQ_even.sl.v614 arg2 X2 k0_t1) (hK (arg3.view.read (Elt F) X3) 0 (2 * (k0_t2_loop k0_t1).trips)) := by
    unfold tripQ_even.sl.v770
    refine (readAt_off_congr (off := k0_off45 k0_t1) (off45_even k0_t1 hc) arg12.view _ S1x1x256x512.size (k0_off45_inb k0_t1) inb_S2x4x256x512_S1x1x256x512_0_0_0_0).trans ?_
    rw [View.writes_append]
    exact i4 _ (hb f12)
  have hA : tripQ_even.sl.v797 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 f12 = (hst v315 v316 (tripQ_even.sl.v614 arg2 X2 k0_t1) (hK (arg3.view.read (Elt F) X3) 0) (hV (arg11.view.read (Elt F) X11) 0) (2 * (k0_t2_loop k0_t1).trips)).2.2 := by
    unfold tripQ_even.sl.v797 View.readCov
    rw [View.writes_append]
    exact i3
  have hkv := keys2_trips_even k0_t1 hc
  unfold outT
  rw [← hk0, ← hvd, ← hv0, ← hw, ← hq]
  have hst' : hst v315 v316 (tripQ_even.sl.v614 arg2 X2 k0_t1) (hK (arg3.view.read (Elt F) X3) 0) (hV (arg11.view.read (Elt F) X11) 0) k0_t1.val = hst v315 v316 (tripQ_even.sl.v614 arg2 X2 k0_t1) (hK (arg3.view.read (Elt F) X3) 0) (hV (arg11.view.read (Elt F) X11) 0) (2 * (k0_t2_loop k0_t1).trips) := congrArg _ hkv
  have hsc' : sc (tripQ_even.sl.v614 arg2 X2 k0_t1) (hK (arg3.view.read (Elt F) X3) 0 k0_t1.val) = sc (tripQ_even.sl.v614 arg2 X2 k0_t1) (hK (arg3.view.read (Elt F) X3) 0 (2 * (k0_t2_loop k0_t1).trips)) := congrArg (fun j => sc (tripQ_even.sl.v614 arg2 X2 k0_t1) (hK (arg3.view.read (Elt F) X3) 0 j)) hkv
  rw [hst', hsc', ← hA, ← hS, ← i1, ← i2]
  rfl

set_option maxHeartbeats 1000000 in
theorem pay_even1 (hc : ¬ k0_cond1 k0_t1 = 1#1) : tripQ_even.sl.v912 𝒱 c bd i arg2 harg2 arg3 harg3 arg4 harg4 arg5 harg5 arg6 harg6 arg7 harg7 arg8 harg8 arg9 harg9 arg10 harg10 arg11 harg11 arg12 harg12 arg13 harg13 v18 v315 v316 X2 X3 X9 X11 k0_t1 f12 = outT v18 v315 v316 (arg2.view.read (Elt F) X2) (arg3.view.read (Elt F) X3) (arg11.view.read (Elt F) X11) (arg9.view.read (Elt F) X9) 1 128 k0_t1.val := by
  have hq : (tripQ_even.sl.v626 arg2 X2 k0_t1) = (hQ (arg2.view.read (Elt F) X2) 128 k0_t1.val) := by
    unfold hQ
    rw [← off2_eq, ← readAt_tileOf (Val := Elt F) arg2.view X2 (k0_off2 k0_t1) S256x128.size (k0_off2_inb k0_t1)]
    rfl
  have hs : tripQ_even.sl.v674 arg2 arg3 X2 X3 k0_t1 = sc (tripQ_even.sl.v626 arg2 X2 k0_t1) (hK (arg3.view.read (Elt F) X3) 128 0) := by
    unfold hK
    rw [show (![16 + 256 * 0, 128] : Fin 2 → ℕ) = ![16, 128] from rfl, ← readAt_tileOf (Val := Elt F) arg3.view X3 ![16, 128] S256x128.size inb_S2064x512_S256x128_16_128]
    rfl
  have hb : ∀ f, arg12.view.readAt (Elt F) (Rect.unit (s := S2x4x256x512) ![0, 1, 0, 0] S1x1x256x512.size inb_S2x4x256x512_S1x1x256x512_0_1_0_0).toLoadRect (arg12.view.writes (Elt F) f [⟨Rect.unit (s := S2x4x256x512) ![0, 3, 0, 0] S1x1x256x512.size inb_S2x4x256x512_S1x1x256x512_0_3_0_0, tripQ_even.sl.v686 arg2 arg3 X2 X3 k0_t1⟩, ⟨Rect.unit (s := S2x4x256x512) ![0, 2, 0, 0] S1x1x256x512.size inb_S2x4x256x512_S1x1x256x512_0_2_0_0, tripQ_even.sl.v680 arg2 arg3 X2 X3 k0_t1⟩, ⟨Rect.unit (s := S2x4x256x512) ![0, 1, 0, 0] S1x1x256x512.size inb_S2x4x256x512_S1x1x256x512_0_1_0_0, tripQ_even.sl.v674 arg2 arg3 X2 X3 k0_t1⟩, ⟨Rect.unit (s := S2x4x256x512) ![0, 0, 0, 0] S1x1x256x512.size inb_S2x4x256x512_S1x1x256x512_0_0_0_0, tripQ_even.sl.v668 arg2 arg3 X2 X3 k0_t1⟩]) = sc (tripQ_even.sl.v626 arg2 X2 k0_t1) (hK (arg3.view.read (Elt F) X3) 128 0) := by
    intro f
    iterate 2 rw [readAt_writes_skip (h := by decide)]
    exact (readAt_writes_head ..).trans hs
  have hz : arg13.view.readAt (Elt F) (Rect.unit (s := S4x128x512) ![1, 0, 0] S1x128x512.size inb_S4x128x512_S1x128x512_1_0_0).toLoadRect (arg13.view.writes (Elt F) arg13.view.junk tripQ_even.sl.H13_4) = k0_pay164 := by
    unfold tripQ_even.sl.H13_4
    iterate 2 rw [readAt_writes_skip (h := by decide)]
    exact (readAt_writes_head ..).trans rfl
  obtain ⟨i1, i2, i3, i4⟩ := st_head1 (F := F) 𝒱 c bd i arg2 harg2 arg3 harg3 arg4 harg4 arg5 harg5 arg6 harg6 arg7 harg7 arg8 harg8 arg9 harg9 arg10 harg10 arg11 harg11 arg12 harg12 arg13 harg13 v315 v315 k0_t1 0#32 0#32 (tripQ_even.sl.v614 arg2 X2 k0_t1) (tripQ_even.sl.v626 arg2 X2 k0_t1) (tripQ_even.sl.v638 arg2 X2 k0_t1) (tripQ_even.sl.v650 arg2 X2 k0_t1) 0#32 0#32 0#32 X3 X11 (arg12.view.writes (Elt F) f12 [⟨Rect.unit (s := S2x4x256x512) ![0, 3, 0, 0] S1x1x256x512.size inb_S2x4x256x512_S1x1x256x512_0_3_0_0, tripQ_even.sl.v686 arg2 arg3 X2 X3 k0_t1⟩, ⟨Rect.unit (s := S2x4x256x512) ![0, 2, 0, 0] S1x1x256x512.size inb_S2x4x256x512_S1x1x256x512_0_2_0_0, tripQ_even.sl.v680 arg2 arg3 X2 X3 k0_t1⟩, ⟨Rect.unit (s := S2x4x256x512) ![0, 1, 0, 0] S1x1x256x512.size inb_S2x4x256x512_S1x1x256x512_0_1_0_0, tripQ_even.sl.v674 arg2 arg3 X2 X3 k0_t1⟩, ⟨Rect.unit (s := S2x4x256x512) ![0, 0, 0, 0] S1x1x256x512.size inb_S2x4x256x512_S1x1x256x512_0_0_0_0, tripQ_even.sl.v668 arg2 arg3 X2 X3 k0_t1⟩]) (arg13.view.writes (Elt F) arg13.view.junk tripQ_even.sl.H13_4) (v315, v316, v315, v316, v315, v316, v315, v316) (hb f12) hz (k0_t2_loop k0_t1).trips le_rfl
  have hk0 : arg3.view.readAt (Elt F) (Rect.unit (s := S2064x512) ![0, 128] S16x128.size inb_S2064x512_S16x128_0_128).toLoadRect X3 = hK0 (arg3.view.read (Elt F) X3) 128 := readAt_tileOf ..
  have hvd : arg11.view.readAt (Elt F) (Rect.unit (s := S4x9x128x256) (k0_off48 k0_t1) S1x1x128x256.size (k0_off48_inb k0_t1)).toLoadRect X11 = hV (arg11.view.read (Elt F) X11) 1 k0_t1.val :=
    (readAt_tileOf ..).trans (congrArg (fun o => tileOf (Val := Elt F) (arg11.view.read (Elt F) X11) o S1x1x128x256.size) (off48_eq ..))
  have hv0 : arg11.view.readAt (Elt F) (Rect.unit (s := S4x9x128x256) ![1, 0, 0, 0] S1x1x128x16.size inb_S4x9x128x256_S1x1x128x16_1_0_0_0).toLoadRect X11 = hV0 (arg11.view.read (Elt F) X11) 1 := readAt_tileOf ..
  have hw : arg9.view.readAt (Elt F) (Rect.unit (s := S1x128) ![0, 0] S1x128.size inb_S1x128_S1x128_0_0).toLoadRect X9 = tileOf (Val := Elt F) (arg9.view.read (Elt F) X9) ![0, 0] S1x128.size := readAt_tileOf ..
  have hS : tripQ_even.sl.v848 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 f12 = sc (tripQ_even.sl.v626 arg2 X2 k0_t1) (hK (arg3.view.read (Elt F) X3) 128 (2 * (k0_t2_loop k0_t1).trips)) := by
    unfold tripQ_even.sl.v848
    refine (readAt_off_congr (off := k0_off47 k0_t1) (off47_even k0_t1 hc) arg12.view _ S1x1x256x512.size (k0_off47_inb k0_t1) inb_S2x4x256x512_S1x1x256x512_0_1_0_0).trans ?_
    rw [View.writes_append]
    exact i4 _ (hb f12)
  have hA : tripQ_even.sl.v875 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 f12 = (hst v315 v316 (tripQ_even.sl.v626 arg2 X2 k0_t1) (hK (arg3.view.read (Elt F) X3) 128) (hV (arg11.view.read (Elt F) X11) 1) (2 * (k0_t2_loop k0_t1).trips)).2.2 := by
    unfold tripQ_even.sl.v875 View.readCov
    rw [View.writes_append]
    exact i3
  have hkv := keys2_trips_even k0_t1 hc
  unfold outT
  rw [← hk0, ← hvd, ← hv0, ← hw, ← hq]
  have hst' : hst v315 v316 (tripQ_even.sl.v626 arg2 X2 k0_t1) (hK (arg3.view.read (Elt F) X3) 128) (hV (arg11.view.read (Elt F) X11) 1) k0_t1.val = hst v315 v316 (tripQ_even.sl.v626 arg2 X2 k0_t1) (hK (arg3.view.read (Elt F) X3) 128) (hV (arg11.view.read (Elt F) X11) 1) (2 * (k0_t2_loop k0_t1).trips) := congrArg _ hkv
  have hsc' : sc (tripQ_even.sl.v626 arg2 X2 k0_t1) (hK (arg3.view.read (Elt F) X3) 128 k0_t1.val) = sc (tripQ_even.sl.v626 arg2 X2 k0_t1) (hK (arg3.view.read (Elt F) X3) 128 (2 * (k0_t2_loop k0_t1).trips)) := congrArg (fun j => sc (tripQ_even.sl.v626 arg2 X2 k0_t1) (hK (arg3.view.read (Elt F) X3) 128 j)) hkv
  rw [hst', hsc', ← hA, ← hS, ← i1, ← i2]
  rfl

set_option maxHeartbeats 1000000 in
theorem pay_even2 (hc : ¬ k0_cond1 k0_t1 = 1#1) : k0_pay202 v18 (tripQ_even.sl.r_17 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 f12) (tripQ_even.sl.r_18 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 f12) (View.readAt (Elt F) arg9.view (Rect.unit (s := S1x128) ![0, 0] S1x128.size inb_S1x128_S1x128_0_0).toLoadRect X9) = outT v18 v315 v316 (arg2.view.read (Elt F) X2) (arg3.view.read (Elt F) X3) (arg11.view.read (Elt F) X11) (arg9.view.read (Elt F) X9) 2 256 k0_t1.val := by
  have hq : (tripQ_even.sl.v638 arg2 X2 k0_t1) = (hQ (arg2.view.read (Elt F) X2) 256 k0_t1.val) := by
    unfold hQ
    rw [← off3_eq, ← readAt_tileOf (Val := Elt F) arg2.view X2 (k0_off3 k0_t1) S256x128.size (k0_off3_inb k0_t1)]
    rfl
  have hs : tripQ_even.sl.v680 arg2 arg3 X2 X3 k0_t1 = sc (tripQ_even.sl.v638 arg2 X2 k0_t1) (hK (arg3.view.read (Elt F) X3) 256 0) := by
    unfold hK
    rw [show (![16 + 256 * 0, 256] : Fin 2 → ℕ) = ![16, 256] from rfl, ← readAt_tileOf (Val := Elt F) arg3.view X3 ![16, 256] S256x128.size inb_S2064x512_S256x128_16_256]
    rfl
  have hb : ∀ f, arg12.view.readAt (Elt F) (Rect.unit (s := S2x4x256x512) ![0, 2, 0, 0] S1x1x256x512.size inb_S2x4x256x512_S1x1x256x512_0_2_0_0).toLoadRect (arg12.view.writes (Elt F) f [⟨Rect.unit (s := S2x4x256x512) ![0, 3, 0, 0] S1x1x256x512.size inb_S2x4x256x512_S1x1x256x512_0_3_0_0, tripQ_even.sl.v686 arg2 arg3 X2 X3 k0_t1⟩, ⟨Rect.unit (s := S2x4x256x512) ![0, 2, 0, 0] S1x1x256x512.size inb_S2x4x256x512_S1x1x256x512_0_2_0_0, tripQ_even.sl.v680 arg2 arg3 X2 X3 k0_t1⟩, ⟨Rect.unit (s := S2x4x256x512) ![0, 1, 0, 0] S1x1x256x512.size inb_S2x4x256x512_S1x1x256x512_0_1_0_0, tripQ_even.sl.v674 arg2 arg3 X2 X3 k0_t1⟩, ⟨Rect.unit (s := S2x4x256x512) ![0, 0, 0, 0] S1x1x256x512.size inb_S2x4x256x512_S1x1x256x512_0_0_0_0, tripQ_even.sl.v668 arg2 arg3 X2 X3 k0_t1⟩]) = sc (tripQ_even.sl.v638 arg2 X2 k0_t1) (hK (arg3.view.read (Elt F) X3) 256 0) := by
    intro f
    iterate 1 rw [readAt_writes_skip (h := by decide)]
    exact (readAt_writes_head ..).trans hs
  have hz : arg13.view.readAt (Elt F) (Rect.unit (s := S4x128x512) ![2, 0, 0] S1x128x512.size inb_S4x128x512_S1x128x512_2_0_0).toLoadRect (arg13.view.writes (Elt F) arg13.view.junk tripQ_even.sl.H13_4) = k0_pay164 := by
    unfold tripQ_even.sl.H13_4
    iterate 1 rw [readAt_writes_skip (h := by decide)]
    exact (readAt_writes_head ..).trans rfl
  obtain ⟨i1, i2, i3, i4⟩ := st_head2 (F := F) 𝒱 c bd i arg2 harg2 arg3 harg3 arg4 harg4 arg5 harg5 arg6 harg6 arg7 harg7 arg8 harg8 arg9 harg9 arg10 harg10 arg11 harg11 arg12 harg12 arg13 harg13 v315 v315 k0_t1 0#32 0#32 (tripQ_even.sl.v614 arg2 X2 k0_t1) (tripQ_even.sl.v626 arg2 X2 k0_t1) (tripQ_even.sl.v638 arg2 X2 k0_t1) (tripQ_even.sl.v650 arg2 X2 k0_t1) 0#32 0#32 0#32 X3 X11 (arg12.view.writes (Elt F) f12 [⟨Rect.unit (s := S2x4x256x512) ![0, 3, 0, 0] S1x1x256x512.size inb_S2x4x256x512_S1x1x256x512_0_3_0_0, tripQ_even.sl.v686 arg2 arg3 X2 X3 k0_t1⟩, ⟨Rect.unit (s := S2x4x256x512) ![0, 2, 0, 0] S1x1x256x512.size inb_S2x4x256x512_S1x1x256x512_0_2_0_0, tripQ_even.sl.v680 arg2 arg3 X2 X3 k0_t1⟩, ⟨Rect.unit (s := S2x4x256x512) ![0, 1, 0, 0] S1x1x256x512.size inb_S2x4x256x512_S1x1x256x512_0_1_0_0, tripQ_even.sl.v674 arg2 arg3 X2 X3 k0_t1⟩, ⟨Rect.unit (s := S2x4x256x512) ![0, 0, 0, 0] S1x1x256x512.size inb_S2x4x256x512_S1x1x256x512_0_0_0_0, tripQ_even.sl.v668 arg2 arg3 X2 X3 k0_t1⟩]) (arg13.view.writes (Elt F) arg13.view.junk tripQ_even.sl.H13_4) (v315, v316, v315, v316, v315, v316, v315, v316) (hb f12) hz (k0_t2_loop k0_t1).trips le_rfl
  have hk0 : arg3.view.readAt (Elt F) (Rect.unit (s := S2064x512) ![0, 256] S16x128.size inb_S2064x512_S16x128_0_256).toLoadRect X3 = hK0 (arg3.view.read (Elt F) X3) 256 := readAt_tileOf ..
  have hvd : arg11.view.readAt (Elt F) (Rect.unit (s := S4x9x128x256) (k0_off50 k0_t1) S1x1x128x256.size (k0_off50_inb k0_t1)).toLoadRect X11 = hV (arg11.view.read (Elt F) X11) 2 k0_t1.val :=
    (readAt_tileOf ..).trans (congrArg (fun o => tileOf (Val := Elt F) (arg11.view.read (Elt F) X11) o S1x1x128x256.size) (off50_eq ..))
  have hv0 : arg11.view.readAt (Elt F) (Rect.unit (s := S4x9x128x256) ![2, 0, 0, 0] S1x1x128x16.size inb_S4x9x128x256_S1x1x128x16_2_0_0_0).toLoadRect X11 = hV0 (arg11.view.read (Elt F) X11) 2 := readAt_tileOf ..
  have hw : arg9.view.readAt (Elt F) (Rect.unit (s := S1x128) ![0, 0] S1x128.size inb_S1x128_S1x128_0_0).toLoadRect X9 = tileOf (Val := Elt F) (arg9.view.read (Elt F) X9) ![0, 0] S1x128.size := readAt_tileOf ..
  have hS : tripQ_even.sl.v 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 f12 = sc (tripQ_even.sl.v638 arg2 X2 k0_t1) (hK (arg3.view.read (Elt F) X3) 256 (2 * (k0_t2_loop k0_t1).trips)) := by
    unfold tripQ_even.sl.v
    refine (readAt_off_congr (off := k0_off49 k0_t1) (off49_even k0_t1 hc) arg12.view _ S1x1x256x512.size (k0_off49_inb k0_t1) inb_S2x4x256x512_S1x1x256x512_0_2_0_0).trans ?_
    rw [View.writes_append]
    exact i4 _ (hb f12)
  have hA : tripQ_even.sl.v953 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 f12 = (hst v315 v316 (tripQ_even.sl.v638 arg2 X2 k0_t1) (hK (arg3.view.read (Elt F) X3) 256) (hV (arg11.view.read (Elt F) X11) 2) (2 * (k0_t2_loop k0_t1).trips)).2.2 := by
    unfold tripQ_even.sl.v953 View.readCov
    rw [View.writes_append]
    exact i3
  have hkv := keys2_trips_even k0_t1 hc
  unfold outT
  rw [← hk0, ← hvd, ← hv0, ← hw, ← hq]
  have hst' : hst v315 v316 (tripQ_even.sl.v638 arg2 X2 k0_t1) (hK (arg3.view.read (Elt F) X3) 256) (hV (arg11.view.read (Elt F) X11) 2) k0_t1.val = hst v315 v316 (tripQ_even.sl.v638 arg2 X2 k0_t1) (hK (arg3.view.read (Elt F) X3) 256) (hV (arg11.view.read (Elt F) X11) 2) (2 * (k0_t2_loop k0_t1).trips) := congrArg _ hkv
  have hsc' : sc (tripQ_even.sl.v638 arg2 X2 k0_t1) (hK (arg3.view.read (Elt F) X3) 256 k0_t1.val) = sc (tripQ_even.sl.v638 arg2 X2 k0_t1) (hK (arg3.view.read (Elt F) X3) 256 (2 * (k0_t2_loop k0_t1).trips)) := congrArg (fun j => sc (tripQ_even.sl.v638 arg2 X2 k0_t1) (hK (arg3.view.read (Elt F) X3) 256 j)) hkv
  rw [hst', hsc', ← hA, ← hS, ← i1, ← i2]
  rfl

set_option maxHeartbeats 1000000 in
theorem pay_even3 (hc : ¬ k0_cond1 k0_t1 = 1#1) : k0_pay1 (tripQ_even.sl.v1051 𝒱 c bd i arg2 harg2 arg3 harg3 arg4 harg4 arg5 harg5 arg6 harg6 arg7 harg7 arg8 harg8 arg9 harg9 arg10 harg10 arg11 harg11 arg12 harg12 arg13 harg13 v18 v315 v316 X2 X3 X11 k0_t1 f12) (tripQ_even.sl.v819 arg9 X9) = outT v18 v315 v316 (arg2.view.read (Elt F) X2) (arg3.view.read (Elt F) X3) (arg11.view.read (Elt F) X11) (arg9.view.read (Elt F) X9) 3 384 k0_t1.val := by
  have hq : (tripQ_even.sl.v650 arg2 X2 k0_t1) = (hQ (arg2.view.read (Elt F) X2) 384 k0_t1.val) := by
    unfold hQ
    rw [← off4_eq, ← readAt_tileOf (Val := Elt F) arg2.view X2 (k0_off4 k0_t1) S256x128.size (k0_off4_inb k0_t1)]
    rfl
  have hs : tripQ_even.sl.v686 arg2 arg3 X2 X3 k0_t1 = sc (tripQ_even.sl.v650 arg2 X2 k0_t1) (hK (arg3.view.read (Elt F) X3) 384 0) := by
    unfold hK
    rw [show (![16 + 256 * 0, 384] : Fin 2 → ℕ) = ![16, 384] from rfl, ← readAt_tileOf (Val := Elt F) arg3.view X3 ![16, 384] S256x128.size inb_S2064x512_S256x128_16_384]
    rfl
  have hb : ∀ f, arg12.view.readAt (Elt F) (Rect.unit (s := S2x4x256x512) ![0, 3, 0, 0] S1x1x256x512.size inb_S2x4x256x512_S1x1x256x512_0_3_0_0).toLoadRect (arg12.view.writes (Elt F) f [⟨Rect.unit (s := S2x4x256x512) ![0, 3, 0, 0] S1x1x256x512.size inb_S2x4x256x512_S1x1x256x512_0_3_0_0, tripQ_even.sl.v686 arg2 arg3 X2 X3 k0_t1⟩, ⟨Rect.unit (s := S2x4x256x512) ![0, 2, 0, 0] S1x1x256x512.size inb_S2x4x256x512_S1x1x256x512_0_2_0_0, tripQ_even.sl.v680 arg2 arg3 X2 X3 k0_t1⟩, ⟨Rect.unit (s := S2x4x256x512) ![0, 1, 0, 0] S1x1x256x512.size inb_S2x4x256x512_S1x1x256x512_0_1_0_0, tripQ_even.sl.v674 arg2 arg3 X2 X3 k0_t1⟩, ⟨Rect.unit (s := S2x4x256x512) ![0, 0, 0, 0] S1x1x256x512.size inb_S2x4x256x512_S1x1x256x512_0_0_0_0, tripQ_even.sl.v668 arg2 arg3 X2 X3 k0_t1⟩]) = sc (tripQ_even.sl.v650 arg2 X2 k0_t1) (hK (arg3.view.read (Elt F) X3) 384 0) := by
    intro f
    skip
    exact (readAt_writes_head ..).trans hs
  have hz : arg13.view.readAt (Elt F) (Rect.unit (s := S4x128x512) ![3, 0, 0] S1x128x512.size inb_S4x128x512_S1x128x512_3_0_0).toLoadRect (arg13.view.writes (Elt F) arg13.view.junk tripQ_even.sl.H13_4) = k0_pay164 := by
    unfold tripQ_even.sl.H13_4
    skip
    exact (readAt_writes_head ..).trans rfl
  obtain ⟨i1, i2, i3, i4⟩ := st_head3 (F := F) 𝒱 c bd i arg2 harg2 arg3 harg3 arg4 harg4 arg5 harg5 arg6 harg6 arg7 harg7 arg8 harg8 arg9 harg9 arg10 harg10 arg11 harg11 arg12 harg12 arg13 harg13 v315 v315 k0_t1 0#32 0#32 (tripQ_even.sl.v614 arg2 X2 k0_t1) (tripQ_even.sl.v626 arg2 X2 k0_t1) (tripQ_even.sl.v638 arg2 X2 k0_t1) (tripQ_even.sl.v650 arg2 X2 k0_t1) 0#32 0#32 0#32 X3 X11 (arg12.view.writes (Elt F) f12 [⟨Rect.unit (s := S2x4x256x512) ![0, 3, 0, 0] S1x1x256x512.size inb_S2x4x256x512_S1x1x256x512_0_3_0_0, tripQ_even.sl.v686 arg2 arg3 X2 X3 k0_t1⟩, ⟨Rect.unit (s := S2x4x256x512) ![0, 2, 0, 0] S1x1x256x512.size inb_S2x4x256x512_S1x1x256x512_0_2_0_0, tripQ_even.sl.v680 arg2 arg3 X2 X3 k0_t1⟩, ⟨Rect.unit (s := S2x4x256x512) ![0, 1, 0, 0] S1x1x256x512.size inb_S2x4x256x512_S1x1x256x512_0_1_0_0, tripQ_even.sl.v674 arg2 arg3 X2 X3 k0_t1⟩, ⟨Rect.unit (s := S2x4x256x512) ![0, 0, 0, 0] S1x1x256x512.size inb_S2x4x256x512_S1x1x256x512_0_0_0_0, tripQ_even.sl.v668 arg2 arg3 X2 X3 k0_t1⟩]) (arg13.view.writes (Elt F) arg13.view.junk tripQ_even.sl.H13_4) (v315, v316, v315, v316, v315, v316, v315, v316) (hb f12) hz (k0_t2_loop k0_t1).trips le_rfl
  have hk0 : arg3.view.readAt (Elt F) (Rect.unit (s := S2064x512) ![0, 384] S16x128.size inb_S2064x512_S16x128_0_384).toLoadRect X3 = hK0 (arg3.view.read (Elt F) X3) 384 := readAt_tileOf ..
  have hvd : arg11.view.readAt (Elt F) (Rect.unit (s := S4x9x128x256) (k0_off52 k0_t1) S1x1x128x256.size (k0_off52_inb k0_t1)).toLoadRect X11 = hV (arg11.view.read (Elt F) X11) 3 k0_t1.val :=
    (readAt_tileOf ..).trans (congrArg (fun o => tileOf (Val := Elt F) (arg11.view.read (Elt F) X11) o S1x1x128x256.size) (off52_eq ..))
  have hv0 : arg11.view.readAt (Elt F) (Rect.unit (s := S4x9x128x256) ![3, 0, 0, 0] S1x1x128x16.size inb_S4x9x128x256_S1x1x128x16_3_0_0_0).toLoadRect X11 = hV0 (arg11.view.read (Elt F) X11) 3 := readAt_tileOf ..
  have hw : arg9.view.readAt (Elt F) (Rect.unit (s := S1x128) ![0, 0] S1x128.size inb_S1x128_S1x128_0_0).toLoadRect X9 = tileOf (Val := Elt F) (arg9.view.read (Elt F) X9) ![0, 0] S1x128.size := readAt_tileOf ..
  have hS : tripQ_even.sl.v1004 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 f12 = sc (tripQ_even.sl.v650 arg2 X2 k0_t1) (hK (arg3.view.read (Elt F) X3) 384 (2 * (k0_t2_loop k0_t1).trips)) := by
    unfold tripQ_even.sl.v1004
    refine (readAt_off_congr (off := k0_off51 k0_t1) (off51_even k0_t1 hc) arg12.view _ S1x1x256x512.size (k0_off51_inb k0_t1) inb_S2x4x256x512_S1x1x256x512_0_3_0_0).trans ?_
    rw [View.writes_append]
    exact i4 _ (hb f12)
  have hA : tripQ_even.sl.v1031 𝒱 c bd i arg2 harg2 arg3 harg3 arg4 harg4 arg5 harg5 arg6 harg6 arg7 harg7 arg8 harg8 arg9 harg9 arg10 harg10 arg11 harg11 arg12 harg12 arg13 harg13 v315 v316 X2 X3 X11 k0_t1 f12 = (hst v315 v316 (tripQ_even.sl.v650 arg2 X2 k0_t1) (hK (arg3.view.read (Elt F) X3) 384) (hV (arg11.view.read (Elt F) X11) 3) (2 * (k0_t2_loop k0_t1).trips)).2.2 := by
    unfold tripQ_even.sl.v1031 View.readCov
    rw [View.writes_append]
    exact i3
  have hkv := keys2_trips_even k0_t1 hc
  unfold outT
  rw [← hk0, ← hvd, ← hv0, ← hw, ← hq]
  have hst' : hst v315 v316 (tripQ_even.sl.v650 arg2 X2 k0_t1) (hK (arg3.view.read (Elt F) X3) 384) (hV (arg11.view.read (Elt F) X11) 3) k0_t1.val = hst v315 v316 (tripQ_even.sl.v650 arg2 X2 k0_t1) (hK (arg3.view.read (Elt F) X3) 384) (hV (arg11.view.read (Elt F) X11) 3) (2 * (k0_t2_loop k0_t1).trips) := congrArg _ hkv
  have hsc' : sc (tripQ_even.sl.v650 arg2 X2 k0_t1) (hK (arg3.view.read (Elt F) X3) 384 k0_t1.val) = sc (tripQ_even.sl.v650 arg2 X2 k0_t1) (hK (arg3.view.read (Elt F) X3) 384 (2 * (k0_t2_loop k0_t1).trips)) := congrArg (fun j => sc (tripQ_even.sl.v650 arg2 X2 k0_t1) (hK (arg3.view.read (Elt F) X3) 384 j)) hkv
  rw [hst', hsc', ← hA, ← hS, ← i1, ← i2]
  rfl

/-- The pieces a trip over a query tile stores, last first. -/
def outPieces (v18 : FVec F S1x1 .f32) (v315 v316 : FVec F S1x512 .f32) (Q K : S2064x512.Idx → Elt F .bf16)
    (V : S4x9x128x256.Idx → Elt F .bf16) (W : S1x128.Idx → Elt F .f32) (k : Fin k0_t1_loop.trips) : List (View.Piece (Elt F) S2064x512 .bf16) :=
  [⟨Rect.unit (s := S2064x512) (k0_off4 k) S256x128.size (k0_off4_inb k), outT v18 v315 v316 Q K V W 3 384 k.val⟩, ⟨Rect.unit (s := S2064x512) (k0_off3 k) S256x128.size (k0_off3_inb k), outT v18 v315 v316 Q K V W 2 256 k.val⟩, ⟨Rect.unit (s := S2064x512) (k0_off2 k) S256x128.size (k0_off2_inb k), outT v18 v315 v316 Q K V W 1 128 k.val⟩, ⟨Rect.unit (s := S2064x512) (k0_off1 k) S256x128.size (k0_off1_inb k), outT v18 v315 v316 Q K V W 0 0 k.val⟩]

theorem tripQ_odd_val (hc : k0_cond1 k0_t1 = 1#1) : (tripQ_odd (F := F) 𝒱 c bd i arg2 harg2 arg3 harg3 arg4 harg4 arg5 harg5 arg6 harg6 arg7 harg7 arg8 harg8 arg9 harg9 arg10 harg10 arg11 harg11 arg12 harg12 arg13 harg13 v18 v315 v316 X2 X3 X9 X11 k0_t1 hc).1 f12 f13
    = outPieces v18 v315 v316 (arg2.view.read (Elt F) X2) (arg3.view.read (Elt F) X3) (arg11.view.read (Elt F) X11) (arg9.view.read (Elt F) X9) k0_t1 := by
  rw [tripQ_odd.eq_def]
  dsimp only
  rw [pay_odd0 (hc := hc), pay_odd1 (hc := hc), pay_odd2 (hc := hc), pay_odd3 (hc := hc)]
  rfl

theorem tripQ_even_val (hc : ¬ k0_cond1 k0_t1 = 1#1) : (tripQ_even (F := F) 𝒱 c bd i arg2 harg2 arg3 harg3 arg4 harg4 arg5 harg5 arg6 harg6 arg7 harg7 arg8 harg8 arg9 harg9 arg10 harg10 arg11 harg11 arg12 harg12 arg13 harg13 v18 v315 v316 X2 X3 X9 X11 k0_t1 hc).1 f12 f13
    = outPieces v18 v315 v316 (arg2.view.read (Elt F) X2) (arg3.view.read (Elt F) X3) (arg11.view.read (Elt F) X11) (arg9.view.read (Elt F) X9) k0_t1 := by
  rw [tripQ_even.eq_def]
  dsimp only
  rw [pay_even0 (hc := hc), pay_even1 (hc := hc), pay_even2 (hc := hc), pay_even3 (hc := hc)]
  rfl

end

end Cert.KernelIdeal.Gen
-- ==== Proof.Hand.Body.lean ====
/- The loop over query tiles by its invariant, and one point's body run through. -/
module

public import proofs.«01_k».proof.Proof.Hand.Pieces
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The pieces of the trips over query tiles before trip `n`, last first. -/
def outsTo (v18 : FVec F S1x1 .f32) (v315 v316 : FVec F S1x512 .f32) (Q K : S2064x512.Idx → Elt F .bf16)
    (V : S4x9x128x256.Idx → Elt F .bf16) (W : S1x128.Idx → Elt F .f32) : ℕ → List (View.Piece (Elt F) S2064x512 .bf16)
  | 0 => []
  | n + 1 => (if h : n < k0_t1_loop.trips then outPieces v18 v315 v316 Q K V W ⟨n, h⟩ else []) ++ outsTo v18 v315 v316 Q K V W n

theorem outsTo_succ (v18 : FVec F S1x1 .f32) (v315 v316 : FVec F S1x512 .f32) (Q K : S2064x512.Idx → Elt F .bf16)
    (V : S4x9x128x256.Idx → Elt F .bf16) (W : S1x128.Idx → Elt F .f32) (k : Fin k0_t1_loop.trips) :
    outsTo v18 v315 v316 Q K V W (k.val + 1) = outPieces v18 v315 v316 Q K V W k ++ outsTo v18 v315 v316 Q K V W k.val := by
  rw [outsTo, dif_pos k.isLt]

set_option warn.classDefReducibility false
section
variable (𝒱 : Variants) (c : Dev nD) (bd : Option 𝒱.V) (i : grid0.Coords)
  (arg2 : Memref sig .tc .vmem S2064x512 .bf16) (harg2 : arg2.IsWhole)
  (arg3 : Memref sig .tc .vmem S2064x512 .bf16) (harg3 : arg3.IsWhole)
  (arg4 : Memref sig .tc .vmem S2064x512 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S1x128 .f32) (harg9 : arg9.IsWhole)
  (arg10 : Memref sig .tc .vmem S2064x512 .bf16) (harg10 : arg10.IsWhole)
  (arg11 : Memref sig .tc .vmem S4x9x128x256 .bf16) (harg11 : arg11.IsWhole)
  (arg12 : Memref sig .tc .vmem S2x4x256x512 .f32) (harg12 : arg12.IsWhole)
  (arg13 : Memref sig .tc .vmem S4x128x512 .f32) (harg13 : arg13.IsWhole)

set_option maxHeartbeats 1000000 in
/-- One trip over a query tile: the output block gains the trip's pieces. -/
theorem tripTile (v18 : FVec F S1x1 .f32) (v315 v316 : FVec F S1x512 .f32)
  (X2 : BufTy.Contents (Elt F) arg2.view.ty) (X3 : BufTy.Contents (Elt F) arg3.view.ty) (X9 : BufTy.Contents (Elt F) arg9.view.ty)
  (X11 : BufTy.Contents (Elt F) arg11.view.ty) (k : Fin k0_t1_loop.trips) (acc : Unit) (E : Set ℕ) (f10 : BufTy.Contents (Elt F) arg10.view.ty) (f12 : BufTy.Contents (Elt F) arg12.view.ty) (f13 : BufTy.Contents (Elt F) arg13.view.ty) :
      TripQ (F := F) c arg2 arg3 arg9 arg10 arg11 arg12 arg13 X2 X3 X9 X11 f10 f12 f13
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 v18 v315 v316 k acc)
          (fun _ => iprop(∃ g12, ∃ g13, TripQ (F := F) c arg2 arg3 arg9 arg10 arg11 arg12 arg13 X2 X3 X9 X11 (arg10.view.writes (Elt F) f10 (outPieces v18 v315 v316 (arg2.view.read (Elt F) X2) (arg3.view.read (Elt F) X3) (arg11.view.read (Elt F) X11) (arg9.view.read (Elt F) X9) k)) g12 g13)) := by
  by_cases hc : k0_cond1 k = 1#1
  · have h := (tripQ_odd (F := F) 𝒱 c bd i arg2 harg2 arg3 harg3 arg4 harg4 arg5 harg5 arg6 harg6 arg7 harg7 arg8 harg8 arg9 harg9 arg10 harg10 arg11 harg11 arg12 harg12 arg13 harg13 v18 v315 v316 X2 X3 X9 X11 k hc).2 E f10 f12 f13
    rw [tripQ_odd_val] at h
    exact h
  · have h := (tripQ_even (F := F) 𝒱 c bd i arg2 harg2 arg3 harg3 arg4 harg4 arg5 harg5 arg6 harg6 arg7 harg7 arg8 harg8 arg9 harg9 arg10 harg10 arg11 harg11 arg12 harg12 arg13 harg13 v18 v315 v316 X2 X3 X9 X11 k hc).2 E f10 f12 f13
    rw [tripQ_even_val] at h
    exact h

set_option maxHeartbeats 1000000 in
/-- The loop over query tiles: before trip `k` the output block holds the pieces of the trips before `k` over what it held,
   the scratch buffers hold anything. -/
@[sl_loop] def loopTiles (E : Set ℕ) (v18 : FVec F S1x1 .f32) (v315 v316 : FVec F S1x512 .f32)
  (X2 : BufTy.Contents (Elt F) arg2.view.ty) (X3 : BufTy.Contents (Elt F) arg3.view.ty) (X9 : BufTy.Contents (Elt F) arg9.view.ty)
  (X11 : BufTy.Contents (Elt F) arg11.view.ty) (G10 : BufTy.Contents (Elt F) arg10.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v18 v315 v316 where
  inv k _ := iprop((arg2.view.loc (c : Thread nD τ) ↦[arg2.view.set]{fullShare} X2) ∗ (arg3.view.loc (c : Thread nD τ) ↦[arg3.view.set]{fullShare} X3) ∗ (arg9.view.loc (c : Thread nD τ) ↦[arg9.view.set]{fullShare} X9)
    ∗ (∃ f, (arg10.view.loc (c : Thread nD τ) ↦[arg10.view.set]{fullShare} f) ∗ ⌜f = arg10.view.writes (Elt F) G10 (outsTo v18 v315 v316 (arg2.view.read (Elt F) X2) (arg3.view.read (Elt F) X3) (arg11.view.read (Elt F) X11) (arg9.view.read (Elt F) X9) k)⌝)
    ∗ (arg11.view.loc (c : Thread nD τ) ↦[arg11.view.set]{fullShare} X11) ∗ (∃ f, (arg12.view.loc (c : Thread nD τ) ↦[arg12.view.set]{fullShare} f)) ∗ (∃ f, (arg13.view.loc (c : Thread nD τ) ↦[arg13.view.set]{fullShare} f)))
  step k acc := by
    iintro ⟨H2, H3, H9, ⟨%f10, H10, %h10⟩, H11, ⟨%f12, H12⟩, ⟨%f13, H13⟩⟩
    iapply (wp_wand_r Idealize.ShloMosaic.frame (wpE (defs₀ (F := F)) 𝒱 (c : Thread nD τ) bd) E)
    isplitl [H2 H3 H9 H10 H11 H12 H13]
    · iapply (tripTile (F := F) 𝒱 c bd i arg2 harg2 arg3 harg3 arg4 harg4 arg5 harg5 arg6 harg6 arg7 harg7 arg8 harg8 arg9 harg9 arg10 harg10 arg11 harg11 arg12 harg12 arg13 harg13 v18 v315 v316 X2 X3 X9 X11 k acc E f10 f12 f13)
      isplitl [H2]; · iexact H2
      isplitl [H3]; · iexact H3
      isplitl [H9]; · iexact H9
      isplitl [H10]; · iexact H10
      isplitl [H11]; · iexact H11
      isplitl [H12]; · iexact H12
      iexact H13
    · iintro %y ⟨%g12, %g13, H2, H3, H9, H10, H11, H12, H13⟩
      isplitl [H2]; · iexact H2
      isplitl [H3]; · iexact H3
      isplitl [H9]; · iexact H9
      isplitl [H10]
      · iexists _; isplitl [H10]; · iexact H10
        ipureintro; rw [outsTo_succ, View.writes_append, h10]
      isplitl [H11]; · iexact H11
      isplitl [H12]; · iexists _; iexact H12
      iexists _; iexact H13

set_option maxHeartbeats 4000000 in
/-- One point's body: the pieces it stores into the output block, found by the run, over whatever the block and the scratch
   buffers held. -/
@[irreducible] def bodyRun (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) :
    { L : BufTy.Contents (Elt F) arg11.view.ty → List (View.Piece (Elt F) S2064x512 .bf16) // ∀ E f10 f11 f12 f13,
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G)
      ⊢ wp frame (wpE (defs₀ (F := F)) 𝒱 (c : Thread nD τ) bd) E (cc0_diff_attention (F := F) i arg2 harg2 arg3 harg3 arg4 harg4 arg5 harg5 arg6 harg6 arg7 harg7 arg8 harg8 arg9 harg9 arg10 harg10 arg11 harg11 arg12 harg12 arg13 harg13)
        (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} (arg10.view.writes (Elt F) f10 (L f11))) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))) } := by
  refine ⟨?_, fun E f10 f11 f12 f13 => ?run⟩
  case run =>
    iintro ⟨H2, H3, H4, H5, H6, H7, H8, H9, H10, H11, H12, H13⟩
    rw [cc0_diff_attention_eq_skeleton]
    unfold cc0_diff_attention_skel
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexact H10
    isplitl [H11]; · iexists _; iexact H11
    isplitl [H12]; · iexists _; iexact H12
    iexists _; iexact H13

end

end Cert.KernelIdeal.Gen
-- ==== Proof.Hand.Block.lean ====
/- What one point's body leaves in the output block, as a function of the point's blocks alone. -/
module

public import proofs.«01_k».proof.Proof.Hand.Body
public import Idealize.ShloMosaic.Lib.Pointwise.Index
public import Idealize.ShloMosaic.Lib.Pipeline.ValueKit.Geometry
public import Idealize.ShloMosaic.Lib.Pipeline.ValueKit.Tiles

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- A load of a leading part of the newest store's rectangle reads that part of its payload. -/
theorem readAt_writes_part {sig : RefSig} {κ : Kind} {sp : Space} {s : Shape} {e : EltTy} {Val : EltTy → Type} (v : View sig κ sp s e)
    (f : v.ty.Contents Val) (off size size' : Fin s.rank → ℕ) (ib : ∀ a, off a + size a ≤ s.size a) (ib' : ∀ a, off a + size' a ≤ s.size a)
    (h : ∀ a, size' a ≤ size a) (w : (Rect.unit off size ib).shape.Idx → Val e) (L : List (View.Piece Val s e)) :
    v.readAt Val (Rect.unit off size' ib').toLoadRect (v.writes Val f (⟨Rect.unit off size ib, w⟩ :: L))
      = fun x => w (fun a => ⟨(x a).val, lt_of_lt_of_le (x a).isLt (h a)⟩) := by
  funext x
  rw [View.readAt_apply]
  have hx : (Rect.unit off size' ib').toLoadRect.idx x = (Rect.unit off size ib).emb (fun a => ⟨(x a).val, lt_of_lt_of_le (x a).isLt (h a)⟩) := by
    funext a; apply Fin.ext; rfl
  rw [hx, View.read_writes_cons_emb]

/-- A head's tile of transposed values, off its columns of the values. -/
def vT (Vv : S2064x512.Idx → Elt F .bf16) (c j : ℕ) : Vec F S1x1x128x256 .bf16 :=
  k0_pay211 (tileOf (Val := Elt F) Vv ![16 + 256 * j, c] S256x128.size)
/-- A head's first transposed values. -/
def vT0 (Vv : S2064x512.Idx → Elt F .bf16) (c : ℕ) : Vec F S1x1x128x16 .bf16 :=
  fun x => k0_pay208 (tileOf (Val := Elt F) Vv ![0, c] S16x128.size)
    (fun a => ⟨(x a).val, lt_of_lt_of_le (x a).isLt ((by decide : ∀ a, S1x1x128x16.size a ≤ S1x1x128x128.size a) a)⟩)

/-- The block of output rows of a head at a tile of queries, off the values. -/
def outG (lam : FVec F S1x1 .f32) (m l : FVec F S1x512 .f32) (Q K Vv : S2064x512.Idx → Elt F .bf16)
    (W : S1x128.Idx → Elt F .f32) (c k : ℕ) : FVec F S256x128 .bf16 :=
  finT lam (k0_pay154 (hQ Q c k) (hK0 K c)) (hst m l (hQ Q c k) (hK K c) (vT Vv c) k).1
    (hst m l (hQ Q c k) (hK K c) (vT Vv c) k).2.1 (sc (hQ Q c k) (hK K c k))
    (hst m l (hQ Q c k) (hK K c) (vT Vv c) k).2.2 (vT Vv c k) (vT0 Vv c) (tileOf (Val := Elt F) W ![0, 0] S1x128.size)

/-- A head's first block of output rows. -/
def fstT (lam : FVec F S1x1 .f32) (m l : FVec F S1x512 .f32) (Q K Vv : S2064x512.Idx → Elt F .bf16)
    (W : S1x128.Idx → Elt F .f32) (c : ℕ) : FVec F S16x128 .bf16 :=
  k0_pay271 lam (k0_pay268 m l (k0_pay260 (k0_pay256 (tileOf (Val := Elt F) Q ![0, c] S256x128.size)) (hK0 K c)))
    (k0_pay269 m (k0_pay260 (k0_pay256 (tileOf (Val := Elt F) Q ![0, c] S256x128.size)) (hK0 K c)))
    (k0_pay270 (vT0 Vv c)) (tileOf (Val := Elt F) W ![0, 0] S1x128.size)

/-- The two heads' weighting, off the four vectors. -/
def lamOf (A B C D : S1x64.Idx → Elt F .f32) : FVec F S1x1 .f32 :=
  k0_pay207 (tileOf (Val := Elt F) A ![0, 0] S1x64.size) (tileOf (Val := Elt F) B ![0, 0] S1x64.size)
    (tileOf (Val := Elt F) C ![0, 0] S1x64.size) (tileOf (Val := Elt F) D ![0, 0] S1x64.size)

/-- The output block. -/
def outBlk (lam : FVec F S1x1 .f32) (m l : FVec F S1x512 .f32) (Q K Vv : S2064x512.Idx → Elt F .bf16)
    (W : S1x128.Idx → Elt F .f32) : S2064x512.Idx → Elt F .bf16 := fun y =>
  if h : (y (0 : Fin 2)).val < 16 then fstT lam m l Q K Vv W (128 * ((y (1 : Fin 2)).val / 128)) (ix2 ⟨(y (0 : Fin 2)).val, h⟩ ⟨(y (1 : Fin 2)).val % 128, Nat.mod_lt _ (by decide)⟩)
  else outG lam m l Q K Vv W (128 * ((y (1 : Fin 2)).val / 128)) (((y (0 : Fin 2)).val - 16) / 256)
    (ix2 ⟨((y (0 : Fin 2)).val - 16) % 256, Nat.mod_lt _ (by decide)⟩ ⟨(y (1 : Fin 2)).val % 128, Nat.mod_lt _ (by decide)⟩)

/-- The running state reads its tiles of values before it only. -/
theorem hst_congr (m l : FVec F S1x512 .f32) (q : FVec F S512x128 .bf16) (kt : ℕ → Vec F S256x128 .bf16)
    (vt vt' : ℕ → Vec F S1x1x128x256 .bf16) : ∀ n, (∀ j, j < n → vt j = vt' j) → hst m l q kt vt n = hst m l q kt vt' n
  | 0, _ => rfl
  | n + 1, h => by rw [hst_succ, hst_succ, hst_congr m l q kt vt vt' n fun j hj => h j (by omega), h n (by omega)]

theorem outT_eq (lam : FVec F S1x1 .f32) (m l : FVec F S1x512 .f32) (Q K Vv : S2064x512.Idx → Elt F .bf16)
    (V : S4x9x128x256.Idx → Elt F .bf16) (W : S1x128.Idx → Elt F .f32) (g c k : ℕ) (hk : k < 8)
    (h : ∀ j, j < 8 → hV V g j = vT Vv c j) (h0 : hV0 V g = vT0 Vv c) :
    outT lam m l Q K V W g c k = outG lam m l Q K Vv W c k := by
  unfold outT outG
  rw [hst_congr m l (hQ Q c k) (hK K c) (hV V g) (vT Vv c) k fun j hj => h j (by omega), h k hk, h0]

/-- What pieces that agree with an array at their places, and reach everywhere, leave. -/
theorem read_writes_of_agree {sig : RefSig} {κ : Kind} {sp : Space} {s : Shape} {e : EltTy} {Val : EltTy → Type} (v : View sig κ sp s e)
    (f : v.ty.Contents Val) (B : s.Idx → Val e) (y : s.Idx) : ∀ (L : List (View.Piece Val s e)), (∀ p ∈ L, ∀ x, p.2 x = B (p.1.emb x)) →
    (∃ p ∈ L, y ∈ p.1.set) → v.read Val (v.writes Val f L) y = B y
  | [], _, ⟨_, hm, _⟩ => absurd hm List.not_mem_nil
  | p :: L, ha, hc => by
    by_cases hy : y ∈ p.1.set
    · obtain ⟨r, w⟩ := p
      obtain ⟨x, rfl⟩ : ∃ x, r.emb x = y := r.exists_idx_of_mem hy
      rw [View.read_writes_cons_emb]
      exact ha ⟨r, w⟩ List.mem_cons_self x
    · have hy' : y ∉ Finset.univ.map p.1.emb := by rwa [Rect.map_emb_univ]
      rw [View.writes_cons, View.read_slice_write_of_not_mem p.1 _ _ _ hy']
      refine read_writes_of_agree v f B y L (fun p' hp => ha p' (List.mem_cons_of_mem _ hp)) ?_
      obtain ⟨p', hm, h⟩ := hc
      rcases List.mem_cons.mp hm with rfl | hm
      · exact absurd h hy
      · exact ⟨p', hm, h⟩

theorem mem_outsTo (v18 : FVec F S1x1 .f32) (v315 v316 : FVec F S1x512 .f32) (Q K : S2064x512.Idx → Elt F .bf16)
    (V : S4x9x128x256.Idx → Elt F .bf16) (W : S1x128.Idx → Elt F .f32) (p : View.Piece (Elt F) S2064x512 .bf16) :
    ∀ n, n ≤ 8 → (p ∈ outsTo v18 v315 v316 Q K V W n ↔ ∃ k : Fin k0_t1_loop.trips, k.val < n ∧ p ∈ outPieces v18 v315 v316 Q K V W k)
  | 0, _ => by simp [outsTo]
  | n + 1, hn => by
    have hlt : n < k0_t1_loop.trips := lt_of_lt_of_le (Nat.lt_of_succ_le hn) (by decide)
    rw [outsTo_succ v18 v315 v316 Q K V W ⟨n, hlt⟩, List.mem_append, mem_outsTo v18 v315 v316 Q K V W p n (by omega)]
    constructor
    · rintro (h | ⟨k, hk, h⟩)
      · exact ⟨⟨n, hlt⟩, Nat.lt_succ_self n, h⟩
      · exact ⟨k, by omega, h⟩
    · rintro ⟨k, hk, h⟩
      rcases Nat.lt_succ_iff_lt_or_eq.mp hk with h' | h'
      · exact Or.inr ⟨k, h', h⟩
      · left; have : k = ⟨n, hlt⟩ := Fin.ext h'
        rw [← this]; exact h

section
variable (𝒱 : Variants) (c : Dev nD) (bd : Option 𝒱.V) (i : grid0.Coords)
  (arg2 : Memref sig .tc .vmem S2064x512 .bf16) (harg2 : arg2.IsWhole)
  (arg3 : Memref sig .tc .vmem S2064x512 .bf16) (harg3 : arg3.IsWhole)
  (arg4 : Memref sig .tc .vmem S2064x512 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S1x128 .f32) (harg9 : arg9.IsWhole)
  (arg10 : Memref sig .tc .vmem S2064x512 .bf16) (harg10 : arg10.IsWhole)
  (arg11 : Memref sig .tc .vmem S4x9x128x256 .bf16) (harg11 : arg11.IsWhole)
  (arg12 : Memref sig .tc .vmem S2x4x256x512 .f32) (harg12 : arg12.IsWhole)
  (arg13 : Memref sig .tc .vmem S4x128x512 .f32) (harg13 : arg13.IsWhole)

theorem vt0 (X4 : BufTy.Contents (Elt F) arg4.view.ty) (f : BufTy.Contents (Elt F) arg11.view.ty) : ∀ j, j < 8 →
    hV (arg11.view.read (Elt F) (arg11.view.writes (Elt F) f (bodyRun.sl.H11_36 arg4 X4))) 0 j = vT (arg4.view.read (Elt F) X4) 0 j := by
  intro j hj
  unfold hV vT
  interval_cases j
  · rw [show (![0, 0 + 1, 0, 0] : Fin 4 → ℕ) = ![0, 1, 0, 0] from rfl, ← readAt_tileOf (Val := Elt F) arg11.view _ ![0, 1, 0, 0] S1x1x128x256.size inb_S4x9x128x256_S1x1x128x256_0_1_0_0]
    unfold bodyRun.sl.H11_36
    iterate 34 rw [readAt_writes_skip (h := by decide)]
    refine (readAt_writes_head ..).trans ?_
    rw [show tileOf (Val := Elt F) (arg4.view.read (Elt F) X4) ![16 + 256 * 0, 0] S256x128.size = tileOf (Val := Elt F) (arg4.view.read (Elt F) X4) ![16, 0] S256x128.size from rfl, ← readAt_tileOf (Val := Elt F) arg4.view X4 ![16, 0] S256x128.size inb_S2064x512_S256x128_16_0]
    rfl
  · rw [show (![0, 1 + 1, 0, 0] : Fin 4 → ℕ) = ![0, 2, 0, 0] from rfl, ← readAt_tileOf (Val := Elt F) arg11.view _ ![0, 2, 0, 0] S1x1x128x256.size inb_S4x9x128x256_S1x1x128x256_0_2_0_0]
    unfold bodyRun.sl.H11_36
    iterate 33 rw [readAt_writes_skip (h := by decide)]
    refine (readAt_writes_head ..).trans ?_
    rw [show tileOf (Val := Elt F) (arg4.view.read (Elt F) X4) ![16 + 256 * 1, 0] S256x128.size = tileOf (Val := Elt F) (arg4.view.read (Elt F) X4) ![272, 0] S256x128.size from rfl, ← readAt_tileOf (Val := Elt F) arg4.view X4 ![272, 0] S256x128.size inb_S2064x512_S256x128_272_0]
    rfl
  · rw [show (![0, 2 + 1, 0, 0] : Fin 4 → ℕ) = ![0, 3, 0, 0] from rfl, ← readAt_tileOf (Val := Elt F) arg11.view _ ![0, 3, 0, 0] S1x1x128x256.size inb_S4x9x128x256_S1x1x128x256_0_3_0_0]
    unfold bodyRun.sl.H11_36
    iterate 32 rw [readAt_writes_skip (h := by decide)]
    refine (readAt_writes_head ..).trans ?_
    rw [show tileOf (Val := Elt F) (arg4.view.read (Elt F) X4) ![16 + 256 * 2, 0] S256x128.size = tileOf (Val := Elt F) (arg4.view.read (Elt F) X4) ![528, 0] S256x128.size from rfl, ← readAt_tileOf (Val := Elt F) arg4.view X4 ![528, 0] S256x128.size inb_S2064x512_S256x128_528_0]
    rfl
  · rw [show (![0, 3 + 1, 0, 0] : Fin 4 → ℕ) = ![0, 4, 0, 0] from rfl, ← readAt_tileOf (Val := Elt F) arg11.view _ ![0, 4, 0, 0] S1x1x128x256.size inb_S4x9x128x256_S1x1x128x256_0_4_0_0]
    unfold bodyRun.sl.H11_36
    iterate 31 rw [readAt_writes_skip (h := by decide)]
    refine (readAt_writes_head ..).trans ?_
    rw [show tileOf (Val := Elt F) (arg4.view.read (Elt F) X4) ![16 + 256 * 3, 0] S256x128.size = tileOf (Val := Elt F) (arg4.view.read (Elt F) X4) ![784, 0] S256x128.size from rfl, ← readAt_tileOf (Val := Elt F) arg4.view X4 ![784, 0] S256x128.size inb_S2064x512_S256x128_784_0]
    rfl
  · rw [show (![0, 4 + 1, 0, 0] : Fin 4 → ℕ) = ![0, 5, 0, 0] from rfl, ← readAt_tileOf (Val := Elt F) arg11.view _ ![0, 5, 0, 0] S1x1x128x256.size inb_S4x9x128x256_S1x1x128x256_0_5_0_0]
    unfold bodyRun.sl.H11_36
    iterate 30 rw [readAt_writes_skip (h := by decide)]
    refine (readAt_writes_head ..).trans ?_
    rw [show tileOf (Val := Elt F) (arg4.view.read (Elt F) X4) ![16 + 256 * 4, 0] S256x128.size = tileOf (Val := Elt F) (arg4.view.read (Elt F) X4) ![1040, 0] S256x128.size from rfl, ← readAt_tileOf (Val := Elt F) arg4.view X4 ![1040, 0] S256x128.size inb_S2064x512_S256x128_1040_0]
    rfl
  · rw [show (![0, 5 + 1, 0, 0] : Fin 4 → ℕ) = ![0, 6, 0, 0] from rfl, ← readAt_tileOf (Val := Elt F) arg11.view _ ![0, 6, 0, 0] S1x1x128x256.size inb_S4x9x128x256_S1x1x128x256_0_6_0_0]
    unfold bodyRun.sl.H11_36
    iterate 29 rw [readAt_writes_skip (h := by decide)]
    refine (readAt_writes_head ..).trans ?_
    rw [show tileOf (Val := Elt F) (arg4.view.read (Elt F) X4) ![16 + 256 * 5, 0] S256x128.size = tileOf (Val := Elt F) (arg4.view.read (Elt F) X4) ![1296, 0] S256x128.size from rfl, ← readAt_tileOf (Val := Elt F) arg4.view X4 ![1296, 0] S256x128.size inb_S2064x512_S256x128_1296_0]
    rfl
  · rw [show (![0, 6 + 1, 0, 0] : Fin 4 → ℕ) = ![0, 7, 0, 0] from rfl, ← readAt_tileOf (Val := Elt F) arg11.view _ ![0, 7, 0, 0] S1x1x128x256.size inb_S4x9x128x256_S1x1x128x256_0_7_0_0]
    unfold bodyRun.sl.H11_36
    iterate 28 rw [readAt_writes_skip (h := by decide)]
    refine (readAt_writes_head ..).trans ?_
    rw [show tileOf (Val := Elt F) (arg4.view.read (Elt F) X4) ![16 + 256 * 6, 0] S256x128.size = tileOf (Val := Elt F) (arg4.view.read (Elt F) X4) ![1552, 0] S256x128.size from rfl, ← readAt_tileOf (Val := Elt F) arg4.view X4 ![1552, 0] S256x128.size inb_S2064x512_S256x128_1552_0]
    rfl
  · rw [show (![0, 7 + 1, 0, 0] : Fin 4 → ℕ) = ![0, 8, 0, 0] from rfl, ← readAt_tileOf (Val := Elt F) arg11.view _ ![0, 8, 0, 0] S1x1x128x256.size inb_S4x9x128x256_S1x1x128x256_0_8_0_0]
    unfold bodyRun.sl.H11_36
    iterate 27 rw [readAt_writes_skip (h := by decide)]
    refine (readAt_writes_head ..).trans ?_
    rw [show tileOf (Val := Elt F) (arg4.view.read (Elt F) X4) ![16 + 256 * 7, 0] S256x128.size = tileOf (Val := Elt F) (arg4.view.read (Elt F) X4) ![1808, 0] S256x128.size from rfl, ← readAt_tileOf (Val := Elt F) arg4.view X4 ![1808, 0] S256x128.size inb_S2064x512_S256x128_1808_0]
    rfl

theorem vz0 (X4 : BufTy.Contents (Elt F) arg4.view.ty) (f : BufTy.Contents (Elt F) arg11.view.ty) :
    hV0 (arg11.view.read (Elt F) (arg11.view.writes (Elt F) f (bodyRun.sl.H11_36 arg4 X4))) 0 = vT0 (arg4.view.read (Elt F) X4) 0 := by
  unfold hV0 vT0
  rw [← readAt_tileOf (Val := Elt F) arg11.view _ ![0, 0, 0, 0] S1x1x128x16.size inb_S4x9x128x256_S1x1x128x16_0_0_0_0]
  unfold bodyRun.sl.H11_36
  iterate 35 rw [readAt_writes_skip (h := by decide)]
  refine (readAt_writes_part (h := by decide) ..).trans ?_
  rw [← readAt_tileOf (Val := Elt F) arg4.view X4 ![0, 0] S16x128.size inb_S2064x512_S16x128_0_0]
  rfl

theorem vt1 (X4 : BufTy.Contents (Elt F) arg4.view.ty) (f : BufTy.Contents (Elt F) arg11.view.ty) : ∀ j, j < 8 →
    hV (arg11.view.read (Elt F) (arg11.view.writes (Elt F) f (bodyRun.sl.H11_36 arg4 X4))) 1 j = vT (arg4.view.read (Elt F) X4) 128 j := by
  intro j hj
  unfold hV vT
  interval_cases j
  · rw [show (![1, 0 + 1, 0, 0] : Fin 4 → ℕ) = ![1, 1, 0, 0] from rfl, ← readAt_tileOf (Val := Elt F) arg11.view _ ![1, 1, 0, 0] S1x1x128x256.size inb_S4x9x128x256_S1x1x128x256_1_1_0_0]
    unfold bodyRun.sl.H11_36
    iterate 25 rw [readAt_writes_skip (h := by decide)]
    refine (readAt_writes_head ..).trans ?_
    rw [show tileOf (Val := Elt F) (arg4.view.read (Elt F) X4) ![16 + 256 * 0, 128] S256x128.size = tileOf (Val := Elt F) (arg4.view.read (Elt F) X4) ![16, 128] S256x128.size from rfl, ← readAt_tileOf (Val := Elt F) arg4.view X4 ![16, 128] S256x128.size inb_S2064x512_S256x128_16_128]
    rfl
  · rw [show (![1, 1 + 1, 0, 0] : Fin 4 → ℕ) = ![1, 2, 0, 0] from rfl, ← readAt_tileOf (Val := Elt F) arg11.view _ ![1, 2, 0, 0] S1x1x128x256.size inb_S4x9x128x256_S1x1x128x256_1_2_0_0]
    unfold bodyRun.sl.H11_36
    iterate 24 rw [readAt_writes_skip (h := by decide)]
    refine (readAt_writes_head ..).trans ?_
    rw [show tileOf (Val := Elt F) (arg4.view.read (Elt F) X4) ![16 + 256 * 1, 128] S256x128.size = tileOf (Val := Elt F) (arg4.view.read (Elt F) X4) ![272, 128] S256x128.size from rfl, ← readAt_tileOf (Val := Elt F) arg4.view X4 ![272, 128] S256x128.size inb_S2064x512_S256x128_272_128]
    rfl
  · rw [show (![1, 2 + 1, 0, 0] : Fin 4 → ℕ) = ![1, 3, 0, 0] from rfl, ← readAt_tileOf (Val := Elt F) arg11.view _ ![1, 3, 0, 0] S1x1x128x256.size inb_S4x9x128x256_S1x1x128x256_1_3_0_0]
    unfold bodyRun.sl.H11_36
    iterate 23 rw [readAt_writes_skip (h := by decide)]
    refine (readAt_writes_head ..).trans ?_
    rw [show tileOf (Val := Elt F) (arg4.view.read (Elt F) X4) ![16 + 256 * 2, 128] S256x128.size = tileOf (Val := Elt F) (arg4.view.read (Elt F) X4) ![528, 128] S256x128.size from rfl, ← readAt_tileOf (Val := Elt F) arg4.view X4 ![528, 128] S256x128.size inb_S2064x512_S256x128_528_128]
    rfl
  · rw [show (![1, 3 + 1, 0, 0] : Fin 4 → ℕ) = ![1, 4, 0, 0] from rfl, ← readAt_tileOf (Val := Elt F) arg11.view _ ![1, 4, 0, 0] S1x1x128x256.size inb_S4x9x128x256_S1x1x128x256_1_4_0_0]
    unfold bodyRun.sl.H11_36
    iterate 22 rw [readAt_writes_skip (h := by decide)]
    refine (readAt_writes_head ..).trans ?_
    rw [show tileOf (Val := Elt F) (arg4.view.read (Elt F) X4) ![16 + 256 * 3, 128] S256x128.size = tileOf (Val := Elt F) (arg4.view.read (Elt F) X4) ![784, 128] S256x128.size from rfl, ← readAt_tileOf (Val := Elt F) arg4.view X4 ![784, 128] S256x128.size inb_S2064x512_S256x128_784_128]
    rfl
  · rw [show (![1, 4 + 1, 0, 0] : Fin 4 → ℕ) = ![1, 5, 0, 0] from rfl, ← readAt_tileOf (Val := Elt F) arg11.view _ ![1, 5, 0, 0] S1x1x128x256.size inb_S4x9x128x256_S1x1x128x256_1_5_0_0]
    unfold bodyRun.sl.H11_36
    iterate 21 rw [readAt_writes_skip (h := by decide)]
    refine (readAt_writes_head ..).trans ?_
    rw [show tileOf (Val := Elt F) (arg4.view.read (Elt F) X4) ![16 + 256 * 4, 128] S256x128.size = tileOf (Val := Elt F) (arg4.view.read (Elt F) X4) ![1040, 128] S256x128.size from rfl, ← readAt_tileOf (Val := Elt F) arg4.view X4 ![1040, 128] S256x128.size inb_S2064x512_S256x128_1040_128]
    rfl
  · rw [show (![1, 5 + 1, 0, 0] : Fin 4 → ℕ) = ![1, 6, 0, 0] from rfl, ← readAt_tileOf (Val := Elt F) arg11.view _ ![1, 6, 0, 0] S1x1x128x256.size inb_S4x9x128x256_S1x1x128x256_1_6_0_0]
    unfold bodyRun.sl.H11_36
    iterate 20 rw [readAt_writes_skip (h := by decide)]
    refine (readAt_writes_head ..).trans ?_
    rw [show tileOf (Val := Elt F) (arg4.view.read (Elt F) X4) ![16 + 256 * 5, 128] S256x128.size = tileOf (Val := Elt F) (arg4.view.read (Elt F) X4) ![1296, 128] S256x128.size from rfl, ← readAt_tileOf (Val := Elt F) arg4.view X4 ![1296, 128] S256x128.size inb_S2064x512_S256x128_1296_128]
    rfl
  · rw [show (![1, 6 + 1, 0, 0] : Fin 4 → ℕ) = ![1, 7, 0, 0] from rfl, ← readAt_tileOf (Val := Elt F) arg11.view _ ![1, 7, 0, 0] S1x1x128x256.size inb_S4x9x128x256_S1x1x128x256_1_7_0_0]
    unfold bodyRun.sl.H11_36
    iterate 19 rw [readAt_writes_skip (h := by decide)]
    refine (readAt_writes_head ..).trans ?_
    rw [show tileOf (Val := Elt F) (arg4.view.read (Elt F) X4) ![16 + 256 * 6, 128] S256x128.size = tileOf (Val := Elt F) (arg4.view.read (Elt F) X4) ![1552, 128] S256x128.size from rfl, ← readAt_tileOf (Val := Elt F) arg4.view X4 ![1552, 128] S256x128.size inb_S2064x512_S256x128_1552_128]
    rfl
  · rw [show (![1, 7 + 1, 0, 0] : Fin 4 → ℕ) = ![1, 8, 0, 0] from rfl, ← readAt_tileOf (Val := Elt F) arg11.view _ ![1, 8, 0, 0] S1x1x128x256.size inb_S4x9x128x256_S1x1x128x256_1_8_0_0]
    unfold bodyRun.sl.H11_36
    iterate 18 rw [readAt_writes_skip (h := by decide)]
    refine (readAt_writes_head ..).trans ?_
    rw [show tileOf (Val := Elt F) (arg4.view.read (Elt F) X4) ![16 + 256 * 7, 128] S256x128.size = tileOf (Val := Elt F) (arg4.view.read (Elt F) X4) ![1808, 128] S256x128.size from rfl, ← readAt_tileOf (Val := Elt F) arg4.view X4 ![1808, 128] S256x128.size inb_S2064x512_S256x128_1808_128]
    rfl

theorem vz1 (X4 : BufTy.Contents (Elt F) arg4.view.ty) (f : BufTy.Contents (Elt F) arg11.view.ty) :
    hV0 (arg11.view.read (Elt F) (arg11.view.writes (Elt F) f (bodyRun.sl.H11_36 arg4 X4))) 1 = vT0 (arg4.view.read (Elt F) X4) 128 := by
  unfold hV0 vT0
  rw [← readAt_tileOf (Val := Elt F) arg11.view _ ![1, 0, 0, 0] S1x1x128x16.size inb_S4x9x128x256_S1x1x128x16_1_0_0_0]
  unfold bodyRun.sl.H11_36
  iterate 26 rw [readAt_writes_skip (h := by decide)]
  refine (readAt_writes_part (h := by decide) ..).trans ?_
  rw [← readAt_tileOf (Val := Elt F) arg4.view X4 ![0, 128] S16x128.size inb_S2064x512_S16x128_0_128]
  rfl

theorem vt2 (X4 : BufTy.Contents (Elt F) arg4.view.ty) (f : BufTy.Contents (Elt F) arg11.view.ty) : ∀ j, j < 8 →
    hV (arg11.view.read (Elt F) (arg11.view.writes (Elt F) f (bodyRun.sl.H11_36 arg4 X4))) 2 j = vT (arg4.view.read (Elt F) X4) 256 j := by
  intro j hj
  unfold hV vT
  interval_cases j
  · rw [show (![2, 0 + 1, 0, 0] : Fin 4 → ℕ) = ![2, 1, 0, 0] from rfl, ← readAt_tileOf (Val := Elt F) arg11.view _ ![2, 1, 0, 0] S1x1x128x256.size inb_S4x9x128x256_S1x1x128x256_2_1_0_0]
    unfold bodyRun.sl.H11_36
    iterate 16 rw [readAt_writes_skip (h := by decide)]
    refine (readAt_writes_head ..).trans ?_
    rw [show tileOf (Val := Elt F) (arg4.view.read (Elt F) X4) ![16 + 256 * 0, 256] S256x128.size = tileOf (Val := Elt F) (arg4.view.read (Elt F) X4) ![16, 256] S256x128.size from rfl, ← readAt_tileOf (Val := Elt F) arg4.view X4 ![16, 256] S256x128.size inb_S2064x512_S256x128_16_256]
    rfl
  · rw [show (![2, 1 + 1, 0, 0] : Fin 4 → ℕ) = ![2, 2, 0, 0] from rfl, ← readAt_tileOf (Val := Elt F) arg11.view _ ![2, 2, 0, 0] S1x1x128x256.size inb_S4x9x128x256_S1x1x128x256_2_2_0_0]
    unfold bodyRun.sl.H11_36
    iterate 15 rw [readAt_writes_skip (h := by decide)]
    refine (readAt_writes_head ..).trans ?_
    rw [show tileOf (Val := Elt F) (arg4.view.read (Elt F) X4) ![16 + 256 * 1, 256] S256x128.size = tileOf (Val := Elt F) (arg4.view.read (Elt F) X4) ![272, 256] S256x128.size from rfl, ← readAt_tileOf (Val := Elt F) arg4.view X4 ![272, 256] S256x128.size inb_S2064x512_S256x128_272_256]
    rfl
  · rw [show (![2, 2 + 1, 0, 0] : Fin 4 → ℕ) = ![2, 3, 0, 0] from rfl, ← readAt_tileOf (Val := Elt F) arg11.view _ ![2, 3, 0, 0] S1x1x128x256.size inb_S4x9x128x256_S1x1x128x256_2_3_0_0]
    unfold bodyRun.sl.H11_36
    iterate 14 rw [readAt_writes_skip (h := by decide)]
    refine (readAt_writes_head ..).trans ?_
    rw [show tileOf (Val := Elt F) (arg4.view.read (Elt F) X4) ![16 + 256 * 2, 256] S256x128.size = tileOf (Val := Elt F) (arg4.view.read (Elt F) X4) ![528, 256] S256x128.size from rfl, ← readAt_tileOf (Val := Elt F) arg4.view X4 ![528, 256] S256x128.size inb_S2064x512_S256x128_528_256]
    rfl
  · rw [show (![2, 3 + 1, 0, 0] : Fin 4 → ℕ) = ![2, 4, 0, 0] from rfl, ← readAt_tileOf (Val := Elt F) arg11.view _ ![2, 4, 0, 0] S1x1x128x256.size inb_S4x9x128x256_S1x1x128x256_2_4_0_0]
    unfold bodyRun.sl.H11_36
    iterate 13 rw [readAt_writes_skip (h := by decide)]
    refine (readAt_writes_head ..).trans ?_
    rw [show tileOf (Val := Elt F) (arg4.view.read (Elt F) X4) ![16 + 256 * 3, 256] S256x128.size = tileOf (Val := Elt F) (arg4.view.read (Elt F) X4) ![784, 256] S256x128.size from rfl, ← readAt_tileOf (Val := Elt F) arg4.view X4 ![784, 256] S256x128.size inb_S2064x512_S256x128_784_256]
    rfl
  · rw [show (![2, 4 + 1, 0, 0] : Fin 4 → ℕ) = ![2, 5, 0, 0] from rfl, ← readAt_tileOf (Val := Elt F) arg11.view _ ![2, 5, 0, 0] S1x1x128x256.size inb_S4x9x128x256_S1x1x128x256_2_5_0_0]
    unfold bodyRun.sl.H11_36
    iterate 12 rw [readAt_writes_skip (h := by decide)]
    refine (readAt_writes_head ..).trans ?_
    rw [show tileOf (Val := Elt F) (arg4.view.read (Elt F) X4) ![16 + 256 * 4, 256] S256x128.size = tileOf (Val := Elt F) (arg4.view.read (Elt F) X4) ![1040, 256] S256x128.size from rfl, ← readAt_tileOf (Val := Elt F) arg4.view X4 ![1040, 256] S256x128.size inb_S2064x512_S256x128_1040_256]
    rfl
  · rw [show (![2, 5 + 1, 0, 0] : Fin 4 → ℕ) = ![2, 6, 0, 0] from rfl, ← readAt_tileOf (Val := Elt F) arg11.view _ ![2, 6, 0, 0] S1x1x128x256.size inb_S4x9x128x256_S1x1x128x256_2_6_0_0]
    unfold bodyRun.sl.H11_36
    iterate 11 rw [readAt_writes_skip (h := by decide)]
    refine (readAt_writes_head ..).trans ?_
    rw [show tileOf (Val := Elt F) (arg4.view.read (Elt F) X4) ![16 + 256 * 5, 256] S256x128.size = tileOf (Val := Elt F) (arg4.view.read (Elt F) X4) ![1296, 256] S256x128.size from rfl, ← readAt_tileOf (Val := Elt F) arg4.view X4 ![1296, 256] S256x128.size inb_S2064x512_S256x128_1296_256]
    rfl
  · rw [show (![2, 6 + 1, 0, 0] : Fin 4 → ℕ) = ![2, 7, 0, 0] from rfl, ← readAt_tileOf (Val := Elt F) arg11.view _ ![2, 7, 0, 0] S1x1x128x256.size inb_S4x9x128x256_S1x1x128x256_2_7_0_0]
    unfold bodyRun.sl.H11_36
    iterate 10 rw [readAt_writes_skip (h := by decide)]
    refine (readAt_writes_head ..).trans ?_
    rw [show tileOf (Val := Elt F) (arg4.view.read (Elt F) X4) ![16 + 256 * 6, 256] S256x128.size = tileOf (Val := Elt F) (arg4.view.read (Elt F) X4) ![1552, 256] S256x128.size from rfl, ← readAt_tileOf (Val := Elt F) arg4.view X4 ![1552, 256] S256x128.size inb_S2064x512_S256x128_1552_256]
    rfl
  · rw [show (![2, 7 + 1, 0, 0] : Fin 4 → ℕ) = ![2, 8, 0, 0] from rfl, ← readAt_tileOf (Val := Elt F) arg11.view _ ![2, 8, 0, 0] S1x1x128x256.size inb_S4x9x128x256_S1x1x128x256_2_8_0_0]
    unfold bodyRun.sl.H11_36
    iterate 9 rw [readAt_writes_skip (h := by decide)]
    refine (readAt_writes_head ..).trans ?_
    rw [show tileOf (Val := Elt F) (arg4.view.read (Elt F) X4) ![16 + 256 * 7, 256] S256x128.size = tileOf (Val := Elt F) (arg4.view.read (Elt F) X4) ![1808, 256] S256x128.size from rfl, ← readAt_tileOf (Val := Elt F) arg4.view X4 ![1808, 256] S256x128.size inb_S2064x512_S256x128_1808_256]
    rfl

theorem vz2 (X4 : BufTy.Contents (Elt F) arg4.view.ty) (f : BufTy.Contents (Elt F) arg11.view.ty) :
    hV0 (arg11.view.read (Elt F) (arg11.view.writes (Elt F) f (bodyRun.sl.H11_36 arg4 X4))) 2 = vT0 (arg4.view.read (Elt F) X4) 256 := by
  unfold hV0 vT0
  rw [← readAt_tileOf (Val := Elt F) arg11.view _ ![2, 0, 0, 0] S1x1x128x16.size inb_S4x9x128x256_S1x1x128x16_2_0_0_0]
  unfold bodyRun.sl.H11_36
  iterate 17 rw [readAt_writes_skip (h := by decide)]
  refine (readAt_writes_part (h := by decide) ..).trans ?_
  rw [← readAt_tileOf (Val := Elt F) arg4.view X4 ![0, 256] S16x128.size inb_S2064x512_S16x128_0_256]
  rfl

theorem vt3 (X4 : BufTy.Contents (Elt F) arg4.view.ty) (f : BufTy.Contents (Elt F) arg11.view.ty) : ∀ j, j < 8 →
    hV (arg11.view.read (Elt F) (arg11.view.writes (Elt F) f (bodyRun.sl.H11_36 arg4 X4))) 3 j = vT (arg4.view.read (Elt F) X4) 384 j := by
  intro j hj
  unfold hV vT
  interval_cases j
  · rw [show (![3, 0 + 1, 0, 0] : Fin 4 → ℕ) = ![3, 1, 0, 0] from rfl, ← readAt_tileOf (Val := Elt F) arg11.view _ ![3, 1, 0, 0] S1x1x128x256.size inb_S4x9x128x256_S1x1x128x256_3_1_0_0]
    unfold bodyRun.sl.H11_36
    iterate 7 rw [readAt_writes_skip (h := by decide)]
    refine (readAt_writes_head ..).trans ?_
    rw [show tileOf (Val := Elt F) (arg4.view.read (Elt F) X4) ![16 + 256 * 0, 384] S256x128.size = tileOf (Val := Elt F) (arg4.view.read (Elt F) X4) ![16, 384] S256x128.size from rfl, ← readAt_tileOf (Val := Elt F) arg4.view X4 ![16, 384] S256x128.size inb_S2064x512_S256x128_16_384]
    rfl
  · rw [show (![3, 1 + 1, 0, 0] : Fin 4 → ℕ) = ![3, 2, 0, 0] from rfl, ← readAt_tileOf (Val := Elt F) arg11.view _ ![3, 2, 0, 0] S1x1x128x256.size inb_S4x9x128x256_S1x1x128x256_3_2_0_0]
    unfold bodyRun.sl.H11_36
    iterate 6 rw [readAt_writes_skip (h := by decide)]
    refine (readAt_writes_head ..).trans ?_
    rw [show tileOf (Val := Elt F) (arg4.view.read (Elt F) X4) ![16 + 256 * 1, 384] S256x128.size = tileOf (Val := Elt F) (arg4.view.read (Elt F) X4) ![272, 384] S256x128.size from rfl, ← readAt_tileOf (Val := Elt F) arg4.view X4 ![272, 384] S256x128.size inb_S2064x512_S256x128_272_384]
    rfl
  · rw [show (![3, 2 + 1, 0, 0] : Fin 4 → ℕ) = ![3, 3, 0, 0] from rfl, ← readAt_tileOf (Val := Elt F) arg11.view _ ![3, 3, 0, 0] S1x1x128x256.size inb_S4x9x128x256_S1x1x128x256_3_3_0_0]
    unfold bodyRun.sl.H11_36
    iterate 5 rw [readAt_writes_skip (h := by decide)]
    refine (readAt_writes_head ..).trans ?_
    rw [show tileOf (Val := Elt F) (arg4.view.read (Elt F) X4) ![16 + 256 * 2, 384] S256x128.size = tileOf (Val := Elt F) (arg4.view.read (Elt F) X4) ![528, 384] S256x128.size from rfl, ← readAt_tileOf (Val := Elt F) arg4.view X4 ![528, 384] S256x128.size inb_S2064x512_S256x128_528_384]
    rfl
  · rw [show (![3, 3 + 1, 0, 0] : Fin 4 → ℕ) = ![3, 4, 0, 0] from rfl, ← readAt_tileOf (Val := Elt F) arg11.view _ ![3, 4, 0, 0] S1x1x128x256.size inb_S4x9x128x256_S1x1x128x256_3_4_0_0]
    unfold bodyRun.sl.H11_36
    iterate 4 rw [readAt_writes_skip (h := by decide)]
    refine (readAt_writes_head ..).trans ?_
    rw [show tileOf (Val := Elt F) (arg4.view.read (Elt F) X4) ![16 + 256 * 3, 384] S256x128.size = tileOf (Val := Elt F) (arg4.view.read (Elt F) X4) ![784, 384] S256x128.size from rfl, ← readAt_tileOf (Val := Elt F) arg4.view X4 ![784, 384] S256x128.size inb_S2064x512_S256x128_784_384]
    rfl
  · rw [show (![3, 4 + 1, 0, 0] : Fin 4 → ℕ) = ![3, 5, 0, 0] from rfl, ← readAt_tileOf (Val := Elt F) arg11.view _ ![3, 5, 0, 0] S1x1x128x256.size inb_S4x9x128x256_S1x1x128x256_3_5_0_0]
    unfold bodyRun.sl.H11_36
    iterate 3 rw [readAt_writes_skip (h := by decide)]
    refine (readAt_writes_head ..).trans ?_
    rw [show tileOf (Val := Elt F) (arg4.view.read (Elt F) X4) ![16 + 256 * 4, 384] S256x128.size = tileOf (Val := Elt F) (arg4.view.read (Elt F) X4) ![1040, 384] S256x128.size from rfl, ← readAt_tileOf (Val := Elt F) arg4.view X4 ![1040, 384] S256x128.size inb_S2064x512_S256x128_1040_384]
    rfl
  · rw [show (![3, 5 + 1, 0, 0] : Fin 4 → ℕ) = ![3, 6, 0, 0] from rfl, ← readAt_tileOf (Val := Elt F) arg11.view _ ![3, 6, 0, 0] S1x1x128x256.size inb_S4x9x128x256_S1x1x128x256_3_6_0_0]
    unfold bodyRun.sl.H11_36
    iterate 2 rw [readAt_writes_skip (h := by decide)]
    refine (readAt_writes_head ..).trans ?_
    rw [show tileOf (Val := Elt F) (arg4.view.read (Elt F) X4) ![16 + 256 * 5, 384] S256x128.size = tileOf (Val := Elt F) (arg4.view.read (Elt F) X4) ![1296, 384] S256x128.size from rfl, ← readAt_tileOf (Val := Elt F) arg4.view X4 ![1296, 384] S256x128.size inb_S2064x512_S256x128_1296_384]
    rfl
  · rw [show (![3, 6 + 1, 0, 0] : Fin 4 → ℕ) = ![3, 7, 0, 0] from rfl, ← readAt_tileOf (Val := Elt F) arg11.view _ ![3, 7, 0, 0] S1x1x128x256.size inb_S4x9x128x256_S1x1x128x256_3_7_0_0]
    unfold bodyRun.sl.H11_36
    iterate 1 rw [readAt_writes_skip (h := by decide)]
    refine (readAt_writes_head ..).trans ?_
    rw [show tileOf (Val := Elt F) (arg4.view.read (Elt F) X4) ![16 + 256 * 6, 384] S256x128.size = tileOf (Val := Elt F) (arg4.view.read (Elt F) X4) ![1552, 384] S256x128.size from rfl, ← readAt_tileOf (Val := Elt F) arg4.view X4 ![1552, 384] S256x128.size inb_S2064x512_S256x128_1552_384]
    rfl
  · rw [show (![3, 7 + 1, 0, 0] : Fin 4 → ℕ) = ![3, 8, 0, 0] from rfl, ← readAt_tileOf (Val := Elt F) arg11.view _ ![3, 8, 0, 0] S1x1x128x256.size inb_S4x9x128x256_S1x1x128x256_3_8_0_0]
    unfold bodyRun.sl.H11_36
    skip
    refine (readAt_writes_head ..).trans ?_
    rw [show tileOf (Val := Elt F) (arg4.view.read (Elt F) X4) ![16 + 256 * 7, 384] S256x128.size = tileOf (Val := Elt F) (arg4.view.read (Elt F) X4) ![1808, 384] S256x128.size from rfl, ← readAt_tileOf (Val := Elt F) arg4.view X4 ![1808, 384] S256x128.size inb_S2064x512_S256x128_1808_384]
    rfl

theorem vz3 (X4 : BufTy.Contents (Elt F) arg4.view.ty) (f : BufTy.Contents (Elt F) arg11.view.ty) :
    hV0 (arg11.view.read (Elt F) (arg11.view.writes (Elt F) f (bodyRun.sl.H11_36 arg4 X4))) 3 = vT0 (arg4.view.read (Elt F) X4) 384 := by
  unfold hV0 vT0
  rw [← readAt_tileOf (Val := Elt F) arg11.view _ ![3, 0, 0, 0] S1x1x128x16.size inb_S4x9x128x256_S1x1x128x16_3_0_0_0]
  unfold bodyRun.sl.H11_36
  iterate 8 rw [readAt_writes_skip (h := by decide)]
  refine (readAt_writes_part (h := by decide) ..).trans ?_
  rw [← readAt_tileOf (Val := Elt F) arg4.view X4 ![0, 384] S16x128.size inb_S2064x512_S16x128_0_384]
  rfl

set_option maxHeartbeats 1000000 in
theorem fst0 (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) : k0_pay264 (bodyRun.sl.r_5 arg2 arg3 arg4 arg5 arg6 arg7 arg8 arg11 X2 X3 X4 X5 X6 X7 X8)
            (View.readAt (Elt F) arg9.view (Rect.unit (s := S1x128) ![0, 0] S1x128.size inb_S1x128_S1x128_0_0).toLoadRect X9) = fstT (lamOf (arg5.view.read (Elt F) X5) (arg6.view.read (Elt F) X6) (arg7.view.read (Elt F) X7) (arg8.view.read (Elt F) X8)) k0_pay251 k0_pay252 (arg2.view.read (Elt F) X2) (arg3.view.read (Elt F) X3) (arg4.view.read (Elt F) X4) (arg9.view.read (Elt F) X9) 0 := by
  have hv : bodyRun.sl.v395 arg4 arg11 X4 = vT0 (arg4.view.read (Elt F) X4) 0 := by
    rw [← vz0 arg4 arg11 X4 arg11.view.junk]
    unfold bodyRun.sl.v395 View.readCov hV0
    exact readAt_tileOf (Val := Elt F) arg11.view _ ![0, 0, 0, 0] S1x1x128x16.size inb_S4x9x128x256_S1x1x128x16_0_0_0_0
  unfold fstT lamOf hK0
  rw [← hv, ← readAt_tileOf (Val := Elt F) arg2.view X2 ![0, 0] S256x128.size inb_S2064x512_S256x128_0_0,
    ← readAt_tileOf (Val := Elt F) arg3.view X3 ![0, 0] S16x128.size inb_S2064x512_S16x128_0_0,
    ← readAt_tileOf (Val := Elt F) arg9.view X9 ![0, 0] S1x128.size inb_S1x128_S1x128_0_0,
    ← readAt_tileOf (Val := Elt F) arg5.view X5 ![0, 0] S1x64.size inb_S1x64_S1x64_0_0,
    ← readAt_tileOf (Val := Elt F) arg6.view X6 ![0, 0] S1x64.size inb_S1x64_S1x64_0_0,
    ← readAt_tileOf (Val := Elt F) arg7.view X7 ![0, 0] S1x64.size inb_S1x64_S1x64_0_0,
    ← readAt_tileOf (Val := Elt F) arg8.view X8 ![0, 0] S1x64.size inb_S1x64_S1x64_0_0]
  rfl

set_option maxHeartbeats 1000000 in
theorem fst1 (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) : k0_pay271 (bodyRun.sl.v18 arg5 arg6 arg7 arg8 X5 X6 X7 X8) (bodyRun.sl.r_6 arg2 arg3 X2 X3)
            (bodyRun.sl.r_7 arg2 arg3 X2 X3) (bodyRun.sl.r_8 arg4 arg11 X4)
            (View.readAt (Elt F) arg9.view (Rect.unit (s := S1x128) ![0, 0] S1x128.size inb_S1x128_S1x128_0_0).toLoadRect X9) = fstT (lamOf (arg5.view.read (Elt F) X5) (arg6.view.read (Elt F) X6) (arg7.view.read (Elt F) X7) (arg8.view.read (Elt F) X8)) k0_pay251 k0_pay252 (arg2.view.read (Elt F) X2) (arg3.view.read (Elt F) X3) (arg4.view.read (Elt F) X4) (arg9.view.read (Elt F) X9) 128 := by
  have hv : bodyRun.sl.v447 arg4 arg11 X4 = vT0 (arg4.view.read (Elt F) X4) 128 := by
    rw [← vz1 arg4 arg11 X4 arg11.view.junk]
    unfold bodyRun.sl.v447 View.readCov hV0
    exact readAt_tileOf (Val := Elt F) arg11.view _ ![1, 0, 0, 0] S1x1x128x16.size inb_S4x9x128x256_S1x1x128x16_1_0_0_0
  unfold fstT lamOf hK0
  rw [← hv, ← readAt_tileOf (Val := Elt F) arg2.view X2 ![0, 128] S256x128.size inb_S2064x512_S256x128_0_128,
    ← readAt_tileOf (Val := Elt F) arg3.view X3 ![0, 128] S16x128.size inb_S2064x512_S16x128_0_128,
    ← readAt_tileOf (Val := Elt F) arg9.view X9 ![0, 0] S1x128.size inb_S1x128_S1x128_0_0,
    ← readAt_tileOf (Val := Elt F) arg5.view X5 ![0, 0] S1x64.size inb_S1x64_S1x64_0_0,
    ← readAt_tileOf (Val := Elt F) arg6.view X6 ![0, 0] S1x64.size inb_S1x64_S1x64_0_0,
    ← readAt_tileOf (Val := Elt F) arg7.view X7 ![0, 0] S1x64.size inb_S1x64_S1x64_0_0,
    ← readAt_tileOf (Val := Elt F) arg8.view X8 ![0, 0] S1x64.size inb_S1x64_S1x64_0_0]
  rfl

set_option maxHeartbeats 1000000 in
theorem fst2 (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) : k0_pay276 (bodyRun.sl.v18 arg5 arg6 arg7 arg8 X5 X6 X7 X8) (bodyRun.sl.r_9 arg2 arg3 X2 X3)
            (bodyRun.sl.r_10 arg2 arg3 X2 X3) (bodyRun.sl.v499 arg4 arg11 X4)
            (View.readAt (Elt F) arg9.view (Rect.unit (s := S1x128) ![0, 0] S1x128.size inb_S1x128_S1x128_0_0).toLoadRect X9) = fstT (lamOf (arg5.view.read (Elt F) X5) (arg6.view.read (Elt F) X6) (arg7.view.read (Elt F) X7) (arg8.view.read (Elt F) X8)) k0_pay251 k0_pay252 (arg2.view.read (Elt F) X2) (arg3.view.read (Elt F) X3) (arg4.view.read (Elt F) X4) (arg9.view.read (Elt F) X9) 256 := by
  have hv : bodyRun.sl.v499 arg4 arg11 X4 = vT0 (arg4.view.read (Elt F) X4) 256 := by
    rw [← vz2 arg4 arg11 X4 arg11.view.junk]
    unfold bodyRun.sl.v499 View.readCov hV0
    exact readAt_tileOf (Val := Elt F) arg11.view _ ![2, 0, 0, 0] S1x1x128x16.size inb_S4x9x128x256_S1x1x128x16_2_0_0_0
  unfold fstT lamOf hK0
  rw [← hv, ← readAt_tileOf (Val := Elt F) arg2.view X2 ![0, 256] S256x128.size inb_S2064x512_S256x128_0_256,
    ← readAt_tileOf (Val := Elt F) arg3.view X3 ![0, 256] S16x128.size inb_S2064x512_S16x128_0_256,
    ← readAt_tileOf (Val := Elt F) arg9.view X9 ![0, 0] S1x128.size inb_S1x128_S1x128_0_0,
    ← readAt_tileOf (Val := Elt F) arg5.view X5 ![0, 0] S1x64.size inb_S1x64_S1x64_0_0,
    ← readAt_tileOf (Val := Elt F) arg6.view X6 ![0, 0] S1x64.size inb_S1x64_S1x64_0_0,
    ← readAt_tileOf (Val := Elt F) arg7.view X7 ![0, 0] S1x64.size inb_S1x64_S1x64_0_0,
    ← readAt_tileOf (Val := Elt F) arg8.view X8 ![0, 0] S1x64.size inb_S1x64_S1x64_0_0]
  rfl

set_option maxHeartbeats 1000000 in
theorem fst3 (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) : bodyRun.sl.v579 arg2 arg3 arg4 arg5 arg6 arg7 arg8 arg9 arg11 X2 X3 X4 X5 X6 X7 X8 X9 = fstT (lamOf (arg5.view.read (Elt F) X5) (arg6.view.read (Elt F) X6) (arg7.view.read (Elt F) X7) (arg8.view.read (Elt F) X8)) k0_pay251 k0_pay252 (arg2.view.read (Elt F) X2) (arg3.view.read (Elt F) X3) (arg4.view.read (Elt F) X4) (arg9.view.read (Elt F) X9) 384 := by
  have hv : bodyRun.sl.v551 arg4 arg11 X4 = vT0 (arg4.view.read (Elt F) X4) 384 := by
    rw [← vz3 arg4 arg11 X4 arg11.view.junk]
    unfold bodyRun.sl.v551 View.readCov hV0
    exact readAt_tileOf (Val := Elt F) arg11.view _ ![3, 0, 0, 0] S1x1x128x16.size inb_S4x9x128x256_S1x1x128x16_3_0_0_0
  unfold fstT lamOf hK0
  rw [← hv, ← readAt_tileOf (Val := Elt F) arg2.view X2 ![0, 384] S256x128.size inb_S2064x512_S256x128_0_384,
    ← readAt_tileOf (Val := Elt F) arg3.view X3 ![0, 384] S16x128.size inb_S2064x512_S16x128_0_384,
    ← readAt_tileOf (Val := Elt F) arg9.view X9 ![0, 0] S1x128.size inb_S1x128_S1x128_0_0,
    ← readAt_tileOf (Val := Elt F) arg5.view X5 ![0, 0] S1x64.size inb_S1x64_S1x64_0_0,
    ← readAt_tileOf (Val := Elt F) arg6.view X6 ![0, 0] S1x64.size inb_S1x64_S1x64_0_0,
    ← readAt_tileOf (Val := Elt F) arg7.view X7 ![0, 0] S1x64.size inb_S1x64_S1x64_0_0,
    ← readAt_tileOf (Val := Elt F) arg8.view X8 ![0, 0] S1x64.size inb_S1x64_S1x64_0_0]
  rfl

theorem lam_eq (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) : bodyRun.sl.v18 arg5 arg6 arg7 arg8 X5 X6 X7 X8 = (lamOf (arg5.view.read (Elt F) X5) (arg6.view.read (Elt F) X6) (arg7.view.read (Elt F) X7) (arg8.view.read (Elt F) X8)) := by
  unfold lamOf
  rw [← readAt_tileOf (Val := Elt F) arg5.view X5 ![0, 0] S1x64.size inb_S1x64_S1x64_0_0,
    ← readAt_tileOf (Val := Elt F) arg6.view X6 ![0, 0] S1x64.size inb_S1x64_S1x64_0_0,
    ← readAt_tileOf (Val := Elt F) arg7.view X7 ![0, 0] S1x64.size inb_S1x64_S1x64_0_0,
    ← readAt_tileOf (Val := Elt F) arg8.view X8 ![0, 0] S1x64.size inb_S1x64_S1x64_0_0]
  rfl

/-- The pieces of the body. -/
theorem bodyRun_val (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) : (bodyRun (F := F) 𝒱 c bd i arg2 harg2 arg3 harg3 arg4 harg4 arg5 harg5 arg6 harg6 arg7 harg7 arg8 harg8 arg9 harg9 arg10 harg10 arg11 harg11 arg12 harg12 arg13 harg13 X2 X3 X4 X5 X6 X7 X8 X9).1 f11 =
    outsTo (lamOf (arg5.view.read (Elt F) X5) (arg6.view.read (Elt F) X6) (arg7.view.read (Elt F) X7) (arg8.view.read (Elt F) X8)) k0_pay251 k0_pay252 (arg2.view.read (Elt F) X2) (arg3.view.read (Elt F) X3) (arg11.view.read (Elt F) (arg11.view.writes (Elt F) f11 (bodyRun.sl.H11_36 arg4 X4))) (arg9.view.read (Elt F) X9) 8 ++ [⟨Rect.unit (s := S2064x512) ![0, 384] S16x128.size inb_S2064x512_S16x128_0_384, fstT (lamOf (arg5.view.read (Elt F) X5) (arg6.view.read (Elt F) X6) (arg7.view.read (Elt F) X7) (arg8.view.read (Elt F) X8)) k0_pay251 k0_pay252 (arg2.view.read (Elt F) X2) (arg3.view.read (Elt F) X3) (arg4.view.read (Elt F) X4) (arg9.view.read (Elt F) X9) 384⟩, ⟨Rect.unit (s := S2064x512) ![0, 256] S16x128.size inb_S2064x512_S16x128_0_256, fstT (lamOf (arg5.view.read (Elt F) X5) (arg6.view.read (Elt F) X6) (arg7.view.read (Elt F) X7) (arg8.view.read (Elt F) X8)) k0_pay251 k0_pay252 (arg2.view.read (Elt F) X2) (arg3.view.read (Elt F) X3) (arg4.view.read (Elt F) X4) (arg9.view.read (Elt F) X9) 256⟩, ⟨Rect.unit (s := S2064x512) ![0, 128] S16x128.size inb_S2064x512_S16x128_0_128, fstT (lamOf (arg5.view.read (Elt F) X5) (arg6.view.read (Elt F) X6) (arg7.view.read (Elt F) X7) (arg8.view.read (Elt F) X8)) k0_pay251 k0_pay252 (arg2.view.read (Elt F) X2) (arg3.view.read (Elt F) X3) (arg4.view.read (Elt F) X4) (arg9.view.read (Elt F) X9) 128⟩, ⟨Rect.unit (s := S2064x512) ![0, 0] S16x128.size inb_S2064x512_S16x128_0_0, fstT (lamOf (arg5.view.read (Elt F) X5) (arg6.view.read (Elt F) X6) (arg7.view.read (Elt F) X7) (arg8.view.read (Elt F) X8)) k0_pay251 k0_pay252 (arg2.view.read (Elt F) X2) (arg3.view.read (Elt F) X3) (arg4.view.read (Elt F) X4) (arg9.view.read (Elt F) X9) 0⟩] := by
  rw [bodyRun.eq_def]
  dsimp only
  rw [fst0 arg2 arg3 arg4 arg5 arg6 arg7 arg8 arg9 arg11, fst1 arg2 arg3 arg4 arg5 arg6 arg7 arg8 arg9 arg11, fst2 arg2 arg3 arg4 arg5 arg6 arg7 arg8 arg9 arg11, fst3 arg2 arg3 arg4 arg5 arg6 arg7 arg8 arg9 arg11,
    lam_eq arg2 arg3 arg4 arg5 arg6 arg7 arg8 arg9 X2 X3 X4 X5 X6 X7 X8 X9, show Scf.trips k0_t1_loop.lb k0_t1_loop.ub k0_t1_loop.st = 8 from by decide]

theorem blk_fst (lam : FVec F S1x1 .f32) (m l : FVec F S1x512 .f32) (Q K Vv : S2064x512.Idx → Elt F .bf16)
    (W : S1x128.Idx → Elt F .f32) (g c : ℕ) (hc : c = 128 * g) (ib : ∀ a, (![0, c] : Fin 2 → ℕ) a + S16x128.size a ≤ S2064x512.size a) (x : S16x128.Idx) :
    fstT lam m l Q K Vv W c x = outBlk lam m l Q K Vv W ((Rect.unit (s := S2064x512) ![0, c] S16x128.size ib).emb x) := by
  subst hc
  have h0 : ((Rect.unit (s := S2064x512) ![0, 128 * g] S16x128.size ib).emb x (0 : Fin 2)).val = 0 + (x (0 : Fin 2)).val := ValueKit.rect_emb_unit_val _ _ _ _ _
  have h1 : ((Rect.unit (s := S2064x512) ![0, 128 * g] S16x128.size ib).emb x (1 : Fin 2)).val = 128 * g + (x (1 : Fin 2)).val := ValueKit.rect_emb_unit_val _ _ _ _ _
  have hx0 : (x (0 : Fin 2)).val < 16 := (x (0 : Fin 2)).isLt
  have hx1 : (x (1 : Fin 2)).val < 128 := (x (1 : Fin 2)).isLt
  unfold outBlk
  rw [dif_pos (by omega : ((Rect.unit (s := S2064x512) ![0, 128 * g] S16x128.size ib).emb x (0 : Fin 2)).val < 16)]
  have e1 : 128 * (((Rect.unit (s := S2064x512) ![0, 128 * g] S16x128.size ib).emb x (1 : Fin 2)).val / 128) = 128 * g := by omega
  rw [e1]
  congr 1
  funext a
  match a with
  | ⟨0, _⟩ => exact Fin.ext (show (x (0 : Fin 2)).val = ((Rect.unit (s := S2064x512) ![0, 128 * g] S16x128.size ib).emb x (0 : Fin 2)).val by omega)
  | ⟨1, _⟩ => exact Fin.ext (show (x (1 : Fin 2)).val = ((Rect.unit (s := S2064x512) ![0, 128 * g] S16x128.size ib).emb x (1 : Fin 2)).val % 128 by omega)

theorem blk_out (lam : FVec F S1x1 .f32) (m l : FVec F S1x512 .f32) (Q K Vv : S2064x512.Idx → Elt F .bf16)
    (W : S1x128.Idx → Elt F .f32) (g c k : ℕ) (hc : c = 128 * g) (ib : ∀ a, (![16 + 256 * k, c] : Fin 2 → ℕ) a + S256x128.size a ≤ S2064x512.size a) (x : S256x128.Idx) :
    outG lam m l Q K Vv W c k x = outBlk lam m l Q K Vv W ((Rect.unit (s := S2064x512) ![16 + 256 * k, c] S256x128.size ib).emb x) := by
  subst hc
  have h0 : ((Rect.unit (s := S2064x512) ![16 + 256 * k, 128 * g] S256x128.size ib).emb x (0 : Fin 2)).val = 16 + 256 * k + (x (0 : Fin 2)).val := ValueKit.rect_emb_unit_val _ _ _ _ _
  have h1 : ((Rect.unit (s := S2064x512) ![16 + 256 * k, 128 * g] S256x128.size ib).emb x (1 : Fin 2)).val = 128 * g + (x (1 : Fin 2)).val := ValueKit.rect_emb_unit_val _ _ _ _ _
  have hx0 : (x (0 : Fin 2)).val < 256 := (x (0 : Fin 2)).isLt
  have hx1 : (x (1 : Fin 2)).val < 128 := (x (1 : Fin 2)).isLt
  unfold outBlk
  rw [dif_neg (by omega : ¬ ((Rect.unit (s := S2064x512) ![16 + 256 * k, 128 * g] S256x128.size ib).emb x (0 : Fin 2)).val < 16)]
  have e1 : 128 * (((Rect.unit (s := S2064x512) ![16 + 256 * k, 128 * g] S256x128.size ib).emb x (1 : Fin 2)).val / 128) = 128 * g := by omega
  have e2 : (((Rect.unit (s := S2064x512) ![16 + 256 * k, 128 * g] S256x128.size ib).emb x (0 : Fin 2)).val - 16) / 256 = k := by omega
  rw [e1, e2]
  congr 1
  funext a
  match a with
  | ⟨0, _⟩ => exact Fin.ext (show (x (0 : Fin 2)).val = (((Rect.unit (s := S2064x512) ![16 + 256 * k, 128 * g] S256x128.size ib).emb x (0 : Fin 2)).val - 16) % 256 by omega)
  | ⟨1, _⟩ => exact Fin.ext (show (x (1 : Fin 2)).val = ((Rect.unit (s := S2064x512) ![16 + 256 * k, 128 * g] S256x128.size ib).emb x (1 : Fin 2)).val % 128 by omega)

theorem piece_agree (B : S2064x512.Idx → Elt F .bf16) {off off' : Fin 2 → ℕ} (h : off = off') (size : Fin 2 → ℕ) (ib : ∀ a, off a + size a ≤ S2064x512.size a)
    (w : (⟨2, size⟩ : Shape).Idx → Elt F .bf16) (hw : ∀ ib' x, w x = B ((Rect.unit (s := S2064x512) off' size ib').emb x)) (x : (⟨2, size⟩ : Shape).Idx) :
    w x = B ((Rect.unit (s := S2064x512) off size ib).emb x) := by subst h; exact hw ib x

/-- What the body leaves in the output block. -/
theorem bodyRun_read (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f10 : BufTy.Contents (Elt F) arg10.view.ty) (f11 : BufTy.Contents (Elt F) arg11.view.ty) :
    arg10.view.read (Elt F) (arg10.view.writes (Elt F) f10 ((bodyRun (F := F) 𝒱 c bd i arg2 harg2 arg3 harg3 arg4 harg4 arg5 harg5 arg6 harg6 arg7 harg7 arg8 harg8 arg9 harg9 arg10 harg10 arg11 harg11 arg12 harg12 arg13 harg13 X2 X3 X4 X5 X6 X7 X8 X9).1 f11)) = (outBlk (lamOf (arg5.view.read (Elt F) X5) (arg6.view.read (Elt F) X6) (arg7.view.read (Elt F) X7) (arg8.view.read (Elt F) X8)) k0_pay251 k0_pay252 (arg2.view.read (Elt F) X2) (arg3.view.read (Elt F) X3) (arg4.view.read (Elt F) X4) (arg9.view.read (Elt F) X9)) := by
  rw [bodyRun_val]
  funext y
  apply read_writes_of_agree
  · intro p hp x
    rcases List.mem_append.mp hp with hp | hp
    · obtain ⟨k, hk, hp⟩ := (mem_outsTo _ _ _ _ _ _ _ p 8 le_rfl).mp hp
      unfold outPieces at hp
      simp only [List.mem_cons, List.not_mem_nil, or_false] at hp
      rcases hp with rfl | rfl | rfl | rfl
      · dsimp only
        rw [outT_eq (Vv := (arg4.view.read (Elt F) X4)) (hk := hk) (h := vt3 arg4 arg11 X4 f11) (h0 := vz3 arg4 arg11 X4 f11)]
        exact piece_agree _ (off4_eq k) _ _ _ (fun ib' x => blk_out _ _ _ _ _ _ _ 3 384 k.val rfl ib' x) x
      · dsimp only
        rw [outT_eq (Vv := (arg4.view.read (Elt F) X4)) (hk := hk) (h := vt2 arg4 arg11 X4 f11) (h0 := vz2 arg4 arg11 X4 f11)]
        exact piece_agree _ (off3_eq k) _ _ _ (fun ib' x => blk_out _ _ _ _ _ _ _ 2 256 k.val rfl ib' x) x
      · dsimp only
        rw [outT_eq (Vv := (arg4.view.read (Elt F) X4)) (hk := hk) (h := vt1 arg4 arg11 X4 f11) (h0 := vz1 arg4 arg11 X4 f11)]
        exact piece_agree _ (off2_eq k) _ _ _ (fun ib' x => blk_out _ _ _ _ _ _ _ 1 128 k.val rfl ib' x) x
      · dsimp only
        rw [outT_eq (Vv := (arg4.view.read (Elt F) X4)) (hk := hk) (h := vt0 arg4 arg11 X4 f11) (h0 := vz0 arg4 arg11 X4 f11)]
        exact piece_agree _ (off1_eq k) _ _ _ (fun ib' x => blk_out _ _ _ _ _ _ _ 0 0 k.val rfl ib' x) x
    · simp only [List.mem_cons, List.not_mem_nil, or_false] at hp
      rcases hp with rfl | rfl | rfl | rfl
      · exact blk_fst _ _ _ _ _ _ _ 3 384 rfl inb_S2064x512_S16x128_0_384 x
      · exact blk_fst _ _ _ _ _ _ _ 2 256 rfl inb_S2064x512_S16x128_0_256 x
      · exact blk_fst _ _ _ _ _ _ _ 1 128 rfl inb_S2064x512_S16x128_0_128 x
      · exact blk_fst _ _ _ _ _ _ _ 0 0 rfl inb_S2064x512_S16x128_0_0 x
  · have hy0 : (y (0 : Fin 2)).val < 2064 := (y (0 : Fin 2)).isLt
    have hy1 : (y (1 : Fin 2)).val < 512 := (y (1 : Fin 2)).isLt
    by_cases h : (y (0 : Fin 2)).val < 16
    · have hg : (y (1 : Fin 2)).val / 128 < 4 := by omega
      have key : ∀ (c : ℕ) (ib : ∀ a, (![0, c] : Fin 2 → ℕ) a + S16x128.size a ≤ S2064x512.size a), c = 128 * ((y (1 : Fin 2)).val / 128) →
          y ∈ (Rect.unit (s := S2064x512) ![0, c] S16x128.size ib).set := fun c ib hc => Rect.mem_set_unit.mpr fun a => by
        match a with
        | ⟨0, _⟩ => exact ⟨Nat.zero_le _, by show (y (0 : Fin 2)).val < 0 + 16; omega⟩
        | ⟨1, _⟩ => exact ⟨by show c ≤ (y (1 : Fin 2)).val; omega, by show (y (1 : Fin 2)).val < c + 128; omega⟩
      have hg' : (y (1 : Fin 2)).val / 128 = 3 ∨ (y (1 : Fin 2)).val / 128 = 2 ∨ (y (1 : Fin 2)).val / 128 = 1 ∨ (y (1 : Fin 2)).val / 128 = 0 := by omega
      rcases hg' with hg' | hg' | hg' | hg'
      · refine ⟨_, List.mem_append_right _ (List.mem_cons_self), key 384 inb_S2064x512_S16x128_0_384 (by omega)⟩
      · refine ⟨_, List.mem_append_right _ (List.mem_cons_of_mem _ (List.mem_cons_self)), key 256 inb_S2064x512_S16x128_0_256 (by omega)⟩
      · refine ⟨_, List.mem_append_right _ (List.mem_cons_of_mem _ (List.mem_cons_of_mem _ (List.mem_cons_self))), key 128 inb_S2064x512_S16x128_0_128 (by omega)⟩
      · refine ⟨_, List.mem_append_right _ (List.mem_cons_of_mem _ (List.mem_cons_of_mem _ (List.mem_cons_of_mem _ (List.mem_cons_self)))), key 0 inb_S2064x512_S16x128_0_0 (by omega)⟩
    · have hlt : ((y (0 : Fin 2)).val - 16) / 256 < k0_t1_loop.trips := lt_of_lt_of_le (show _ < 8 by omega) (by decide)
      have key : ∀ (off : Fin 2 → ℕ) (c : ℕ) (ib : ∀ a, off a + S256x128.size a ≤ S2064x512.size a),
          off = ![16 + 256 * (((y (0 : Fin 2)).val - 16) / 256), c] → c = 128 * ((y (1 : Fin 2)).val / 128) →
          y ∈ (Rect.unit (s := S2064x512) off S256x128.size ib).set := fun off c ib ho hc => Rect.mem_set_unit.mpr fun a => by
        subst ho
        match a with
        | ⟨0, _⟩ => exact ⟨by show 16 + 256 * (((y (0 : Fin 2)).val - 16) / 256) ≤ (y (0 : Fin 2)).val; omega, by show (y (0 : Fin 2)).val < 16 + 256 * (((y (0 : Fin 2)).val - 16) / 256) + 256; omega⟩
        | ⟨1, _⟩ => exact ⟨by show c ≤ (y (1 : Fin 2)).val; omega, by show (y (1 : Fin 2)).val < c + 128; omega⟩
      have hg' : (y (1 : Fin 2)).val / 128 = 3 ∨ (y (1 : Fin 2)).val / 128 = 2 ∨ (y (1 : Fin 2)).val / 128 = 1 ∨ (y (1 : Fin 2)).val / 128 = 0 := by omega
      have hm := fun p => (mem_outsTo (lamOf (arg5.view.read (Elt F) X5) (arg6.view.read (Elt F) X6) (arg7.view.read (Elt F) X7) (arg8.view.read (Elt F) X8)) k0_pay251 k0_pay252 (arg2.view.read (Elt F) X2) (arg3.view.read (Elt F) X3) (arg11.view.read (Elt F) (arg11.view.writes (Elt F) f11 (bodyRun.sl.H11_36 arg4 X4))) (arg9.view.read (Elt F) X9) p 8 le_rfl).mpr
      rcases hg' with hg' | hg' | hg' | hg'
      · refine ⟨_, List.mem_append_left _ (hm _ ⟨⟨_, hlt⟩, (show _ < 8 by dsimp only; omega), List.mem_cons_self⟩), key (k0_off4 ⟨_, hlt⟩) 384 (k0_off4_inb ⟨_, hlt⟩) (off4_eq ⟨_, hlt⟩) (by omega)⟩
      · refine ⟨_, List.mem_append_left _ (hm _ ⟨⟨_, hlt⟩, (show _ < 8 by dsimp only; omega), List.mem_cons_of_mem _ (List.mem_cons_self)⟩), key (k0_off3 ⟨_, hlt⟩) 256 (k0_off3_inb ⟨_, hlt⟩) (off3_eq ⟨_, hlt⟩) (by omega)⟩
      · refine ⟨_, List.mem_append_left _ (hm _ ⟨⟨_, hlt⟩, (show _ < 8 by dsimp only; omega), List.mem_cons_of_mem _ (List.mem_cons_of_mem _ (List.mem_cons_self))⟩), key (k0_off2 ⟨_, hlt⟩) 128 (k0_off2_inb ⟨_, hlt⟩) (off2_eq ⟨_, hlt⟩) (by omega)⟩
      · refine ⟨_, List.mem_append_left _ (hm _ ⟨⟨_, hlt⟩, (show _ < 8 by dsimp only; omega), List.mem_cons_of_mem _ (List.mem_cons_of_mem _ (List.mem_cons_of_mem _ (List.mem_cons_self)))⟩), key (k0_off1 ⟨_, hlt⟩) 0 (k0_off1_inb ⟨_, hlt⟩) (off1_eq ⟨_, hlt⟩) (by omega)⟩

end

end Cert.KernelIdeal.Gen
-- ==== Proof.Hand.Run.lean ====
/- The pipeline's proof data, the body obligation, and the run of the whole program. -/
module

public import proofs.«01_k».proof.Proof.Hand.Block

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The output block off the point's blocks. -/
def outAt (x2 : S2064x512.Idx → Elt F .bf16) (x3 : S2064x512.Idx → Elt F .bf16) (x4 : S2064x512.Idx → Elt F .bf16) (x5 : S1x64.Idx → Elt F .f32) (x6 : S1x64.Idx → Elt F .f32) (x7 : S1x64.Idx → Elt F .f32) (x8 : S1x64.Idx → Elt F .f32) (x9 : S1x128.Idx → Elt F .f32) : S2064x512.Idx → Elt F .bf16 :=
  outBlk (lamOf x5 x6 x7 x8) k0_pay251 k0_pay252 x2 x3 x4 x9

section
variable (𝒱 : Variants) (c : Dev nD) (bd : Option 𝒱.V) (i : grid0.Coords)
  (arg2 : Memref sig .tc .vmem S2064x512 .bf16) (harg2 : arg2.IsWhole)
  (arg3 : Memref sig .tc .vmem S2064x512 .bf16) (harg3 : arg3.IsWhole)
  (arg4 : Memref sig .tc .vmem S2064x512 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S1x128 .f32) (harg9 : arg9.IsWhole)
  (arg10 : Memref sig .tc .vmem S2064x512 .bf16) (harg10 : arg10.IsWhole)
  (arg11 : Memref sig .tc .vmem S4x9x128x256 .bf16) (harg11 : arg11.IsWhole)
  (arg12 : Memref sig .tc .vmem S2x4x256x512 .f32) (harg12 : arg12.IsWhole)
  (arg13 : Memref sig .tc .vmem S4x128x512 .f32) (harg13 : arg13.IsWhole)

/-- One point's body on the memrefs it is called with. -/
theorem bodyOwns (E : Set ℕ) (x2 : S2064x512.Idx → Elt F .bf16) (x3 : S2064x512.Idx → Elt F .bf16) (x4 : S2064x512.Idx → Elt F .bf16) (x5 : S1x64.Idx → Elt F .f32) (x6 : S1x64.Idx → Elt F .f32) (x7 : S1x64.Idx → Elt F .f32) (x8 : S1x64.Idx → Elt F .f32) (x9 : S1x128.Idx → Elt F .f32) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) : sProp 𝕄G)
      ⊢ wp frame (wpE (defs₀ (F := F)) 𝒱 (c : Thread nD τ) bd) E (cc0_diff_attention (F := F) i arg2 harg2 arg3 harg3 arg4 harg4 arg5 harg5 arg6 harg6 arg7 harg7 arg8 harg8 arg9 harg9 arg10 harg10 arg11 harg11 arg12 harg12 arg13 harg13)
        (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (outAt x2 x3 x4 x5 x6 x7 x8 x9) ∗ (∃ d, owns (c : Thread nD τ) arg11 fullShare d) ∗ (∃ d, owns (c : Thread nD τ) arg12 fullShare d) ∗ (∃ d, owns (c : Thread nD τ) arg13 fullShare d))) := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩⟩
  iapply (wp_wand_r Idealize.ShloMosaic.frame (wpE (defs₀ (F := F)) 𝒱 (c : Thread nD τ) bd) E)
  isplitl [H2 H3 H4 H5 H6 H7 H8 H9 H10 H11 H12 H13]
  · iapply ((bodyRun (F := F) 𝒱 c bd i arg2 harg2 arg3 harg3 arg4 harg4 arg5 harg5 arg6 harg6 arg7 harg7 arg8 harg8 arg9 harg9 arg10 harg10 arg11 harg11 arg12 harg12 arg13 harg13 f2 f3 f4 f5 f6 f7 f8 f9).2 E f10 f11 f12 f13)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %y ⟨H2, H3, H4, H5, H6, H7, H8, H9, H10, H11, H12, H13⟩
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; swap; · iexact H10
      ipureintro
      rw [bodyRun_read]
      rw [hf2, hf3, hf4, hf5, hf6, hf7, hf8, hf9]; rfl
    isplitl [H11]
    · icases H11 with ⟨%g11, H11⟩; iexists _, g11; isplitr; swap; · iexact H11
      ipureintro; rfl
    isplitl [H12]
    · icases H12 with ⟨%g12, H12⟩; iexists _, g12; isplitr; swap; · iexact H12
      ipureintro; rfl
    icases H13 with ⟨%g13, H13⟩; iexists _, g13; isplitr; swap; · iexact H13
    ipureintro; rfl
end

abbrev 𝒱₀ : Variants := Variants.none

variable (m : (ℓ : Loc nD τ sig) → Buf (Elt F) ℓ) (ρ : Dev nD → PrngReg)

/-- What the body leaves in the output block at a point. -/
def outsAt (c : Dev nD) (t : Fin cfg0.N) : S2064x512.Idx → Elt F .bf16 :=
  outAt (F := F) (X0_0 m c t) (X0_1 m c t) (X0_2 m c t) (iblk m c 3 t) (iblk m c 4 t) (iblk m c 5 t) (iblk m c 6 t) (iblk m c 7 t)

/-- The arrays as the region finds them, each input's buffer at its block after the body and the output's at `outsAt`. -/
def dats (_ : Fin 1) (c : Dev nD) : Pipeline.Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outsAt m c t
  Φ _ := Pipeline.ΦA spec0 c
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outsAt m c t := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The scratch buffers and the register, the buffers as memrefs. -/
theorem scratch_owns (c : Dev nD) : (Pipeline.ΦA spec0 c : sProp 𝕄G) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ ∃ r : PrngReg, prngReg c r) := by
  unfold Pipeline.ΦA
  rw [scopedRest0_eq]
  simp only [owns_whole]

set_option maxHeartbeats 1000000 in
theorem body_obligation (c : Dev nD) : Pipeline.BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7, after0_8]
  unfold outsAt
  rw [scratch_owns]
  iintro ⟨⟨⟨⟨%g0, S0⟩, ⟨%g1, S1⟩, ⟨%g2, S2⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_wand_r Idealize.ShloMosaic.frame (wpE (defs₀ (F := F)) 𝒱₀ (c : Thread nD τ) none) Set.univ)
  isplitl [H0 H1 H2 H3 H4 H5 H6 H7 H8 S0 S1 S2]
  · iapply (bodyOwns (F := F) 𝒱₀ c none (grid0.coords t) _ _ _ _ _ _ _ _ _ _ _ _ _ _ _ _ _ _ _ _ _ _ _ _ Set.univ (X0_0 m c t) (X0_1 m c t) (X0_2 m c t) (iblk m c 3 t) (iblk m c 4 t) (iblk m c 5 t) (iblk m c 6 t) (iblk m c 7 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [S0]; · iexists _; iexact S0
    isplitl [S1]; · iexists _; iexact S1
    iexists _; iexact S2
  · iintro %y ⟨H0, H1, H2, H3, H4, H5, H6, H7, H8, ⟨%k0, S0⟩, ⟨%k1, S1⟩, ⟨%k2, S2⟩⟩
    isplitl [S0 S1 S2 HR]
    · isplitr [HR]; swap; · iexact HR
      isplitl [S0]; · iexists _; iexact S0
      isplitl [S1]; · iexists _; iexact S1
      iexists _; iexact S2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

set_option backward.isDefEq.respectTransparency.types false in
/-- Every execution of the program ends, with every array of the pipeline at what the proof data says and every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl) (hΦ := fun _ _ => rfl)

end Cert.KernelIdeal.Gen
-- ==== Proof.Hand.Frames.lean ====
/- The frames of the kernel's two programs, from the one run. -/
module

public import proofs.«01_k».proof.Defs
public import proofs.«01_k».proof.Proof.Gen.Kernel
public import proofs.«01_k».proof.Proof.Hand.Run
public import Idealize.ShloMosaic.PureOps.BitExact

@[expose] public section

set_option maxRecDepth 65536

noncomputable section

namespace Cert.Proof

open Idealize.ShloMosaic Idealize.SL.Sem

theorem frame_kernelIdeal : Cert.quiescent_KernelIdeal (hKernelIdeal := Cert.KernelIdeal.Gen.facts) := fun m ρ _ =>
  θ_run_with_sems (Cert.KernelIdeal.Gen.frame_of m ρ (Cert.KernelIdeal.Gen.dats m) fun _ _ => rfl) (Cert.KernelIdeal.Gen.run_main (F := Ideal) m ρ)

/-- At the machine's own floats a named constant is its bits. -/
local instance : Named Bits := ⟨fun _ _ bits => FloatOps.ofBits bits⟩

local instance : Cert.Kernel.Facts := Cert.Kernel.Gen.facts
local instance : Cert.KernelIdeal.Facts := Cert.KernelIdeal.Gen.facts

theorem main_eq : Cert.Kernel.main (F := Bits) = Cert.KernelIdeal.main (F := Bits) := rfl
theorem defs₀_eq : Cert.Kernel.defs₀ (F := Bits) = Cert.KernelIdeal.defs₀ (F := Bits) := by
  unfold Cert.Kernel.defs₀ Cert.KernelIdeal.defs₀
  congr 1
  funext l x
  match l with
  | ⟨0, _⟩ => exact rfl
theorem defs_eq : Cert.Kernel.defs (F := Bits) = Cert.KernelIdeal.defs (F := Bits) := by
  unfold Cert.Kernel.defs Cert.KernelIdeal.defs
  exact congrArg _ defs₀_eq

theorem frame_kernel : Cert.quiescent_Kernel (hKernel := Cert.Kernel.Gen.facts) := by
  intro m ρ _
  have h := θ_run_with_sems (Cert.KernelIdeal.Gen.frame_of (F := Bits) m ρ (Cert.KernelIdeal.Gen.dats m) fun _ _ => rfl) (Cert.KernelIdeal.Gen.run_main (F := Bits) m ρ)
  rw [← defs_eq, ← main_eq] at h
  exact h

end Cert.Proof
-- ==== Proof.Hand.Pre.lean ====
/- The claims' precondition: every argument but the normalization's weights holds real numbers. -/
module

public import proofs.«01_k».proof.Defs
public import Idealize.ShloMosaic.Lib.ReduceAll
public import Idealize.ShloMosaic.Lib.Pointwise

@[expose] public section

set_option maxRecDepth 16384

noncomputable section

namespace Cert.Pre_finite

open Idealize.ShloMosaic

theorem facts : Facts where
  bcast_S_S16x2064x4x2x64 := by decide
  reducesTo_S16x2064x4x2x64_S_d0_1_2_3_4 := by decide
  h_S_ := by decide
  bcast_S_S16x2064x4x128 := by decide
  reducesTo_S16x2064x4x128_S_d0_1_2_3 := by decide
  bcast_S_S64 := by decide
  reducesTo_S64_S_d0 := by decide

instance : Subsingleton S_.Idx := ⟨fun a b => funext fun i => i.elim0⟩

theorem pinf : Ideal.ofBits FTy.f32 0x7F800000#32 = ⊤ := by
  simp [Ideal.ofBits, Ideal.ieee]

/-- A number whose absolute value lies below infinity is a real. -/
theorem real_of_abs (x : EReal) (h : Ideal.cmp .olt (max x (-x)) (Ideal.ofBits FTy.f32 0x7F800000#32) = 1#1) :
    ∃ r : ℝ, x = r := by
  rw [pinf] at h
  have h' : max x (-x) < ⊤ := by
    by_contra hn
    simp [Ideal.cmp, hn] at h
  refine ⟨x.toReal, (EReal.coe_toReal ?_ ?_).symm⟩
  · exact ne_of_lt ((le_max_left _ _).trans_lt h')
  · rintro rfl
    exact absurd ((le_max_right _ _).trans_lt h') (by simp)

theorem real_of_all {s : Shape} {axes : List (Fin s.rank)} (x y : FVec Ideal s .f32) (init : IVec S_ 1)
    (h : s.ReducesTo axes S_) (hu : 0 < S_.numel) (hy : ∀ i, y i = Ideal.ofBits FTy.f32 0x7F800000#32)
    (e : Host.reduce IntOp.andi (cmpf .olt (Host.absf x) y) init h hu ix0 = 1#1) (i : s.Idx) : ∃ r : ℝ, (x i : EReal) = r := by
  have e' : Ideal.cmp .olt (max (x i : EReal) (-(x i : EReal))) (y i) = 1#1 := Host.reduce_andi_all _ init h hu ix0 e i
  rw [hy i] at e'
  exact real_of_abs (x i) e'

theorem andi_one (a b : BitVec 1) (h : IntOp.andi a b = 1#1) : a = 1#1 ∧ b = 1#1 := by
  revert a b; decide

theorem bcast_inf {s : Shape} (h : S_.BroadcastsInDim s (![] : Fin 0 → Fin s.rank)) (i : s.Idx) :
    broadcastInDim s (![] : Fin 0 → Fin s.rank) h (constant (F := Ideal) S_ .f32 0x7F800000#32) i = Ideal.ofBits FTy.f32 0x7F800000#32 := rfl

variable [hF : Facts]

theorem reals (a0 a1 : FVec Ideal S16x2064x4x2x64 .f32) (a2 : FVec Ideal S16x2064x4x128 .f32) (a3 a4 a5 a6 : FVec Ideal S64 .f32) (a7 : FVec Ideal S128 .f32)
    (e : fn (F := Ideal) a0 a1 a2 a3 a4 a5 a6 a7 = fun _ => 1#1) :
    (∀ i, ∃ r : ℝ, (a0 i : EReal) = r) ∧ (∀ i, ∃ r : ℝ, (a1 i : EReal) = r) ∧ (∀ i, ∃ r : ℝ, (a2 i : EReal) = r) ∧ (∀ i, ∃ r : ℝ, (a3 i : EReal) = r)
      ∧ (∀ i, ∃ r : ℝ, (a4 i : EReal) = r) ∧ (∀ i, ∃ r : ℝ, (a5 i : EReal) = r) ∧ (∀ i, ∃ r : ℝ, (a6 i : EReal) = r) := by
  have e0 := congrFun e ix0
  unfold fn fn_part1 at e0
  obtain ⟨e0, e6⟩ := andi_one _ _ e0
  obtain ⟨e0, e5⟩ := andi_one _ _ e0
  obtain ⟨e0, e4⟩ := andi_one _ _ e0
  obtain ⟨e0, e3⟩ := andi_one _ _ e0
  obtain ⟨e0, e2⟩ := andi_one _ _ e0
  obtain ⟨e0, e1⟩ := andi_one _ _ e0
  exact ⟨real_of_all _ _ _ _ _ (bcast_inf _) e0, real_of_all _ _ _ _ _ (bcast_inf _) e1, real_of_all _ _ _ _ _ (bcast_inf _) e2,
    real_of_all _ _ _ _ _ (bcast_inf _) e3, real_of_all _ _ _ _ _ (bcast_inf _) e4, real_of_all _ _ _ _ _ (bcast_inf _) e5, real_of_all _ _ _ _ _ (bcast_inf _) e6⟩

end Cert.Pre_finite

end
-- ==== Proof.Hand.Ops.lean ====
/- The kernel's tile steps over the extended reals, read at an index. -/
module

public import proofs.«01_k».proof.Proof.Hand.Block
public import Idealize.ShloMosaic.Lib.Pointwise

@[expose] public section

set_option maxRecDepth 16384

noncomputable section

namespace Cert.KernelIdeal.Gen

open Idealize.ShloMosaic

theorem ninf : Ideal.ofBits FTy.f32 4286578688#32 = ⊥ := by
  simp [Ideal.ofBits, Ideal.ieee]

/-- The masks' comparison of a key with a query's place. -/
theorem le_word (j l : ℕ) (hj : j < 256) (hl : l < 512) (z : BitVec 32) (hz : z = 0#32) :
    IntOp.cmpi CmpIPredicate.sle (BitVec.ofNat 32 j) (IntOp.addi (IntOp.andi (BitVec.ofNat 32 l) 255#32) z)
      = if j ≤ l % 256 then 1#1 else 0#1 := by
  subst hz
  have h : IntOp.andi (BitVec.ofNat 32 l) 255#32 = BitVec.ofNat 32 (l % 256) :=
    (by decide +kernel : ∀ l : Fin 512, IntOp.andi (BitVec.ofNat 32 l.val) 255#32 = BitVec.ofNat 32 (l.val % 256)) ⟨l, hl⟩
  rw [h]
  have hx : l % 256 < 256 := Nat.mod_lt _ (by decide)
  generalize l % 256 = x at hx
  unfold IntOp.cmpi IntOp.addi
  simp only [BitVec.add_zero, BitVec.sle]
  rw [BitVec.toInt_eq_toNat_of_lt (by simp; omega), BitVec.toInt_eq_toNat_of_lt (by simp; omega)]
  simp only [BitVec.toNat_ofNat]
  rw [Nat.mod_eq_of_lt (by omega), Nat.mod_eq_of_lt (by omega)]
  by_cases hjx : j ≤ x <;> simp [hjx]

/-- A tile's scores. -/
theorem sc_at (q : FVec Ideal S512x128 .bf16) (kt : Vec Ideal S256x128 .bf16) (j : Fin 256) (l : Fin 512) :
    sc (F := Ideal) q kt (ix4 0 0 j l) = ∑ d : Fin 128, kt (ix2 j d) * q (ix2 l d) := by
  pointwise [sc, k0_pay2]

/-- The first keys' scores. -/
theorem sc0_at (q : FVec Ideal S512x128 .bf16) (kt : Vec Ideal S16x128 .bf16) (j : Fin 16) (l : Fin 512) :
    k0_pay154 (F := Ideal) q kt (ix2 j l) = ∑ d : Fin 128, kt (ix2 j d) * q (ix2 l d) := by
  pointwise [k0_pay154]

theorem sM_at (m : FVec Ideal S1x512 .f32) (s : Vec Ideal S1x1x256x512 .f32) (l : Fin 512) :
    sM (F := Ideal) m s (ix2 0 l) = max (m (ix2 0 l)) (Finset.univ.sup fun j : Fin 256 => s (ix4 0 0 j l)) := by
  pointwise [sM, k0_pay8, k0_pay7]
  rw [ninf]; rfl

theorem sL_at (m x : FVec Ideal S1x512 .f32) (s : Vec Ideal S1x1x256x512 .f32) (l : Fin 512) :
    sL (F := Ideal) m x s (ix2 0 l) = Ideal.exp2 (m (ix2 0 l) - sM (F := Ideal) m s (ix2 0 l)) * x (ix2 0 l)
      + ∑ j : Fin 256, Ideal.exp2 (s (ix4 0 0 j l) - sM (F := Ideal) m s (ix2 0 l)) := by
  unfold sL k0_pay11 k0_pay9 k0_pay10
  change _ = Ideal.exp2 (m (ix2 0 l) - k0_pay8 (F := Ideal) m s (ix2 0 l)) * x (ix2 0 l)
      + ∑ j : Fin 256, Ideal.exp2 (s (ix4 0 0 j l) - k0_pay8 (F := Ideal) m s (ix2 0 l))
  generalize k0_pay8 (F := Ideal) m s = m'
  pointwise [k0_pay7]
  rfl

theorem sA_at (m : FVec Ideal S1x512 .f32) (s : Vec Ideal S1x1x256x512 .f32) (a : Vec Ideal S1x128x512 .f32)
    (vt : Vec Ideal S1x1x128x256 .bf16) (d : Fin 128) (l : Fin 512) :
    sA (F := Ideal) m s a vt (ix3 0 d l) = Ideal.exp2 (m (ix2 0 l) - sM (F := Ideal) m s (ix2 0 l)) * a (ix3 0 d l)
      + ∑ j : Fin 256, vt (ix4 0 0 d j) * Ideal.exp2 (s (ix4 0 0 j l) - sM (F := Ideal) m s (ix2 0 l)) := by
  unfold sA k0_pay12 k0_pay9 k0_pay10
  change _ = Ideal.exp2 (m (ix2 0 l) - k0_pay8 (F := Ideal) m s (ix2 0 l)) * a (ix3 0 d l)
      + ∑ j : Fin 256, vt (ix4 0 0 d j) * Ideal.exp2 (s (ix4 0 0 j l) - k0_pay8 (F := Ideal) m s (ix2 0 l))
  generalize k0_pay8 (F := Ideal) m s = m'
  pointwise [k0_pay7]
  rfl

theorem z_at (d : Fin 128) (l : Fin 512) : k0_pay164 (F := Ideal) (ix3 0 d l) = 0 := by
  pointwise [k0_pay164]

theorem m0_at (l : Fin 512) : k0_pay251 (F := Ideal) (ix2 0 l) = ⊥ := by
  rfl

theorem l0_at (l : Fin 512) : k0_pay252 (F := Ideal) (ix2 0 l) = 0 := by
  pointwise [k0_pay252]

theorem diagMask_at (j : Fin 256) (l : Fin 512) : diagMask (ix2 j l) = if j.val ≤ l.val % 256 then 1#1 else 0#1 := by
  pointwise [diagMask, k0_pay178]
  exact le_word j.val l.val j.isLt l.isLt _ (by decide)

theorem slt_word (d : Fin 128) : IntOp.cmpi CmpIPredicate.slt (BitVec.ofNat 32 d.val) 64#32 = if d.val < 64 then 1#1 else 0#1 :=
  (by decide +kernel : ∀ d : Fin 128, IntOp.cmpi CmpIPredicate.slt (BitVec.ofNat 32 d.val) 64#32 = if d.val < 64 then 1#1 else 0#1) d
theorem sge_word (d : Fin 128) : IntOp.cmpi CmpIPredicate.sge (BitVec.ofNat 32 d.val) 64#32 = if d.val < 64 then 0#1 else 1#1 :=
  (by decide +kernel : ∀ d : Fin 128, IntOp.cmpi CmpIPredicate.sge (BitVec.ofNat 32 d.val) 64#32 = if d.val < 64 then 0#1 else 1#1) d

/-- A tile of queries twice over, once with the second map's half zero and once with the first's. -/
theorem q2_at (x : Vec Ideal S256x128 .bf16) (l : Fin 512) (d : Fin 128) :
    k0_pay147 (F := Ideal) x (ix2 l d) = if (l.val < 256 ↔ d.val < 64) then x (ix2 ⟨l.val % 256, Nat.mod_lt _ (by decide)⟩ d) else 0 := by
  pointwise [k0_pay147, slt_word, sge_word]
  by_cases hl : l.val < 256 <;> by_cases hd : d.val < 64 <;> simp [hl, hd, Scalar.select]
  · congr 2; exact Fin.ext (show l.val = l.val % 256 by omega)
  · congr 2; exact Fin.ext (show l.val - 256 = l.val % 256 by omega)

theorem q2'_eq (x : Vec Ideal S256x128 .bf16) : k0_pay256 (F := Ideal) x = k0_pay147 x := rfl
theorem sc0'_eq (q : FVec Ideal S512x128 .bf16) (kt : Vec Ideal S16x128 .bf16) : k0_pay260 (F := Ideal) q kt = k0_pay154 q kt := rfl

theorem v_at (Vv : S2064x512.Idx → Elt Ideal .bf16) (c j : ℕ) (d : Fin 128) (k : Fin 256) :
    vT (F := Ideal) Vv c j (ix4 0 0 d k) = tileOf (Val := Elt Ideal) Vv ![16 + 256 * j, c] S256x128.size (ix2 k d) := by
  unfold vT
  generalize tileOf (Val := Elt Ideal) Vv ![16 + 256 * j, c] S256x128.size = T
  pointwise [k0_pay211]

theorem v0_at (T : Vec Ideal S16x128 .bf16) (d : Fin 128) (k : Fin 16) :
    k0_pay208 (F := Ideal) T (ix4 0 0 d (Fin.castLE (by decide) k : Fin 128)) = T (ix2 k d) := by
  pointwise [k0_pay208]
  exact dif_pos k.isLt

/-- A row divided by the root of its mean square, and weighted. -/
def nrm (y : Fin 128 → EReal) (g : EReal) (d : Fin 128) : EReal :=
  y d * Ideal.rsqrt (Ideal.div (∑ x : Fin 128, y x * y x) (Ideal.ofBits FTy.f32 0x43000000#32) + Ideal.ofBits FTy.f32 0x3727C5AC#32) * g
    * Ideal.ofBits FTy.f32 0x3F4CCCCD#32

theorem fin_at (lam : FVec Ideal S1x1 .f32) (P : FVec Ideal S256x512 .bf16) (L : FVec Ideal S1x512 .f32) (P0 : FVec Ideal S16x512 .bf16)
    (A : FVec Ideal S128x512 .f32) (V : FVec Ideal S128x256 .bf16) (V0 : Vec Ideal S1x1x128x16 .bf16) (w : Vec Ideal S1x128 .f32)
    (i : Fin 256) (d : Fin 128) :
    k0_pay189 (F := Ideal) lam P L P0 A V V0 w (ix2 i d) = nrm (fun d =>
      Ideal.div (A (ix2 d ⟨i.val, by omega⟩) + ∑ j : Fin 256, V (ix2 d j) * P (ix2 j ⟨i.val, by omega⟩) + ∑ j : Fin 16, V0 (ix4 0 0 d j) * P0 (ix2 j ⟨i.val, by omega⟩)) (L (ix2 0 ⟨i.val, by omega⟩))
      - lam (ix2 0 0) * Ideal.div (A (ix2 d ⟨256 + i.val, by omega⟩) + ∑ j : Fin 256, V (ix2 d j) * P (ix2 j ⟨256 + i.val, by omega⟩) + ∑ j : Fin 16, V0 (ix4 0 0 d j) * P0 (ix2 j ⟨256 + i.val, by omega⟩)) (L (ix2 0 ⟨256 + i.val, by omega⟩)))
      (w (ix2 0 d)) d := by
  unfold nrm
  pointwise [k0_pay189]

theorem fst_at (lam : FVec Ideal S1x1 .f32) (L : FVec Ideal S1x512 .f32) (P0 : FVec Ideal S16x512 .bf16)
    (V0 : FVec Ideal S128x16 .bf16) (w : Vec Ideal S1x128 .f32) (i : Fin 16) (d : Fin 128) :
    k0_pay271 (F := Ideal) lam L P0 V0 w (ix2 i d) = nrm (fun d =>
      Ideal.div (∑ j : Fin 16, V0 (ix2 d j) * P0 (ix2 j ⟨i.val, by omega⟩)) (L (ix2 0 ⟨i.val, by omega⟩))
      - lam (ix2 0 0) * Ideal.div (∑ j : Fin 16, V0 (ix2 d j) * P0 (ix2 j ⟨256 + i.val, by omega⟩)) (L (ix2 0 ⟨256 + i.val, by omega⟩)))
      (w (ix2 0 d)) d := by
  unfold nrm
  pointwise [k0_pay271]

/-- The diagonal tile's scores, those of later keys at the bottom. -/
theorem msk_at (s : Vec Ideal S1x1x256x512 .f32) (j : Fin 256) (l : Fin 512) :
    k0_pay179 (F := Ideal) diagMask s (ix2 j l) = if j.val ≤ l.val % 256 then s (ix4 0 0 j l) else ⊥ := by
  pointwise [k0_pay179]
  rw [diagMask_at]
  by_cases h : j.val ≤ l.val % 256 <;> simp [h, Scalar.select]
  rfl

theorem msk0_at (s : FVec Ideal S16x512 .f32) (j : Fin 16) (l : Fin 512) :
    k0_pay265 (F := Ideal) s (ix2 j l) = if j.val ≤ l.val % 256 then s (ix2 j l) else ⊥ := by
  pointwise [k0_pay265]
  rw [le_word j.val l.val (by omega) l.isLt _ rfl]
  by_cases h : j.val ≤ l.val % 256 <;> simp [h, Scalar.select]
  rfl

theorem fM_at (s0 : FVec Ideal S16x512 .f32) (m : FVec Ideal S1x512 .f32) (s : Vec Ideal S1x1x256x512 .f32) (l : Fin 512) :
    k0_pay180 (F := Ideal) s0 m diagMask s (ix2 0 l) = max (max (m (ix2 0 l)) (Finset.univ.sup fun j : Fin 256 => k0_pay179 (F := Ideal) diagMask s (ix2 j l)))
      (Finset.univ.sup fun j : Fin 16 => s0 (ix2 j l)) := by
  unfold k0_pay180
  generalize k0_pay179 (F := Ideal) diagMask s = s'
  pointwise
  rw [ninf]; rfl

theorem fL_at (s0 : FVec Ideal S16x512 .f32) (m x : FVec Ideal S1x512 .f32) (s : Vec Ideal S1x1x256x512 .f32) (l : Fin 512) :
    k0_pay185 (F := Ideal) s0 m x diagMask s (ix2 0 l) = Ideal.exp2 (m (ix2 0 l) - k0_pay180 (F := Ideal) s0 m diagMask s (ix2 0 l)) * x (ix2 0 l)
      + ∑ j : Fin 256, Ideal.exp2 (k0_pay179 (F := Ideal) diagMask s (ix2 j l) - k0_pay180 (F := Ideal) s0 m diagMask s (ix2 0 l))
      + ∑ j : Fin 16, Ideal.exp2 (s0 (ix2 j l) - k0_pay180 (F := Ideal) s0 m diagMask s (ix2 0 l)) := by
  unfold k0_pay185 k0_pay181 k0_pay182 k0_pay184
  generalize k0_pay180 (F := Ideal) s0 m diagMask s = m'
  generalize k0_pay179 (F := Ideal) diagMask s = s'
  pointwise
  rfl

theorem fA_at (s0 : FVec Ideal S16x512 .f32) (m : FVec Ideal S1x512 .f32) (s : Vec Ideal S1x1x256x512 .f32) (a : Vec Ideal S1x128x512 .f32) (d : Fin 128) (l : Fin 512) :
    k0_pay187 (F := Ideal) s0 m diagMask s a (ix2 d l) = Ideal.exp2 (m (ix2 0 l) - k0_pay180 (F := Ideal) s0 m diagMask s (ix2 0 l)) * a (ix3 0 d l) := by
  unfold k0_pay187 k0_pay181
  generalize k0_pay180 (F := Ideal) s0 m diagMask s = m'
  pointwise
  rfl

theorem fP_at (s0 : FVec Ideal S16x512 .f32) (m : FVec Ideal S1x512 .f32) (s : Vec Ideal S1x1x256x512 .f32) (j : Fin 256) (l : Fin 512) :
    k0_pay183 (F := Ideal) s0 m diagMask s (ix2 j l) = Ideal.exp2 (k0_pay179 (F := Ideal) diagMask s (ix2 j l) - k0_pay180 (F := Ideal) s0 m diagMask s (ix2 0 l)) := by
  unfold k0_pay183 k0_pay182
  generalize k0_pay180 (F := Ideal) s0 m diagMask s = m'
  generalize k0_pay179 (F := Ideal) diagMask s = s'
  pointwise
  rfl

theorem fP0_at (s0 : FVec Ideal S16x512 .f32) (m : FVec Ideal S1x512 .f32) (s : Vec Ideal S1x1x256x512 .f32) (j : Fin 16) (l : Fin 512) :
    k0_pay186 (F := Ideal) s0 m diagMask s (ix2 j l) = Ideal.exp2 (s0 (ix2 j l) - k0_pay180 (F := Ideal) s0 m diagMask s (ix2 0 l)) := by
  unfold k0_pay186 k0_pay184
  generalize k0_pay180 (F := Ideal) s0 m diagMask s = m'
  pointwise
  rfl

theorem fV_at (v : Vec Ideal S1x1x128x256 .bf16) (d : Fin 128) (j : Fin 256) : k0_pay188 (F := Ideal) v (ix2 d j) = v (ix4 0 0 d j) := by
  pointwise [k0_pay188]

theorem gM_at (m : FVec Ideal S1x512 .f32) (s : FVec Ideal S16x512 .f32) (l : Fin 512) :
    k0_pay266 (F := Ideal) m s (ix2 0 l) = max (m (ix2 0 l)) (Finset.univ.sup fun j : Fin 16 => k0_pay265 (F := Ideal) s (ix2 j l)) := by
  unfold k0_pay266
  generalize k0_pay265 (F := Ideal) s = s'
  pointwise
  rw [ninf]; rfl

theorem gL_at (m x : FVec Ideal S1x512 .f32) (s : FVec Ideal S16x512 .f32) (l : Fin 512) :
    k0_pay268 (F := Ideal) m x s (ix2 0 l) = Ideal.exp2 (m (ix2 0 l) - k0_pay266 (F := Ideal) m s (ix2 0 l)) * x (ix2 0 l)
      + ∑ j : Fin 16, Ideal.exp2 (k0_pay265 (F := Ideal) s (ix2 j l) - k0_pay266 (F := Ideal) m s (ix2 0 l)) := by
  unfold k0_pay268 k0_pay267
  generalize k0_pay266 (F := Ideal) m s = m'
  generalize k0_pay265 (F := Ideal) s = s'
  pointwise
  rfl

theorem gP_at (m : FVec Ideal S1x512 .f32) (s : FVec Ideal S16x512 .f32) (j : Fin 16) (l : Fin 512) :
    k0_pay269 (F := Ideal) m s (ix2 j l) = Ideal.exp2 (k0_pay265 (F := Ideal) s (ix2 j l) - k0_pay266 (F := Ideal) m s (ix2 0 l)) := by
  unfold k0_pay269 k0_pay267
  generalize k0_pay266 (F := Ideal) m s = m'
  generalize k0_pay265 (F := Ideal) s = s'
  pointwise
  rfl

theorem gV_at (v : Vec Ideal S1x1x128x16 .bf16) (d : Fin 128) (j : Fin 16) : k0_pay270 (F := Ideal) v (ix2 d j) = v (ix4 0 0 d j) := by
  pointwise [k0_pay270]

theorem lam_at (a b c d : Vec Ideal S1x64 .f32) : k0_pay207 (F := Ideal) a b c d (ix2 0 0)
    = Ideal.exp (∑ k : Fin 64, a (ix2 0 k) * b (ix2 0 k)) - Ideal.exp (∑ k : Fin 64, c (ix2 0 k) * d (ix2 0 k)) + Ideal.ofBits FTy.f32 0x3E4CCCCD#32 := by
  pointwise [k0_pay207]

end Cert.KernelIdeal.Gen
-- ==== Proof.Hand.Soft.lean ====
/- Sums of powers of two taken piece by piece with a running maximum: what the extended reals give is the plain sum,
   scaled by the maximum so far. -/
module

public import Idealize.ShloMosaic.PureOps.Ideal
public import Mathlib.Data.EReal.Operations
public import Mathlib.Analysis.SpecialFunctions.Pow.Real

@[expose] public section

noncomputable section

namespace Cert.Soft

open Idealize.ShloMosaic

/-- Two to an extended real other than the top, as a real number. -/
def E2 (x : EReal) : ℝ := (Ideal.exp2 x).toReal

theorem E2_bot : E2 ⊥ = 0 := rfl
theorem E2_coe (r : ℝ) : E2 (r : EReal) = (2 : ℝ) ^ r := rfl

theorem exp2_sub (x : EReal) (hx : x ≠ ⊤) (M : ℝ) :
    Ideal.exp2 (x - (M : EReal)) = (((2 : ℝ) ^ (-M) * E2 x : ℝ) : EReal) := by
  induction x with
  | bot =>
    rw [show (⊥ : EReal) - (M : EReal) = ⊥ from rfl, E2_bot, mul_zero]; rfl
  | top => exact absurd rfl hx
  | coe r =>
    rw [← EReal.coe_sub, E2_coe, ← Real.rpow_add (by norm_num), neg_add_eq_sub]; rfl

/-- A running quantity `x` beside its running maximum `m`: the plain sum `S` scaled by the maximum, or nothing yet. -/
def St (m x : EReal) (S : ℝ) : Prop :=
  (m = ⊥ ∧ x = 0 ∧ S = 0) ∨ ∃ M : ℝ, m = M ∧ x = (((2 : ℝ) ^ (-M) * S : ℝ) : EReal)

theorem St.ne_top {m x : EReal} {S : ℝ} (h : St m x S) : m ≠ ⊤ := by
  rcases h with ⟨rfl, _⟩ | ⟨M, rfl, _⟩
  · exact bot_ne_top
  · exact EReal.coe_ne_top M

/-- The running quantity brought to a new maximum. -/
theorem St.scale {m x : EReal} {S : ℝ} (h : St m x S) (M' : ℝ) :
    Ideal.exp2 (m - (M' : EReal)) * x = (((2 : ℝ) ^ (-M') * S : ℝ) : EReal) := by
  rcases h with ⟨rfl, rfl, rfl⟩ | ⟨M, rfl, rfl⟩
  · rw [mul_zero, mul_zero]; rfl
  · rw [exp2_sub _ (EReal.coe_ne_top M), E2_coe, ← EReal.coe_mul]
    congr 1
    have : (2 : ℝ) ^ M * (2 : ℝ) ^ (-M) = 1 := by
      rw [← Real.rpow_add (by norm_num), add_neg_cancel, Real.rpow_zero]
    calc _ = (2 : ℝ) ^ (-M') * S * ((2 : ℝ) ^ M * (2 : ℝ) ^ (-M)) := by ring
      _ = _ := by rw [this, mul_one]

theorem coe_sum {n : ℕ} (f : Fin n → ℝ) : (∑ k, (f k : EReal)) = ((∑ k, f k : ℝ) : EReal) :=
  (map_sum (⟨⟨Real.toEReal, rfl⟩, EReal.coe_add⟩ : ℝ →+ EReal) f Finset.univ).symm

/-- A tile's weighted sum. -/
theorem sum_scale {n : ℕ} (s : Fin n → EReal) (hs : ∀ k, s k ≠ ⊤) (v : Fin n → ℝ) (M' : ℝ) :
    ∑ k, (v k : EReal) * Ideal.exp2 (s k - (M' : EReal)) = (((2 : ℝ) ^ (-M') * ∑ k, v k * E2 (s k) : ℝ) : EReal) := by
  rw [Finset.mul_sum, ← coe_sum]
  refine Finset.sum_congr rfl fun k _ => ?_
  rw [exp2_sub _ (hs k), ← EReal.coe_mul]
  congr 1; ring

theorem sum_scale_one {n : ℕ} (s : Fin n → EReal) (hs : ∀ k, s k ≠ ⊤) (M' : ℝ) :
    ∑ k, Ideal.exp2 (s k - (M' : EReal)) = (((2 : ℝ) ^ (-M') * ∑ k, E2 (s k) : ℝ) : EReal) := by
  rw [Finset.mul_sum, ← coe_sum]
  exact Finset.sum_congr rfl fun k _ => exp2_sub _ (hs k) M'

theorem fold_max_eq {n : ℕ} (s : Fin n → EReal) : (Finset.univ : Finset (Fin n)).fold max ⊥ s = Finset.univ.sup s := rfl

theorem sup_ne_top {n : ℕ} (s : Fin n → EReal) (hs : ∀ k, s k ≠ ⊤) : Finset.univ.sup s ≠ ⊤ := by
  apply ne_of_lt
  rw [Finset.sup_lt_iff (by exact bot_lt_top)]
  exact fun k _ => lt_of_le_of_ne le_top (hs k)

theorem le_sup {n : ℕ} (s : Fin n → EReal) (k : Fin n) : s k ≤ Finset.univ.sup s := Finset.le_sup (Finset.mem_univ k)

theorem exists_coe {x : EReal} (h : x ≠ ⊤) (h' : x ≠ ⊥) : ∃ M : ℝ, x = M := ⟨x.toReal, (EReal.coe_toReal h h').symm⟩

/-- The maximum after a tile with a score above the bottom is a real number. -/
theorem max_real {n : ℕ} (m : EReal) (hm : m ≠ ⊤) (s : Fin n → EReal) (hs : ∀ k, s k ≠ ⊤) (k : Fin n) (hk : s k ≠ ⊥) :
    ∃ M : ℝ, max m (Finset.univ.sup s) = M := by
  refine exists_coe ?_ ?_
  · rcases max_choice m (Finset.univ.sup s) with h | h <;> rw [h]
    · exact hm
    · exact sup_ne_top s hs
  · exact ne_of_gt (lt_of_lt_of_le (lt_of_le_of_ne bot_le (Ne.symm hk)) ((le_sup s k).trans (le_max_right _ _)))

/-- A tile added to a running quantity. -/
theorem St.add {m x : EReal} {S : ℝ} (h : St m x S) {n : ℕ} (s : Fin n → EReal) (hs : ∀ k, s k ≠ ⊤) (v : Fin n → ℝ)
    (m' : EReal) (hm : ∃ M : ℝ, m' = M) :
    St m' (Ideal.exp2 (m - m') * x + ∑ k, (v k : EReal) * Ideal.exp2 (s k - m')) (S + ∑ k, v k * E2 (s k)) := by
  obtain ⟨M, rfl⟩ := hm
  refine Or.inr ⟨M, rfl, ?_⟩
  rw [h.scale, sum_scale s hs v, ← EReal.coe_add, mul_add]

theorem St.add_one {m x : EReal} {S : ℝ} (h : St m x S) {n : ℕ} (s : Fin n → EReal) (hs : ∀ k, s k ≠ ⊤)
    (m' : EReal) (hm : ∃ M : ℝ, m' = M) :
    St m' (Ideal.exp2 (m - m') * x + ∑ k, Ideal.exp2 (s k - m')) (S + ∑ k, E2 (s k)) := by
  obtain ⟨M, rfl⟩ := hm
  refine Or.inr ⟨M, rfl, ?_⟩
  rw [h.scale, sum_scale_one s hs, ← EReal.coe_add, mul_add]

/-- A further tile under the same maximum. -/
theorem St.more {x : EReal} {M S : ℝ} (h : St M x S) {n : ℕ} (s : Fin n → EReal) (hs : ∀ k, s k ≠ ⊤) (v : Fin n → ℝ) :
    St M (x + ∑ k, (v k : EReal) * Ideal.exp2 (s k - (M : EReal))) (S + ∑ k, v k * E2 (s k)) := by
  rcases h with ⟨h, _⟩ | ⟨M', h, rfl⟩
  · exact absurd h (EReal.coe_ne_bot M)
  · obtain rfl : M = M' := EReal.coe_injective h
    exact Or.inr ⟨M, rfl, by rw [sum_scale s hs v, ← EReal.coe_add, mul_add]⟩

theorem St.more_one {x : EReal} {M S : ℝ} (h : St M x S) {n : ℕ} (s : Fin n → EReal) (hs : ∀ k, s k ≠ ⊤) :
    St M (x + ∑ k, Ideal.exp2 (s k - (M : EReal))) (S + ∑ k, E2 (s k)) := by
  rcases h with ⟨h, _⟩ | ⟨M', h, rfl⟩
  · exact absurd h (EReal.coe_ne_bot M)
  · obtain rfl : M = M' := EReal.coe_injective h
    exact Or.inr ⟨M, rfl, by rw [sum_scale_one s hs, ← EReal.coe_add, mul_add]⟩

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The quotient of two running quantities is that of the plain sums. -/
theorem St.div {x z : EReal} {M S Z : ℝ} (hx : St M x S) (hz : St M z Z) (hZ : Z ≠ 0) :
    Ideal.div x z = ((S / Z : ℝ) : EReal) := by
  rcases hx with ⟨h, _⟩ | ⟨M', h, rfl⟩
  · exact absurd h (EReal.coe_ne_bot M)
  rcases hz with ⟨h', _⟩ | ⟨M'', h', rfl⟩
  · exact absurd h' (EReal.coe_ne_bot M)
  obtain rfl : M = M' := EReal.coe_injective h
  obtain rfl : M = M'' := EReal.coe_injective h'
  have h2 : (2 : ℝ) ^ (-M) ≠ 0 := (Real.rpow_pos_of_pos (by norm_num) _).ne'
  rw [div_coe _ _ (mul_ne_zero h2 hZ), mul_div_mul_left _ _ h2]

/-- The causal softmax's weighted mean of a row: weights two to the scores of the keys up to the row. -/
def attn (t v : ℕ → ℝ) (r : ℕ) : ℝ :=
  (∑ k ∈ Finset.range (r + 1), v k * (2 : ℝ) ^ t k) / ∑ k ∈ Finset.range (r + 1), (2 : ℝ) ^ t k

theorem sum_pos (t : ℕ → ℝ) (r : ℕ) : (∑ k ∈ Finset.range (r + 1), (2 : ℝ) ^ t k) ≠ 0 :=
  (Finset.sum_pos (fun k _ => Real.rpow_pos_of_pos (by norm_num) _) ⟨0, Finset.mem_range.2 (by omega)⟩).ne'

/-- The keys up to a row: the first, the whole tiles before the row's, and those of the row's tile up to it. -/
theorem sum_split (f : ℕ → ℝ) (k i n : ℕ) (hi : i < n) :
    ∑ x ∈ Finset.range (256 * k), f (16 + x) + ∑ j : Fin n, (if j.val ≤ i then f (16 + 256 * k + j.val) else 0)
      + ∑ j : Fin 16, f j.val = ∑ x ∈ Finset.range (16 + 256 * k + i + 1), f x := by
  have h1 : ∑ j : Fin n, (if j.val ≤ i then f (16 + 256 * k + j.val) else 0)
      = ∑ j ∈ Finset.range (i + 1), f (16 + 256 * k + j) := by
    rw [Fin.sum_univ_eq_sum_range (fun j => if j ≤ i then f (16 + 256 * k + j) else 0) n, ← Finset.sum_filter]
    refine Finset.sum_congr ?_ fun _ _ => rfl
    ext j; simp only [Finset.mem_filter, Finset.mem_range]; omega
  have h2 : ∑ x ∈ Finset.range (16 + 256 * k + i + 1), f x = ∑ x ∈ Finset.range 16, f x
      + (∑ x ∈ Finset.range (256 * k), f (16 + x) + ∑ x ∈ Finset.range (i + 1), f (16 + 256 * k + x)) := by
    rw [show 16 + 256 * k + i + 1 = 16 + (256 * k + (i + 1)) by omega, Finset.sum_range_add f 16,
      Finset.sum_range_add (fun x => f (16 + x)) (256 * k)]
    simp only [← Nat.add_assoc]
  rw [h1, h2, Fin.sum_univ_eq_sum_range f 16, add_comm]

/-- A row of the first rows. -/
theorem sum_first (f : ℕ → ℝ) (i n : ℕ) (hi : i < n) :
    ∑ j : Fin n, (if j.val ≤ i then f j.val else 0) = ∑ x ∈ Finset.range (i + 1), f x := by
  rw [Fin.sum_univ_eq_sum_range (fun j => if j ≤ i then f j else 0) n, ← Finset.sum_filter]
  refine Finset.sum_congr ?_ fun _ _ => rfl
  ext j; simp only [Finset.mem_filter, Finset.mem_range]; omega

/-- A row's weighted mean, the running quantities joined with two last tiles under their common maximum. -/
theorem join {m x a : EReal} {Z A : ℝ} (hx : St m x Z) (ha : St m a A) {n n' : ℕ} (s : Fin n → EReal) (hs : ∀ k, s k ≠ ⊤)
    (s0 : Fin n' → EReal) (hs0 : ∀ k, s0 k ≠ ⊤) (k0 : Fin n') (hk : s0 k0 ≠ ⊥) (w : Fin n → EReal) (v : Fin n → ℝ) (hw : ∀ k, w k = v k)
    (w0 : Fin n' → EReal) (v0 : Fin n' → ℝ) (hw0 : ∀ k, w0 k = v0 k) (M : EReal)
    (hM : M = max (max m (Finset.univ.sup s)) (Finset.univ.sup s0)) (N D : ℝ)
    (hN : A + ∑ k, v k * E2 (s k) + ∑ k, v0 k * E2 (s0 k) = N) (hD : Z + ∑ k, E2 (s k) + ∑ k, E2 (s0 k) = D) (hD0 : D ≠ 0) :
    Ideal.div (Ideal.exp2 (m - M) * a + ∑ k, w k * Ideal.exp2 (s k - M) + ∑ k, w0 k * Ideal.exp2 (s0 k - M))
      (Ideal.exp2 (m - M) * x + ∑ k, Ideal.exp2 (s k - M) + ∑ k, Ideal.exp2 (s0 k - M)) = ((N / D : ℝ) : EReal) := by
  obtain ⟨R, hR⟩ : ∃ R : ℝ, M = R := by
    rw [hM]
    refine max_real _ ?_ s0 hs0 k0 hk
    rcases max_choice m (Finset.univ.sup s) with h | h <;> rw [h]
    · exact hx.ne_top
    · exact sup_ne_top s hs
  rw [hR]
  have e : ∀ k, w k * Ideal.exp2 (s k - (R : EReal)) = (v k : EReal) * Ideal.exp2 (s k - (R : EReal)) := fun k => by rw [hw]
  have e0 : ∀ k, w0 k * Ideal.exp2 (s0 k - (R : EReal)) = (v0 k : EReal) * Ideal.exp2 (s0 k - (R : EReal)) := fun k => by rw [hw0]
  rw [Finset.sum_congr rfl fun k _ => e k, Finset.sum_congr rfl fun k _ => e0 k]
  subst hN hD
  exact St.div ((ha.add s hs v R ⟨R, rfl⟩).more s0 hs0 v0) ((hx.add_one s hs R ⟨R, rfl⟩).more_one s0 hs0) hD0

/-- The first rows' weighted mean. -/
theorem join_first {n : ℕ} (s : Fin n → EReal) (hs : ∀ k, s k ≠ ⊤) (k0 : Fin n) (hk : s k0 ≠ ⊥) (w : Fin n → EReal) (v : Fin n → ℝ)
    (hw : ∀ k, w k = v k) (M : EReal) (hM : M = max ⊥ (Finset.univ.sup s)) (N D : ℝ)
    (hN : ∑ k, v k * E2 (s k) = N) (hD : ∑ k, E2 (s k) = D) (hD0 : D ≠ 0) :
    Ideal.div (∑ k, w k * Ideal.exp2 (s k - M)) (Ideal.exp2 (⊥ - M) * 0 + ∑ k, Ideal.exp2 (s k - M)) = ((N / D : ℝ) : EReal) := by
  obtain ⟨R, hR⟩ : ∃ R : ℝ, M = R := by
    rw [hM]
    exact max_real _ bot_ne_top s hs k0 hk
  rw [hR]
  have e : ∀ k, w k * Ideal.exp2 (s k - (R : EReal)) = (v k : EReal) * Ideal.exp2 (s k - (R : EReal)) := fun k => by rw [hw]
  rw [Finset.sum_congr rfl fun k _ => e k]
  subst hN hD
  have h := (show St ⊥ 0 0 from Or.inl ⟨rfl, rfl, rfl⟩).add s hs v R ⟨R, rfl⟩
  have h' := (show St ⊥ 0 0 from Or.inl ⟨rfl, rfl, rfl⟩).add_one s hs R ⟨R, rfl⟩
  rw [mul_zero, zero_add, zero_add] at h h'
  rw [mul_zero, zero_add]
  exact St.div h h' hD0

/-- A score kept or put at the bottom. -/
theorem E2_ite (p : Prop) [Decidable p] (r : ℝ) : E2 (if p then (r : EReal) else ⊥) = if p then (2 : ℝ) ^ r else 0 := by
  by_cases h : p <;> simp only [h, if_true, if_false] <;> first | rfl | exact E2_bot

theorem kept_ne_top (p : Prop) [Decidable p] (r : ℝ) : (if p then (r : EReal) else ⊥) ≠ ⊤ := by
  by_cases h : p <;> simp [h]

end Cert.Soft
-- ==== Proof.Hand.BlockVal.lean ====
/- What a point's output block holds over the extended reals, when its blocks of queries, keys and values are real: each
   row the normalized difference of two causal softmaxes' weighted means. -/
module

public import proofs.«01_k».proof.Proof.Hand.Ops
public import proofs.«01_k».proof.Proof.Hand.Soft

@[expose] public section

set_option maxRecDepth 16384

noncomputable section

namespace Cert.KernelIdeal.Gen

open Idealize.ShloMosaic Cert.Soft

/-- An array of a point's block shape whose elements are these reals. -/
def RealBlk (A : S2064x512.Idx → EReal) (a : ℕ → ℕ → ℝ) : Prop := ∀ (y0 : Fin 2064) (y1 : Fin 512), A (ix2 y0 y1) = (a y0.val y1.val : EReal)

theorem RealBlk.tile {A : S2064x512.Idx → EReal} {a : ℕ → ℕ → ℝ} (h : RealBlk A a) (r c n m : ℕ) (hr : r + n ≤ 2064) (hc : c + m ≤ 512)
    (i : Fin n) (j : Fin m) :
    tileOf (s := S2064x512) (Val := Elt Ideal) (e := .bf16) A ![r, c] ![n, m] (ix2 i j) = (a (r + i.val) (c + j.val) : EReal) := by
  have hb : ∀ x : Fin 2, (![r, c] : Fin 2 → ℕ) x + (![n, m] : Fin 2 → ℕ) x ≤ (![2064, 512] : Fin 2 → ℕ) x := by
    intro x; match x with | ⟨0, _⟩ => exact hr | ⟨1, _⟩ => exact hc
  refine (tileOf_apply (s := S2064x512) (Val := Elt Ideal) (e := .bf16) A ![r, c] ![n, m] hb (ix2 i j)).trans ?_
  refine (congrArg A ?_).trans (h ⟨r + i.val, by omega⟩ ⟨c + j.val, by omega⟩)
  funext x; apply Fin.ext
  match x with
  | ⟨0, _⟩ => show r + 1 * i.val = r + i.val; omega
  | ⟨1, _⟩ => show c + 1 * j.val = c + j.val; omega

variable {Q K Vv : S2064x512.Idx → EReal} {q k v : ℕ → ℕ → ℝ}

/-- The exponent of a query row and a key, of the first map or the second, off a head's columns. -/
def tt (q k : ℕ → ℕ → ℝ) (c : ℕ) (p : Prop) [Decidable p] (r key : ℕ) : ℝ :=
  ∑ d : Fin 128, k key (c + d.val) * (if (p ↔ d.val < 64) then q r (c + d.val) else 0)

theorem ite_coe (p : Prop) [Decidable p] (a : ℝ) : (if p then (a : EReal) else 0) = ((if p then a else 0 : ℝ) : EReal) := by
  by_cases h : p <;> simp [h]

theorem hQ_at (hQr : RealBlk Q q) (c n : ℕ) (hc : c + 128 ≤ 512) (hn : n < 8) (l : Fin 512) (d : Fin 128) :
    hQ (F := Ideal) Q c n (ix2 l d) = ((if (l.val < 256 ↔ d.val < 64) then q (16 + 256 * n + l.val % 256) (c + d.val) else 0 : ℝ) : EReal) := by
  unfold hQ
  rw [q2_at, hQr.tile _ _ 256 128 (by omega) hc, ite_coe]

theorem hQf_at (hQr : RealBlk Q q) (c : ℕ) (hc : c + 128 ≤ 512) (l : Fin 512) (d : Fin 128) :
    k0_pay147 (F := Ideal) (tileOf (s := S2064x512) (Val := Elt Ideal) (e := .bf16) Q ![0, c] S256x128.size) (ix2 l d)
      = ((if (l.val < 256 ↔ d.val < 64) then q (l.val % 256) (c + d.val) else 0 : ℝ) : EReal) := by
  rw [q2_at, hQr.tile _ _ 256 128 (by omega) hc, ite_coe, Nat.zero_add]

theorem sc_real (hQr : RealBlk Q q) (hKr : RealBlk K k) (c n j : ℕ) (hc : c + 128 ≤ 512) (hn : n < 8) (hj : j < 8) (x : Fin 256) (l : Fin 512) :
    sc (F := Ideal) (hQ (F := Ideal) Q c n) (hK (F := Ideal) K c j) (ix4 0 0 x l)
      = (tt q k c (l.val < 256) (16 + 256 * n + l.val % 256) (16 + 256 * j + x.val) : EReal) := by
  rw [sc_at]
  unfold tt
  rw [← coe_sum]
  refine Finset.sum_congr rfl fun d _ => ?_
  rw [hQ_at hQr c n hc hn, EReal.coe_mul]
  congr 1
  unfold hK
  exact hKr.tile _ _ 256 128 (by omega) hc x d

theorem sc0_real (hQr : RealBlk Q q) (hKr : RealBlk K k) (c n : ℕ) (hc : c + 128 ≤ 512) (hn : n < 8) (x : Fin 16) (l : Fin 512) :
    k0_pay154 (F := Ideal) (hQ (F := Ideal) Q c n) (hK0 (F := Ideal) K c) (ix2 x l)
      = (tt q k c (l.val < 256) (16 + 256 * n + l.val % 256) x.val : EReal) := by
  rw [sc0_at]
  unfold tt
  rw [← coe_sum]
  refine Finset.sum_congr rfl fun d _ => ?_
  rw [hQ_at hQr c n hc hn, EReal.coe_mul]
  congr 1
  unfold hK0
  exact (hKr.tile 0 c 16 128 (by omega) hc x d).trans (by rw [Nat.zero_add])

theorem scf_real (hQr : RealBlk Q q) (hKr : RealBlk K k) (c : ℕ) (hc : c + 128 ≤ 512) (x : Fin 16) (l : Fin 512) :
    k0_pay154 (F := Ideal) (k0_pay147 (F := Ideal) (tileOf (s := S2064x512) (Val := Elt Ideal) (e := .bf16) Q ![0, c] S256x128.size)) (hK0 (F := Ideal) K c) (ix2 x l)
      = (tt q k c (l.val < 256) (l.val % 256) x.val : EReal) := by
  rw [sc0_at]
  unfold tt
  rw [← coe_sum]
  refine Finset.sum_congr rfl fun d _ => ?_
  rw [hQf_at hQr c hc, EReal.coe_mul]
  congr 1
  unfold hK0
  exact (hKr.tile 0 c 16 128 (by omega) hc x d).trans (by rw [Nat.zero_add])

theorem v_real (hVr : RealBlk Vv v) (c j : ℕ) (hc : c + 128 ≤ 512) (hj : j < 8) (d : Fin 128) (x : Fin 256) :
    vT (F := Ideal) Vv c j (ix4 0 0 d x) = (v (16 + 256 * j + x.val) (c + d.val) : EReal) := by
  rw [v_at]
  exact hVr.tile _ _ 256 128 (by omega) hc x d

theorem v0_real (hVr : RealBlk Vv v) (c : ℕ) (hc : c + 128 ≤ 512) (d : Fin 128) (x : Fin 16) :
    vT0 (F := Ideal) Vv c (ix4 0 0 d x) = (v x.val (c + d.val) : EReal) := by
  have h : vT0 (F := Ideal) Vv c (ix4 0 0 d x)
      = k0_pay208 (F := Ideal) (tileOf (s := S2064x512) (Val := Elt Ideal) (e := .bf16) Vv ![0, c] S16x128.size) (ix4 0 0 d (Fin.castLE (by decide) x : Fin 128)) := by
    unfold vT0
    refine congrArg _ ?_
    funext a; apply Fin.ext
    match a with
    | ⟨0, _⟩ => rfl
    | ⟨1, _⟩ => rfl
    | ⟨2, _⟩ => rfl
    | ⟨3, _⟩ => rfl
  rw [h, v0_at]
  exact (hVr.tile 0 c 16 128 (by omega) hc x d).trans (by rw [Nat.zero_add])

/-- A head's running state after `j` whole tiles of keys. -/
theorem hst_real (hQr : RealBlk Q q) (hKr : RealBlk K k) (hVr : RealBlk Vv v) (c n : ℕ) (hc : c + 128 ≤ 512) (hn : n < 8) (l : Fin 512) :
    ∀ j, j ≤ 8 →
      St ((hst (F := Ideal) k0_pay251 k0_pay252 (hQ Q c n) (hK K c) (vT Vv c) j).1 (ix2 0 l))
        ((hst (F := Ideal) k0_pay251 k0_pay252 (hQ Q c n) (hK K c) (vT Vv c) j).2.1 (ix2 0 l))
        (∑ x ∈ Finset.range (256 * j), (2 : ℝ) ^ tt q k c (l.val < 256) (16 + 256 * n + l.val % 256) (16 + x)) ∧
      ∀ d : Fin 128, St ((hst (F := Ideal) k0_pay251 k0_pay252 (hQ Q c n) (hK K c) (vT Vv c) j).1 (ix2 0 l))
        ((hst (F := Ideal) k0_pay251 k0_pay252 (hQ Q c n) (hK K c) (vT Vv c) j).2.2 (ix3 0 d l))
        (∑ x ∈ Finset.range (256 * j), v (16 + x) (c + d.val) * (2 : ℝ) ^ tt q k c (l.val < 256) (16 + 256 * n + l.val % 256) (16 + x))
  | 0, _ => by
    refine ⟨Or.inl ⟨m0_at l, l0_at l, rfl⟩, fun d => Or.inl ⟨m0_at l, z_at d l, rfl⟩⟩
  | j + 1, hj => by
    obtain ⟨h1, h2⟩ := hst_real hQr hKr hVr c n hc hn l j (by omega)
    rw [hst_succ]
    generalize hst (F := Ideal) k0_pay251 k0_pay252 (hQ Q c n) (hK K c) (vT Vv c) j = st at h1 h2
    have hs : ∀ x : Fin 256, sc (F := Ideal) (hQ (F := Ideal) Q c n) (hK (F := Ideal) K c j) (ix4 0 0 x l)
      = (tt q k c (l.val < 256) (16 + 256 * n + l.val % 256) (16 + (256 * j + x.val)) : EReal) := fun x => by
        rw [sc_real hQr hKr c n j hc hn (by omega), Nat.add_assoc 16 (256 * j)]
    have hM : ∃ M : ℝ, sM (F := Ideal) st.1 (sc (F := Ideal) (hQ (F := Ideal) Q c n) (hK (F := Ideal) K c j)) (ix2 0 l) = M := by
      rw [sM_at]
      exact max_real _ h1.ne_top _ (fun x => by rw [hs]; exact EReal.coe_ne_top _) 0 (by rw [hs]; exact EReal.coe_ne_bot _)
    constructor
    · show St (sM (F := Ideal) st.1 (sc (F := Ideal) (hQ (F := Ideal) Q c n) (hK (F := Ideal) K c j)) (ix2 0 l)) (sL (F := Ideal) st.1 st.2.1 (sc (F := Ideal) (hQ (F := Ideal) Q c n) (hK (F := Ideal) K c j)) (ix2 0 l)) _
      rw [sL_at, Nat.mul_succ, Finset.sum_range_add]
      have := h1.add_one (fun x : Fin 256 => sc (F := Ideal) (hQ (F := Ideal) Q c n) (hK (F := Ideal) K c j) (ix4 0 0 x l))
        (fun x => by simp only [hs]; exact EReal.coe_ne_top _) _ hM
      refine Eq.mp (congrArg _ ?_) this
      congr 1
      rw [← Fin.sum_univ_eq_sum_range (fun x => (2 : ℝ) ^ tt q k c (l.val < 256) (16 + 256 * n + l.val % 256) (16 + (256 * j + x))) 256]
      exact Finset.sum_congr rfl fun x _ => by rw [hs, E2_coe]
    · intro d
      show St (sM (F := Ideal) st.1 (sc (F := Ideal) (hQ (F := Ideal) Q c n) (hK (F := Ideal) K c j)) (ix2 0 l)) (sA (F := Ideal) st.1 (sc (F := Ideal) (hQ (F := Ideal) Q c n) (hK (F := Ideal) K c j)) st.2.2 (vT (F := Ideal) Vv c j) (ix3 0 d l)) _
      rw [sA_at, Nat.mul_succ, Finset.sum_range_add]
      have := (h2 d).add (fun x : Fin 256 => sc (F := Ideal) (hQ (F := Ideal) Q c n) (hK (F := Ideal) K c j) (ix4 0 0 x l))
        (fun x => by simp only [hs]; exact EReal.coe_ne_top _) (fun x : Fin 256 => v (16 + 256 * j + x.val) (c + d.val)) _ hM
      rw [Finset.sum_congr rfl fun x _ => by rw [v_real hVr c j hc (by omega)]]
      refine Eq.mp (congrArg _ ?_) this
      congr 1
      rw [← Fin.sum_univ_eq_sum_range (fun x => v (16 + (256 * j + x)) (c + d.val) * (2 : ℝ) ^ tt q k c (l.val < 256) (16 + 256 * n + l.val % 256) (16 + (256 * j + x))) 256]
      exact Finset.sum_congr rfl fun x _ => by rw [hs, E2_coe, Nat.add_assoc]

theorem quot_real (hQr : RealBlk Q q) (hKr : RealBlk K k) (hVr : RealBlk Vv v) (c n : ℕ) (hc : c + 128 ≤ 512) (hn : n < 8) (l : Fin 512) (d : Fin 128)
    (m x : FVec Ideal S1x512 .f32) (a : Vec Ideal S1x128x512 .f32)
    (h1 : St (m (ix2 0 l)) (x (ix2 0 l)) (∑ x ∈ Finset.range (256 * n), (2 : ℝ) ^ tt q k c (l.val < 256) (16 + 256 * n + l.val % 256) (16 + x)))
    (h2 : St (m (ix2 0 l)) (a (ix3 0 d l)) (∑ x ∈ Finset.range (256 * n), v (16 + x) (c + d.val) * (2 : ℝ) ^ tt q k c (l.val < 256) (16 + 256 * n + l.val % 256) (16 + x)))
    (s0 : FVec Ideal S16x512 .f32) (e0 : s0 = k0_pay154 (F := Ideal) (hQ (F := Ideal) Q c n) (hK0 (F := Ideal) K c))
    (s : Vec Ideal S1x1x256x512 .f32) (e : s = sc (F := Ideal) (hQ (F := Ideal) Q c n) (hK (F := Ideal) K c n)) :
    Ideal.div (k0_pay187 (F := Ideal) s0 m diagMask s a (ix2 d l)
        + ∑ j : Fin 256, k0_pay188 (F := Ideal) (vT (F := Ideal) Vv c n) (ix2 d j) * k0_pay183 (F := Ideal) s0 m diagMask s (ix2 j l)
        + ∑ j : Fin 16, vT0 (F := Ideal) Vv c (ix4 0 0 d j) * k0_pay186 (F := Ideal) s0 m diagMask s (ix2 j l))
      (k0_pay185 (F := Ideal) s0 m x diagMask s (ix2 0 l))
      = (attn (tt q k c (l.val < 256) (16 + 256 * n + l.val % 256)) (fun key => v key (c + d.val)) (16 + 256 * n + l.val % 256) : EReal) := by
  have hs0 : ∀ y : Fin 16, s0 (ix2 y l) = (tt q k c (l.val < 256) (16 + 256 * n + l.val % 256) y.val : EReal) := fun y => by
    rw [e0]; exact sc0_real hQr hKr c n hc hn y l
  have hs : ∀ y : Fin 256, k0_pay179 (F := Ideal) diagMask s (ix2 y l)
      = if y.val ≤ l.val % 256 then (tt q k c (l.val < 256) (16 + 256 * n + l.val % 256) (16 + 256 * n + y.val) : EReal) else ⊥ := fun y => by
    rw [msk_at, e, sc_real hQr hKr c n n hc hn hn]
  have hE : ∀ y : Fin 256, E2 (k0_pay179 (F := Ideal) diagMask s (ix2 y l))
      = if y.val ≤ l.val % 256 then (2 : ℝ) ^ tt q k c (l.val < 256) (16 + 256 * n + l.val % 256) (16 + 256 * n + y.val) else 0 := fun y => by
    rw [hs, E2_ite]
  simp only [fL_at, fA_at, fP_at, fP0_at, fV_at]
  unfold attn
  refine join h1 h2 (fun y : Fin 256 => k0_pay179 (F := Ideal) diagMask s (ix2 y l)) (fun y => by simp only [hs]; exact kept_ne_top _ _)
    (fun y : Fin 16 => s0 (ix2 y l)) (fun y => by simp only [hs0]; exact EReal.coe_ne_top _) 0 (by simp only [hs0]; exact EReal.coe_ne_bot _)
    (fun y => vT (F := Ideal) Vv c n (ix4 0 0 d y)) (fun y => v (16 + 256 * n + y.val) (c + d.val)) (fun y => v_real hVr c n hc hn d y)
    (fun y => vT0 (F := Ideal) Vv c (ix4 0 0 d y)) (fun y => v y.val (c + d.val)) (fun y => v0_real hVr c hc d y)
    _ (fM_at s0 m s l) _ _ ?_ ?_ (sum_pos _ _)
  · rw [← sum_split (fun key => v key (c + d.val) * (2 : ℝ) ^ tt q k c (l.val < 256) (16 + 256 * n + l.val % 256) key) n (l.val % 256) 256 (Nat.mod_lt _ (by decide))]
    refine congr (congrArg _ (congrArg _ (Finset.sum_congr rfl fun y _ => ?_))) (Finset.sum_congr rfl fun y _ => ?_)
    · simp only [hE]; rw [mul_ite, mul_zero]
    · simp only [hs0, E2_coe]
  · rw [← sum_split (fun key => (2 : ℝ) ^ tt q k c (l.val < 256) (16 + 256 * n + l.val % 256) key) n (l.val % 256) 256 (Nat.mod_lt _ (by decide))]
    refine congr (congrArg _ (congrArg _ (Finset.sum_congr rfl fun y _ => ?_))) (Finset.sum_congr rfl fun y _ => ?_)
    · simp only [hE]
    · simp only [hs0, E2_coe]

theorem quotf_real (hQr : RealBlk Q q) (hKr : RealBlk K k) (hVr : RealBlk Vv v) (c : ℕ) (hc : c + 128 ≤ 512) (l : Fin 512) (hl : l.val % 256 < 16) (d : Fin 128)
    (s : FVec Ideal S16x512 .f32) (e : s = k0_pay154 (F := Ideal) (k0_pay147 (F := Ideal) (tileOf (s := S2064x512) (Val := Elt Ideal) (e := .bf16) Q ![0, c] S256x128.size)) (hK0 (F := Ideal) K c)) :
    Ideal.div (∑ j : Fin 16, k0_pay270 (F := Ideal) (vT0 (F := Ideal) Vv c) (ix2 d j) * k0_pay269 (F := Ideal) k0_pay251 s (ix2 j l))
      (k0_pay268 (F := Ideal) k0_pay251 k0_pay252 s (ix2 0 l))
      = (attn (tt q k c (l.val < 256) (l.val % 256)) (fun key => v key (c + d.val)) (l.val % 256) : EReal) := by
  have hs : ∀ y : Fin 16, k0_pay265 (F := Ideal) s (ix2 y l)
      = if y.val ≤ l.val % 256 then (tt q k c (l.val < 256) (l.val % 256) y.val : EReal) else ⊥ := fun y => by
    rw [msk0_at, e, scf_real hQr hKr c hc]
  have hE : ∀ y : Fin 16, E2 (k0_pay265 (F := Ideal) s (ix2 y l))
      = if y.val ≤ l.val % 256 then (2 : ℝ) ^ tt q k c (l.val < 256) (l.val % 256) y.val else 0 := fun y => by
    rw [hs, E2_ite]
  simp only [gL_at, gP_at, gV_at, m0_at, l0_at]
  unfold attn
  refine join_first (fun y : Fin 16 => k0_pay265 (F := Ideal) s (ix2 y l)) (fun y => by simp only [hs]; exact kept_ne_top _ _)
    0 (by simp only [hs]; exact (if_pos (Nat.zero_le _)).trans_ne (EReal.coe_ne_bot _))
    (fun y => vT0 (F := Ideal) Vv c (ix4 0 0 d y)) (fun y => v y.val (c + d.val)) (fun y => v0_real hVr c hc d y)
    _ ((gM_at _ s l).trans (by rw [m0_at])) _ _ ?_ ?_ (sum_pos _ _)
  · rw [← sum_first (fun key => v key (c + d.val) * (2 : ℝ) ^ tt q k c (l.val < 256) (l.val % 256) key) (l.val % 256) 16 hl]
    refine Finset.sum_congr rfl fun y _ => ?_
    simp only [hE]; rw [mul_ite, mul_zero]
  · rw [← sum_first (fun key => (2 : ℝ) ^ tt q k c (l.val < 256) (l.val % 256) key) (l.val % 256) 16 hl]
    refine Finset.sum_congr rfl fun y _ => ?_
    simp only [hE]

/-- The exponent of the first map, and of the second. -/
def t1 (q k : ℕ → ℕ → ℝ) (c r key : ℕ) : ℝ := ∑ d : Fin 64, k key (c + d.val) * q r (c + d.val)
def t2 (q k : ℕ → ℕ → ℝ) (c r key : ℕ) : ℝ := ∑ d : Fin 64, k key (c + (64 + d.val)) * q r (c + (64 + d.val))

theorem tt_one (p : Prop) [Decidable p] (hp : p) (c r : ℕ) : tt q k c p r = t1 q k c r := by
  funext key
  unfold tt t1
  rw [show (128 : ℕ) = 64 + 64 from rfl] at *
  rw [Fin.sum_univ_add]
  have : ∀ d : Fin 64, ¬ (64 + d.val < 64) := fun d => by omega
  simp [hp, this]

theorem tt_two (p : Prop) [Decidable p] (hp : ¬ p) (c r : ℕ) : tt q k c p r = t2 q k c r := by
  funext key
  unfold tt t2
  rw [show (128 : ℕ) = 64 + 64 from rfl] at *
  rw [Fin.sum_univ_add]
  have : ∀ d : Fin 64, ¬ (64 + d.val < 64) := fun d => by omega
  simp [hp, this, Nat.add_comm 64]

/-- The difference of the two maps' weighted means. -/
def dif (q k v : ℕ → ℕ → ℝ) (L : ℝ) (c r d : ℕ) : ℝ :=
  attn (t1 q k c r) (fun key => v key (c + d)) r - L * attn (t2 q k c r) (fun key => v key (c + d)) r

theorem outG_real (hQr : RealBlk Q q) (hKr : RealBlk K k) (hVr : RealBlk Vv v) (lam : FVec Ideal S1x1 .f32) (L : ℝ) (hL : lam (ix2 0 0) = (L : EReal))
    (W : S1x128.Idx → EReal) (c n : ℕ) (hc : c + 128 ≤ 512) (hn : n < 8) (i : Fin 256) (d : Fin 128) :
    outG (F := Ideal) lam k0_pay251 k0_pay252 Q K Vv W c n (ix2 i d)
      = nrm (fun d => (dif q k v L c (16 + 256 * n + i.val) d.val : EReal)) (W (ix2 0 d)) d := by
  unfold outG finT
  rw [fin_at]
  refine congr (congr (congrArg nrm ?_) ?_) rfl
  · funext d
    obtain ⟨a1, a2⟩ := hst_real hQr hKr hVr c n hc hn ⟨i.val, by omega⟩ n (by omega)
    obtain ⟨b1, b2⟩ := hst_real hQr hKr hVr c n hc hn ⟨256 + i.val, by omega⟩ n (by omega)
    rw [quot_real hQr hKr hVr c n hc hn _ d _ _ _ a1 (a2 d) _ rfl _ rfl, quot_real hQr hKr hVr c n hc hn _ d _ _ _ b1 (b2 d) _ rfl _ rfl, hL]
    simp only [Nat.mod_eq_of_lt i.isLt, show (256 + i.val) % 256 = i.val by omega]
    rw [tt_one (i.val < 256) i.isLt, tt_two (256 + i.val < 256) (by omega), ← EReal.coe_mul, ← EReal.coe_sub]
    rfl
  · refine (tileOf_apply (s := S1x128) (Val := Elt Ideal) (e := .f32) W ![0, 0] S1x128.size (by decide) (ix2 0 d)).trans (congrArg W ?_)
    funext x; apply Fin.ext
    match x with
    | ⟨0, _⟩ => rfl
    | ⟨1, _⟩ => show 0 + 1 * d.val = d.val; omega

theorem fstT_real (hQr : RealBlk Q q) (hKr : RealBlk K k) (hVr : RealBlk Vv v) (lam : FVec Ideal S1x1 .f32) (L : ℝ) (hL : lam (ix2 0 0) = (L : EReal))
    (W : S1x128.Idx → EReal) (c : ℕ) (hc : c + 128 ≤ 512) (i : Fin 16) (d : Fin 128) :
    fstT (F := Ideal) lam k0_pay251 k0_pay252 Q K Vv W c (ix2 i d)
      = nrm (fun d => (dif q k v L c i.val d.val : EReal)) (W (ix2 0 d)) d := by
  unfold fstT
  rw [q2'_eq, sc0'_eq, fst_at]
  refine congr (congr (congrArg nrm ?_) ?_) rfl
  · funext d
    have e1 : i.val % 256 = i.val := Nat.mod_eq_of_lt (by omega)
    have e2 : (256 + i.val) % 256 = i.val := by omega
    rw [quotf_real hQr hKr hVr c hc ⟨i.val, by omega⟩ (by simp only [e1]; exact i.isLt) d _ rfl,
      quotf_real hQr hKr hVr c hc ⟨256 + i.val, by omega⟩ (by simp only [e2]; exact i.isLt) d _ rfl, hL]
    simp only [e1, e2]
    rw [tt_one (i.val < 256) (by omega), tt_two (256 + i.val < 256) (by omega), ← EReal.coe_mul, ← EReal.coe_sub]
    rfl
  · refine (tileOf_apply (s := S1x128) (Val := Elt Ideal) (e := .f32) W ![0, 0] S1x128.size (by decide) (ix2 0 d)).trans (congrArg W ?_)
    funext x; apply Fin.ext
    match x with
    | ⟨0, _⟩ => rfl
    | ⟨1, _⟩ => show 0 + 1 * d.val = d.val; omega

/-- A point's output block. -/
theorem outBlk_real (hQr : RealBlk Q q) (hKr : RealBlk K k) (hVr : RealBlk Vv v) (lam : FVec Ideal S1x1 .f32) (L : ℝ) (hL : lam (ix2 0 0) = (L : EReal))
    (W : S1x128.Idx → EReal) (y : S2064x512.Idx) :
    outBlk (F := Ideal) lam k0_pay251 k0_pay252 Q K Vv W y
      = nrm (fun d => (dif q k v L (128 * ((y 1).val / 128)) (y 0).val d.val : EReal)) (W (ix2 0 ⟨(y 1).val % 128, Nat.mod_lt _ (by decide)⟩))
          ⟨(y 1).val % 128, Nat.mod_lt _ (by decide)⟩ := by
  have h1 : (y 1).val < 512 := (y 1).isLt
  have h0 : (y 0).val < 2064 := (y 0).isLt
  have hc : 128 * ((y 1).val / 128) + 128 ≤ 512 := by omega
  unfold outBlk
  split_ifs with h
  · exact fstT_real hQr hKr hVr lam L hL W _ hc ⟨(y 0).val, h⟩ _
  · rw [outG_real hQr hKr hVr lam L hL W _ _ hc (by omega)]
    have : 16 + 256 * (((y 0).val - 16) / 256) + ((y 0).val - 16) % 256 = (y 0).val := by omega
    simp only [this]

end Cert.KernelIdeal.Gen
-- ==== Proof.Hand.Host.lean ====
/- What the region finds on entry: the packed array of scaled queries, keys and values, and the small vectors. -/
module

public import proofs.«01_k».proof.Proof.Hand.BlockVal
public import proofs.«01_k».proof.Proof.Hand.Run
public import Idealize.ShloMosaic.Lib.StableHlo.ReadAt
public import Idealize.ShloMosaic.Lib.Pipeline.ValueKit

@[expose] public section

set_option maxRecDepth 16384

noncomputable section

namespace Cert.KernelIdeal.Gen

open Idealize.ShloMosaic Idealize.ShloMosaic.TcCoe Cert.Soft

variable (m : (ℓ : Loc nD τ sig) → Buf (Elt Ideal) ℓ)

theorem v14_at (c : Dev nD) (j : Fin 64) : V m c main_v14 (ix2 0 j) = m ((c : Thread nD τ).loc main_arg3) (ix1 j) := by
  unfold V
  after_reads_at

theorem v15_at (c : Dev nD) (j : Fin 64) : V m c main_v15 (ix2 0 j) = m ((c : Thread nD τ).loc main_arg4) (ix1 j) := by
  unfold V
  after_reads_at

theorem v16_at (c : Dev nD) (j : Fin 64) : V m c main_v16 (ix2 0 j) = m ((c : Thread nD τ).loc main_arg5) (ix1 j) := by
  unfold V
  after_reads_at

theorem v17_at (c : Dev nD) (j : Fin 64) : V m c main_v17 (ix2 0 j) = m ((c : Thread nD τ).loc main_arg6) (ix1 j) := by
  unfold V
  after_reads_at

theorem v18_at (c : Dev nD) (j : Fin 128) : V m c main_v18 (ix2 0 j) = m ((c : Thread nD τ).loc main_arg7) (ix1 j) := by
  unfold V
  after_reads_at

/-- A query's scaling. -/
def qsc (z : EReal) : EReal := Ideal.div (z * Ideal.ofBits FTy.f32 0x3E000000#32) (Ideal.log (Ideal.ofBits FTy.f32 0x40000000#32))

/-- The packed array's queries, scaled. -/
theorem v13_q (c : Dev nD) (r : Fin 33712) (x : Fin 3840) (hr : r.val < 33024) (hx : x.val < 512) :
    V m c main_v13 (ix2 r x) = qsc (m ((c : Thread nD τ).loc main_arg0) (ix5 ⟨r.val / 2064, by omega⟩ ⟨r.val % 2064, by omega⟩ ⟨x.val / 128, by omega⟩ ⟨x.val / 64 % 2, by omega⟩ ⟨x.val % 64, by omega⟩)) := by
  unfold qsc
  unfold V
  after_reads_at
  rw [dif_pos hr, dif_pos hx]
  after_reads_at

/-- The packed array's keys. -/
theorem v13_k (c : Dev nD) (r : Fin 33712) (x : Fin 3840) (hr : r.val < 33024) (hx : 512 ≤ x.val) (hx' : x.val < 1024) :
    V m c main_v13 (ix2 r x) = m ((c : Thread nD τ).loc main_arg1) (ix5 ⟨r.val / 2064, by omega⟩ ⟨r.val % 2064, by omega⟩ ⟨(x.val - 512) / 128, by omega⟩ ⟨(x.val - 512) / 64 % 2, by omega⟩ ⟨(x.val - 512) % 64, by omega⟩) := by
  unfold V
  after_reads_at
  rw [dif_pos hr, dif_neg (by omega), dif_pos (by omega)]
  after_reads_at

/-- The packed array's values. -/
theorem v13_v (c : Dev nD) (r : Fin 33712) (x : Fin 3840) (hr : r.val < 33024) (hx : 1024 ≤ x.val) (hx' : x.val < 1536) :
    V m c main_v13 (ix2 r x) = m ((c : Thread nD τ).loc main_arg2) (ix4 ⟨r.val / 2064, by omega⟩ ⟨r.val % 2064, by omega⟩ ⟨(x.val - 1024) / 128, by omega⟩ ⟨(x.val - 1024) % 128, by omega⟩) := by
  unfold V
  after_reads_at
  rw [dif_pos hr, dif_neg (by omega), dif_neg (by omega), dif_pos (by omega)]
  after_reads_at
  simp only [Nat.sub_sub]

theorem idx0 : ∀ t : Fin cfg0.N, win0_0.index t = ![t.val, 0] := (by decide +kernel : ∀ t : Fin grid0.N, _)
theorem idx1 : ∀ t : Fin cfg0.N, win0_1.index t = ![t.val, 1] := (by decide +kernel : ∀ t : Fin grid0.N, _)
theorem idx2 : ∀ t : Fin cfg0.N, win0_2.index t = ![t.val, 2] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)

theorem N_eq : cfg0.N = 16 := by decide +kernel

theorem X0_at (c : Dev nD) (t : Fin cfg0.N) (y0 : Fin 2064) (y1 : Fin 512) :
    X0_0 m c t (ix2 y0 y1) = V m c main_v13 (ix2 ⟨2064 * t.val + y0.val, by have := N_eq; omega⟩ ⟨y1.val, by omega⟩) := by
  unfold X0_0 Pipeline.Window.fill
  rw [dif_pos (moved0_0 t _)]
  blk_ext [iblk, idx0]

theorem X1_at (c : Dev nD) (t : Fin cfg0.N) (y0 : Fin 2064) (y1 : Fin 512) :
    X0_1 m c t (ix2 y0 y1) = V m c main_v13 (ix2 ⟨2064 * t.val + y0.val, by have := N_eq; omega⟩ ⟨512 + y1.val, by omega⟩) := by
  unfold X0_1 Pipeline.Window.fill
  rw [dif_pos (moved0_1 t _)]
  blk_ext [iblk, idx1]

theorem X2_at (c : Dev nD) (t : Fin cfg0.N) (y0 : Fin 2064) (y1 : Fin 512) :
    X0_2 m c t (ix2 y0 y1) = V m c main_v13 (ix2 ⟨2064 * t.val + y0.val, by have := N_eq; omega⟩ ⟨1024 + y1.val, by omega⟩) := by
  unfold X0_2 Pipeline.Window.fill
  rw [dif_pos (moved0_2 t _)]
  blk_ext [iblk, idx2]

theorem b3_at (c : Dev nD) (t : Fin cfg0.N) (j : Fin 64) : iblk m c 3 t (ix2 0 j) = V m c main_v14 (ix2 0 j) := by
  blk_ext [iblk, idx3]
theorem b4_at (c : Dev nD) (t : Fin cfg0.N) (j : Fin 64) : iblk m c 4 t (ix2 0 j) = V m c main_v15 (ix2 0 j) := by
  blk_ext [iblk, idx4]
theorem b5_at (c : Dev nD) (t : Fin cfg0.N) (j : Fin 64) : iblk m c 5 t (ix2 0 j) = V m c main_v16 (ix2 0 j) := by
  blk_ext [iblk, idx5]
theorem b6_at (c : Dev nD) (t : Fin cfg0.N) (j : Fin 64) : iblk m c 6 t (ix2 0 j) = V m c main_v17 (ix2 0 j) := by
  blk_ext [iblk, idx6]
theorem b7_at (c : Dev nD) (t : Fin cfg0.N) (j : Fin 128) : iblk m c 7 t (ix2 0 j) = V m c main_v18 (ix2 0 j) := by
  blk_ext [iblk, idx7]

end Cert.KernelIdeal.Gen
-- ==== Proof.Hand.Spec.lean ====
/- Differential attention over the reals, of arrays given by their coordinates. -/
module

public import proofs.«01_k».proof.Proof.Hand.Soft

@[expose] public section

noncomputable section

namespace Cert.Soft

open Idealize.ShloMosaic

/-- A softmax-weighted mean of the values up to a row. -/
def smean (s v : ℕ → ℝ) (r : ℕ) : ℝ :=
  (∑ k ∈ Finset.range (r + 1), v k * Real.exp (s k)) / ∑ k ∈ Finset.range (r + 1), Real.exp (s k)

/-- Weights of powers of two of scores over the logarithm of two are those of exponentials. -/
theorem attn_eq (t s v : ℕ → ℝ) (h : ∀ k, t k = s k / Real.log 2) (r : ℕ) : attn t v r = smean s v r := by
  have e : ∀ k, (2 : ℝ) ^ t k = Real.exp (s k) := fun k => by
    rw [Real.rpow_def_of_pos (by norm_num), h, mul_div_cancel₀ _ (Real.log_pos (by norm_num)).ne']
  unfold attn smean
  simp only [e]

/-- A map's score of a query row and a key. -/
def score (x0 x1 : ℕ → ℕ → ℕ → ℕ → ℕ → ℝ) (b h p r key : ℕ) : ℝ := (∑ e : Fin 64, x0 b r h p e.val * x1 b key h p e.val) * (1 / 8)

/-- The difference of the two maps' means, of a batch, a head, a row and a column of the values. -/
def diff (x0 x1 : ℕ → ℕ → ℕ → ℕ → ℕ → ℝ) (x2 : ℕ → ℕ → ℕ → ℕ → ℝ) (L : ℝ) (b h r d : ℕ) : ℝ :=
  smean (score x0 x1 b h 0 r) (fun key => x2 b key h d) r - L * smean (score x0 x1 b h 1 r) (fun key => x2 b key h d) r

theorem ofBits_eighth : Ideal.ofBits FTy.f32 0x3E000000#32 = ((1 / 8 : ℝ) : EReal) := by
  simp [Ideal.ofBits, Ideal.ieee]; rw [← EReal.coe_mul]; norm_num

theorem ofBits_two : Ideal.ofBits FTy.f32 0x40000000#32 = ((2 : ℝ) : EReal) := by
  simp [Ideal.ofBits, Ideal.ieee]; rw [← EReal.coe_mul]; norm_num

theorem ofBits_lam : ∃ r : ℝ, Ideal.ofBits FTy.f32 0x3E4CCCCD#32 = (r : EReal) := by
  refine ⟨13421773 / 67108864, ?_⟩
  simp [Ideal.ofBits, Ideal.ieee]; rw [← EReal.coe_mul]; norm_num

theorem log_two : Ideal.log (Ideal.ofBits FTy.f32 0x40000000#32) = ((Real.log 2 : ℝ) : EReal) := by
  rw [ofBits_two]; exact if_neg (by norm_num)

/-- The weighting of the second map, off four vectors. -/
def lamE (a b c d : Fin 64 → EReal) : EReal :=
  Ideal.exp (∑ k : Fin 64, a k * b k) - Ideal.exp (∑ k : Fin 64, c k * d k) + Ideal.ofBits FTy.f32 0x3E4CCCCD#32

theorem exp_dot (a b : Fin 64 → EReal) (ha : ∀ k, ∃ r : ℝ, a k = r) (hb : ∀ k, ∃ r : ℝ, b k = r) :
    ∃ r : ℝ, Ideal.exp (∑ k : Fin 64, a k * b k) = r := by
  choose a' ha using ha
  choose b' hb using hb
  refine ⟨Real.exp (∑ k : Fin 64, a' k * b' k), ?_⟩
  rw [Finset.sum_congr rfl fun k _ => (by rw [ha, hb, EReal.coe_mul] : a k * b k = ((a' k * b' k : ℝ) : EReal)), coe_sum]
  rfl

theorem lamE_real (a b c d : Fin 64 → EReal) (ha : ∀ k, ∃ r : ℝ, a k = r) (hb : ∀ k, ∃ r : ℝ, b k = r) (hc : ∀ k, ∃ r : ℝ, c k = r)
    (hd : ∀ k, ∃ r : ℝ, d k = r) : ∃ r : ℝ, lamE a b c d = r := by
  obtain ⟨x, hx⟩ := exp_dot a b ha hb
  obtain ⟨y, hy⟩ := exp_dot c d hc hd
  obtain ⟨z, hz⟩ := ofBits_lam
  refine ⟨x - y + z, ?_⟩
  unfold lamE
  rw [hx, hy, hz, EReal.coe_add, EReal.coe_sub]

end Cert.Soft
-- ==== Proof.Hand.KVal.lean ====
/- The kernel's result over the extended reals: at every row and column, differential attention's value there, normalized. -/
module

public import proofs.«01_k».proof.Proof.Hand.Host
public import proofs.«01_k».proof.Proof.Hand.Spec

@[expose] public section

set_option maxRecDepth 16384

noncomputable section

namespace Cert.KernelIdeal.Gen

open Idealize.ShloMosaic Idealize.ShloMosaic.TcCoe Idealize.SL.Sem Cert.Soft

variable (m : (ℓ : Loc nD τ sig) → Buf (Elt Ideal) ℓ) (ρ : Dev nD → PrngReg)

/-- The arguments that are the queries, keys and values, at coordinates, are these reals. -/
def RealArgs (c : Dev nD) (x0 x1 : ℕ → ℕ → ℕ → ℕ → ℕ → ℝ) (x2 : ℕ → ℕ → ℕ → ℕ → ℝ) : Prop :=
  (∀ (b : Fin 16) (r : Fin 2064) (h : Fin 4) (p : Fin 2) (e : Fin 64),
      m ((c : Thread nD τ).loc main_arg0) (ix5 b r h p e) = (x0 b.val r.val h.val p.val e.val : EReal)) ∧
    (∀ (b : Fin 16) (r : Fin 2064) (h : Fin 4) (p : Fin 2) (e : Fin 64),
      m ((c : Thread nD τ).loc main_arg1) (ix5 b r h p e) = (x1 b.val r.val h.val p.val e.val : EReal)) ∧
    ∀ (b : Fin 16) (r : Fin 2064) (h : Fin 4) (d : Fin 128),
      m ((c : Thread nD τ).loc main_arg2) (ix4 b r h d) = (x2 b.val r.val h.val d.val : EReal)

/-- The four vectors' weighting. -/
def lamArg (c : Dev nD) : EReal :=
  lamE (fun k => m ((c : Thread nD τ).loc main_arg3) (ix1 k)) (fun k => m ((c : Thread nD τ).loc main_arg4) (ix1 k))
    (fun k => m ((c : Thread nD τ).loc main_arg5) (ix1 k)) (fun k => m ((c : Thread nD τ).loc main_arg6) (ix1 k))

theorem qsc_real (z : ℝ) : qsc (z : EReal) = ((z * (1 / 8) / Real.log 2 : ℝ) : EReal) := by
  unfold qsc
  rw [ofBits_eighth, log_two, ← EReal.coe_mul]
  exact div_coe _ _ (Real.log_pos (by norm_num)).ne'

variable {x0 x1 : ℕ → ℕ → ℕ → ℕ → ℕ → ℝ} {x2 : ℕ → ℕ → ℕ → ℕ → ℝ}

theorem qBlk (c : Dev nD) (hx : RealArgs m c x0 x1 x2) (t : Fin cfg0.N) :
    RealBlk (X0_0 m c t) fun r x => x0 t.val r (x / 128) (x / 64 % 2) (x % 64) * (1 / 8) / Real.log 2 := fun y0 y1 => by
  have ht : t.val < 16 := lt_of_lt_of_eq t.isLt N_eq
  rw [X0_at, v13_q m c _ _ (by simp only; omega) y1.isLt, hx.1, qsc_real]
  simp only [show (2064 * t.val + y0.val) / 2064 = t.val by omega, show (2064 * t.val + y0.val) % 2064 = y0.val by omega]

theorem kBlk (c : Dev nD) (hx : RealArgs m c x0 x1 x2) (t : Fin cfg0.N) :
    RealBlk (X0_1 m c t) fun r x => x1 t.val r (x / 128) (x / 64 % 2) (x % 64) := fun y0 y1 => by
  have ht : t.val < 16 := lt_of_lt_of_eq t.isLt N_eq
  rw [X1_at, v13_k m c _ _ (by simp only; omega) (by simp only; omega) (by simp only; omega), hx.2.1]
  simp only [show (2064 * t.val + y0.val) / 2064 = t.val by omega, show (2064 * t.val + y0.val) % 2064 = y0.val by omega,
    Nat.add_sub_cancel_left]

theorem vBlk (c : Dev nD) (hx : RealArgs m c x0 x1 x2) (t : Fin cfg0.N) :
    RealBlk (X0_2 m c t) fun r x => x2 t.val r (x / 128) (x % 128) := fun y0 y1 => by
  have ht : t.val < 16 := lt_of_lt_of_eq t.isLt N_eq
  rw [X2_at, v13_v m c _ _ (by simp only; omega) (by simp only; omega) (by simp only; omega), hx.2.2]
  simp only [show (2064 * t.val + y0.val) / 2064 = t.val by omega, show (2064 * t.val + y0.val) % 2064 = y0.val by omega,
    Nat.add_sub_cancel_left]

theorem tile_whole (A : S1x64.Idx → Elt Ideal .f32) (k : Fin 64) :
    tileOf (s := S1x64) (Val := Elt Ideal) (e := .f32) A ![0, 0] S1x64.size (ix2 0 k) = A (ix2 0 k) := by
  refine (tileOf_apply (s := S1x64) (Val := Elt Ideal) (e := .f32) A ![0, 0] S1x64.size (by decide) (ix2 0 k)).trans (congrArg A ?_)
  funext x; apply Fin.ext
  match x with
  | ⟨0, _⟩ => rfl
  | ⟨1, _⟩ => show 0 + 1 * k.val = k.val; omega

theorem lamOf_at (A B C D : S1x64.Idx → Elt Ideal .f32) : lamOf (F := Ideal) A B C D (ix2 0 0)
    = lamE (fun k => A (ix2 0 k)) (fun k => B (ix2 0 k)) (fun k => C (ix2 0 k)) (fun k => D (ix2 0 k)) := by
  unfold lamOf lamE
  rw [lam_at]
  refine congrArg (· + _) (congr (congrArg (· - ·) (congrArg Ideal.exp ?_)) (congrArg Ideal.exp ?_))
  · exact Finset.sum_congr rfl fun k _ => congr (congrArg (· * ·) (tile_whole A k)) (tile_whole B k)
  · exact Finset.sum_congr rfl fun k _ => congr (congrArg (· * ·) (tile_whole C k)) (tile_whole D k)

theorem lamBlk (c : Dev nD) (t : Fin cfg0.N) :
    lamOf (F := Ideal) (iblk m c 3 t) (iblk m c 4 t) (iblk m c 5 t) (iblk m c 6 t) (ix2 0 0) = lamArg m c := by
  rw [lamOf_at]
  unfold lamArg
  exact congr (congr (congr (congrArg lamE (funext fun k => (b3_at m c t k).trans (v14_at m c k))) (funext fun k => (b4_at m c t k).trans (v15_at m c k)))
    (funext fun k => (b5_at m c t k).trans (v16_at m c k))) (funext fun k => (b6_at m c t k).trans (v17_at m c k))

/-- The exponents and values of a block are those of the arguments. -/
theorem dif_eq (L : ℝ) (b h r d : ℕ) (hd : d < 128) :
    dif (fun r x => x0 b r (x / 128) (x / 64 % 2) (x % 64) * (1 / 8) / Real.log 2) (fun r x => x1 b r (x / 128) (x / 64 % 2) (x % 64))
      (fun r x => x2 b r (x / 128) (x % 128)) L (128 * h) r d = diff x0 x1 x2 L b h r d := by
  unfold dif diff
  rw [attn_eq _ (score x0 x1 b h 0 r), attn_eq _ (score x0 x1 b h 1 r)]
  · simp only [show (128 * h + d) / 128 = h by omega, show (128 * h + d) % 128 = d by omega]
  · intro key
    unfold t2 score
    rw [Finset.sum_mul, Finset.sum_div]
    refine Finset.sum_congr rfl fun e _ => ?_
    have := e.isLt
    simp only [show (128 * h + (64 + e.val)) / 128 = h by omega, show (128 * h + (64 + e.val)) / 64 % 2 = 1 by omega,
      show (128 * h + (64 + e.val)) % 64 = e.val by omega]
    ring
  · intro key
    unfold t1 score
    rw [Finset.sum_mul, Finset.sum_div]
    refine Finset.sum_congr rfl fun e _ => ?_
    have := e.isLt
    simp only [show (128 * h + e.val) / 128 = h by omega, show (128 * h + e.val) / 64 % 2 = 0 by omega,
      show (128 * h + e.val) % 64 = e.val by omega]
    ring

/-- The result at a row and a column. -/
def resAt (x0 x1 : ℕ → ℕ → ℕ → ℕ → ℕ → ℝ) (x2 : ℕ → ℕ → ℕ → ℕ → ℝ) (L : ℝ) (g : Fin 128 → EReal) (R C : ℕ) : EReal :=
  nrm (fun d => (diff x0 x1 x2 L (R / 2064) (C / 128) (R % 2064) d.val : EReal)) (g ⟨C % 128, Nat.mod_lt _ (by decide)⟩) ⟨C % 128, Nat.mod_lt _ (by decide)⟩

/-- The result array. -/
def resArr (x0 x1 : ℕ → ℕ → ℕ → ℕ → ℕ → ℝ) (x2 : ℕ → ℕ → ℕ → ℕ → ℝ) (L : ℝ) (g : Fin 128 → EReal) : S33024x512.Idx → EReal :=
  fun i => resAt x0 x1 x2 L g (i 0).val (i 1).val

theorem outs_real (c : Dev nD) (hx : RealArgs m c x0 x1 x2) (L : ℝ) (hL : lamArg m c = L) (t : Fin cfg0.N) (y : S2064x512.Idx) :
    outsAt m c t y = resAt x0 x1 x2 L (fun d => m ((c : Thread nD τ).loc main_arg7) (ix1 d)) (2064 * t.val + (y 0).val) (y 1).val := by
  have h0 : (y 0).val < 2064 := (y 0).isLt
  unfold outsAt outAt resAt
  rw [outBlk_real (qBlk m c hx t) (kBlk m c hx t) (vBlk m c hx t) _ L ((lamBlk m c t).trans hL), b7_at, v18_at]
  simp only [show (2064 * t.val + (y 0).val) / 2064 = t.val by omega, show (2064 * t.val + (y 0).val) % 2064 = (y 0).val by omega]
  refine congrFun (congrFun (congrArg nrm ?_) _) _
  funext d
  rw [dif_eq L t.val _ _ _ d.isLt]

theorem arr_real (c : Dev nD) (hx : RealArgs m c x0 x1 x2) (L : ℝ) (hL : lamArg m c = L) :
    (dats m 0 c).arrAt 8 cfg0.N = resArr x0 x1 x2 L (fun d => m ((c : Thread nD τ).loc main_arg7) (ix1 d)) := by
  refine (dats m 0 c).arrAt_eq_of_covers 8 _ (by decide +kernel) fun t hf y => ?_
  blk_simp [idx8]
  rw [after0_8]
  refine (outs_real m c hx L hL t y).trans ?_
  have e0 : (((win0_8.blk t).view.emb y) 0).val = 2064 * t.val + (y 0).val := by
    blk_simp [idx8]; omega
  have e1 : (((win0_8.blk t).view.emb y) 1).val = (y 1).val := by
    blk_simp [idx8]
  exact (congr (congrArg (resAt x0 x1 x2 L _) e0) e1).symm

end Cert.KernelIdeal.Gen
-- ==== Proof.Hand.RefVal.lean ====
/- The reference's result over the extended reals: at every row and column, differential attention's value there, normalized. -/
module

public import proofs.«01_k».proof.Proof.Gen.ReferenceIdeal.Read
public import proofs.«01_k».proof.Proof.Hand.KVal

@[expose] public section

set_option maxRecDepth 16384

noncomputable section

namespace Cert.Soft

open Idealize.ShloMosaic

/-- A masked score's exponential under a maximum. -/
theorem exp_masked (q : Prop) [Decidable q] (t M : ℝ) :
    Ideal.exp ((if q then (t : EReal) else ⊥) - (M : EReal)) = ((if q then Real.exp t * Real.exp (-M) else 0 : ℝ) : EReal) := by
  by_cases hq : q
  · rw [if_pos hq, if_pos hq, ← EReal.coe_sub, ← Real.exp_add, ← sub_eq_add_neg]; rfl
  · rw [if_neg hq, if_neg hq]; rfl

theorem range_exp_pos (t : ℕ → ℝ) (r : ℕ) : (∑ k ∈ Finset.range (r + 1), Real.exp (t k)) ≠ 0 :=
  (Finset.sum_pos (fun k _ => Real.exp_pos _) ⟨0, Finset.mem_range.2 (by omega)⟩).ne'

/-- A causal softmax's weight. -/
def wgt (t : ℕ → ℝ) (r k : ℕ) : ℝ := if k ≤ r then Real.exp (t k) / ∑ j ∈ Finset.range (r + 1), Real.exp (t j) else 0

/-- What the reference's softmax gives of a row of masked scores, under any real maximum. -/
theorem softmax_masked {n : ℕ} (s : Fin n → EReal) (t : ℕ → ℝ) (r : ℕ) (hr : r < n)
    (hs : ∀ k, s k = if k.val ≤ r then (t k.val : EReal) else ⊥) (M : ℝ) (k : Fin n) :
    Ideal.div (Ideal.exp (s k - (M : EReal))) (∑ x, Ideal.exp (s x - (M : EReal))) = ((wgt t r k.val : ℝ) : EReal) := by
  have e : ∀ x : Fin n, Ideal.exp (s x - (M : EReal)) = ((if x.val ≤ r then Real.exp (t x.val) * Real.exp (-M) else 0 : ℝ) : EReal) :=
    fun x => by rw [hs, exp_masked]
  have hz : (∑ x : Fin n, (if x.val ≤ r then Real.exp (t x.val) * Real.exp (-M) else 0))
      = (∑ j ∈ Finset.range (r + 1), Real.exp (t j)) * Real.exp (-M) := by
    rw [sum_first (fun k => Real.exp (t k) * Real.exp (-M)) r n hr, Finset.sum_mul]
  rw [e, Finset.sum_congr rfl fun x _ => e x, coe_sum, hz,
    div_coe _ _ (mul_ne_zero (range_exp_pos t r) (Real.exp_pos _).ne')]
  unfold wgt
  congr 1
  by_cases hk : k.val ≤ r
  · rw [if_pos hk, if_pos hk, mul_div_mul_right _ _ (Real.exp_pos _).ne']
  · rw [if_neg hk, if_neg hk, zero_div]

theorem wgt_sum (t v : ℕ → ℝ) (r n : ℕ) (hr : r < n) : ∑ k : Fin n, v k.val * wgt t r k.val = smean t v r := by
  unfold smean
  rw [← sum_first (fun k => v k * Real.exp (t k)) r n hr, Finset.sum_div]
  refine Finset.sum_congr rfl fun k _ => ?_
  unfold wgt
  by_cases hk : k.val ≤ r
  · rw [if_pos hk, if_pos hk, mul_div_assoc]
  · rw [if_neg hk, if_neg hk, mul_zero, zero_div]

/-- The two maps' weights, their difference taken first, against the values. -/
theorem wgt_diff (t t' v : ℕ → ℝ) (L : ℝ) (r n : ℕ) (hr : r < n) :
    ∑ k : Fin n, ((v k.val : ℝ) : EReal) * (((wgt t r k.val : ℝ) : EReal) - (L : EReal) * ((wgt t' r k.val : ℝ) : EReal))
      = ((smean t v r - L * smean t' v r : ℝ) : EReal) := by
  have e : ∀ k : Fin n, ((v k.val : ℝ) : EReal) * (((wgt t r k.val : ℝ) : EReal) - (L : EReal) * ((wgt t' r k.val : ℝ) : EReal))
      = ((v k.val * wgt t r k.val - L * (v k.val * wgt t' r k.val) : ℝ) : EReal) := fun k => by
    rw [← EReal.coe_mul, ← EReal.coe_sub, ← EReal.coe_mul]; congr 1; ring
  rw [Finset.sum_congr rfl fun k _ => e k, coe_sum, Finset.sum_sub_distrib, ← Finset.mul_sum, wgt_sum _ _ _ _ hr, wgt_sum _ _ _ _ hr]

/-- The maximum of a row of masked scores is a real number. -/
theorem masked_max {n : ℕ} (s : Fin n → EReal) (t : ℕ → ℝ) (r : ℕ) (hr : r < n)
    (hs : ∀ k, s k = if k.val ≤ r then (t k.val : EReal) else ⊥) : ∃ M : ℝ, max ⊥ (Finset.univ.sup s) = M := by
  refine max_real ⊥ bot_ne_top s (fun k => ?_) ⟨0, by omega⟩ ?_
  · rw [hs]; split
    · exact EReal.coe_ne_top _
    · exact bot_ne_top
  · rw [hs, if_pos (Nat.zero_le r)]; exact EReal.coe_ne_bot _

end Cert.Soft

namespace Cert.ReferenceIdeal.Read

open Cert.ReferenceIdeal Cert.ReferenceIdeal.Gen Idealize.ShloMosaic Cert.Soft

/-- The reference's maximum over the keys, of any scores. -/
theorem max_at (s : FVec Ideal ⟨4, ![16, 4, 2064, 2064]⟩ .f32) (c : FVec Ideal ⟨0, ![]⟩ .f32)
    (hr : (⟨4, ![16, 4, 2064, 2064]⟩ : Shape).ReducesTo [3] ⟨3, ![16, 4, 2064]⟩) (hu : 0 < (⟨0, ![]⟩ : Shape).numel)
    (b : Fin 16) (h : Fin 4) (r : Fin 2064) :
    Host.reduce (FloatOps.maximumf (F := Ideal)) s c hr hu (ix3 b h r)
      = Finset.fold max (c ix0) (fun key : Fin 2064 => s (ix4 b h r key)) Finset.univ := by
  have e : Shape.Idx.first hu = ix0 := funext fun a => a.elim0
  pointwise
  rw [e]

theorem sle_word (j l : ℕ) (hj : j < 2064) (hl : l < 2064) :
    IntOp.cmpi CmpIPredicate.sle (BitVec.ofNat 32 j) (BitVec.ofNat 32 l) = if j ≤ l then 1#1 else 0#1 := by
  simp only [IntOp.cmpi, BitVec.sle]
  rw [BitVec.toInt_eq_toNat_of_lt (by simp; omega), BitVec.toInt_eq_toNat_of_lt (by simp; omega)]
  simp only [BitVec.toNat_ofNat]
  rw [Nat.mod_eq_of_lt (by omega), Nat.mod_eq_of_lt (by omega)]
  by_cases hjx : j ≤ l <;> simp [hjx]

theorem minus_inf : id (constant (F := Ideal) S_ FTy.f32 4286578688#32) ix0 = (⊥ : EReal) := Cert.KernelIdeal.Gen.ninf

variable (X0 X1 : (⟨S16x2064x4x2x64, .f32⟩ : BufTy).Contents (Elt Ideal)) (X2 : (⟨S16x2064x4x128, .f32⟩ : BufTy).Contents (Elt Ideal))
  (X3 X4 X5 X6 : (⟨S64, .f32⟩ : BufTy).Contents (Elt Ideal)) (X7 : (⟨S128, .f32⟩ : BufTy).Contents (Elt Ideal))

theorem v22_at : val_main_v22 (F := Ideal) X3 X4 X5 X6 ix0 = lamE (fun k => X3 (ix1 k)) (fun k => X4 (ix1 k)) (fun k => X5 (ix1 k)) (fun k => X6 (ix1 k)) := by
  unfold lamE
  pointwise [val_main_v22, val_main_v21, val_main_v20, val_main_v19, val_main_v18, val_main_v17, val_main_v16, val_main_v15, val_main_cst, val_main_cst_0, val_main_cst_1]

variable (x0 x1 : ℕ → ℕ → ℕ → ℕ → ℕ → ℝ) (x2 : ℕ → ℕ → ℕ → ℕ → ℝ)
  (h0 : ∀ (b : Fin 16) (r : Fin 2064) (h : Fin 4) (p : Fin 2) (e : Fin 64), X0 (ix5 b r h p e) = ((x0 b r h p e : ℝ) : EReal))
  (h1 : ∀ (b : Fin 16) (r : Fin 2064) (h : Fin 4) (p : Fin 2) (e : Fin 64), X1 (ix5 b r h p e) = ((x1 b r h p e : ℝ) : EReal))
  (h2 : ∀ (b : Fin 16) (r : Fin 2064) (h : Fin 4) (d : Fin 128), X2 (ix4 b r h d) = ((x2 b r h d : ℝ) : EReal))
include h0 h1

theorem score_real (b : Fin 16) (h : Fin 4) (p : Fin 2) (r key : Fin 2064) :
    (∑ x : Fin 64, X0 (ix5 b r h p x) * X1 (ix5 b key h p x)) * Ideal.ofBits FTy.f32 1040187392#32 = ((score x0 x1 b h p r key : ℝ) : EReal) := by
  unfold score
  rw [ofBits_eighth, EReal.coe_mul, ← coe_sum]
  congr 1
  refine Finset.sum_congr rfl fun e _ => ?_
  rw [h0, h1, EReal.coe_mul]

theorem masked_at (b : Fin 16) (h : Fin 4) (p : Fin 2) (r key : Fin 2064) :
    Scalar.select (IntOp.cmpi CmpIPredicate.sle (BitVec.ofNat 32 key) (BitVec.ofNat 32 r))
        ((∑ x : Fin 64, X0 (ix5 b r h p x) * X1 (ix5 b key h p x)) * Ideal.ofBits FTy.f32 1040187392#32)
        (id (constant (F := Ideal) S_ FTy.f32 4286578688#32) ix0)
      = if key.val ≤ r.val then ((score x0 x1 b h p r key.val : ℝ) : EReal) else ⊥ := by
  rw [score_real X0 X1 x0 x1 h0 h1, minus_inf, sle_word _ _ key.isLt r.isLt]
  by_cases hk : key.val ≤ r.val <;> simp [hk, Scalar.select]

theorem v29_at (b : Fin 16) (h : Fin 4) (r key : Fin 2064) : val_main_v29 (F := Ideal) X0 X1 (ix4 b h r key)
    = if key.val ≤ r.val then ((score x0 x1 b h (0 : Fin 2) r key.val : ℝ) : EReal) else ⊥ := by
  rw [← masked_at X0 X1 x0 x1 h0 h1]
  pointwise [val_main_v29, val_main_call0_v1, val_main_call0_v2, val_main_call0_v0, val_main_v25, val_main_v24, val_main_v23, val_main_v12, val_main_v11, val_main_v8, val_main_v7, val_main_cst_2, val_main_cst_4, val_main_v6, val_main_v5, val_main_v4, val_main_v3, val_main_v2, val_main_v1, val_main_v0]

theorem v41_at (b : Fin 16) (h : Fin 4) (r key : Fin 2064) : val_main_v41 (F := Ideal) X0 X1 (ix4 b h r key)
    = if key.val ≤ r.val then ((score x0 x1 b h (1 : Fin 2) r key.val : ℝ) : EReal) else ⊥ := by
  rw [← masked_at X0 X1 x0 x1 h0 h1]
  pointwise [val_main_v41, val_main_call1_v1, val_main_call1_v2, val_main_call1_v0, val_main_v28, val_main_v27, val_main_v26, val_main_v14, val_main_v13, val_main_v10, val_main_v9, val_main_cst_3, val_main_cst_8, val_main_v6, val_main_v5, val_main_v4, val_main_v3, val_main_v2, val_main_v1, val_main_v0]

omit h0 h1 in
theorem v30_at (b : Fin 16) (h : Fin 4) (r : Fin 2064) : (val_main_v30 (F := Ideal) X0 X1 (ix3 b h r) : EReal)
    = Finset.fold max ⊥ (fun key : Fin 2064 => (val_main_v29 (F := Ideal) X0 X1 (ix4 b h r key) : EReal)) Finset.univ := by
  unfold val_main_v30
  generalize val_main_v29 (F := Ideal) X0 X1 = s
  have e := max_at s (val_main_cst_5 (F := Ideal)) reducesTo_S16x4x2064x2064_S16x4x2064_d3 h_S_ b h r
  rw [val_main_cst_5_apply, show FloatOps.ofBits (F := Ideal) .f32 0xFF800000#32 = (⊥ : EReal) from Cert.KernelIdeal.Gen.ninf] at e
  exact e

omit h0 h1 in
theorem v32_at (b : Fin 16) (h : Fin 4) (r : Fin 2064) : (val_main_v32 (F := Ideal) X0 X1 (ix3 b h r) : EReal)
    = max ⊥ (Finset.univ.sup fun key : Fin 2064 => (val_main_v29 (F := Ideal) X0 X1 (ix4 b h r key) : EReal)) := by
  have e1 : (val_main_v31 (F := Ideal) (ix3 b h r) : EReal) = ⊥ := by
    rw [val_main_v31_apply, val_main_cst_6_apply]; exact Cert.KernelIdeal.Gen.ninf
  have e2 : (val_main_v30 (F := Ideal) X0 X1 (ix3 b h r) : EReal)
      = Finset.univ.sup fun key : Fin 2064 => (val_main_v29 (F := Ideal) X0 X1 (ix4 b h r key) : EReal) := by
    rw [v30_at X0 X1, fold_max_eq]
  have e3 : (val_main_v32 (F := Ideal) X0 X1 (ix3 b h r) : EReal)
      = max (val_main_v31 (F := Ideal) (ix3 b h r) : EReal) (val_main_v30 (F := Ideal) X0 X1 (ix3 b h r)) := by
    rw [val_main_v32_apply]; rfl
  exact e3.trans (congr (congrArg max e1) e2)

omit h0 h1 in
theorem v42_at (b : Fin 16) (h : Fin 4) (r : Fin 2064) : (val_main_v42 (F := Ideal) X0 X1 (ix3 b h r) : EReal)
    = Finset.fold max ⊥ (fun key : Fin 2064 => (val_main_v41 (F := Ideal) X0 X1 (ix4 b h r key) : EReal)) Finset.univ := by
  unfold val_main_v42
  generalize val_main_v41 (F := Ideal) X0 X1 = s
  have e := max_at s (val_main_cst_9 (F := Ideal)) reducesTo_S16x4x2064x2064_S16x4x2064_d3 h_S_ b h r
  rw [val_main_cst_9_apply, show FloatOps.ofBits (F := Ideal) .f32 0xFF800000#32 = (⊥ : EReal) from Cert.KernelIdeal.Gen.ninf] at e
  exact e

omit h0 h1 in
theorem v44_at (b : Fin 16) (h : Fin 4) (r : Fin 2064) : (val_main_v44 (F := Ideal) X0 X1 (ix3 b h r) : EReal)
    = max ⊥ (Finset.univ.sup fun key : Fin 2064 => (val_main_v41 (F := Ideal) X0 X1 (ix4 b h r key) : EReal)) := by
  have e1 : (val_main_v43 (F := Ideal) (ix3 b h r) : EReal) = ⊥ := by
    rw [val_main_v43_apply, val_main_cst_10_apply]; exact Cert.KernelIdeal.Gen.ninf
  have e2 : (val_main_v42 (F := Ideal) X0 X1 (ix3 b h r) : EReal)
      = Finset.univ.sup fun key : Fin 2064 => (val_main_v41 (F := Ideal) X0 X1 (ix4 b h r key) : EReal) := by
    rw [v42_at X0 X1, fold_max_eq]
  have e3 : (val_main_v44 (F := Ideal) X0 X1 (ix3 b h r) : EReal)
      = max (val_main_v43 (F := Ideal) (ix3 b h r) : EReal) (val_main_v42 (F := Ideal) X0 X1 (ix3 b h r)) := by
    rw [val_main_v44_apply]; rfl
  exact e3.trans (congr (congrArg max e1) e2)

theorem v40_at (b : Fin 16) (h : Fin 4) (r key : Fin 2064) : val_main_v40 (F := Ideal) X0 X1 (ix4 b h r key)
    = ((wgt (score x0 x1 b h (0 : Fin 2) r) r key.val : ℝ) : EReal) := by
  obtain ⟨M, hM⟩ := masked_max _ _ _ r.isLt fun k => v29_at X0 X1 x0 x1 h0 h1 b h r k
  rw [← v32_at] at hM
  have hs := fun k => v29_at X0 X1 x0 x1 h0 h1 b h r k
  rw [← softmax_masked _ _ _ r.isLt hs M key, ← hM]
  clear hM hs
  unfold val_main_v40 val_main_v39 val_main_v38 val_main_v37 val_main_v36 val_main_v35 val_main_v34 val_main_v33
  generalize val_main_v29 (F := Ideal) X0 X1 = s
  generalize val_main_v32 (F := Ideal) X0 X1 = M
  pointwise [val_main_cst_7]

theorem v52_at (b : Fin 16) (h : Fin 4) (r key : Fin 2064) : val_main_v52 (F := Ideal) X0 X1 (ix4 b h r key)
    = ((wgt (score x0 x1 b h (1 : Fin 2) r) r key.val : ℝ) : EReal) := by
  obtain ⟨M, hM⟩ := masked_max _ _ _ r.isLt fun k => v41_at X0 X1 x0 x1 h0 h1 b h r k
  rw [← v44_at] at hM
  have hs := fun k => v41_at X0 X1 x0 x1 h0 h1 b h r k
  rw [← softmax_masked _ _ _ r.isLt hs M key, ← hM]
  clear hM hs
  unfold val_main_v52 val_main_v51 val_main_v50 val_main_v49 val_main_v48 val_main_v47 val_main_v46 val_main_v45
  generalize val_main_v41 (F := Ideal) X0 X1 = s
  generalize val_main_v44 (F := Ideal) X0 X1 = M
  pointwise [val_main_cst_11]

omit h0 h1 in
theorem v57_read (b : Fin 16) (r : Fin 2064) (h : Fin 4) (d : Fin 128) : val_main_v57 (F := Ideal) X0 X1 X2 X3 X4 X5 X6 (ix4 b r h d)
    = (∑ k : Fin 2064, X2 (ix4 b k h d) * (val_main_v40 (F := Ideal) X0 X1 (ix4 b h r k)
        - val_main_v22 (F := Ideal) X3 X4 X5 X6 ix0 * val_main_v52 (F := Ideal) X0 X1 (ix4 b h r k)) : EReal) := by
  unfold val_main_v57 val_main_v56 val_main_v55 val_main_v54 val_main_v53
  generalize val_main_v40 (F := Ideal) X0 X1 = p
  generalize val_main_v52 (F := Ideal) X0 X1 = p'
  generalize val_main_v22 (F := Ideal) X3 X4 X5 X6 = L
  pointwise

variable (L : ℝ) (hL : val_main_v22 (F := Ideal) X3 X4 X5 X6 ix0 = (L : EReal))
include h2 hL

theorem v57_at (b : Fin 16) (r : Fin 2064) (h : Fin 4) (d : Fin 128) : val_main_v57 (F := Ideal) X0 X1 X2 X3 X4 X5 X6 (ix4 b r h d)
    = ((diff x0 x1 x2 L b h r d : ℝ) : EReal) := by
  rw [v57_read, hL]
  refine Eq.trans (Finset.sum_congr rfl fun k _ => ?_)
    (wgt_diff (score x0 x1 b h (0 : Fin 2) r) (score x0 x1 b h (1 : Fin 2) r) (fun key => x2 b key h d) L r 2064 r.isLt)
  rw [h2, v40_at X0 X1 x0 x1 h0 h1, v52_at X0 X1 x0 x1 h0 h1]

omit h0 h1 h2 hL in
theorem v74_read (R : Fin 33024) (C : Fin 512) : val_main_v74 (F := Ideal) X0 X1 X2 X3 X4 X5 X6 X7 (ix2 R C)
    = Cert.KernelIdeal.Gen.nrm (fun d => val_main_v57 (F := Ideal) X0 X1 X2 X3 X4 X5 X6
        (ix4 ⟨R.val / 2064, by omega⟩ ⟨R.val % 2064, by omega⟩ ⟨C.val / 128, by omega⟩ d))
        (X7 (ix1 ⟨C.val % 128, by omega⟩)) ⟨C.val % 128, by omega⟩ := by
  unfold Cert.KernelIdeal.Gen.nrm
  unfold val_main_v74 val_main_v73 val_main_v72 val_main_v71 val_main_v70 val_main_v69 val_main_v68 val_main_v67 val_main_v66 val_main_v65 val_main_v64 val_main_v63 val_main_v62 val_main_v61 val_main_v60 val_main_v59 val_main_v58
  generalize val_main_v57 (F := Ideal) X0 X1 X2 X3 X4 X5 X6 = y
  pointwise [val_main_cst_12, val_main_cst_13, val_main_cst_14, val_main_cst_15]

theorem v74_eq : val_main_v74 (F := Ideal) X0 X1 X2 X3 X4 X5 X6 X7
    = Cert.KernelIdeal.Gen.resArr x0 x1 x2 L (fun d => X7 (ix1 d)) := by
  funext i
  rw [eq_ix2 i]
  generalize (i 0) = R
  generalize (i 1) = C
  refine (v74_read X0 X1 X2 X3 X4 X5 X6 X7 R C).trans ?_
  show _ = Cert.KernelIdeal.Gen.resAt x0 x1 x2 L (fun d => X7 (ix1 d)) R.val C.val
  unfold Cert.KernelIdeal.Gen.resAt
  refine congrFun (congrFun (congrArg Cert.KernelIdeal.Gen.nrm ?_) _) _
  funext d
  exact v57_at X0 X1 X2 X3 X4 X5 X6 x0 x1 x2 h0 h1 h2 L hL _ _ _ d

end Cert.ReferenceIdeal.Read
-- ==== Proof.Hand.Value.lean ====
/- The kernel and the reference give the same result. -/
module

public import proofs.«01_k».proof.Proof.Hand.Pre
public import proofs.«01_k».proof.Proof.Hand.KVal
public import proofs.«01_k».proof.Proof.Hand.RefVal
public import proofs.«01_k».proof.Proof.Gen.ReferenceIdeal.Run

@[expose] public section

set_option maxRecDepth 16384

noncomputable section

namespace Cert.KernelIdeal.Gen

open Idealize.ShloMosaic Idealize.ShloMosaic.TcCoe Idealize.SL.Sem Cert.Soft

variable (m : (ℓ : Loc nD τ sig) → Buf (Elt Ideal) ℓ) (ρ : Dev nD → PrngReg)

/-- A five-index array of extended reals as a function of numbers. -/
def nat5 (X : S16x2064x4x2x64.Idx → EReal) (b r h p e : ℕ) : ℝ :=
  if hx : b < 16 ∧ r < 2064 ∧ h < 4 ∧ p < 2 ∧ e < 64 then
    (X (ix5 ⟨b, hx.1⟩ ⟨r, hx.2.1⟩ ⟨h, hx.2.2.1⟩ ⟨p, hx.2.2.2.1⟩ ⟨e, hx.2.2.2.2⟩)).toReal else 0

def nat4 (X : S16x2064x4x128.Idx → EReal) (b r h d : ℕ) : ℝ :=
  if hx : b < 16 ∧ r < 2064 ∧ h < 4 ∧ d < 128 then
    (X (ix4 ⟨b, hx.1⟩ ⟨r, hx.2.1⟩ ⟨h, hx.2.2.1⟩ ⟨d, hx.2.2.2⟩)).toReal else 0

theorem nat5_eq (X : S16x2064x4x2x64.Idx → EReal) (hX : ∀ i, ∃ r : ℝ, X i = r) (b : Fin 16) (r : Fin 2064) (h : Fin 4) (p : Fin 2) (e : Fin 64) :
    X (ix5 b r h p e) = ((nat5 X b.val r.val h.val p.val e.val : ℝ) : EReal) := by
  unfold nat5
  rw [dif_pos ⟨b.isLt, r.isLt, h.isLt, p.isLt, e.isLt⟩]
  obtain ⟨z, hz⟩ := hX (ix5 b r h p e)
  show X (ix5 b r h p e) = ((X (ix5 b r h p e)).toReal : EReal)
  rw [hz, EReal.toReal_coe]

theorem nat4_eq (X : S16x2064x4x128.Idx → EReal) (hX : ∀ i, ∃ r : ℝ, X i = r) (b : Fin 16) (r : Fin 2064) (h : Fin 4) (d : Fin 128) :
    X (ix4 b r h d) = ((nat4 X b.val r.val h.val d.val : ℝ) : EReal) := by
  unfold nat4
  rw [dif_pos ⟨b.isLt, r.isLt, h.isLt, d.isLt⟩]
  obtain ⟨z, hz⟩ := hX (ix4 b r h d)
  show X (ix4 b r h d) = ((X (ix4 b r h d)).toReal : EReal)
  rw [hz, EReal.toReal_coe]

/-- The result array of a device's arguments. -/
def result (c : Dev nD) : S33024x512.Idx → EReal :=
  resArr (nat5 (m ((c : Thread nD τ).loc main_arg0))) (nat5 (m ((c : Thread nD τ).loc main_arg1))) (nat4 (m ((c : Thread nD τ).loc main_arg2)))
    (lamArg m c).toReal (fun d => m ((c : Thread nD τ).loc main_arg7) (ix1 d))

/-- An array of real numbers. -/
def IsReal (s : Shape) (X : s.Idx → EReal) : Prop := ∀ i, ∃ r : ℝ, X i = r

/-- All arguments but the normalization's weights are reals. -/
def Reals (c : Dev nD) : Prop :=
  IsReal S16x2064x4x2x64 (m ((c : Thread nD τ).loc main_arg0)) ∧ IsReal S16x2064x4x2x64 (m ((c : Thread nD τ).loc main_arg1))
    ∧ IsReal S16x2064x4x128 (m ((c : Thread nD τ).loc main_arg2)) ∧ IsReal S64 (m ((c : Thread nD τ).loc main_arg3))
    ∧ IsReal S64 (m ((c : Thread nD τ).loc main_arg4)) ∧ IsReal S64 (m ((c : Thread nD τ).loc main_arg5))
    ∧ IsReal S64 (m ((c : Thread nD τ).loc main_arg6))

theorem realArgs (c : Dev nD) (h : Reals m c) :
    RealArgs m c (nat5 (m ((c : Thread nD τ).loc main_arg0))) (nat5 (m ((c : Thread nD τ).loc main_arg1))) (nat4 (m ((c : Thread nD τ).loc main_arg2))) :=
  ⟨nat5_eq _ h.1, nat5_eq _ h.2.1, nat4_eq _ h.2.2.1⟩

theorem lamArg_real (c : Dev nD) (h : Reals m c) : lamArg m c = (((lamArg m c).toReal : ℝ) : EReal) := by
  obtain ⟨z, hz⟩ : ∃ r : ℝ, lamArg m c = r :=
    lamE_real _ _ _ _ (fun _ => h.2.2.2.1 _) (fun _ => h.2.2.2.2.1 _) (fun _ => h.2.2.2.2.2.1 _) (fun _ => h.2.2.2.2.2.2 _)
  rw [hz, EReal.toReal_coe]

/-- The kernel's run: its result on every device, and its arguments unchanged. -/
theorem run_value (h : ∀ c, Reals m c) :
    θ_run defs (onTc (τ := τ) (main (F := Ideal))) ⟨m, fun _ => 0, ρ⟩ (fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r hr c => ?_) (run_main m ρ)
  have kept := (hr.1 c).2
  refine ⟨((hr.1 c).1 8).trans (arr_real m c (realArgs m c (h c)) _ (lamArg_real m c (h c))), ?_, ?_, ?_, ?_, ?_, ?_, ?_, ?_⟩
  · exact (kept main_arg0 (Pipeline.mem_restRefs_of main_arg0 (by decide) (by decide))).trans (V_main_arg0 m c)
  · exact (kept main_arg1 (Pipeline.mem_restRefs_of main_arg1 (by decide) (by decide))).trans (V_main_arg1 m c)
  · exact (kept main_arg2 (Pipeline.mem_restRefs_of main_arg2 (by decide) (by decide))).trans (V_main_arg2 m c)
  · exact (kept main_arg3 (Pipeline.mem_restRefs_of main_arg3 (by decide) (by decide))).trans (V_main_arg3 m c)
  · exact (kept main_arg4 (Pipeline.mem_restRefs_of main_arg4 (by decide) (by decide))).trans (V_main_arg4 m c)
  · exact (kept main_arg5 (Pipeline.mem_restRefs_of main_arg5 (by decide) (by decide))).trans (V_main_arg5 m c)
  · exact (kept main_arg6 (Pipeline.mem_restRefs_of main_arg6 (by decide) (by decide))).trans (V_main_arg6 m c)
  · exact (kept main_arg7 (Pipeline.mem_restRefs_of main_arg7 (by decide) (by decide))).trans (V_main_arg7 m c)

end Cert.KernelIdeal.Gen

namespace Cert.Proof.Equal

open Idealize.ShloMosaic Idealize.SL.Sem

local instance : Cert.KernelIdeal.Facts := Cert.KernelIdeal.Gen.facts
local instance : Cert.ReferenceIdeal.Facts := Cert.ReferenceIdeal.Gen.facts
local instance : Cert.Pre_finite.Facts := Cert.Pre_finite.facts

theorem value : Cert.algebraic_KernelIdeal_ReferenceIdeal_pre_finite := by
  intro m ρ m' ρ' hpre hargs
  have hr : ∀ c, Cert.KernelIdeal.Gen.Reals m c := fun c => Cert.Pre_finite.reals _ _ _ _ _ _ _ _ (hpre c)
  refine ⟨Cert.KernelIdeal.Gen.result m, Cert.KernelIdeal.Gen.run_value m ρ hr, ?_⟩
  refine (θ_run Cert.ReferenceIdeal.defs _ _).mono (fun r h c => ⟨(h c).1.trans ?_, (h c).2⟩) (Cert.ReferenceIdeal.Value.run (F := Ideal) m' ρ')
  obtain ⟨a0, a1, a2, a3, a4, a5, a6, a7⟩ := hargs c
  rw [Cert.ReferenceIdeal.Read.val_main_v74_eq, a0, a1, a2, a3, a4, a5, a6, a7]
  obtain ⟨r0, r1, r2⟩ := Cert.KernelIdeal.Gen.realArgs m c (hr c)
  exact Cert.ReferenceIdeal.Read.v74_eq _ _ _ _ _ _ _ _ _ _ _ r0 r1 r2 _
    ((Cert.ReferenceIdeal.Read.v22_at _ _ _ _).trans (Cert.KernelIdeal.Gen.lamArg_real m c (hr c)))

end Cert.Proof.Equal

end
-- ==== Proof.Hand.FfnFrames.lean ====
/- The frames of the feed-forward kernel's two programs, from the one run, and its reference's. -/
module

public import proofs.«01_k».proof.Defs
public import proofs.«01_k».proof.Proof.Gen.Kernel2
public import proofs.«01_k».proof.Proof.Gen.Kernel2Ideal.Frame
public import proofs.«01_k».proof.Proof.Gen.Reference2Ideal.Run
public import Idealize.ShloMosaic.PureOps.BitExact

@[expose] public section

set_option maxRecDepth 65536

noncomputable section

namespace Cert.Proof.Ffn

open Idealize.ShloMosaic Idealize.SL.Sem

theorem frame_kernelIdeal : Cert.quiescent_Kernel2Ideal (hKernel2Ideal := Cert.Kernel2Ideal.Gen.facts) := fun m ρ _ =>
  Cert.Kernel2Ideal.Gen.frame (F := Ideal) m ρ

local instance bitsFacts : Cert.Kernel2.Facts := Cert.Kernel2.Gen.facts
local instance idealFacts : Cert.Kernel2Ideal.Facts := Cert.Kernel2Ideal.Gen.facts

theorem main_eq : Cert.Kernel2.main (F := Bits) = Cert.Kernel2Ideal.main (F := Bits) := rfl
theorem defs₀_eq : Cert.Kernel2.defs₀ (F := Bits) = Cert.Kernel2Ideal.defs₀ (F := Bits) := by
  unfold Cert.Kernel2.defs₀ Cert.Kernel2Ideal.defs₀
  congr 1
  funext l x
  match l with
  | ⟨0, _⟩ => exact rfl
theorem defs_eq : Cert.Kernel2.defs (F := Bits) = Cert.Kernel2Ideal.defs (F := Bits) := by
  unfold Cert.Kernel2.defs Cert.Kernel2Ideal.defs
  exact congrArg _ defs₀_eq

theorem frame_kernel : Cert.quiescent_Kernel2 (hKernel2 := Cert.Kernel2.Gen.facts) := by
  intro m ρ _
  have h := Cert.Kernel2Ideal.Gen.frame (F := Bits) m ρ
  rw [← defs_eq, ← main_eq] at h
  exact h

theorem frame_reference : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

end Cert.Proof.Ffn

end
-- ==== Proof.Hand.FfnSpec.lean ====
/- The gated feed-forward block over the extended reals, of arrays given by their coordinates: a row's normalization, the
   gate's causal convolution over three rows, the gated product, and the residual sum. -/
module

public import Idealize.ShloMosaic.PureOps.Ideal.Laws

@[expose] public section

noncomputable section

namespace Cert.Ffn

open Idealize.ShloMosaic

/-- A row's mean square, the small constant added. -/
def msq (f : ℕ → EReal) : EReal :=
  Ideal.div (∑ k : Fin 2048, f k.val * f k.val) (Ideal.ofBits FTy.f32 0x45000000#32) + Ideal.ofBits FTy.f32 0x358637BD#32

/-- A row normalized by its mean square and weighted, at a column. -/
def rms (f g : ℕ → EReal) (k : ℕ) : EReal := f k * Ideal.rsqrt (msq f) * g k

/-- A value times its logistic. -/
def silu (z : EReal) : EReal :=
  z * Ideal.div (Ideal.ofBits FTy.f32 0x3F800000#32) (Ideal.ofBits FTy.f32 0x3F800000#32 + Ideal.exp (-z))

variable (x : ℕ → ℕ → ℕ → EReal) (g : ℕ → EReal) (wg wu wc wd : ℕ → ℕ → EReal) (g' : ℕ → EReal)

/-- A normalized row against a weight's column. -/
def lin (w : ℕ → ℕ → EReal) (b s f : ℕ) : EReal := ∑ k : Fin 2048, rms (x b s) g k.val * w k.val f

/-- The gate some rows back, nothing before a sequence's first row. -/
def back (n b s f : ℕ) : EReal := if n ≤ s then lin x g wg b (s - n) f else 0

/-- The gate's causal convolution. -/
def conv (b s f : ℕ) : EReal :=
  back x g wg 0 b s f * wc 2 f + back x g wg 2 b s f * wc 0 f + back x g wg 1 b s f * wc 1 f

/-- The gated product. -/
def act (b s f : ℕ) : EReal := silu (conv x g wg wc b s f) * lin x g wu b s f

/-- The gated product's first columns against the last weight's. -/
def down (n b s c : ℕ) : EReal := ∑ f ∈ Finset.range n, act x g wg wu wc b s f * wd f c

/-- The block's result. -/
def out (b s c : ℕ) : EReal := x b s c + rms (down x g wg wu wc wd 5632 b s) g' c

theorem zero_bits : Ideal.ofBits FTy.f32 0x00000000#32 = 0 := by simp [Ideal.ofBits, Ideal.ieee]

theorem rms_congr {f f' g g' : ℕ → EReal} {k : ℕ} (h : ∀ j, j < 2048 → f j = f' j) (hk : k < 2048) (hg : g k = g' k) : rms f g k = rms f' g' k := by
  unfold rms msq
  rw [h k hk, hg, Finset.sum_congr rfl fun (j : Fin 2048) _ => (by rw [h j.val j.isLt] : f j.val * f j.val = f' j.val * f' j.val)]

end Cert.Ffn
-- ==== Proof.Hand.FfnOps.lean ====
/- The feed-forward kernel's steps over the extended reals, read at an index. -/
module

public import proofs.«01_k».proof.Proof.Gen.Kernel2Ideal.Skeleton
public import proofs.«01_k».proof.Proof.Hand.FfnSpec
public import Idealize.ShloMosaic.Lib.Pointwise

@[expose] public section

set_option maxRecDepth 16384

noncomputable section

namespace Cert.Kernel2Ideal.Gen

open Idealize.ShloMosaic Cert.Ffn

/-- A step's sum: what was accumulated plus the gated product against the last weight. -/
theorem pay1_at (u z : FVec Ideal S688x512 .f32) (a : Vec Ideal S688x2048 .f32) (w : Vec Ideal S512x2048 .bf16) (r : Fin 688) (c : Fin 2048) :
    k0_pay1 (F := Ideal) u z k0_pay10 a w (ix2 r c) = a (ix2 r c) + ∑ f : Fin 512, silu (z (ix2 r f)) * u (ix2 r f) * w (ix2 f c) := by
  unfold silu
  pointwise [k0_pay1, k0_pay10]
  simp only [zero_sub]

/-- The residual sum. -/
theorem pay2_at (h a : Vec Ideal S688x2048 .f32) (g : Vec Ideal S1x2048 .f32) (r : Fin 688) (c : Fin 2048) :
    k0_pay2 (F := Ideal) h a g (ix2 r c) = h (ix2 r c) + a (ix2 r c) * Ideal.rsqrt (Ideal.div (∑ k : Fin 2048, a (ix2 r k) * a (ix2 r k)) (Ideal.ofBits FTy.f32 0x45000000#32) + Ideal.ofBits FTy.f32 0x358637BD#32) * g (ix2 0 c) := by
  pointwise [k0_pay2]

/-- The kernel's word for a tile being its sequence's first. -/
def first (n : BitVec 32) : BitVec 1 :=
  Scalar.cmpi CmpIPredicate.eq
    (Scalar.select
      (Scalar.andi
        (Scalar.xori
          (Scalar.cmpi CmpIPredicate.slt (Scalar.remsi n (Scalar.select (Scalar.cmpi CmpIPredicate.eq 3#32 0#32) 1#32 3#32)) 0#32)
          (Scalar.cmpi CmpIPredicate.slt (Scalar.select (Scalar.cmpi CmpIPredicate.eq 3#32 0#32) 1#32 3#32) 0#32))
        (Scalar.cmpi CmpIPredicate.ne (Scalar.remsi n (Scalar.select (Scalar.cmpi CmpIPredicate.eq 3#32 0#32) 1#32 3#32)) 0#32))
      (Scalar.addi (Scalar.remsi n (Scalar.select (Scalar.cmpi CmpIPredicate.eq 3#32 0#32) 1#32 3#32))
        (Scalar.select (Scalar.cmpi CmpIPredicate.eq 3#32 0#32) 1#32 3#32))
      (Scalar.remsi n (Scalar.select (Scalar.cmpi CmpIPredicate.eq 3#32 0#32) 1#32 3#32)))
    0#32

theorem first_eq : ∀ n : Fin 48, first (BitVec.ofNat 32 n.val) = if n.val % 3 = 0 then 1#1 else 0#1 := by decide +kernel

/-- The rows before a tile, normalized, nothing before a sequence's first tile. -/
theorem pay3_at (n : ℕ) (hn : n < 48) (h : Vec Ideal S16x2048 .f32) (g : Vec Ideal S1x2048 .f32) (r : Fin 16) (c : Fin 2048) :
    k0_pay3 (F := Ideal) (BitVec.ofNat 32 n) h g (ix2 r c) = if n % 3 = 0 then 0 else
      h (ix2 r c) * Ideal.rsqrt (Ideal.div (∑ k : Fin 2048, h (ix2 r k) * h (ix2 r k)) (Ideal.ofBits FTy.f32 0x45000000#32) + Ideal.ofBits FTy.f32 0x358637BD#32) * g (ix2 0 c) := by
  pointwise [k0_pay3]
  change Scalar.select (first (BitVec.ofNat 32 n)) _ _ = _
  rw [first_eq ⟨n, hn⟩]
  by_cases h3 : n % 3 = 0
  · rw [if_pos h3, if_pos h3]; rfl
  · rw [if_neg h3, if_neg h3]; rfl

/-- A tile's rows, normalized. -/
theorem pay5_at (h : Vec Ideal S688x2048 .f32) (g : Vec Ideal S1x2048 .f32) (r : Fin 688) (c : Fin 2048) :
    k0_pay5 (F := Ideal) (k0_pay4 h) g (ix2 r c) = h (ix2 r c) * Ideal.rsqrt (Ideal.div (∑ k : Fin 2048, h (ix2 r k) * h (ix2 r k)) (Ideal.ofBits FTy.f32 0x45000000#32) + Ideal.ofBits FTy.f32 0x358637BD#32) * g (ix2 0 c) := by
  pointwise [k0_pay5, k0_pay4]

theorem pay6_at (r : Fin 688) (c : Fin 2048) : k0_pay6 (F := Ideal) (ix2 r c) = 0 := by
  pointwise [k0_pay6]

theorem pay7_at (h : Vec Ideal S704x2048 .bf16) (w : Vec Ideal S2048x512 .bf16) (r : Fin 704) (f : Fin 512) :
    k0_pay7 (F := Ideal) h w (ix2 r f) = ∑ k : Fin 2048, h (ix2 r k) * w (ix2 k f) := by
  pointwise [k0_pay7]

theorem pay8_at (h : Vec Ideal S688x2048 .bf16) (w : Vec Ideal S2048x512 .bf16) (r : Fin 688) (f : Fin 512) :
    k0_pay8 (F := Ideal) h w (ix2 r f) = ∑ k : Fin 2048, h (ix2 r k) * w (ix2 k f) := by
  pointwise [k0_pay8]

theorem pay9_at (a : Vec Ideal S688x512 .f32) (v : Vec Ideal S1x512 .f32) (a' : Vec Ideal S688x512 .f32) (v' : Vec Ideal S1x512 .f32)
    (a'' : Vec Ideal S688x512 .f32) (v'' : Vec Ideal S1x512 .f32) (r : Fin 688) (f : Fin 512) :
    k0_pay9 (F := Ideal) a v a' v' a'' v'' (ix2 r f) = a (ix2 r f) * v (ix2 0 f) + a' (ix2 r f) * v' (ix2 0 f) + a'' (ix2 r f) * v'' (ix2 0 f) := by
  pointwise [k0_pay9]

end Cert.Kernel2Ideal.Gen
-- ==== Proof.Hand.FfnCase.lean ====
/- What a grid point of the feed-forward kernel leaves in its two carried scratch buffers and in its output block. -/
module

public import proofs.«01_k».proof.Proof.Gen.Kernel2Ideal.Frame
public import Idealize.ShloMosaic.Lib.Pipeline.Value

@[expose] public section

set_option maxRecDepth 16384

noncomputable section

namespace Cert.Kernel2Ideal.Gen

open Idealize.ShloMosaic Idealize.ShloMosaic.TcCoe Idealize.ShloMosaic.Tactic

variable {F : FTy → Type} [FloatOps F]

theorem hz2 : (![0, 0] : Fin 2 → Nat) = fun _ => 0 := funext fun a => by fin_cases a <;> rfl

/-- A tile's normalized rows, the sixteen before it first. -/
def hnT (n : BitVec 32) (x0 : Vec F S688x2048 .f32) (x1 : Vec F S16x2048 .f32) (x2 : Vec F S1x2048 .f32) : Vec F S704x2048 .bf16 :=
  View.canon [⟨Rect.unit ![16, 0] S688x2048.size inb_S704x2048_S688x2048_16_0, k0_pay5 (k0_pay4 x0) x2⟩,
    ⟨Rect.unit ![0, 0] S16x2048.size inb_S704x2048_S16x2048_0_0, k0_pay3 n x1 x2⟩]

/-- The gate's convolution over a step's columns. -/
def convT (hn : Vec F S704x2048 .bf16) (x3 : Vec F S2048x512 .bf16) (x5 : Vec F S3x512 .f32) : FVec F S688x512 .f32 :=
  k0_pay9 (View.ld (S := S704x512) (k0_pay7 hn x3) (Rect.unit ![16, 0] S688x512.size inb_S704x512_S688x512_16_0))
    (View.ld (S := S3x512) x5 (Rect.unit ![2, 0] S1x512.size inb_S3x512_S1x512_2_0))
    (View.ld (S := S704x512) (k0_pay7 hn x3) (Rect.unit ![14, 0] S688x512.size inb_S704x512_S688x512_14_0))
    (View.ld (S := S3x512) x5 (Rect.unit ![0, 0] S1x512.size inb_S3x512_S1x512_0_0))
    (View.ld (S := S704x512) (k0_pay7 hn x3) (Rect.unit ![15, 0] S688x512.size inb_S704x512_S688x512_15_0))
    (View.ld (S := S3x512) x5 (Rect.unit ![1, 0] S1x512.size inb_S3x512_S1x512_1_0))

/-- A step's sum over what was accumulated. -/
def accT (hn : Vec F S704x2048 .bf16) (acc : Vec F S688x2048 .f32) (x3 x4 : Vec F S2048x512 .bf16) (x5 : Vec F S3x512 .f32)
    (x6 : Vec F S512x2048 .bf16) : Vec F S688x2048 .f32 :=
  k0_pay1 (k0_pay8 (View.ld (S := S704x2048) hn (Rect.unit ![16, 0] S688x2048.size inb_S704x2048_S688x2048_16_0)) x4) (convT hn x3 x5) k0_pay10 acc x6

/-- A scratch buffer read back through a box of it is the box of what the stores leave. -/
theorem readCov_ld {s : Shape} {e : EltTy} {sp : Space} (v : View sig .tc sp s e) (L : List (View.Piece (Elt F) s e)) (r : Rect s) :
    v.readCov L r.toLoadRect = View.ld (View.canon L) r := by
  rw [View.readCov_eq_canon']

/-- A scratch buffer stored whole, read back through a box of it. -/
theorem readCov_whole {s : Shape} {e : EltTy} {sp : Space} (v : View sig .tc sp s e) {off : Fin s.rank → ℕ} (h : off = fun _ => 0) (inb : ∀ a, off a + s.size a ≤ s.size a)
    (w : s.Idx → Elt F e) (r : Rect s) : v.readCov [⟨Rect.unit off s.size inb, w⟩] r.toLoadRect = View.ld w r := by
  rw [View.readCov_eq_canon', View.canon_unit_zero h]

variable (c : Dev nD) (i : grid0.Coords) (arg2 : Memref sig .tc .vmem S688x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S688x2048 .f32) (harg10 : arg10.IsWhole) (arg11 : Memref sig .tc .vmem S704x2048 .bf16) (harg11 : arg11.IsWhole) (arg12 : Memref sig .tc .vmem S704x512 .f32) (harg12 : arg12.IsWhole) (arg13 : Memref sig .tc .vmem S688x2048 .f32) (harg13 : arg13.IsWhole)
  (x0 : Vec F S688x2048 .f32) (x1 : Vec F S16x2048 .f32) (x2 : Vec F S1x2048 .f32) (x3 : Vec F S2048x512 .bf16) (x4 : Vec F S2048x512 .bf16) (x5 : Vec F S3x512 .f32) (x6 : Vec F S512x2048 .bf16) (x7 : Vec F S1x2048 .f32) (xs0 : Vec F S704x2048 .bf16) (xs2 : Vec F S688x2048 .f32)

theorem sout_B2 (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs2 = accT xs0 xs2 x3 x4 x5 x6 := by
  unfold sout0_B_2
  rw [View.read_writes_junk_eq_canon]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg11.read_unread, harg13.read_unread, View.ld_unit_zero (S := S688x2048) hz2, View.ld_unit_zero (S := S2048x512) hz2, View.ld_unit_zero (S := S512x2048) hz2, View.ld_unit_zero (S := S704x2048) hz2, View.ld_unit_zero (S := S16x2048) hz2, View.ld_unit_zero (S := S1x2048) hz2]
  simp only [readCov_whole (s := S704x512) _ hz2, readCov_whole (s := S688x2048) _ hz2, View.ld_unit_zero (S := S688x2048) hz2]
  rfl

theorem sout_C2 (hc0 : ¬cond0_0 i) (hc1 : cond0_1 i) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs2 = accT xs0 xs2 x3 x4 x5 x6 := by
  unfold sout0_C_2
  rw [View.read_writes_junk_eq_canon]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg11.read_unread, harg13.read_unread, View.ld_unit_zero (S := S688x2048) hz2, View.ld_unit_zero (S := S2048x512) hz2, View.ld_unit_zero (S := S512x2048) hz2, View.ld_unit_zero (S := S704x2048) hz2, View.ld_unit_zero (S := S16x2048) hz2, View.ld_unit_zero (S := S1x2048) hz2]
  simp only [readCov_whole (s := S704x512) _ hz2, readCov_whole (s := S688x2048) _ hz2, View.ld_unit_zero (S := S688x2048) hz2]
  rfl

theorem out_C8 (hc0 : ¬cond0_0 i) (hc1 : cond0_1 i) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs2 = k0_pay2 x0 (accT xs0 xs2 x3 x4 x5 x6) x7 := by
  unfold out0_C_8
  rw [View.read_writes_junk_eq_canon]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg11.read_unread, harg13.read_unread, View.ld_unit_zero (S := S688x2048) hz2, View.ld_unit_zero (S := S2048x512) hz2, View.ld_unit_zero (S := S512x2048) hz2, View.ld_unit_zero (S := S704x2048) hz2, View.ld_unit_zero (S := S16x2048) hz2, View.ld_unit_zero (S := S1x2048) hz2]
  simp only [readCov_whole (s := S704x512) _ hz2, readCov_whole (s := S688x2048) _ hz2, View.ld_unit_zero (S := S688x2048) hz2]
  rfl

theorem sout_A0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = hnT (BitVec.ofNat 32 (i 0).val) x0 x1 x2 := by
  unfold sout0_A_0
  rw [View.read_writes_junk_eq_canon]
  unfold kernelRun0_A
  dsimp only
  sl_unfold_words
  simp only [View.readAt_eq_ld, harg2.read_unread, harg3.read_unread, harg4.read_unread, harg5.read_unread, harg6.read_unread, harg7.read_unread, harg8.read_unread, harg9.read_unread, harg11.read_unread, harg13.read_unread, View.ld_unit_zero (S := S688x2048) hz2, View.ld_unit_zero (S := S2048x512) hz2, View.ld_unit_zero (S := S512x2048) hz2, View.ld_unit_zero (S := S704x2048) hz2, View.ld_unit_zero (S := S16x2048) hz2, View.ld_unit_zero (S := S1x2048) hz2]
  try simp only [readCov_whole (s := S704x512) _ hz2, readCov_whole (s := S688x2048) _ hz2, View.ld_unit_zero (S := S688x2048) hz2]
  rfl

theorem sout_A2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = accT (hnT (BitVec.ofNat 32 (i 0).val) x0 x1 x2) k0_pay6 x3 x4 x5 x6 := by
  unfold sout0_A_2
  rw [View.read_writes_junk_eq_canon]
  unfold kernelRun0_A
  dsimp only
  sl_unfold_words
  rw [View.canon_cons_unit_zero (S := S688x2048) hz2]
  simp only [View.readAt_eq_ld, harg2.read_unread, harg3.read_unread, harg4.read_unread, harg5.read_unread, harg6.read_unread, harg7.read_unread, harg8.read_unread, harg9.read_unread, harg11.read_unread, harg13.read_unread, View.ld_unit_zero (S := S688x2048) hz2, View.ld_unit_zero (S := S2048x512) hz2, View.ld_unit_zero (S := S512x2048) hz2, View.ld_unit_zero (S := S704x2048) hz2, View.ld_unit_zero (S := S16x2048) hz2, View.ld_unit_zero (S := S1x2048) hz2]
  simp only [readCov_whole (s := S704x512) _ hz2, readCov_whole (s := S688x2048) _ hz2, View.ld_unit_zero (S := S688x2048) hz2]
  simp only [readCov_ld, View.ld_unit_zero (S := S704x2048) hz2]
  rfl

end Cert.Kernel2Ideal.Gen
-- ==== Proof.Hand.FfnHost.lean ====
/- What the feed-forward region finds on entry, and what each step's blocks hold of it. -/
module

public import proofs.«01_k».proof.Proof.Gen.Kernel2Ideal.Value
public import Idealize.ShloMosaic.Lib.StableHlo.ReadAt
public import Idealize.ShloMosaic.Lib.Pipeline.ValueKit

@[expose] public section

set_option maxRecDepth 16384

noncomputable section

namespace Cert.Kernel2Ideal.Gen

open Idealize.ShloMosaic Idealize.ShloMosaic.TcCoe

variable (m : (ℓ : Loc nD τ sig) → Buf (Elt Ideal) ℓ)

theorem v0_at (c : Dev nD) (r : Fin 33024) (k : Fin 2048) :
    V m c main_v0 (ix2 r k) = m ((c : Thread nD τ).loc main_arg0) (ix3 ⟨r.val / 2064, by omega⟩ ⟨r.val % 2064, by omega⟩ k) := by
  unfold V
  after_reads_at

theorem v1_at (c : Dev nD) (k : Fin 2048) : V m c main_v1 (ix2 0 k) = m ((c : Thread nD τ).loc main_arg1) (ix1 k) := by
  unfold V
  after_reads_at

theorem v2_at (c : Dev nD) (k : Fin 2048) (f : Fin 5632) : V m c main_v2 (ix2 k f) = m ((c : Thread nD τ).loc main_arg2) (ix2 k f) := by
  unfold V
  after_reads_at

theorem v3_at (c : Dev nD) (k : Fin 2048) (f : Fin 5632) : V m c main_v3 (ix2 k f) = m ((c : Thread nD τ).loc main_arg3) (ix2 k f) := by
  unfold V
  after_reads_at

theorem a4_at (c : Dev nD) (k : Fin 3) (f : Fin 5632) : V m c main_arg4 (ix2 k f) = m ((c : Thread nD τ).loc main_arg4) (ix2 k f) := by
  unfold V
  after_reads_at

theorem v4_at (c : Dev nD) (f : Fin 5632) (k : Fin 2048) : V m c main_v4 (ix2 f k) = m ((c : Thread nD τ).loc main_arg5) (ix2 f k) := by
  unfold V
  after_reads_at

theorem v5_at (c : Dev nD) (k : Fin 2048) : V m c main_v5 (ix2 0 k) = m ((c : Thread nD τ).loc main_arg6) (ix1 k) := by
  unfold V
  after_reads_at

theorem idx0 : ∀ t : Fin cfg0.N, win0_0.index t = ![t.val / 11, 0] := (by decide +kernel : ∀ t : Fin grid0.N, _)
theorem idx1 : ∀ t : Fin cfg0.N, win0_1.index t = ![43 * (t.val / 11) - 1, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, t.val % 11] := (by decide +kernel : ∀ t : Fin grid0.N, _)
theorem idx4 : ∀ t : Fin cfg0.N, win0_4.index t = ![0, t.val % 11] := (by decide +kernel : ∀ t : Fin grid0.N, _)
theorem idx5 : ∀ t : Fin cfg0.N, win0_5.index t = ![0, t.val % 11] := (by decide +kernel : ∀ t : Fin grid0.N, _)
theorem idx6 : ∀ t : Fin cfg0.N, win0_6.index t = ![t.val % 11, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val / 11, 0] := (by decide +kernel : ∀ t : Fin grid0.N, _)

theorem lt_N (t : Fin cfg0.N) : t.val < 528 := t.isLt.trans_eq N_0

theorem b0_at (c : Dev nD) (t : Fin cfg0.N) (r : Fin 688) (k : Fin 2048) :
    iblk m c 0 t (ix2 r k) = V m c main_v0 (ix2 ⟨688 * (t.val / 11) + r.val, by have := lt_N t; omega⟩ k) := by
  blk_ext [iblk, idx0]
theorem b1_at (c : Dev nD) (t : Fin cfg0.N) (r : Fin 16) (k : Fin 2048) :
    iblk m c 1 t (ix2 r k) = V m c main_v0 (ix2 ⟨16 * (43 * (t.val / 11) - 1) + r.val, by have := lt_N t; omega⟩ k) := by
  blk_ext [iblk, idx1]
theorem b2_at (c : Dev nD) (t : Fin cfg0.N) (k : Fin 2048) : iblk m c 2 t (ix2 0 k) = V m c main_v1 (ix2 0 k) := by
  blk_ext [iblk, idx2]
theorem b3_at (c : Dev nD) (t : Fin cfg0.N) (k : Fin 2048) (f : Fin 512) :
    iblk m c 3 t (ix2 k f) = V m c main_v2 (ix2 k ⟨512 * (t.val % 11) + f.val, by omega⟩) := by
  blk_ext [iblk, idx3]
theorem b4_at (c : Dev nD) (t : Fin cfg0.N) (k : Fin 2048) (f : Fin 512) :
    iblk m c 4 t (ix2 k f) = V m c main_v3 (ix2 k ⟨512 * (t.val % 11) + f.val, by omega⟩) := by
  blk_ext [iblk, idx4]
theorem b5_at (c : Dev nD) (t : Fin cfg0.N) (k : Fin 3) (f : Fin 512) :
    iblk m c 5 t (ix2 k f) = V m c main_arg4 (ix2 k ⟨512 * (t.val % 11) + f.val, by omega⟩) := by
  blk_ext [iblk, idx5]
theorem b6_at (c : Dev nD) (t : Fin cfg0.N) (f : Fin 512) (k : Fin 2048) :
    iblk m c 6 t (ix2 f k) = V m c main_v4 (ix2 ⟨512 * (t.val % 11) + f.val, by omega⟩ k) := by
  blk_ext [iblk, idx6]
theorem b7_at (c : Dev nD) (t : Fin cfg0.N) (k : Fin 2048) : iblk m c 7 t (ix2 0 k) = V m c main_v5 (ix2 0 k) := by
  blk_ext [iblk, idx7]

end Cert.Kernel2Ideal.Gen
-- ==== Proof.Hand.FfnVal.lean ====
/- The feed-forward kernel's result over the extended reals: what the scratch buffers hold after every step, and the output. -/
module

public import proofs.«01_k».proof.Proof.Hand.FfnOps
public import proofs.«01_k».proof.Proof.Hand.FfnCase
public import proofs.«01_k».proof.Proof.Hand.FfnHost

@[expose] public section

set_option maxRecDepth 16384

noncomputable section

namespace Cert.Kernel2Ideal.Gen

open Idealize.ShloMosaic Idealize.ShloMosaic.TcCoe Cert.Ffn

/-- A tile's normalized rows, the sixteen before it first, nothing before a sequence's first row. -/
def hrow (x : ℕ → ℕ → ℕ → EReal) (g : ℕ → EReal) (i p k : ℕ) : EReal :=
  if p < 16 ∧ i % 3 = 0 then 0 else rms (x ((688 * i + p - 16) / 2064) ((688 * i + p - 16) % 2064)) g k

variable (x : ℕ → ℕ → ℕ → EReal) (g : ℕ → EReal) (wg wu wc wd : ℕ → ℕ → EReal) (g' : ℕ → EReal)

theorem hrow_own (i r k : ℕ) (hr : r < 688) : hrow x g i (16 + r) k = rms (x (i / 3) (688 * (i % 3) + r)) g k := by
  unfold hrow
  rw [if_neg (by omega), show (688 * i + (16 + r) - 16) / 2064 = i / 3 by omega, show (688 * i + (16 + r) - 16) % 2064 = 688 * (i % 3) + r by omega]

theorem hrow_back (n i r f : ℕ) (hn : n ≤ 2) (hr : r < 688) (w : ℕ → ℕ → EReal) :
    ∑ k : Fin 2048, hrow x g i (16 - n + r) k.val * w k.val f = back x g w n (i / 3) (688 * (i % 3) + r) f := by
  unfold back lin hrow
  by_cases h : n ≤ 688 * (i % 3) + r
  · rw [if_pos h]
    refine Finset.sum_congr rfl fun k _ => ?_
    rw [if_neg (by omega), show (688 * i + (16 - n + r) - 16) / 2064 = i / 3 by omega,
      show (688 * i + (16 - n + r) - 16) % 2064 = 688 * (i % 3) + r - n by omega]
  · rw [if_neg h]
    refine Finset.sum_eq_zero fun k _ => ?_
    rw [if_pos (by omega), zero_mul]

/-- A block's rows from a row on. -/
theorem ld_rows {a b n d : ℕ} {e : EltTy} (X : Vec Ideal ⟨2, ![a, d]⟩ e) (inb) (r : Fin b) (k : Fin d) (h : n + r.val < a) :
    View.ld (S := ⟨2, ![a, d]⟩) X (Rect.unit (s := ⟨2, ![a, d]⟩) ![n, 0] ![b, d] inb) (ix2 r k) = X (ix2 ⟨n + r.val, h⟩ k) := by
  refine View.ld_unit_apply_of X _ _ _ _ _ fun t => ?_
  match t with
  | ⟨0, _⟩ => rfl
  | ⟨1, _⟩ => exact (Nat.zero_add _).symm

theorem hnT_at (i : ℕ) (hi : i < 48) (x0 : Vec Ideal S688x2048 .f32) (x1 : Vec Ideal S16x2048 .f32) (x2 : Vec Ideal S1x2048 .f32)
    (h0 : ∀ (r : Fin 688) (k : Fin 2048), x0 (ix2 r k) = x ((688 * i + r.val) / 2064) ((688 * i + r.val) % 2064) k.val)
    (h1 : ∀ (r : Fin 16) (k : Fin 2048), x1 (ix2 r k) = x ((16 * (43 * i - 1) + r.val) / 2064) ((16 * (43 * i - 1) + r.val) % 2064) k.val)
    (h2 : ∀ k : Fin 2048, x2 (ix2 0 k) = g k.val) (p : Fin 704) (k : Fin 2048) :
    hnT (F := Ideal) (BitVec.ofNat 32 i) x0 x1 x2 (ix2 p k) = hrow x g i p.val k.val := by
  have hp := p.isLt
  unfold hnT hrow
  by_cases hq : 16 ≤ p.val
  · have e : (ix2 p k : S704x2048.Idx) = (Rect.unit (s := S704x2048) ![16, 0] S688x2048.size inb_S704x2048_S688x2048_16_0).emb (ix2 ⟨p.val - 16, by omega⟩ k) := by
      funext t; apply Fin.ext; refine Eq.trans ?_ (Rect.idx_unit_val _ _ _ _ t).symm
      match t with
      | ⟨0, _⟩ => show p.val = 16 + (p.val - 16); omega
      | ⟨1, _⟩ => show k.val = 0 + k.val; omega
    rw [e, View.canon_cons_emb, pay5_at, if_neg (by omega)]
    unfold rms msq
    simp only [h0, h2, show 688 * i + (p.val - 16) = 688 * i + p.val - 16 by omega]
  · have e : (ix2 p k : S704x2048.Idx) = (Rect.unit (s := S704x2048) ![0, 0] S16x2048.size inb_S704x2048_S16x2048_0_0).emb (ix2 ⟨p.val, by omega⟩ k) := by
      funext t; apply Fin.ext; refine Eq.trans ?_ (Rect.idx_unit_val _ _ _ _ t).symm
      match t with
      | ⟨0, _⟩ => show p.val = 0 + p.val; omega
      | ⟨1, _⟩ => show k.val = 0 + k.val; omega
    rw [View.canon_cons_of_not_mem, e, View.canon_cons_emb, pay3_at i hi]
    · by_cases h3 : i % 3 = 0
      · rw [if_pos h3, if_pos ⟨by omega, h3⟩]
      · rw [if_neg h3, if_neg (fun h => h3 h.2)]
        unfold rms msq
        simp only [h1, h2, show 16 * (43 * i - 1) + p.val = 688 * i + p.val - 16 by omega]
    · intro hm
      rw [Rect.mem_set_unit] at hm
      exact absurd (hm 0).1 (by show ¬ 16 ≤ p.val; omega)

/-- A step, of the tile's rows and what was accumulated. -/
theorem accT_at (i j : ℕ) (hn : Vec Ideal S704x2048 .bf16) (acc : Vec Ideal S688x2048 .f32) (x3 x4 : Vec Ideal S2048x512 .bf16) (x5 : Vec Ideal S3x512 .f32)
    (x6 : Vec Ideal S512x2048 .bf16)
    (hh : ∀ (p : Fin 704) (k : Fin 2048), hn (ix2 p k) = hrow x g i p.val k.val)
    (h3 : ∀ (k : Fin 2048) (f : Fin 512), x3 (ix2 k f) = wg k.val (512 * j + f.val))
    (h4 : ∀ (k : Fin 2048) (f : Fin 512), x4 (ix2 k f) = wu k.val (512 * j + f.val))
    (h5 : ∀ (k : Fin 3) (f : Fin 512), x5 (ix2 k f) = wc k.val (512 * j + f.val))
    (h6 : ∀ (f : Fin 512) (k : Fin 2048), x6 (ix2 f k) = wd (512 * j + f.val) k.val)
    (ha : ∀ (r : Fin 688) (k : Fin 2048), acc (ix2 r k) = down x g wg wu wc wd (512 * j) (i / 3) (688 * (i % 3) + r.val) k.val)
    (r : Fin 688) (k : Fin 2048) :
    accT hn acc x3 x4 x5 x6 (ix2 r k) = down x g wg wu wc wd (512 * (j + 1)) (i / 3) (688 * (i % 3) + r.val) k.val := by
  have hr := r.isLt
  have gate : ∀ (n : ℕ) (hn' : n ≤ 2) (inb) (f : Fin 512), View.ld (S := S704x512) (Val := Elt Ideal) (e' := .f32) (k0_pay7 hn x3) (Rect.unit (s := S704x512) ![16 - n, 0] ![688, 512] inb) (ix2 r f)
      = back x g wg n (i / 3) (688 * (i % 3) + r.val) (512 * j + f.val) := by
    intro n hn' inb f
    refine (ld_rows (a := 704) (b := 688) (n := 16 - n) (d := 512) (e := .f32) (k0_pay7 hn x3) inb r f (by omega)).trans ?_
    rw [pay7_at, ← hrow_back x g n i r.val _ hn' hr]
    exact Finset.sum_congr rfl fun q _ => by rw [hh, h3]
  have cw : ∀ (n : Fin 3) (inb) (f : Fin 512), View.ld (S := S3x512) (Val := Elt Ideal) (e' := .f32) x5 (Rect.unit (s := S3x512) ![n.val, 0] ![1, 512] inb) (ix2 0 f) = wc n.val (512 * j + f.val) := by
    intro n inb f
    exact (ld_rows (a := 3) (b := 1) (n := n.val) (d := 512) (e := .f32) x5 inb 0 f n.isLt).trans (h5 _ f)
  have hconv : ∀ f : Fin 512, convT hn x3 x5 (ix2 r f) = conv x g wg wc (i / 3) (688 * (i % 3) + r.val) (512 * j + f.val) := by
    intro f
    unfold convT conv
    rw [pay9_at]
    exact congr (congrArg (· + ·) (congr (congrArg (· + ·) (congr (congrArg (· * ·) (gate 0 (by omega) _ f)) (cw 2 _ f))) (congr (congrArg (· * ·) (gate 2 (by omega) _ f)) (cw 0 _ f))))
      (congr (congrArg (· * ·) (gate 1 (by omega) _ f)) (cw 1 _ f))
  have hup : ∀ f : Fin 512, k0_pay8 (F := Ideal) (View.ld (S := S704x2048) hn (Rect.unit ![16, 0] S688x2048.size inb_S704x2048_S688x2048_16_0)) x4 (ix2 r f)
      = lin x g wu (i / 3) (688 * (i % 3) + r.val) (512 * j + f.val) := by
    intro f
    rw [pay8_at]
    unfold lin
    refine Finset.sum_congr rfl fun q _ => ?_
    rw [h4, ← hrow_own x g i r.val q.val hr]
    exact congrArg (· * _) ((ld_rows (a := 704) (b := 688) (n := 16) (d := 2048) (e := .bf16) hn _ r q (by omega)).trans (hh _ q))
  unfold accT
  rw [pay1_at, ha]
  unfold down
  rw [show 512 * (j + 1) = 512 * j + 512 by omega, Finset.sum_range_add, ← Fin.sum_univ_eq_sum_range (fun f => act x g wg wu wc (i / 3) (688 * (i % 3) + r.val) (512 * j + f) * wd (512 * j + f) k.val)]
  refine congrArg (_ + ·) (Finset.sum_congr rfl fun f _ => ?_)
  rw [hconv, hup, h6]
  rfl

variable (m : (ℓ : Loc nD τ sig) → Buf (Elt Ideal) ℓ) (c : Dev nD)

/-- A device's arguments are the given arrays. -/
structure Args : Prop where
  a0 : ∀ (b : Fin 16) (s : Fin 2064) (k : Fin 2048), m ((c : Thread nD τ).loc main_arg0) (ix3 b s k) = x b.val s.val k.val
  a1 : ∀ k : Fin 2048, m ((c : Thread nD τ).loc main_arg1) (ix1 k) = g k.val
  a2 : ∀ (k : Fin 2048) (f : Fin 5632), m ((c : Thread nD τ).loc main_arg2) (ix2 k f) = wg k.val f.val
  a3 : ∀ (k : Fin 2048) (f : Fin 5632), m ((c : Thread nD τ).loc main_arg3) (ix2 k f) = wu k.val f.val
  a4 : ∀ (k : Fin 3) (f : Fin 5632), m ((c : Thread nD τ).loc main_arg4) (ix2 k f) = wc k.val f.val
  a5 : ∀ (f : Fin 5632) (k : Fin 2048), m ((c : Thread nD τ).loc main_arg5) (ix2 f k) = wd f.val k.val
  a6 : ∀ k : Fin 2048, m ((c : Thread nD τ).loc main_arg6) (ix1 k) = g' k.val

theorem coord0 : ∀ t : Fin cfg0.N, ((grid0.coords t) 0).val = t.val / 11 := (by decide +kernel : ∀ t : Fin grid0.N, _)

section
variable (H : Args x g wg wu wc wd g' m c) (t : Fin cfg0.N)
include H

/-- What a step makes of the tile's rows and the sum so far. -/
theorem step_at (hn : Vec Ideal S704x2048 .bf16) (acc : Vec Ideal S688x2048 .f32)
    (hh : ∀ (p : Fin 704) (k : Fin 2048), hn (ix2 p k) = hrow x g (t.val / 11) p.val k.val)
    (ha : ∀ (r : Fin 688) (k : Fin 2048), acc (ix2 r k) = down x g wg wu wc wd (512 * (t.val % 11)) (t.val / 11 / 3) (688 * (t.val / 11 % 3) + r.val) k.val)
    (r : Fin 688) (k : Fin 2048) :
    accT hn acc (iblk m c 3 t) (iblk m c 4 t) (iblk m c 5 t) (iblk m c 6 t) (ix2 r k)
      = down x g wg wu wc wd (512 * (t.val % 11 + 1)) (t.val / 11 / 3) (688 * (t.val / 11 % 3) + r.val) k.val :=
  accT_at x g wg wu wc wd (t.val / 11) (t.val % 11) hn acc _ _ _ _ hh
    (fun k f => (b3_at m c t k f).trans ((v2_at m c _ _).trans (H.a2 _ _)))
    (fun k f => (b4_at m c t k f).trans ((v3_at m c _ _).trans (H.a3 _ _)))
    (fun k f => (b5_at m c t k f).trans ((a4_at m c _ _).trans (H.a4 _ _)))
    (fun f k => (b6_at m c t f k).trans ((v4_at m c _ _).trans (H.a5 _ _))) ha r k

theorem tile_at (p : Fin 704) (k : Fin 2048) :
    hnT (F := Ideal) (BitVec.ofNat 32 ((grid0.coords t) 0).val) (iblk m c 0 t) (iblk m c 1 t) (iblk m c 2 t) (ix2 p k) = hrow x g (t.val / 11) p.val k.val := by
  rw [coord0 t]
  exact hnT_at x g (t.val / 11) (by have := lt_N t; omega) _ _ _
    (fun r k => (b0_at m c t r k).trans ((v0_at m c _ _).trans (H.a0 _ _ _)))
    (fun r k => (b1_at m c t r k).trans ((v0_at m c _ _).trans (H.a0 _ _ _)))
    (fun k => (b2_at m c t k).trans ((v1_at m c _).trans (H.a1 _))) p k

end

/-- What the scratch buffers hold after a point: its tile's normalized rows, and the sum over the columns done. -/
theorem scratch_at (H : Args x g wg wu wc wd g' m c) : ∀ (n : ℕ) (h : n < cfg0.N),
    (∀ (p : Fin 704) (k : Fin 2048), (outsAt0 m c n h).2.1 (ix2 p k) = hrow x g (n / 11) p.val k.val)
    ∧ ∀ (r : Fin 688) (k : Fin 2048), (outsAt0 m c n h).2.2 (ix2 r k) = down x g wg wu wc wd (512 * (n % 11 + 1)) (n / 11 / 3) (688 * (n / 11 % 3) + r.val) k.val := by
  intro n
  induction n with
  | zero =>
    intro h
    have e := outsAt0_A m c ⟨0, h⟩ (Nat.zero_mod _) (by show ¬ 0 % 11 = 10; decide)
    dsimp only at e
    rw [e]; dsimp only
    rw [sout_A0, sout_A2]
    exact ⟨tile_at x g wg wu wc wd g' m c H ⟨0, h⟩, step_at x g wg wu wc wd g' m c H ⟨0, h⟩ _ _ (tile_at x g wg wu wc wd g' m c H ⟨0, h⟩)
      fun r k => (pay6_at r k).trans rfl⟩
  | succ n ih =>
    intro h
    by_cases h0 : (n + 1) % 11 = 0
    · have e := outsAt0_A m c ⟨n + 1, h⟩ h0 (by dsimp only; omega)
      dsimp only at e
      rw [e]; dsimp only
      rw [sout_A0, sout_A2]
      refine ⟨tile_at x g wg wu wc wd g' m c H ⟨n + 1, h⟩, step_at x g wg wu wc wd g' m c H ⟨n + 1, h⟩ _ _ (tile_at x g wg wu wc wd g' m c H ⟨n + 1, h⟩)
        fun r k => (pay6_at r k).trans ?_⟩
      dsimp only
      rw [h0]; rfl
    · obtain ⟨i1, i2⟩ := ih (by omega)
      rw [show n / 11 = (n + 1) / 11 by omega] at i1 i2
      rw [show n % 11 + 1 = (n + 1) % 11 by omega] at i2
      by_cases h1 : (n + 1) % 11 = 10
      · have e := outsAt0_C m c ⟨n + 1, h⟩ h0 h1
        dsimp only at e
        rw [e]; dsimp only
        rw [sout_C2]
        exact ⟨i1, step_at x g wg wu wc wd g' m c H ⟨n + 1, h⟩ _ _ i1 i2⟩
      · have e := outsAt0_B m c ⟨n + 1, h⟩ h0 h1
        dsimp only at e
        rw [e]; dsimp only
        rw [sout_B2]
        exact ⟨i1, step_at x g wg wu wc wd g' m c H ⟨n + 1, h⟩ _ _ i1 i2⟩

/-- A tile's output. -/
theorem tile_out (H : Args x g wg wu wc wd g' m c) (t : Fin cfg0.N) (h1 : t.val % 11 = 10) (r : Fin 688) (k : Fin 2048) :
    (outsAt0 m c t.val t.isLt).1 (ix2 r k) = out x g wg wu wc wd g' ((688 * (t.val / 11) + r.val) / 2064) ((688 * (t.val / 11) + r.val) % 2064) k.val := by
  have hr := r.isLt
  obtain ⟨i1, i2⟩ := scratch_at x g wg wu wc wd g' m c H (t.val - 1) (by have := t.isLt; omega)
  rw [show (t.val - 1) / 11 = t.val / 11 by omega] at i1 i2
  rw [show (t.val - 1) % 11 + 1 = t.val % 11 by omega] at i2
  rw [outsAt0_C m c t (by omega) h1]; dsimp only
  rw [out_C8, pay2_at]
  have ha := step_at x g wg wu wc wd g' m c H t _ _ i1 i2
  rw [h1] at ha
  unfold out rms msq
  rw [show (688 * (t.val / 11) + r.val) / 2064 = t.val / 11 / 3 by omega, show (688 * (t.val / 11) + r.val) % 2064 = 688 * (t.val / 11 % 3) + r.val by omega]
  have e0 : iblk m c 0 t (ix2 r k) = x (t.val / 11 / 3) (688 * (t.val / 11 % 3) + r.val) k.val := by
    refine (b0_at m c t r k).trans ((v0_at m c _ _).trans ((H.a0 _ _ _).trans ?_))
    dsimp only
    rw [show (688 * (t.val / 11) + r.val) / 2064 = t.val / 11 / 3 by omega, show (688 * (t.val / 11) + r.val) % 2064 = 688 * (t.val / 11 % 3) + r.val by omega]
  have e7 : iblk m c 7 t (ix2 0 k) = g' k.val := (b7_at m c t k).trans ((v5_at m c _).trans (H.a6 _))
  rw [e0, e7]
  simp only [ha]

/-- The result array. -/
def ffnArr (x : ℕ → ℕ → ℕ → EReal) (g : ℕ → EReal) (wg wu wc wd : ℕ → ℕ → EReal) (g' : ℕ → EReal) : S33024x2048.Idx → EReal :=
  fun i => out x g wg wu wc wd g' ((i 0).val / 2064) ((i 0).val % 2064) (i 1).val

theorem arr_at (H : Args x g wg wu wc wd g' m c) : (dats m 0 c).arrAt 8 cfg0.N = ffnArr x g wg wu wc wd g' := by
  refine (dats m 0 c).arrAt_eq_of_covers 8 _ (by decide +kernel) fun t hf y => ?_
  have h1 : t.val % 11 = 10 := (flush0_8 t).mp hf
  blk_simp [idx8]
  rw [after0_8]
  have ey : y = ix2 (y 0) (y 1) := eq_ix2 y
  rw [ey]
  refine (tile_out x g wg wu wc wd g' m c H t h1 (y 0) (y 1)).trans ?_
  have e0 : (((win0_8.blk t).view.emb (ix2 (y 0) (y 1))) 0).val = 688 * (t.val / 11) + (y 0).val := by
    blk_simp [idx8]; omega
  have e1 : (((win0_8.blk t).view.emb (ix2 (y 0) (y 1))) 1).val = (y 1).val := by
    blk_simp [idx8]
  exact (congr (congrArg (fun a b => out x g wg wu wc wd g' (a / 2064) (a % 2064) b) e0) e1).symm

end Cert.Kernel2Ideal.Gen
-- ==== Proof.Hand.FfnRef.lean ====
/- The reference's feed-forward block over the extended reals, read at an index. -/
module

public import proofs.«01_k».proof.Proof.Gen.Reference2Ideal.Read
public import proofs.«01_k».proof.Proof.Hand.FfnSpec
public import Idealize.ShloMosaic.Lib.Pointwise

@[expose] public section

set_option maxRecDepth 16384

noncomputable section

namespace Cert.Reference2Ideal.Read

open Cert.Reference2Ideal Cert.Reference2Ideal.Gen Idealize.ShloMosaic Cert.Ffn

variable (X0 : (⟨S16x2064x2048, .f32⟩ : BufTy).Contents (Elt Ideal)) (X1 : (⟨S2048, .f32⟩ : BufTy).Contents (Elt Ideal))
  (X2 X3 : (⟨S2048x5632, .f32⟩ : BufTy).Contents (Elt Ideal)) (X4 : (⟨S3x5632, .f32⟩ : BufTy).Contents (Elt Ideal))
  (X5 : (⟨S5632x2048, .f32⟩ : BufTy).Contents (Elt Ideal)) (X6 : (⟨S2048, .f32⟩ : BufTy).Contents (Elt Ideal))
  (x : ℕ → ℕ → ℕ → EReal) (g : ℕ → EReal) (wg wu wc wd : ℕ → ℕ → EReal) (g' : ℕ → EReal)
  (h0 : ∀ (b : Fin 16) (s : Fin 2064) (k : Fin 2048), X0 (ix3 b s k) = x b.val s.val k.val)
  (h1 : ∀ k : Fin 2048, X1 (ix1 k) = g k.val)
  (h2 : ∀ (k : Fin 2048) (f : Fin 5632), X2 (ix2 k f) = wg k.val f.val)
  (h3 : ∀ (k : Fin 2048) (f : Fin 5632), X3 (ix2 k f) = wu k.val f.val)
  (h4 : ∀ (k : Fin 3) (f : Fin 5632), X4 (ix2 k f) = wc k.val f.val)
  (h5 : ∀ (f : Fin 5632) (k : Fin 2048), X5 (ix2 f k) = wd f.val k.val)
  (h6 : ∀ k : Fin 2048, X6 (ix1 k) = g' k.val)
include h0 h1

theorem v12_at (b : Fin 16) (s : Fin 2064) (k : Fin 2048) : val_main_v12 (F := Ideal) X0 X1 (ix3 b s k) = rms (x b.val s.val) g k.val := by
  unfold rms msq
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  simp only [h0, h1]

include h2
theorem v13_at (b : Fin 16) (s : Fin 2064) (f : Fin 5632) : val_main_v13 (F := Ideal) X0 X1 X2 (ix3 b s f) = lin x g wg b.val s.val f.val := by
  unfold lin
  pointwise [val_main_v13]
  exact Finset.sum_congr rfl fun k _ => by rw [v12_at X0 X1 x g h0 h1, h2]

/-- Two rows of nothing before the gate's. -/
theorem v14_at (b : Fin 16) (s : Fin 2066) (f : Fin 5632) :
    val_main_v14 (F := Ideal) X0 X1 X2 (ix3 b s f) = if 2 ≤ s.val then lin x g wg b.val (s.val - 2) f.val else 0 := by
  unfold val_main_v14
  pointwise [val_main_call0_v0, val_main_c]
  by_cases hs : 2 ≤ s.val
  · have := s.isLt
    rw [dif_pos ⟨hs, by omega⟩, if_pos hs, v13_at X0 X1 X2 x g wg h0 h1 h2]
  · rw [dif_neg (fun h => hs h.1), if_neg hs]
    show (((0#32).toInt : ℝ) : EReal) = 0
    simp

include h4
theorem v36_at (b : Fin 16) (s : Fin 2064) (f : Fin 5632) :
    val_main_v36 (F := Ideal) X0 X1 X2 X4 (ix3 b s f) = conv x g wg wc b.val s.val f.val := by
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_cst_2]
  simp only [h4, v14_at X0 X1 X2 x g wg h0 h1 h2]
  unfold conv back
  rw [if_pos (show 2 ≤ 2 + s.val by omega), if_pos (Nat.zero_le s.val), show 2 + s.val - 2 = s.val - 0 by omega, show 1 + s.val - 2 = s.val - 1 by omega,
    if_congr (show 2 ≤ 1 + s.val ↔ 1 ≤ s.val by omega) rfl rfl, mul_comm (wc _ _), mul_comm (wc _ _), mul_comm (wc _ _)]
  exact (add_comm _ _).trans (add_assoc _ _ _).symm

include h3
theorem v39_at (b : Fin 16) (s : Fin 2064) (f : Fin 5632) :
    val_main_v39 (F := Ideal) X0 X1 X2 X3 X4 (ix3 b s f) = act x g wg wu wc b.val s.val f.val := by
  unfold act lin silu
  rw [← v36_at X0 X1 X2 X4 x g wg wc h0 h1 h2 h4]
  pointwise [val_main_v39, val_main_v38, val_main_v37, val_main_call1_v5, val_main_call1_v4, val_main_call1_v3, val_main_call1_v2, val_main_call1_v1, val_main_call1_v0, val_main_call1_cst, val_main_call1_cst_0]
  simp only [v12_at X0 X1 x g h0 h1, h3]

include h5
theorem v40_at (b : Fin 16) (s : Fin 2064) (k : Fin 2048) :
    val_main_v40 (F := Ideal) X0 X1 X2 X3 X4 X5 (ix3 b s k) = down x g wg wu wc wd 5632 b.val s.val k.val := by
  unfold down
  pointwise [val_main_v40]
  rw [← Fin.sum_univ_eq_sum_range (fun f => act x g wg wu wc b.val s.val f * wd f k.val)]
  exact Finset.sum_congr rfl fun f _ => by rw [v39_at X0 X1 X2 X3 X4 x g wg wu wc h0 h1 h2 h3 h4, h5]

include h6
theorem v54_at (b : Fin 16) (s : Fin 2064) (k : Fin 2048) :
    val_main_v54 (F := Ideal) X0 X1 X2 X3 X4 X5 X6 (ix3 b s k) = out x g wg wu wc wd g' b.val s.val k.val := by
  unfold out rms msq
  pointwise [val_main_v54, val_main_v53, val_main_v52, val_main_v51, val_main_v50, val_main_v49, val_main_v48, val_main_v47, val_main_v46, val_main_v45, val_main_v44, val_main_v43, val_main_v42, val_main_v41, val_main_cst_3, val_main_cst_4, val_main_cst_5]
  simp only [h0, h6, v40_at X0 X1 X2 X3 X4 X5 x g wg wu wc wd h0 h1 h2 h3 h4 h5]

theorem v55_at (r : Fin 33024) (k : Fin 2048) :
    val_main_v55 (F := Ideal) X0 X1 X2 X3 X4 X5 X6 (ix2 r k) = out x g wg wu wc wd g' (r.val / 2064) (r.val % 2064) k.val := by
  pointwise [val_main_v55]
  exact v54_at X0 X1 X2 X3 X4 X5 X6 x g wg wu wc wd g' h0 h1 h2 h3 h4 h5 h6 _ _ _

end Cert.Reference2Ideal.Read
-- ==== Proof.Hand.FfnValue.lean ====
/- Over the extended reals the feed-forward kernel and its reference give the same result. -/
module

public import proofs.«01_k».proof.Defs
public import proofs.«01_k».proof.Proof.Hand.FfnVal
public import proofs.«01_k».proof.Proof.Hand.FfnRef
public import proofs.«01_k».proof.Proof.Gen.Reference2Ideal.Run

@[expose] public section

set_option maxRecDepth 16384

noncomputable section

namespace Cert.Kernel2Ideal.Gen

open Idealize.ShloMosaic Idealize.ShloMosaic.TcCoe Idealize.SL.Sem Cert.Ffn

/-- Arrays of one, two and three axes as functions of numbers. -/
def nat1 {a : ℕ} (X : (⟨1, ![a]⟩ : Shape).Idx → EReal) (i : ℕ) : EReal := if h : i < a then X (ix1 ⟨i, h⟩) else 0

def nat2 {a b : ℕ} (X : (⟨2, ![a, b]⟩ : Shape).Idx → EReal) (i j : ℕ) : EReal :=
  if h : i < a ∧ j < b then X (ix2 ⟨i, h.1⟩ ⟨j, h.2⟩) else 0

def nat3 {a b d : ℕ} (X : (⟨3, ![a, b, d]⟩ : Shape).Idx → EReal) (i j k : ℕ) : EReal :=
  if h : i < a ∧ j < b ∧ k < d then X (ix3 ⟨i, h.1⟩ ⟨j, h.2.1⟩ ⟨k, h.2.2⟩) else 0

theorem nat1_eq {a : ℕ} (X : (⟨1, ![a]⟩ : Shape).Idx → EReal) (i : Fin a) : X (ix1 i) = nat1 X i.val := by
  unfold nat1; rw [dif_pos i.isLt]

theorem nat2_eq {a b : ℕ} (X : (⟨2, ![a, b]⟩ : Shape).Idx → EReal) (i : Fin a) (j : Fin b) : X (ix2 i j) = nat2 X i.val j.val := by
  unfold nat2; rw [dif_pos ⟨i.isLt, j.isLt⟩]

theorem nat3_eq {a b d : ℕ} (X : (⟨3, ![a, b, d]⟩ : Shape).Idx → EReal) (i : Fin a) (j : Fin b) (k : Fin d) : X (ix3 i j k) = nat3 X i.val j.val k.val := by
  unfold nat3; rw [dif_pos ⟨i.isLt, j.isLt, k.isLt⟩]

variable (m : (ℓ : Loc nD τ sig) → Buf (Elt Ideal) ℓ) (ρ : Dev nD → PrngReg)

/-- The result array of a device's arguments. -/
def result (c : Dev nD) : S33024x2048.Idx → EReal :=
  ffnArr (nat3 (a := 16) (b := 2064) (d := 2048) (m ((c : Thread nD τ).loc main_arg0))) (nat1 (a := 2048) (m ((c : Thread nD τ).loc main_arg1)))
    (nat2 (a := 2048) (b := 5632) (m ((c : Thread nD τ).loc main_arg2))) (nat2 (a := 2048) (b := 5632) (m ((c : Thread nD τ).loc main_arg3)))
    (nat2 (a := 3) (b := 5632) (m ((c : Thread nD τ).loc main_arg4))) (nat2 (a := 5632) (b := 2048) (m ((c : Thread nD τ).loc main_arg5)))
    (nat1 (a := 2048) (m ((c : Thread nD τ).loc main_arg6)))

theorem args (c : Dev nD) : Args (nat3 (a := 16) (b := 2064) (d := 2048) (m ((c : Thread nD τ).loc main_arg0))) (nat1 (a := 2048) (m ((c : Thread nD τ).loc main_arg1)))
    (nat2 (a := 2048) (b := 5632) (m ((c : Thread nD τ).loc main_arg2))) (nat2 (a := 2048) (b := 5632) (m ((c : Thread nD τ).loc main_arg3)))
    (nat2 (a := 3) (b := 5632) (m ((c : Thread nD τ).loc main_arg4))) (nat2 (a := 5632) (b := 2048) (m ((c : Thread nD τ).loc main_arg5)))
    (nat1 (a := 2048) (m ((c : Thread nD τ).loc main_arg6))) m c :=
  ⟨nat3_eq _, nat1_eq _, nat2_eq _, nat2_eq _, nat2_eq _, nat2_eq _, nat1_eq _⟩

end Cert.Kernel2Ideal.Gen

namespace Cert.Proof.EqualFfn

open Idealize.ShloMosaic Idealize.SL.Sem

local instance ffnKernelFacts : Cert.Kernel2Ideal.Facts := Cert.Kernel2Ideal.Gen.facts
local instance ffnReferenceFacts : Cert.Reference2Ideal.Facts := Cert.Reference2Ideal.Gen.facts

theorem value : Cert.algebraic_Kernel2Ideal_Reference2Ideal := by
  intro m ρ m' ρ' _ hargs
  refine ⟨Cert.Kernel2Ideal.Gen.result m, ?_, ?_⟩
  · refine (θ_run Cert.Kernel2Ideal.defs _ _).mono (fun r h c => ⟨(h c).1.trans ?_, (h c).2⟩) (Cert.Kernel2Ideal.Value.run_blocks (F := Ideal) m ρ)
    exact Cert.Kernel2Ideal.Gen.arr_at _ _ _ _ _ _ _ m c (Cert.Kernel2Ideal.Gen.args m c)
  · refine (θ_run Cert.Reference2Ideal.defs _ _).mono (fun r h c => ⟨(h c).1.trans ?_, (h c).2⟩) (Cert.Reference2Ideal.Value.run (F := Ideal) m' ρ')
    obtain ⟨a0, a1, a2, a3, a4, a5, a6⟩ := hargs c
    rw [Cert.Reference2Ideal.Read.val_main_v55_eq, a0, a1, a2, a3, a4, a5, a6]
    have H := Cert.Kernel2Ideal.Gen.args m c
    funext i
    rw [eq_ix2 i]
    exact Cert.Reference2Ideal.Read.v55_at _ _ _ _ _ _ _ _ _ _ _ _ _ _ H.a0 H.a1 H.a2 H.a3 H.a4 H.a5 H.a6 (i 0) (i 1)

end Cert.Proof.EqualFfn

end
-- ==== Proof.Hand.OutFrames.lean ====
/- The frames of the output projection's two programs, from the one run, and its reference's. -/
module

public import proofs.«01_k».proof.Defs
public import proofs.«01_k».proof.Proof.Gen.Kernel3
public import proofs.«01_k».proof.Proof.Gen.Kernel3Ideal.Frame
public import proofs.«01_k».proof.Proof.Gen.Reference3Ideal.Run
public import Idealize.ShloMosaic.PureOps.BitExact

@[expose] public section

set_option maxRecDepth 65536

noncomputable section

namespace Cert.Proof.Out

open Idealize.ShloMosaic Idealize.SL.Sem

theorem frame_kernelIdeal : Cert.quiescent_Kernel3Ideal (hKernel3Ideal := Cert.Kernel3Ideal.Gen.facts) := fun m ρ _ =>
  Cert.Kernel3Ideal.Gen.frame (F := Ideal) m ρ

local instance bitsFacts : Cert.Kernel3.Facts := Cert.Kernel3.Gen.facts
local instance idealFacts : Cert.Kernel3Ideal.Facts := Cert.Kernel3Ideal.Gen.facts

theorem main_eq : Cert.Kernel3.main (F := Bits) = Cert.Kernel3Ideal.main (F := Bits) := rfl
theorem defs₀_eq : Cert.Kernel3.defs₀ (F := Bits) = Cert.Kernel3Ideal.defs₀ (F := Bits) := by
  unfold Cert.Kernel3.defs₀ Cert.Kernel3Ideal.defs₀
  congr 1
  funext l x
  match l with
  | ⟨0, _⟩ => exact rfl
theorem defs_eq : Cert.Kernel3.defs (F := Bits) = Cert.Kernel3Ideal.defs (F := Bits) := by
  unfold Cert.Kernel3.defs Cert.Kernel3Ideal.defs
  exact congrArg _ defs₀_eq

theorem frame_kernel : Cert.quiescent_Kernel3 (hKernel3 := Cert.Kernel3.Gen.facts) := by
  intro m ρ _
  have h := Cert.Kernel3Ideal.Gen.frame (F := Bits) m ρ
  rw [← defs_eq, ← main_eq] at h
  exact h

theorem frame_reference : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

end Cert.Proof.Out

end
-- ==== Proof.Hand.OutSpec.lean ====
/- The output projection over the extended reals, of arrays given by their coordinates: three groups of columns against the
   weight's rows, the projected row normalized, and the residual sum. -/
module

public import proofs.«01_k».proof.Proof.Hand.FfnSpec

@[expose] public section

noncomputable section

namespace Cert.OutProj

open Idealize.ShloMosaic Cert.Ffn

/-- A row's coordinate of the three groups laid side by side. -/
def cat (u v z : ℕ → ℕ → ℕ → EReal) (b s k : ℕ) : EReal :=
  if k < 768 then u b s k else if k < 1280 then v b s (k - 768) else z b s (k - 1280)

/-- A row's projection, group by group. -/
def mix (u v z : ℕ → ℕ → ℕ → EReal) (w : ℕ → ℕ → EReal) (b s c : ℕ) : EReal :=
  ∑ k : Fin 768, u b s k.val * w k.val c + ∑ k : Fin 512, v b s k.val * w (768 + k.val) c + ∑ k : Fin 768, z b s k.val * w (1280 + k.val) c

/-- It is one sum over the columns laid side by side. -/
theorem sum_cat (u v z : ℕ → ℕ → ℕ → EReal) (w : ℕ → ℕ → EReal) (b s c : ℕ) :
    ∑ k : Fin 2048, cat u v z b s k.val * w k.val c = mix u v z w b s c := by
  unfold mix
  rw [Fin.sum_univ_eq_sum_range (fun k => cat u v z b s k * w k c), show 2048 = 768 + 512 + 768 from rfl, Finset.sum_range_add, Finset.sum_range_add,
    ← Fin.sum_univ_eq_sum_range (fun k => cat u v z b s k * w k c), ← Fin.sum_univ_eq_sum_range (fun k => cat u v z b s (768 + k) * w (768 + k) c),
    ← Fin.sum_univ_eq_sum_range (fun k => cat u v z b s (768 + 512 + k) * w (768 + 512 + k) c)]
  refine congrArg₂ (· + ·) (congrArg₂ (· + ·) ?_ ?_) ?_ <;> refine Finset.sum_congr rfl fun k _ => ?_ <;> have hk := k.isLt <;> unfold cat
  · rw [if_pos hk]
  · rw [if_neg (by omega), if_pos (by omega), show 768 + k.val - 768 = k.val by omega]
  · rw [if_neg (by omega), if_neg (by omega), show 768 + 512 + k.val - 1280 = k.val by omega]

/-- The result. -/
def projected (u v z : ℕ → ℕ → ℕ → EReal) (w : ℕ → ℕ → EReal) (h : ℕ → ℕ → ℕ → EReal) (g : ℕ → EReal) (b s c : ℕ) : EReal :=
  h b s c + rms (mix u v z w b s) g c

end Cert.OutProj
-- ==== Proof.Hand.OutVal.lean ====
/- The output projection's result over the extended reals: what a grid point writes, and the output array. -/
module

public import proofs.«01_k».proof.Proof.Gen.Kernel3Ideal.Value
public import proofs.«01_k».proof.Proof.Hand.OutSpec
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Kernel3Ideal.Gen

open Idealize.ShloMosaic Idealize.ShloMosaic.TcCoe Cert.Ffn Cert.OutProj

section
variable (m : (ℓ : Loc nD τ sig) → Buf (Elt Ideal) ℓ)

theorem v1_at (c : Dev nD) (r : Fin 33024) (k : Fin 768) :
    V m c main_v1 (ix2 r k) = m ((c : Thread nD τ).loc main_arg0) (ix3 ⟨r.val / 2064, by omega⟩ ⟨r.val % 2064, by omega⟩ k) := by
  unfold V
  after_reads_at

theorem v3_at (c : Dev nD) (r : Fin 33024) (k : Fin 512) :
    V m c main_v3 (ix2 r k) = m ((c : Thread nD τ).loc main_arg1) (ix3 ⟨r.val / 2064, by omega⟩ ⟨r.val % 2064, by omega⟩ k) := by
  unfold V
  after_reads_at

theorem v5_at (c : Dev nD) (r : Fin 33024) (k : Fin 768) :
    V m c main_v5 (ix2 r k) = m ((c : Thread nD τ).loc main_arg2) (ix3 ⟨r.val / 2064, by omega⟩ ⟨r.val % 2064, by omega⟩ k) := by
  unfold V
  after_reads_at

theorem v6_at (c : Dev nD) (k f : Fin 2048) : V m c main_v6 (ix2 k f) = m ((c : Thread nD τ).loc main_arg3) (ix2 k f) := by
  unfold V
  after_reads_at

theorem v7_at (c : Dev nD) (r : Fin 33024) (k : Fin 2048) :
    V m c main_v7 (ix2 r k) = m ((c : Thread nD τ).loc main_arg4) (ix3 ⟨r.val / 2064, by omega⟩ ⟨r.val % 2064, by omega⟩ k) := by
  unfold V
  after_reads_at

theorem v8_at (c : Dev nD) (k : Fin 2048) : V m c main_v8 (ix2 0 k) = m ((c : Thread nD τ).loc main_arg5) (ix1 k) := by
  unfold V
  after_reads_at

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)

theorem lt_N (t : Fin cfg0.N) : t.val < 48 := t.isLt.trans_eq N_0

theorem b0_at (c : Dev nD) (t : Fin cfg0.N) (r : Fin 688) (k : Fin 768) :
    iblk m c 0 t (ix2 r k) = V m c main_v1 (ix2 ⟨688 * t.val + r.val, by have := lt_N t; omega⟩ k) := by
  blk_ext [iblk, idx0]
theorem b1_at (c : Dev nD) (t : Fin cfg0.N) (r : Fin 688) (k : Fin 512) :
    iblk m c 1 t (ix2 r k) = V m c main_v3 (ix2 ⟨688 * t.val + r.val, by have := lt_N t; omega⟩ k) := by
  blk_ext [iblk, idx1]
theorem b2_at (c : Dev nD) (t : Fin cfg0.N) (r : Fin 688) (k : Fin 768) :
    iblk m c 2 t (ix2 r k) = V m c main_v5 (ix2 ⟨688 * t.val + r.val, by have := lt_N t; omega⟩ k) := by
  blk_ext [iblk, idx2]
theorem b3_at (c : Dev nD) (t : Fin cfg0.N) (k f : Fin 2048) : iblk m c 3 t (ix2 k f) = V m c main_v6 (ix2 k f) := by
  blk_ext [iblk, idx3]
theorem b4_at (c : Dev nD) (t : Fin cfg0.N) (r : Fin 688) (k : Fin 2048) :
    iblk m c 4 t (ix2 r k) = V m c main_v7 (ix2 ⟨688 * t.val + r.val, by have := lt_N t; omega⟩ k) := by
  blk_ext [iblk, idx4]
theorem b5_at (c : Dev nD) (t : Fin cfg0.N) (k : Fin 2048) : iblk m c 5 t (ix2 0 k) = V m c main_v8 (ix2 0 k) := by
  blk_ext [iblk, idx5]
end

/-- A tile's three products, added in turn. -/
def sum3 (a : Vec Ideal S688x768 .bf16) (wa : Vec Ideal S768x2048 .bf16) (b : Vec Ideal S688x512 .bf16) (wb : Vec Ideal S512x2048 .bf16)
    (d : Vec Ideal S688x768 .bf16) (wd : Vec Ideal S768x2048 .bf16) (r : Fin 688) (c : Fin 2048) : EReal :=
  ∑ k : Fin 768, a (ix2 r k) * wa (ix2 k c) + ∑ k : Fin 512, b (ix2 r k) * wb (ix2 k c) + ∑ k : Fin 768, d (ix2 r k) * wd (ix2 k c)

theorem pay1_at (a : Vec Ideal S688x768 .bf16) (wa : Vec Ideal S768x2048 .bf16) (b : Vec Ideal S688x512 .bf16) (wb : Vec Ideal S512x2048 .bf16)
    (d : Vec Ideal S688x768 .bf16) (wd : Vec Ideal S768x2048 .bf16) (h : Vec Ideal S688x2048 .f32) (g : Vec Ideal S1x2048 .f32) (r : Fin 688) (c : Fin 2048) :
    k0_pay1 (F := Ideal) a wa b wb d wd h g (ix2 r c) = h (ix2 r c) + sum3 a wa b wb d wd r c *
      Ideal.rsqrt (Ideal.div (∑ k : Fin 2048, sum3 a wa b wb d wd r k * sum3 a wa b wb d wd r k) (Ideal.ofBits FTy.f32 0x45000000#32) + Ideal.ofBits FTy.f32 0x358637BD#32) * g (ix2 0 c) := by
  unfold sum3
  pointwise [k0_pay1]

/-- A block's rows from a row on. -/
theorem ld_from {a b n d : ℕ} {e : EltTy} (X : Vec Ideal ⟨2, ![a, d]⟩ e) (inb) (r : Fin b) (k : Fin d) (h : n + r.val < a) :
    View.ld (S := ⟨2, ![a, d]⟩) X (Rect.unit (s := ⟨2, ![a, d]⟩) ![n, 0] ![b, d] inb) (ix2 r k) = X (ix2 ⟨n + r.val, h⟩ k) := by
  refine View.ld_unit_apply_of X _ _ _ _ _ fun t => ?_
  match t with
  | ⟨0, _⟩ => rfl
  | ⟨1, _⟩ => exact (Nat.zero_add _).symm

theorem hz : (![0, 0] : Fin 2 → Nat) = fun _ => 0 := funext fun a => by fin_cases a <;> rfl

variable (u v z : ℕ → ℕ → ℕ → EReal) (w : ℕ → ℕ → EReal) (h : ℕ → ℕ → ℕ → EReal) (g : ℕ → EReal)
variable (m : (ℓ : Loc nD τ sig) → Buf (Elt Ideal) ℓ) (c : Dev nD)

/-- A device's arguments are the given arrays. -/
structure Args : Prop where
  a0 : ∀ (b : Fin 16) (s : Fin 2064) (k : Fin 768), m ((c : Thread nD τ).loc main_arg0) (ix3 b s k) = u b.val s.val k.val
  a1 : ∀ (b : Fin 16) (s : Fin 2064) (k : Fin 512), m ((c : Thread nD τ).loc main_arg1) (ix3 b s k) = v b.val s.val k.val
  a2 : ∀ (b : Fin 16) (s : Fin 2064) (k : Fin 768), m ((c : Thread nD τ).loc main_arg2) (ix3 b s k) = z b.val s.val k.val
  a3 : ∀ k f : Fin 2048, m ((c : Thread nD τ).loc main_arg3) (ix2 k f) = w k.val f.val
  a4 : ∀ (b : Fin 16) (s : Fin 2064) (k : Fin 2048), m ((c : Thread nD τ).loc main_arg4) (ix3 b s k) = h b.val s.val k.val
  a5 : ∀ k : Fin 2048, m ((c : Thread nD τ).loc main_arg5) (ix1 k) = g k.val

/-- What a grid point writes. -/
theorem tile_out (H : Args u v z w h g m c) (t : Fin cfg0.N) (r : Fin 688) (k : Fin 2048) :
    out0_6 (iblk m c 0 t) (iblk m c 1 t) (iblk m c 2 t) (iblk m c 3 t) (iblk m c 4 t) (iblk m c 5 t) (ix2 r k)
      = projected u v z w h g ((688 * t.val + r.val) / 2064) ((688 * t.val + r.val) % 2064) k.val := by
  unfold out0_6 r0_0 r0_2 r0_5 r0_6
  rw [View.canon_cons_unit_zero hz, View.ld_unit_zero hz, View.ld_unit_zero hz, View.ld_unit_zero hz, View.ld_unit_zero hz, View.ld_unit_zero hz, pay1_at]
  have e : ∀ q : Fin 2048, sum3 (iblk m c 0 t) (View.ld (iblk m c 3 t) r0_1) (iblk m c 1 t) (View.ld (iblk m c 3 t) r0_3) (iblk m c 2 t) (View.ld (iblk m c 3 t) r0_4) r q
      = mix u v z w ((688 * t.val + r.val) / 2064) ((688 * t.val + r.val) % 2064) q.val := by
    intro q
    unfold sum3 mix r0_1 r0_3 r0_4
    refine congrArg₂ (· + ·) (congrArg₂ (· + ·) ?_ ?_) ?_ <;> refine Finset.sum_congr rfl fun p _ => ?_ <;> have hp := p.isLt
    · refine congrArg₂ (· * ·) ((b0_at m c t r p).trans ((v1_at m c _ _).trans (H.a0 _ _ _))) ?_
      refine (ld_from (a := 2048) (b := 768) (n := 0) (d := 2048) (e := .bf16) (iblk m c 3 t) _ p q (by omega)).trans ((b3_at m c t _ _).trans ((v6_at m c _ _).trans ((H.a3 _ _).trans ?_)))
      dsimp only; rw [Nat.zero_add]
    · refine congrArg₂ (· * ·) ((b1_at m c t r p).trans ((v3_at m c _ _).trans (H.a1 _ _ _))) ?_
      exact (ld_from (a := 2048) (b := 512) (n := 768) (d := 2048) (e := .bf16) (iblk m c 3 t) _ p q (by omega)).trans ((b3_at m c t _ _).trans ((v6_at m c _ _).trans (H.a3 _ _)))
    · refine congrArg₂ (· * ·) ((b2_at m c t r p).trans ((v5_at m c _ _).trans (H.a2 _ _ _))) ?_
      exact (ld_from (a := 2048) (b := 768) (n := 1280) (d := 2048) (e := .bf16) (iblk m c 3 t) _ p q (by omega)).trans ((b3_at m c t _ _).trans ((v6_at m c _ _).trans (H.a3 _ _)))
  have e4 : iblk m c 4 t (ix2 r k) = h ((688 * t.val + r.val) / 2064) ((688 * t.val + r.val) % 2064) k.val :=
    (b4_at m c t r k).trans ((v7_at m c _ _).trans (H.a4 _ _ _))
  have e5 : iblk m c 5 t (ix2 0 k) = g k.val := (b5_at m c t k).trans ((v8_at m c _).trans (H.a5 _))
  unfold projected rms msq
  rw [e4, e5]
  exact congrArg (fun F : Fin 2048 → EReal => h ((688 * t.val + r.val) / 2064) ((688 * t.val + r.val) % 2064) k.val
    + F k * Ideal.rsqrt (Ideal.div (∑ q : Fin 2048, F q * F q) (Ideal.ofBits FTy.f32 0x45000000#32) + Ideal.ofBits FTy.f32 0x358637BD#32) * g k.val) (funext e)

/-- The result array. -/
def outArr : S33024x2048.Idx → EReal := fun i => projected u v z w h g ((i 0).val / 2064) ((i 0).val % 2064) (i 1).val

theorem arr_at (H : Args u v z w h g m c) : (dats m 0 c).arrAt 6 cfg0.N = outArr u v z w h g := by
  refine (dats m 0 c).arrAt_eq_of_covers 6 _ (by decide +kernel) fun t hf y => ?_
  blk_simp [idx6]
  rw [after0_6]
  have ey : y = ix2 (y 0) (y 1) := eq_ix2 y
  rw [ey]
  refine (tile_out u v z w h g m c H t (y 0) (y 1)).trans ?_
  have e0 : (((win0_6.blk t).view.emb (ix2 (y 0) (y 1))) 0).val = 688 * t.val + (y 0).val := by
    blk_simp [idx6]; omega
  have e1 : (((win0_6.blk t).view.emb (ix2 (y 0) (y 1))) 1).val = (y 1).val := by
    blk_simp [idx6]
  exact (congr (congrArg (fun a b => projected u v z w h g (a / 2064) (a % 2064) b) e0) e1).symm

end Cert.Kernel3Ideal.Gen
-- ==== Proof.Hand.OutRef.lean ====
/- The reference's output projection over the extended reals, read at an index. -/
module

public import proofs.«01_k».proof.Proof.Gen.Reference3Ideal.Read
public import proofs.«01_k».proof.Proof.Hand.OutSpec
public import Idealize.ShloMosaic.Lib.Pointwise

@[expose] public section

set_option maxRecDepth 16384

noncomputable section

namespace Cert.Reference3Ideal.Read

open Cert.Reference3Ideal Cert.Reference3Ideal.Gen Idealize.ShloMosaic Cert.Ffn Cert.OutProj

variable (X0 : (⟨S16x2064x768, .f32⟩ : BufTy).Contents (Elt Ideal)) (X1 : (⟨S16x2064x512, .f32⟩ : BufTy).Contents (Elt Ideal))
  (X2 : (⟨S16x2064x768, .f32⟩ : BufTy).Contents (Elt Ideal)) (X3 : (⟨S2048x2048, .f32⟩ : BufTy).Contents (Elt Ideal))
  (X4 : (⟨S16x2064x2048, .f32⟩ : BufTy).Contents (Elt Ideal)) (X5 : (⟨S2048, .f32⟩ : BufTy).Contents (Elt Ideal))
  (u v z : ℕ → ℕ → ℕ → EReal) (w : ℕ → ℕ → EReal) (h : ℕ → ℕ → ℕ → EReal) (g : ℕ → EReal)
  (h0 : ∀ (b : Fin 16) (s : Fin 2064) (k : Fin 768), X0 (ix3 b s k) = u b.val s.val k.val)
  (h1 : ∀ (b : Fin 16) (s : Fin 2064) (k : Fin 512), X1 (ix3 b s k) = v b.val s.val k.val)
  (h2 : ∀ (b : Fin 16) (s : Fin 2064) (k : Fin 768), X2 (ix3 b s k) = z b.val s.val k.val)
  (h3 : ∀ k f : Fin 2048, X3 (ix2 k f) = w k.val f.val)
  (h4 : ∀ (b : Fin 16) (s : Fin 2064) (k : Fin 2048), X4 (ix3 b s k) = h b.val s.val k.val)
  (h5 : ∀ k : Fin 2048, X5 (ix1 k) = g k.val)
include h0 h1 h2

theorem v0_at (b : Fin 16) (s : Fin 2064) (k : Fin 2048) : val_main_v0 (F := Ideal) X0 X1 X2 (ix3 b s k) = cat u v z b.val s.val k.val := by
  unfold cat
  pointwise [val_main_v0]
  split
  · exact h0 _ _ _
  · by_cases hk : k.val < 1280
    · rw [dif_pos (by omega), if_pos hk]; exact h1 _ _ _
    · rw [dif_neg (by omega), if_neg hk]
      exact (h2 _ _ _).trans (congrArg (z b.val s.val) (Nat.sub_sub _ _ _))

include h3
theorem v1_at (b : Fin 16) (s : Fin 2064) (k : Fin 2048) : val_main_v1 (F := Ideal) X0 X1 X2 X3 (ix3 b s k) = mix u v z w b.val s.val k.val := by
  rw [← sum_cat]
  pointwise [val_main_v1]
  exact Finset.sum_congr rfl fun q _ => by rw [v0_at X0 X1 X2 u v z h0 h1 h2, h3]

include h4 h5
theorem v15_at (b : Fin 16) (s : Fin 2064) (k : Fin 2048) :
    val_main_v15 (F := Ideal) X0 X1 X2 X3 X4 X5 (ix3 b s k) = projected u v z w h g b.val s.val k.val := by
  unfold projected rms msq
  pointwise [val_main_v15, val_main_v14, val_main_v13, val_main_v12, val_main_v11, val_main_v10, val_main_v9, val_main_v8, val_main_v7, val_main_v6, val_main_v5, val_main_v4, val_main_v3, val_main_v2, val_main_cst, val_main_cst_0, val_main_cst_1]
  simp only [h4, h5, v1_at X0 X1 X2 X3 u v z w h0 h1 h2 h3]

theorem v16_at (r : Fin 33024) (k : Fin 2048) :
    val_main_v16 (F := Ideal) X0 X1 X2 X3 X4 X5 (ix2 r k) = projected u v z w h g (r.val / 2064) (r.val % 2064) k.val := by
  pointwise [val_main_v16]
  exact v15_at X0 X1 X2 X3 X4 X5 u v z w h g h0 h1 h2 h3 h4 h5 _ _ _

end Cert.Reference3Ideal.Read
-- ==== Proof.Hand.OutValue.lean ====
/- Over the extended reals the output projection and its reference give the same result. -/
module

public import proofs.«01_k».proof.Defs
public import proofs.«01_k».proof.Proof.Hand.OutVal
public import proofs.«01_k».proof.Proof.Hand.OutRef
public import proofs.«01_k».proof.Proof.Hand.FfnValue
public import proofs.«01_k».proof.Proof.Gen.Reference3Ideal.Run

@[expose] public section

set_option maxRecDepth 16384

noncomputable section

namespace Cert.Kernel3Ideal.Gen

open Idealize.ShloMosaic Idealize.ShloMosaic.TcCoe Cert.OutProj
open Cert.Kernel2Ideal.Gen (nat1 nat2 nat3 nat1_eq nat2_eq nat3_eq)

variable (m : (ℓ : Loc nD τ sig) → Buf (Elt Ideal) ℓ)

/-- The result array of a device's arguments. -/
def result (c : Dev nD) : S33024x2048.Idx → EReal :=
  outArr (nat3 (a := 16) (b := 2064) (d := 768) (m ((c : Thread nD τ).loc main_arg0))) (nat3 (a := 16) (b := 2064) (d := 512) (m ((c : Thread nD τ).loc main_arg1)))
    (nat3 (a := 16) (b := 2064) (d := 768) (m ((c : Thread nD τ).loc main_arg2))) (nat2 (a := 2048) (b := 2048) (m ((c : Thread nD τ).loc main_arg3)))
    (nat3 (a := 16) (b := 2064) (d := 2048) (m ((c : Thread nD τ).loc main_arg4))) (nat1 (a := 2048) (m ((c : Thread nD τ).loc main_arg5)))

theorem args (c : Dev nD) : Args (nat3 (a := 16) (b := 2064) (d := 768) (m ((c : Thread nD τ).loc main_arg0))) (nat3 (a := 16) (b := 2064) (d := 512) (m ((c : Thread nD τ).loc main_arg1)))
    (nat3 (a := 16) (b := 2064) (d := 768) (m ((c : Thread nD τ).loc main_arg2))) (nat2 (a := 2048) (b := 2048) (m ((c : Thread nD τ).loc main_arg3)))
    (nat3 (a := 16) (b := 2064) (d := 2048) (m ((c : Thread nD τ).loc main_arg4))) (nat1 (a := 2048) (m ((c : Thread nD τ).loc main_arg5))) m c :=
  ⟨nat3_eq _, nat3_eq _, nat3_eq _, nat2_eq _, nat3_eq _, nat1_eq _⟩

end Cert.Kernel3Ideal.Gen

namespace Cert.Proof.EqualOut

open Idealize.ShloMosaic Idealize.SL.Sem

local instance outKernelFacts : Cert.Kernel3Ideal.Facts := Cert.Kernel3Ideal.Gen.facts
local instance outReferenceFacts : Cert.Reference3Ideal.Facts := Cert.Reference3Ideal.Gen.facts

theorem value : Cert.algebraic_Kernel3Ideal_Reference3Ideal := by
  intro m ρ m' ρ' _ hargs
  refine ⟨Cert.Kernel3Ideal.Gen.result m, ?_, ?_⟩
  · refine (θ_run Cert.Kernel3Ideal.defs _ _).mono (fun r h c => ⟨(h c).1.trans ?_, (h c).2⟩) (Cert.Kernel3Ideal.Value.run_blocks (F := Ideal) m ρ)
    exact Cert.Kernel3Ideal.Gen.arr_at _ _ _ _ _ _ m c (Cert.Kernel3Ideal.Gen.args m c)
  · refine (θ_run Cert.Reference3Ideal.defs _ _).mono (fun r h c => ⟨(h c).1.trans ?_, (h c).2⟩) (Cert.Reference3Ideal.Value.run (F := Ideal) m' ρ')
    obtain ⟨a0, a1, a2, a3, a4, a5⟩ := hargs c
    rw [Cert.Reference3Ideal.Read.val_main_v16_eq, a0, a1, a2, a3, a4, a5]
    have H := Cert.Kernel3Ideal.Gen.args m c
    funext i
    rw [eq_ix2 i]
    exact Cert.Reference3Ideal.Read.v16_at _ _ _ _ _ _ _ _ _ _ _ _ H.a0 H.a1 H.a2 H.a3 H.a4 H.a5 (i 0) (i 1)

end Cert.Proof.EqualOut

end
-- ==== Proof.Hand.GateFrames.lean ====
/- The frames of the two programs of the forget gate's running sums, from the one run, and its reference's. -/
module

public import proofs.«01_k».proof.Defs
public import proofs.«01_k».proof.Proof.Gen.Kernel4
public import proofs.«01_k».proof.Proof.Gen.Kernel4Ideal.Frame
public import proofs.«01_k».proof.Proof.Gen.Reference4Ideal.Run
public import Idealize.ShloMosaic.PureOps.BitExact

@[expose] public section

set_option maxRecDepth 65536

noncomputable section

namespace Cert.Proof.Gate

open Idealize.ShloMosaic Idealize.SL.Sem

theorem frame_kernelIdeal : Cert.quiescent_Kernel4Ideal (hKernel4Ideal := Cert.Kernel4Ideal.Gen.facts) := fun m ρ _ =>
  Cert.Kernel4Ideal.Gen.frame (F := Ideal) m ρ

local instance bitsFacts : Cert.Kernel4.Facts := Cert.Kernel4.Gen.facts
local instance idealFacts : Cert.Kernel4Ideal.Facts := Cert.Kernel4Ideal.Gen.facts

theorem main_eq : Cert.Kernel4.main (F := Bits) = Cert.Kernel4Ideal.main (F := Bits) := rfl
theorem defs₀_eq : Cert.Kernel4.defs₀ (F := Bits) = Cert.Kernel4Ideal.defs₀ (F := Bits) := by
  unfold Cert.Kernel4.defs₀ Cert.Kernel4Ideal.defs₀
  congr 1
  funext l x
  match l with
  | ⟨0, _⟩ => exact rfl
theorem defs_eq : Cert.Kernel4.defs (F := Bits) = Cert.Kernel4Ideal.defs (F := Bits) := by
  unfold Cert.Kernel4.defs Cert.Kernel4Ideal.defs
  exact congrArg _ defs₀_eq

theorem frame_kernel : Cert.quiescent_Kernel4 (hKernel4 := Cert.Kernel4.Gen.facts) := by
  intro m ρ _
  have h := Cert.Kernel4Ideal.Gen.frame (F := Bits) m ρ
  rw [← defs_eq, ← main_eq] at h
  exact h

theorem frame_reference : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

end Cert.Proof.Gate

end
-- ==== Proof.Hand.GateRun.lean ====
/- The forget gate's running sums: what a grid point writes is a chain of chunks, each the running sums of its own rows over
   the last row of the chunk before. -/
module

public import proofs.«01_k».proof.Proof.Gen.Kernel4Ideal.Value
public import Idealize.ShloMosaic.Lib.Pipeline.ValueKit

@[expose] public section

set_option maxRecDepth 16384

noncomputable section

namespace Cert.Kernel4Ideal.Gen

open Idealize.ShloMosaic Idealize.ShloMosaic.TcCoe Idealize.ShloMosaic.Tactic

variable {F : FTy → Type} [FloatOps F]

/-- The gate's logarithm of a vector. -/
def lsig (S : Shape) (x : FVec F S .f32) : FVec F S .f32 :=
  subf (minimumf x (broadcast S (Scalar.ofBits .f32 0x00000000#32)))
    (log (addf (broadcast S (Scalar.ofBits .f32 0x3F800000#32)) (exp (subf (broadcast S (Scalar.ofBits .f32 0x00000000#32)) (absf x)))))

/-- A vector's rows, each with the row a step above added where there is one. -/
def stepA (d : BitVec 32) (x : FVec F S128x128 .f32) : FVec F S128x128 .f32 :=
  addf x (select (cmpi .sge (iota .tc S128x128 32 [0] iota_S128x128_d0_w32) (broadcast S128x128 d)) (dynamicRotate 0 d none x rotates_S128x128_d0)
    (broadcast S128x128 (Scalar.ofBits .f32 0x00000000#32)))

/-- The same over the last sixteen rows. -/
def stepB (d : BitVec 32) (x : FVec F S16x128 .f32) : FVec F S16x128 .f32 :=
  addf x (select (cmpi .sge (iota .tc S16x128 32 [0] iota_S16x128_d0_w32) (broadcast S16x128 d)) (dynamicRotate 0 d none x rotates_S16x128_d0)
    (broadcast S16x128 (Scalar.ofBits .f32 0x00000000#32)))

/-- A chunk's running sums over a row carried in. -/
def chunkA (z : Vec F S128x128 .f32) (b : Vec F S1x128 .f32) (y : FVec F S1x128 .f32) : FVec F S128x128 .f32 :=
  addf (stepA 64#32 (stepA 32#32 (stepA 16#32 (stepA 8#32 (stepA 4#32 (stepA 2#32 (stepA 1#32 (lsig S128x128
    (addf (shapeCast S128x128 z shapeCasts_S128x128_S128x128) (broadcastTo S128x128 (shapeCast S1x128 b shapeCasts_S1x128_S1x128) broadcasts_S1x128_S128x128)))))))))) (broadcastTo S128x128 y broadcasts_S1x128_S128x128)

/-- The same over the last sixteen rows. -/
def chunkB (z : Vec F S16x128 .f32) (b : Vec F S1x128 .f32) (y : FVec F S1x128 .f32) : FVec F S16x128 .f32 :=
  addf (stepB 8#32 (stepB 4#32 (stepB 2#32 (stepB 1#32 (lsig S16x128
    (addf (shapeCast S16x128 z shapeCasts_S16x128_S16x128) (broadcastTo S16x128 (shapeCast S1x128 b shapeCasts_S1x128_S1x128) broadcasts_S1x128_S16x128))))))) (broadcastTo S16x128 y broadcasts_S1x128_S16x128)

/-- A chunk's last row. -/
def lastRow (x : FVec F S128x128 .f32) : FVec F S1x128 .f32 := extractStridedSlice S1x128 ![127, 0] x slices_S128x128_o127_0_S1x128

variable (x0 : Vec F S2064x128 .f32) (x1 : Vec F S1x128 .f32)

/-- The bias row. -/
def biasRow : Vec F S1x128 .f32 := View.ld (S := S1x128) x1 (Rect.unit ![0, 0] S1x128.size inb_S1x128_S1x128_0_0)

/-- Chunk 0 of the block. -/
def run0 : FVec F S128x128 .f32 :=
  chunkA (View.ld (S := S2064x128) x0 (Rect.unit ![0, 0] S128x128.size inb_S2064x128_S128x128_0_0)) (biasRow x1) k0_pay2

/-- Chunk 1 of the block. -/
def run1 : FVec F S128x128 .f32 :=
  chunkA (View.ld (S := S2064x128) x0 (Rect.unit ![128, 0] S128x128.size inb_S2064x128_S128x128_128_0)) (biasRow x1) (lastRow (run0 x0 x1))

/-- Chunk 2 of the block. -/
def run2 : FVec F S128x128 .f32 :=
  chunkA (View.ld (S := S2064x128) x0 (Rect.unit ![256, 0] S128x128.size inb_S2064x128_S128x128_256_0)) (biasRow x1) (lastRow (run1 x0 x1))

/-- Chunk 3 of the block. -/
def run3 : FVec F S128x128 .f32 :=
  chunkA (View.ld (S := S2064x128) x0 (Rect.unit ![384, 0] S128x128.size inb_S2064x128_S128x128_384_0)) (biasRow x1) (lastRow (run2 x0 x1))

/-- Chunk 4 of the block. -/
def run4 : FVec F S128x128 .f32 :=
  chunkA (View.ld (S := S2064x128) x0 (Rect.unit ![512, 0] S128x128.size inb_S2064x128_S128x128_512_0)) (biasRow x1) (lastRow (run3 x0 x1))

/-- Chunk 5 of the block. -/
def run5 : FVec F S128x128 .f32 :=
  chunkA (View.ld (S := S2064x128) x0 (Rect.unit ![640, 0] S128x128.size inb_S2064x128_S128x128_640_0)) (biasRow x1) (lastRow (run4 x0 x1))

/-- Chunk 6 of the block. -/
def run6 : FVec F S128x128 .f32 :=
  chunkA (View.ld (S := S2064x128) x0 (Rect.unit ![768, 0] S128x128.size inb_S2064x128_S128x128_768_0)) (biasRow x1) (lastRow (run5 x0 x1))

/-- Chunk 7 of the block. -/
def run7 : FVec F S128x128 .f32 :=
  chunkA (View.ld (S := S2064x128) x0 (Rect.unit ![896, 0] S128x128.size inb_S2064x128_S128x128_896_0)) (biasRow x1) (lastRow (run6 x0 x1))

/-- Chunk 8 of the block. -/
def run8 : FVec F S128x128 .f32 :=
  chunkA (View.ld (S := S2064x128) x0 (Rect.unit ![1024, 0] S128x128.size inb_S2064x128_S128x128_1024_0)) (biasRow x1) (lastRow (run7 x0 x1))

/-- Chunk 9 of the block. -/
def run9 : FVec F S128x128 .f32 :=
  chunkA (View.ld (S := S2064x128) x0 (Rect.unit ![1152, 0] S128x128.size inb_S2064x128_S128x128_1152_0)) (biasRow x1) (lastRow (run8 x0 x1))

/-- Chunk 10 of the block. -/
def run10 : FVec F S128x128 .f32 :=
  chunkA (View.ld (S := S2064x128) x0 (Rect.unit ![1280, 0] S128x128.size inb_S2064x128_S128x128_1280_0)) (biasRow x1) (lastRow (run9 x0 x1))

/-- Chunk 11 of the block. -/
def run11 : FVec F S128x128 .f32 :=
  chunkA (View.ld (S := S2064x128) x0 (Rect.unit ![1408, 0] S128x128.size inb_S2064x128_S128x128_1408_0)) (biasRow x1) (lastRow (run10 x0 x1))

/-- Chunk 12 of the block. -/
def run12 : FVec F S128x128 .f32 :=
  chunkA (View.ld (S := S2064x128) x0 (Rect.unit ![1536, 0] S128x128.size inb_S2064x128_S128x128_1536_0)) (biasRow x1) (lastRow (run11 x0 x1))

/-- Chunk 13 of the block. -/
def run13 : FVec F S128x128 .f32 :=
  chunkA (View.ld (S := S2064x128) x0 (Rect.unit ![1664, 0] S128x128.size inb_S2064x128_S128x128_1664_0)) (biasRow x1) (lastRow (run12 x0 x1))

/-- Chunk 14 of the block. -/
def run14 : FVec F S128x128 .f32 :=
  chunkA (View.ld (S := S2064x128) x0 (Rect.unit ![1792, 0] S128x128.size inb_S2064x128_S128x128_1792_0)) (biasRow x1) (lastRow (run13 x0 x1))

/-- Chunk 15 of the block. -/
def run15 : FVec F S128x128 .f32 :=
  chunkA (View.ld (S := S2064x128) x0 (Rect.unit ![1920, 0] S128x128.size inb_S2064x128_S128x128_1920_0)) (biasRow x1) (lastRow (run14 x0 x1))

/-- Chunk 16 of the block, its last sixteen rows. -/
def run16 : FVec F S16x128 .f32 :=
  chunkB (View.ld (S := S2064x128) x0 (Rect.unit ![2048, 0] S16x128.size inb_S2064x128_S16x128_2048_0)) (biasRow x1) (lastRow (run15 x0 x1))

/-- The chunks, the last first. -/
def pieces : List (View.Piece (Elt F) S2064x128 .f32) :=
  [⟨Rect.unit ![2048, 0] S16x128.size inb_S2064x128_S16x128_2048_0, run16 x0 x1⟩,
    ⟨Rect.unit ![1920, 0] S128x128.size inb_S2064x128_S128x128_1920_0, run15 x0 x1⟩,
    ⟨Rect.unit ![1792, 0] S128x128.size inb_S2064x128_S128x128_1792_0, run14 x0 x1⟩,
    ⟨Rect.unit ![1664, 0] S128x128.size inb_S2064x128_S128x128_1664_0, run13 x0 x1⟩,
    ⟨Rect.unit ![1536, 0] S128x128.size inb_S2064x128_S128x128_1536_0, run12 x0 x1⟩,
    ⟨Rect.unit ![1408, 0] S128x128.size inb_S2064x128_S128x128_1408_0, run11 x0 x1⟩,
    ⟨Rect.unit ![1280, 0] S128x128.size inb_S2064x128_S128x128_1280_0, run10 x0 x1⟩,
    ⟨Rect.unit ![1152, 0] S128x128.size inb_S2064x128_S128x128_1152_0, run9 x0 x1⟩,
    ⟨Rect.unit ![1024, 0] S128x128.size inb_S2064x128_S128x128_1024_0, run8 x0 x1⟩,
    ⟨Rect.unit ![896, 0] S128x128.size inb_S2064x128_S128x128_896_0, run7 x0 x1⟩,
    ⟨Rect.unit ![768, 0] S128x128.size inb_S2064x128_S128x128_768_0, run6 x0 x1⟩,
    ⟨Rect.unit ![640, 0] S128x128.size inb_S2064x128_S128x128_640_0, run5 x0 x1⟩,
    ⟨Rect.unit ![512, 0] S128x128.size inb_S2064x128_S128x128_512_0, run4 x0 x1⟩,
    ⟨Rect.unit ![384, 0] S128x128.size inb_S2064x128_S128x128_384_0, run3 x0 x1⟩,
    ⟨Rect.unit ![256, 0] S128x128.size inb_S2064x128_S128x128_256_0, run2 x0 x1⟩,
    ⟨Rect.unit ![128, 0] S128x128.size inb_S2064x128_S128x128_128_0, run1 x0 x1⟩,
    ⟨Rect.unit ![0, 0] S128x128.size inb_S2064x128_S128x128_0_0, run0 x0 x1⟩]

theorem out0_eq (z : Vec F S128x128 .f32) (b y : Vec F S1x128 .f32) :
    k0_pay6 (F := F) y (iota Kind.tc S128x128 32 [0] iota_S128x128_d0_w32) (k0_pay3 (F := F) z b) k0_pay4 (k0_pay5 (F := F) z b) (FloatOps.ofBits FTy.f32 0#32) = chunkA z b y := rfl

theorem out1_eq (z : Vec F S128x128 .f32) (b y : Vec F S1x128 .f32) :
    k0_pay12 (F := F) y (k0_pay9 (F := F) (k0_pay8 (F := F) z b)) k0_pay10 (k0_pay11 (F := F) (k0_pay8 (F := F) z b)) = chunkA z b y := rfl

theorem row0_eq (z : Vec F S128x128 .f32) (b y : Vec F S1x128 .f32) :
    k0_pay7 (F := F) y (iota Kind.tc S128x128 32 [0] iota_S128x128_d0_w32) (k0_pay3 (F := F) z b) k0_pay4 (k0_pay5 (F := F) z b) (FloatOps.ofBits FTy.f32 0#32) = lastRow (chunkA z b y) := rfl

theorem out2_eq (z : Vec F S128x128 .f32) (b y : Vec F S1x128 .f32) :
    k0_pay18 (F := F) y (iota Kind.tc S128x128 32 [0] iota_S128x128_d0_w32) (k0_pay14 (F := F) z b) k0_pay15 (k0_pay16 (F := F) z b) k0_pay17 = chunkA z b y := rfl

theorem row1_eq (z : Vec F S128x128 .f32) (b y : Vec F S1x128 .f32) :
    k0_pay13 (F := F) y (k0_pay9 (F := F) (k0_pay8 (F := F) z b)) k0_pay10 (k0_pay11 (F := F) (k0_pay8 (F := F) z b)) = lastRow (chunkA z b y) := rfl

theorem out3_eq (z : Vec F S128x128 .f32) (b y : Vec F S1x128 .f32) :
    k0_pay26 (F := F) y (iota Kind.tc S128x128 32 [0] iota_S128x128_d0_w32) (k0_pay23 (F := F) (k0_pay21 (F := F) z b) (k0_pay22 (F := F) z b) (FloatOps.ofBits FTy.f32 0#32)) k0_pay24 (k0_pay25 (F := F) (k0_pay21 (F := F) z b) (k0_pay22 (F := F) z b) (FloatOps.ofBits FTy.f32 0#32)) (FloatOps.ofBits FTy.f32 0#32) = chunkA z b y := rfl

theorem row2_eq (z : Vec F S128x128 .f32) (b y : Vec F S1x128 .f32) :
    k0_pay19 (F := F) y (iota Kind.tc S128x128 32 [0] iota_S128x128_d0_w32) (k0_pay14 (F := F) z b) k0_pay15 (k0_pay16 (F := F) z b) k0_pay17 = lastRow (chunkA z b y) := rfl

theorem out4_eq (z : Vec F S128x128 .f32) (b y : Vec F S1x128 .f32) :
    k0_pay30 (F := F) y (iota Kind.tc S128x128 32 [0] iota_S128x128_d0_w32) (k0_pay28 (F := F) z b) (k0_pay29 (F := F) z b) = chunkA z b y := rfl

theorem row3_eq (z : Vec F S128x128 .f32) (b y : Vec F S1x128 .f32) :
    k0_pay27 (F := F) y (iota Kind.tc S128x128 32 [0] iota_S128x128_d0_w32) (k0_pay23 (F := F) (k0_pay21 (F := F) z b) (k0_pay22 (F := F) z b) (FloatOps.ofBits FTy.f32 0#32)) k0_pay24 (k0_pay25 (F := F) (k0_pay21 (F := F) z b) (k0_pay22 (F := F) z b) (FloatOps.ofBits FTy.f32 0#32)) (FloatOps.ofBits FTy.f32 0#32) = lastRow (chunkA z b y) := rfl

theorem out5_eq (z : Vec F S128x128 .f32) (b y : Vec F S1x128 .f32) :
    k0_pay37 (F := F) y (iota Kind.tc S128x128 32 [0] iota_S128x128_d0_w32) (k0_pay33 (F := F) (k0_pay32 (F := F) z) b) k0_pay34 (k0_pay35 (F := F) (k0_pay32 (F := F) z) b) k0_pay36 = chunkA z b y := rfl

theorem row4_eq (z : Vec F S128x128 .f32) (b y : Vec F S1x128 .f32) :
    k0_pay31 (F := F) y (iota Kind.tc S128x128 32 [0] iota_S128x128_d0_w32) (k0_pay28 (F := F) z b) (k0_pay29 (F := F) z b) = lastRow (chunkA z b y) := rfl

theorem out6_eq (z : Vec F S128x128 .f32) (b y : Vec F S1x128 .f32) :
    k0_pay40 (F := F) y (iota Kind.tc S128x128 32 [0] iota_S128x128_d0_w32) (k0_pay39 (F := F) z b) = chunkA z b y := rfl

theorem row5_eq (z : Vec F S128x128 .f32) (b y : Vec F S1x128 .f32) :
    k0_pay38 (F := F) y (iota Kind.tc S128x128 32 [0] iota_S128x128_d0_w32) (k0_pay33 (F := F) (k0_pay32 (F := F) z) b) k0_pay34 (k0_pay35 (F := F) (k0_pay32 (F := F) z) b) k0_pay36 = lastRow (chunkA z b y) := rfl

theorem out7_eq (z : Vec F S128x128 .f32) (b y : Vec F S1x128 .f32) :
    k0_pay44 (F := F) y (iota Kind.tc S128x128 32 [0] iota_S128x128_d0_w32) (k0_pay42 (F := F) z b) (k0_pay43 (F := F) z b) = chunkA z b y := rfl

theorem row6_eq (x : FVec F S128x128 .f32) : k0_pay41 (F := F) x = lastRow x := rfl

theorem out8_eq (z : Vec F S128x128 .f32) (b y : Vec F S1x128 .f32) :
    k0_pay51 (F := F) y (k0_pay47 (F := F) (k0_pay46 (F := F) z b) (iota Kind.tc S128x128 32 [0] iota_S128x128_d0_w32) 1#32) (k0_pay48 (iota Kind.tc S128x128 32 [0] iota_S128x128_d0_w32)) (k0_pay49 (F := F) (k0_pay46 (F := F) z b) (iota Kind.tc S128x128 32 [0] iota_S128x128_d0_w32) 1#32) k0_pay50 = chunkA z b y := rfl

theorem row7_eq (z : Vec F S128x128 .f32) (b y : Vec F S1x128 .f32) :
    k0_pay45 (F := F) y (iota Kind.tc S128x128 32 [0] iota_S128x128_d0_w32) (k0_pay42 (F := F) z b) (k0_pay43 (F := F) z b) = lastRow (chunkA z b y) := rfl

theorem out9_eq (z : Vec F S128x128 .f32) (b y : Vec F S1x128 .f32) :
    k0_pay54 (F := F) y (iota Kind.tc S128x128 32 [0] iota_S128x128_d0_w32) (k0_pay53 (F := F) z b) = chunkA z b y := rfl

theorem row8_eq (z : Vec F S128x128 .f32) (b y : Vec F S1x128 .f32) :
    k0_pay52 (F := F) y (k0_pay47 (F := F) (k0_pay46 (F := F) z b) (iota Kind.tc S128x128 32 [0] iota_S128x128_d0_w32) 1#32) (k0_pay48 (iota Kind.tc S128x128 32 [0] iota_S128x128_d0_w32)) (k0_pay49 (F := F) (k0_pay46 (F := F) z b) (iota Kind.tc S128x128 32 [0] iota_S128x128_d0_w32) 1#32) k0_pay50 = lastRow (chunkA z b y) := rfl

theorem out10_eq (z : Vec F S128x128 .f32) (b y : Vec F S1x128 .f32) :
    k0_pay61 (F := F) y (iota Kind.tc S128x128 32 [0] iota_S128x128_d0_w32) (k0_pay59 (F := F) (k0_pay57 (F := F) z b) (k0_pay58 (F := F) z b)) (k0_pay60 (F := F) (k0_pay57 (F := F) z b) (k0_pay58 (F := F) z b)) = chunkA z b y := rfl

theorem row9_eq (z : Vec F S128x128 .f32) (b y : Vec F S1x128 .f32) :
    k0_pay55 (F := F) y (iota Kind.tc S128x128 32 [0] iota_S128x128_d0_w32) (k0_pay53 (F := F) z b) = lastRow (chunkA z b y) := rfl

theorem out11_eq (z : Vec F S128x128 .f32) (b y : Vec F S1x128 .f32) :
    k0_pay64 (F := F) y (iota Kind.tc S128x128 32 [0] iota_S128x128_d0_w32) (k0_pay63 (F := F) z b) 4#32 = chunkA z b y := rfl

theorem row10_eq (z : Vec F S128x128 .f32) (b y : Vec F S1x128 .f32) :
    k0_pay62 (F := F) y (iota Kind.tc S128x128 32 [0] iota_S128x128_d0_w32) (k0_pay59 (F := F) (k0_pay57 (F := F) z b) (k0_pay58 (F := F) z b)) (k0_pay60 (F := F) (k0_pay57 (F := F) z b) (k0_pay58 (F := F) z b)) = lastRow (chunkA z b y) := rfl

theorem out12_eq (z : Vec F S128x128 .f32) (b y : Vec F S1x128 .f32) :
    k0_pay69 (F := F) y (iota Kind.tc S128x128 32 [0] iota_S128x128_d0_w32) (k0_pay68 (F := F) (k0_pay66 (F := F) z) (k0_pay67 (F := F) b)) = chunkA z b y := rfl

theorem row11_eq (z : Vec F S128x128 .f32) (b y : Vec F S1x128 .f32) :
    k0_pay65 (F := F) y (iota Kind.tc S128x128 32 [0] iota_S128x128_d0_w32) (k0_pay63 (F := F) z b) 4#32 = lastRow (chunkA z b y) := rfl

theorem out13_eq (z : Vec F S128x128 .f32) (b y : Vec F S1x128 .f32) :
    k0_pay73 (F := F) y (iota Kind.tc S128x128 32 [0] iota_S128x128_d0_w32) (k0_pay71 (F := F) z b) k0_pay72 = chunkA z b y := rfl

theorem row12_eq (z : Vec F S128x128 .f32) (b y : Vec F S1x128 .f32) :
    k0_pay70 (F := F) y (iota Kind.tc S128x128 32 [0] iota_S128x128_d0_w32) (k0_pay68 (F := F) (k0_pay66 (F := F) z) (k0_pay67 (F := F) b)) = lastRow (chunkA z b y) := rfl

theorem out14_eq (z : Vec F S128x128 .f32) (b y : Vec F S1x128 .f32) :
    k0_pay76 (F := F) y (iota Kind.tc S128x128 32 [0] iota_S128x128_d0_w32) (k0_pay75 (F := F) z b) 16#32 = chunkA z b y := rfl

theorem row13_eq (z : Vec F S128x128 .f32) (b y : Vec F S1x128 .f32) :
    k0_pay74 (F := F) y (iota Kind.tc S128x128 32 [0] iota_S128x128_d0_w32) (k0_pay71 (F := F) z b) k0_pay72 = lastRow (chunkA z b y) := rfl

theorem out15_eq (z : Vec F S128x128 .f32) (b y : Vec F S1x128 .f32) :
    k0_pay81 (F := F) y (k0_pay80 (F := F) (k0_pay78 (F := F) z b) (iota Kind.tc S128x128 32 [0] iota_S128x128_d0_w32) k0_pay79) = chunkA z b y := rfl

theorem row14_eq (z : Vec F S128x128 .f32) (b y : Vec F S1x128 .f32) :
    k0_pay77 (F := F) y (iota Kind.tc S128x128 32 [0] iota_S128x128_d0_w32) (k0_pay75 (F := F) z b) 16#32 = lastRow (chunkA z b y) := rfl

theorem out16_eq (z : Vec F S16x128 .f32) (b y : Vec F S1x128 .f32) :
    k0_pay1 (F := F) y (iota Kind.tc S16x128 32 [0] iota_S16x128_d0_w32) (k0_pay83 (F := F) z b) k0_pay84 = chunkB z b y := rfl

theorem row15_eq (z : Vec F S128x128 .f32) (b y : Vec F S1x128 .f32) :
    k0_pay82 (F := F) y (k0_pay80 (F := F) (k0_pay78 (F := F) z b) (iota Kind.tc S128x128 32 [0] iota_S128x128_d0_w32) k0_pay79) = lastRow (chunkA z b y) := rfl

theorem pieces_eq (c : Dev nD) (i : grid0.Coords) (arg1 : Memref sig .tc .vmem S2064x128 .f32) (harg1 : arg1.IsWhole) (arg2 : Memref sig .tc .vmem S1x128 .f32) (harg2 : arg2.IsWhole)
    (arg3 : Memref sig .tc .vmem S2064x128 .f32) (harg3 : arg3.IsWhole) : (kernelRun0_A c i arg1 harg1 arg2 harg2 arg3 harg3 x0 x1).1 = pieces x0 x1 := by
  unfold kernelRun0_A
  dsimp only
  sl_unfold_words
  simp only [View.readAt_eq_ld, harg1.read_unread, harg2.read_unread]
  simp only [out0_eq, out1_eq, row0_eq, out2_eq, row1_eq, out3_eq, row2_eq, out4_eq, row3_eq, out5_eq, row4_eq, out6_eq, row5_eq, out7_eq, row6_eq, out8_eq, row7_eq, out9_eq, row8_eq, out10_eq, row9_eq, out11_eq, row10_eq, out12_eq, row11_eq, out13_eq, row12_eq, out14_eq, row13_eq, out15_eq, row14_eq, out16_eq, row15_eq]
  rfl

end Cert.Kernel4Ideal.Gen
-- ==== Proof.Hand.GateSpec.lean ====
/- The forget gate's running sums over the extended reals, of arrays given by their coordinates: each row's logarithm of the
   gate, and its sum over the rows up to one. -/
module

public import Idealize.ShloMosaic.Lib.Pointwise

@[expose] public section

noncomputable section

namespace Cert.Gate

open Idealize.ShloMosaic

/-- The gate's logarithm at a logit. -/
def logSig (x : EReal) : EReal := min x 0 - Ideal.log (1 + Ideal.exp (0 - max x (-x)))

/-- The sum of a column's logarithms over the first rows. -/
def upto (z : ℕ → ℕ → EReal) (b : ℕ → EReal) (n c : ℕ) : EReal := ∑ i ∈ Finset.range n, logSig (z i c + b c)

theorem exp_real (y : EReal) (hy : y ≠ ⊤) : ∃ r : ℝ, 0 ≤ r ∧ Ideal.exp y = (r : EReal) := by
  induction y using EReal.rec with
  | bot => exact ⟨0, le_refl 0, rfl⟩
  | top => exact absurd rfl hy
  | coe r => exact ⟨Real.exp r, (Real.exp_pos r).le, rfl⟩

theorem log_real (r : ℝ) (hr : 0 ≤ r) : ∃ l : ℝ, Ideal.log (1 + (r : EReal)) = (l : EReal) := by
  refine ⟨Real.log (1 + r), ?_⟩
  show Ideal.log (((1 : ℝ) : EReal) + (r : EReal)) = _
  rw [← EReal.coe_add]
  show (if 1 + r ≤ 0 then (⊥ : EReal) else (Real.log (1 + r) : EReal)) = _
  rw [if_neg (by linarith)]

theorem neg_max_neg (x : EReal) : -(max (-x) 0) = min x 0 := by
  rcases le_total x 0 with h | h
  · rw [min_eq_left h, max_eq_left (EReal.le_neg_of_le_neg (by rwa [neg_zero])), neg_neg]
  · rw [min_eq_right h, max_eq_right (EReal.neg_le_of_neg_le (by rwa [neg_zero])), neg_zero]

/-- The logarithm as minus the softplus of the logit's negation. -/
theorem neg_softplus (x : EReal) :
    -(max (-x) 0 + Ideal.log1p (Ideal.exp (-(max (-x - 0) (-(-x - 0)))))) = logSig x := by
  unfold logSig Ideal.log1p
  rw [sub_zero, neg_neg, max_comm (-x) x, ← zero_sub (max x (-x))]
  obtain ⟨r, hr, e⟩ := exp_real (0 - max x (-x)) (by
    rw [zero_sub]
    intro h
    rcases max_eq_bot.mp (EReal.neg_eq_top_iff.mp h) with ⟨h1, h2⟩
    rw [h1] at h2
    exact absurd h2 (by simp))
  obtain ⟨l, hl⟩ := log_real r hr
  rw [e, hl, EReal.neg_add (Or.inr (EReal.coe_ne_top l)) (Or.inr (EReal.coe_ne_bot l)), neg_max_neg]

end Cert.Gate
-- ==== Proof.Hand.GateVal.lean ====
/- The forget gate's running sums over the extended reals: what a grid point writes, and the output array. -/
module

public import proofs.«01_k».proof.Proof.Hand.GateRun
public import proofs.«01_k».proof.Proof.Hand.GateSpec
public import proofs.«01_k».proof.Proof.Hand.OutVal
public import Idealize.ShloMosaic.Lib.Pointwise
public import Idealize.ShloMosaic.Lib.StableHlo.ReadAt
public import Idealize.ShloMosaic.Lib.KernelVsHost

@[expose] public section

set_option maxRecDepth 16384

noncomputable section

namespace Cert.Kernel4Ideal.Gen

open Idealize.ShloMosaic Idealize.ShloMosaic.TcCoe Cert.Gate
open Cert.Kernel3Ideal.Gen (ld_from)

theorem lsig_at {S : Shape} (x : FVec Ideal S .f32) (i : S.Idx) : lsig (F := Ideal) S x i = logSig (x i) := by
  have e1 : Ideal.ofBits .f32 0x3F800000#32 = 1 := by
    pointwise []
  unfold lsig logSig
  show min (x i) (Ideal.ofBits .f32 0x00000000#32) - Ideal.log (Ideal.ofBits .f32 0x3F800000#32 + Ideal.exp (Ideal.ofBits .f32 0x00000000#32 - max (x i) (-(x i)))) = _
  rw [e1, Ideal.ofBits_zero]

theorem sge : ∀ r d : Fin 128, IntOp.cmpi CmpIPredicate.sge (BitVec.ofNat 32 r.val) (BitVec.ofNat 32 d.val) = if d.val ≤ r.val then 1#1 else 0#1 := by
  decide +kernel

theorem stepA_at (d : ℕ) (hd : d < 128) (x : FVec Ideal S128x128 .f32) (r k : Fin 128) :
    stepA (F := Ideal) (BitVec.ofNat 32 d) x (ix2 r k) = x (ix2 r k) + if h : d ≤ r.val then x (ix2 ⟨r.val - d, by omega⟩ k) else 0 := by
  have hs := sge r ⟨d, hd⟩
  have hn : (BitVec.ofNat 32 d).toNat = d := by rw [BitVec.toNat_ofNat]; omega
  unfold stepA
  pointwise []
  rw [hs]
  refine congrArg (x (ix2 r k) + ·) ?_
  have hr := r.isLt
  by_cases h : d ≤ r.val
  · rw [if_pos h, dif_pos h]
    refine congrArg (fun q : Fin 128 => x (ix2 q k)) (Fin.ext ?_)
    show (r.val + 128 - (BitVec.ofNat 32 d).toNat % 128) % 128 = r.val - d
    rw [hn]; omega
  · rw [if_neg h, dif_neg h]
    rfl

theorem stepB_at (d : ℕ) (hd : d < 16) (x : FVec Ideal S16x128 .f32) (r : Fin 16) (k : Fin 128) :
    stepB (F := Ideal) (BitVec.ofNat 32 d) x (ix2 r k) = x (ix2 r k) + if h : d ≤ r.val then x (ix2 ⟨r.val - d, by omega⟩ k) else 0 := by
  have hs := sge ⟨r.val, by omega⟩ ⟨d, by omega⟩
  have hn : (BitVec.ofNat 32 d).toNat = d := by rw [BitVec.toNat_ofNat]; omega
  unfold stepB
  pointwise []
  rw [hs]
  refine congrArg (x (ix2 r k) + ·) ?_
  have hr := r.isLt
  by_cases h : d ≤ r.val
  · rw [if_pos h, dif_pos h]
    refine congrArg (fun q : Fin 16 => x (ix2 q k)) (Fin.ext ?_)
    show (r.val + 16 - (BitVec.ofNat 32 d).toNat % 16) % 16 = r.val - d
    rw [hn]; omega
  · rw [if_neg h, dif_neg h]
    rfl

/-- The sum of a sequence's last terms up to one. -/
def back (f : ℕ → EReal) (d r : ℕ) : EReal := ∑ i ∈ Finset.Ico (r + 1 - d) (r + 1), f i

/-- Adding the sum `d` rows above doubles the number of rows summed. -/
theorem back_double (f : ℕ → EReal) (d r : ℕ) : back f d r + (if d ≤ r then back f d (r - d) else 0) = back f (d + d) r := by
  unfold back
  split
  · rename_i h
    rw [show r - d + 1 = r + 1 - d by omega, add_comm, show r + 1 - d - d = r + 1 - (d + d) by omega]
    exact Finset.sum_Ico_consecutive f (by omega) (by omega)
  · rename_i h
    rw [add_zero, show r + 1 - d = 0 by omega, show r + 1 - (d + d) = 0 by omega]

theorem back_one (f : ℕ → EReal) (r : ℕ) : back f 1 r = f r := by
  unfold back
  rw [Nat.add_sub_cancel, Nat.Ico_succ_singleton, Finset.sum_singleton]

theorem back_all (f : ℕ → EReal) (d r : ℕ) (h : r < d) : back f d r = ∑ i ∈ Finset.range (r + 1), f i := by
  unfold back
  rw [show r + 1 - d = 0 by omega, Finset.range_eq_Ico]

/-- A step of the doubling. -/
theorem stepA_back (d : ℕ) (hd : d < 128) (x : FVec Ideal S128x128 .f32) (f : ℕ → EReal) (k : Fin 128)
    (hx : ∀ r : Fin 128, x (ix2 r k) = back f d r.val) (r : Fin 128) : stepA (F := Ideal) (BitVec.ofNat 32 d) x (ix2 r k) = back f (d + d) r.val := by
  rw [stepA_at d hd, ← back_double, hx]
  refine congrArg (back f d r.val + ·) ?_
  by_cases h : d ≤ r.val
  · rw [dif_pos h, if_pos h, hx]
  · rw [dif_neg h, if_neg h]

theorem stepB_back (d : ℕ) (hd : d < 16) (x : FVec Ideal S16x128 .f32) (f : ℕ → EReal) (k : Fin 128)
    (hx : ∀ r : Fin 16, x (ix2 r k) = back f d r.val) (r : Fin 16) : stepB (F := Ideal) (BitVec.ofNat 32 d) x (ix2 r k) = back f (d + d) r.val := by
  rw [stepB_at d hd, ← back_double, hx]
  refine congrArg (back f d r.val + ·) ?_
  by_cases h : d ≤ r.val
  · rw [dif_pos h, if_pos h, hx]
  · rw [dif_neg h, if_neg h]

section
variable (Z : ℕ → ℕ → EReal) (B : ℕ → EReal) (n : ℕ)

theorem upto_add (r k : ℕ) : (∑ i ∈ Finset.range r, logSig (Z (n + i) k + B k)) + upto Z B n k = upto Z B (n + r) k := by
  unfold upto
  rw [add_comm, Finset.sum_range_add]

theorem chunkA_at (z : Vec Ideal S128x128 .f32) (b : Vec Ideal S1x128 .f32) (y : FVec Ideal S1x128 .f32)
    (hz : ∀ r k : Fin 128, z (ix2 r k) = Z (n + r.val) k.val) (hb : ∀ k : Fin 128, b (ix2 0 k) = B k.val)
    (hy : ∀ k : Fin 128, y (ix2 0 k) = upto Z B n k.val) (r k : Fin 128) :
    chunkA (F := Ideal) z b y (ix2 r k) = upto Z B (n + (r.val + 1)) k.val := by
  rw [← upto_add, ← hy, ← back_all (fun i => logSig (Z (n + i) k.val + B k.val)) 128 r.val r.isLt]
  have e0 : ∀ r : Fin 128, lsig (F := Ideal) S128x128 (addf (shapeCast S128x128 z shapeCasts_S128x128_S128x128) (broadcastTo S128x128 (shapeCast S1x128 b shapeCasts_S1x128_S1x128) broadcasts_S1x128_S128x128)) (ix2 r k)
      = back (fun i => logSig (Z (n + i) k.val + B k.val)) 1 r.val := by
    intro r
    rw [lsig_at, back_one, ← hz, ← hb]
    refine congrArg logSig ?_
    pointwise []
  have e := stepA_back 64 (by omega) _ _ k (stepA_back 32 (by omega) _ _ k (stepA_back 16 (by omega) _ _ k (stepA_back 8 (by omega) _ _ k
    (stepA_back 4 (by omega) _ _ k (stepA_back 2 (by omega) _ _ k (stepA_back 1 (by omega) _ _ k e0)))))) r
  unfold chunkA
  refine Eq.trans ?_ (congrArg (· + y (ix2 0 k)) e)
  generalize stepA (F := Ideal) 64#32 _ = q
  pointwise []

theorem chunkB_at (z : Vec Ideal S16x128 .f32) (b : Vec Ideal S1x128 .f32) (y : FVec Ideal S1x128 .f32)
    (hz : ∀ (r : Fin 16) (k : Fin 128), z (ix2 r k) = Z (n + r.val) k.val) (hb : ∀ k : Fin 128, b (ix2 0 k) = B k.val)
    (hy : ∀ k : Fin 128, y (ix2 0 k) = upto Z B n k.val) (r : Fin 16) (k : Fin 128) :
    chunkB (F := Ideal) z b y (ix2 r k) = upto Z B (n + (r.val + 1)) k.val := by
  rw [← upto_add, ← hy, ← back_all (fun i => logSig (Z (n + i) k.val + B k.val)) 16 r.val r.isLt]
  have e0 : ∀ r : Fin 16, lsig (F := Ideal) S16x128 (addf (shapeCast S16x128 z shapeCasts_S16x128_S16x128) (broadcastTo S16x128 (shapeCast S1x128 b shapeCasts_S1x128_S1x128) broadcasts_S1x128_S16x128)) (ix2 r k)
      = back (fun i => logSig (Z (n + i) k.val + B k.val)) 1 r.val := by
    intro r
    rw [lsig_at, back_one, ← hz, ← hb]
    refine congrArg logSig ?_
    pointwise []
  have e := stepB_back 8 (by omega) _ _ k (stepB_back 4 (by omega) _ _ k (stepB_back 2 (by omega) _ _ k (stepB_back 1 (by omega) _ _ k e0))) r
  unfold chunkB
  refine Eq.trans ?_ (congrArg (· + y (ix2 0 k)) e)
  generalize stepB (F := Ideal) 8#32 _ = q
  pointwise []

theorem lastRow_at (x : FVec Ideal S128x128 .f32) (k : Fin 128) : lastRow (F := Ideal) x (ix2 0 k) = x (ix2 127 k) := by
  pointwise [lastRow]

end

section
variable (Z : ℕ → ℕ → EReal) (B : ℕ → EReal) (x0 : Vec Ideal S2064x128 .f32) (x1 : Vec Ideal S1x128 .f32)
  (h0 : ∀ (r : Fin 2064) (k : Fin 128), x0 (ix2 r k) = Z r.val k.val) (h1 : ∀ k : Fin 128, x1 (ix2 0 k) = B k.val)

include h1 in
theorem biasRow_at (k : Fin 128) : biasRow (F := Ideal) x1 (ix2 0 k) = B k.val := by
  unfold biasRow
  refine (ld_from (a := 1) (b := 1) (n := 0) (d := 128) (e := .f32) x1 _ 0 k (by decide)).trans (h1 k)

include h0 h1

theorem run0_at (r : Fin 128) (k : Fin 128) : run0 (F := Ideal) x0 x1 (ix2 r k) = upto Z B (0 + (r.val + 1)) k.val :=
  chunkA_at Z B 0 _ _ _ (fun r k => (ld_from (a := 2064) (b := 128) (n := 0) (d := 128) (e := .f32) x0 _ r k (by omega)).trans (h0 _ _)) (biasRow_at B x1 h1)
    (fun k => (show k0_pay2 (F := Ideal) (ix2 0 k) = 0 by pointwise [k0_pay2]).trans (Finset.sum_range_zero _).symm) r k

theorem run1_at (r : Fin 128) (k : Fin 128) : run1 (F := Ideal) x0 x1 (ix2 r k) = upto Z B (128 + (r.val + 1)) k.val :=
  chunkA_at Z B 128 _ _ _ (fun r k => (ld_from (a := 2064) (b := 128) (n := 128) (d := 128) (e := .f32) x0 _ r k (by omega)).trans (h0 _ _)) (biasRow_at B x1 h1)
    (fun k => (lastRow_at _ k).trans (run0_at Z B x0 x1 h0 h1 127 k)) r k

theorem run2_at (r : Fin 128) (k : Fin 128) : run2 (F := Ideal) x0 x1 (ix2 r k) = upto Z B (256 + (r.val + 1)) k.val :=
  chunkA_at Z B 256 _ _ _ (fun r k => (ld_from (a := 2064) (b := 128) (n := 256) (d := 128) (e := .f32) x0 _ r k (by omega)).trans (h0 _ _)) (biasRow_at B x1 h1)
    (fun k => (lastRow_at _ k).trans (run1_at Z B x0 x1 h0 h1 127 k)) r k

theorem run3_at (r : Fin 128) (k : Fin 128) : run3 (F := Ideal) x0 x1 (ix2 r k) = upto Z B (384 + (r.val + 1)) k.val :=
  chunkA_at Z B 384 _ _ _ (fun r k => (ld_from (a := 2064) (b := 128) (n := 384) (d := 128) (e := .f32) x0 _ r k (by omega)).trans (h0 _ _)) (biasRow_at B x1 h1)
    (fun k => (lastRow_at _ k).trans (run2_at Z B x0 x1 h0 h1 127 k)) r k

theorem run4_at (r : Fin 128) (k : Fin 128) : run4 (F := Ideal) x0 x1 (ix2 r k) = upto Z B (512 + (r.val + 1)) k.val :=
  chunkA_at Z B 512 _ _ _ (fun r k => (ld_from (a := 2064) (b := 128) (n := 512) (d := 128) (e := .f32) x0 _ r k (by omega)).trans (h0 _ _)) (biasRow_at B x1 h1)
    (fun k => (lastRow_at _ k).trans (run3_at Z B x0 x1 h0 h1 127 k)) r k

theorem run5_at (r : Fin 128) (k : Fin 128) : run5 (F := Ideal) x0 x1 (ix2 r k) = upto Z B (640 + (r.val + 1)) k.val :=
  chunkA_at Z B 640 _ _ _ (fun r k => (ld_from (a := 2064) (b := 128) (n := 640) (d := 128) (e := .f32) x0 _ r k (by omega)).trans (h0 _ _)) (biasRow_at B x1 h1)
    (fun k => (lastRow_at _ k).trans (run4_at Z B x0 x1 h0 h1 127 k)) r k

theorem run6_at (r : Fin 128) (k : Fin 128) : run6 (F := Ideal) x0 x1 (ix2 r k) = upto Z B (768 + (r.val + 1)) k.val :=
  chunkA_at Z B 768 _ _ _ (fun r k => (ld_from (a := 2064) (b := 128) (n := 768) (d := 128) (e := .f32) x0 _ r k (by omega)).trans (h0 _ _)) (biasRow_at B x1 h1)
    (fun k => (lastRow_at _ k).trans (run5_at Z B x0 x1 h0 h1 127 k)) r k

theorem run7_at (r : Fin 128) (k : Fin 128) : run7 (F := Ideal) x0 x1 (ix2 r k) = upto Z B (896 + (r.val + 1)) k.val :=
  chunkA_at Z B 896 _ _ _ (fun r k => (ld_from (a := 2064) (b := 128) (n := 896) (d := 128) (e := .f32) x0 _ r k (by omega)).trans (h0 _ _)) (biasRow_at B x1 h1)
    (fun k => (lastRow_at _ k).trans (run6_at Z B x0 x1 h0 h1 127 k)) r k

theorem run8_at (r : Fin 128) (k : Fin 128) : run8 (F := Ideal) x0 x1 (ix2 r k) = upto Z B (1024 + (r.val + 1)) k.val :=
  chunkA_at Z B 1024 _ _ _ (fun r k => (ld_from (a := 2064) (b := 128) (n := 1024) (d := 128) (e := .f32) x0 _ r k (by omega)).trans (h0 _ _)) (biasRow_at B x1 h1)
    (fun k => (lastRow_at _ k).trans (run7_at Z B x0 x1 h0 h1 127 k)) r k

theorem run9_at (r : Fin 128) (k : Fin 128) : run9 (F := Ideal) x0 x1 (ix2 r k) = upto Z B (1152 + (r.val + 1)) k.val :=
  chunkA_at Z B 1152 _ _ _ (fun r k => (ld_from (a := 2064) (b := 128) (n := 1152) (d := 128) (e := .f32) x0 _ r k (by omega)).trans (h0 _ _)) (biasRow_at B x1 h1)
    (fun k => (lastRow_at _ k).trans (run8_at Z B x0 x1 h0 h1 127 k)) r k

theorem run10_at (r : Fin 128) (k : Fin 128) : run10 (F := Ideal) x0 x1 (ix2 r k) = upto Z B (1280 + (r.val + 1)) k.val :=
  chunkA_at Z B 1280 _ _ _ (fun r k => (ld_from (a := 2064) (b := 128) (n := 1280) (d := 128) (e := .f32) x0 _ r k (by omega)).trans (h0 _ _)) (biasRow_at B x1 h1)
    (fun k => (lastRow_at _ k).trans (run9_at Z B x0 x1 h0 h1 127 k)) r k

theorem run11_at (r : Fin 128) (k : Fin 128) : run11 (F := Ideal) x0 x1 (ix2 r k) = upto Z B (1408 + (r.val + 1)) k.val :=
  chunkA_at Z B 1408 _ _ _ (fun r k => (ld_from (a := 2064) (b := 128) (n := 1408) (d := 128) (e := .f32) x0 _ r k (by omega)).trans (h0 _ _)) (biasRow_at B x1 h1)
    (fun k => (lastRow_at _ k).trans (run10_at Z B x0 x1 h0 h1 127 k)) r k

theorem run12_at (r : Fin 128) (k : Fin 128) : run12 (F := Ideal) x0 x1 (ix2 r k) = upto Z B (1536 + (r.val + 1)) k.val :=
  chunkA_at Z B 1536 _ _ _ (fun r k => (ld_from (a := 2064) (b := 128) (n := 1536) (d := 128) (e := .f32) x0 _ r k (by omega)).trans (h0 _ _)) (biasRow_at B x1 h1)
    (fun k => (lastRow_at _ k).trans (run11_at Z B x0 x1 h0 h1 127 k)) r k

theorem run13_at (r : Fin 128) (k : Fin 128) : run13 (F := Ideal) x0 x1 (ix2 r k) = upto Z B (1664 + (r.val + 1)) k.val :=
  chunkA_at Z B 1664 _ _ _ (fun r k => (ld_from (a := 2064) (b := 128) (n := 1664) (d := 128) (e := .f32) x0 _ r k (by omega)).trans (h0 _ _)) (biasRow_at B x1 h1)
    (fun k => (lastRow_at _ k).trans (run12_at Z B x0 x1 h0 h1 127 k)) r k

theorem run14_at (r : Fin 128) (k : Fin 128) : run14 (F := Ideal) x0 x1 (ix2 r k) = upto Z B (1792 + (r.val + 1)) k.val :=
  chunkA_at Z B 1792 _ _ _ (fun r k => (ld_from (a := 2064) (b := 128) (n := 1792) (d := 128) (e := .f32) x0 _ r k (by omega)).trans (h0 _ _)) (biasRow_at B x1 h1)
    (fun k => (lastRow_at _ k).trans (run13_at Z B x0 x1 h0 h1 127 k)) r k

theorem run15_at (r : Fin 128) (k : Fin 128) : run15 (F := Ideal) x0 x1 (ix2 r k) = upto Z B (1920 + (r.val + 1)) k.val :=
  chunkA_at Z B 1920 _ _ _ (fun r k => (ld_from (a := 2064) (b := 128) (n := 1920) (d := 128) (e := .f32) x0 _ r k (by omega)).trans (h0 _ _)) (biasRow_at B x1 h1)
    (fun k => (lastRow_at _ k).trans (run14_at Z B x0 x1 h0 h1 127 k)) r k

theorem run16_at (r : Fin 16) (k : Fin 128) : run16 (F := Ideal) x0 x1 (ix2 r k) = upto Z B (2048 + (r.val + 1)) k.val :=
  chunkB_at Z B 2048 _ _ _ (fun r k => (ld_from (a := 2064) (b := 16) (n := 2048) (d := 128) (e := .f32) x0 _ r k (by omega)).trans (h0 _ _)) (biasRow_at B x1 h1)
    (fun k => (lastRow_at _ k).trans (run15_at Z B x0 x1 h0 h1 127 k)) r k

omit h0 h1 in
theorem tile_at (a n : ℕ) (w : (⟨2, ![a, 128]⟩ : Shape).Idx → EReal) (hw : ∀ (r : Fin a) (k : Fin 128), w (ix2 r k) = upto Z B (n + (r.val + 1)) k.val) (y : S2064x128.Idx) :
    View.TileAt (Val := Elt Ideal) (S := S2064x128) (e := .f32) y ![n, 0] ![a, 128] w (upto Z B ((y 0).val + 1) (y 1).val) := by
  intro x hx
  have e0 : (y 0).val = n + (x 0).val := hx 0
  have e1 : (y 1).val = 0 + (x 1).val := hx 1
  rw [eq_ix2 x]
  refine (hw _ _).trans ?_
  rw [e0, e1, Nat.zero_add]
  rfl

/-- What the chunks leave in the block. -/
theorem pieces_at (y : S2064x128.Idx) : View.AllAt (pieces (F := Ideal) x0 x1) y (upto Z B ((y 0).val + 1) (y 1).val) := by
  unfold pieces
  refine View.allAt_cons_unit _ _ _ _ _ (tile_at Z B 16 2048 _ (run16_at Z B x0 x1 h0 h1) y) ?_
  refine View.allAt_cons_unit _ _ _ _ _ (tile_at Z B 128 1920 _ (run15_at Z B x0 x1 h0 h1) y) ?_
  refine View.allAt_cons_unit _ _ _ _ _ (tile_at Z B 128 1792 _ (run14_at Z B x0 x1 h0 h1) y) ?_
  refine View.allAt_cons_unit _ _ _ _ _ (tile_at Z B 128 1664 _ (run13_at Z B x0 x1 h0 h1) y) ?_
  refine View.allAt_cons_unit _ _ _ _ _ (tile_at Z B 128 1536 _ (run12_at Z B x0 x1 h0 h1) y) ?_
  refine View.allAt_cons_unit _ _ _ _ _ (tile_at Z B 128 1408 _ (run11_at Z B x0 x1 h0 h1) y) ?_
  refine View.allAt_cons_unit _ _ _ _ _ (tile_at Z B 128 1280 _ (run10_at Z B x0 x1 h0 h1) y) ?_
  refine View.allAt_cons_unit _ _ _ _ _ (tile_at Z B 128 1152 _ (run9_at Z B x0 x1 h0 h1) y) ?_
  refine View.allAt_cons_unit _ _ _ _ _ (tile_at Z B 128 1024 _ (run8_at Z B x0 x1 h0 h1) y) ?_
  refine View.allAt_cons_unit _ _ _ _ _ (tile_at Z B 128 896 _ (run7_at Z B x0 x1 h0 h1) y) ?_
  refine View.allAt_cons_unit _ _ _ _ _ (tile_at Z B 128 768 _ (run6_at Z B x0 x1 h0 h1) y) ?_
  refine View.allAt_cons_unit _ _ _ _ _ (tile_at Z B 128 640 _ (run5_at Z B x0 x1 h0 h1) y) ?_
  refine View.allAt_cons_unit _ _ _ _ _ (tile_at Z B 128 512 _ (run4_at Z B x0 x1 h0 h1) y) ?_
  refine View.allAt_cons_unit _ _ _ _ _ (tile_at Z B 128 384 _ (run3_at Z B x0 x1 h0 h1) y) ?_
  refine View.allAt_cons_unit _ _ _ _ _ (tile_at Z B 128 256 _ (run2_at Z B x0 x1 h0 h1) y) ?_
  refine View.allAt_cons_unit _ _ _ _ _ (tile_at Z B 128 128 _ (run1_at Z B x0 x1 h0 h1) y) ?_
  refine View.allAt_cons_unit _ _ _ _ _ (tile_at Z B 128 0 _ (run0_at Z B x0 x1 h0 h1) y) ?_
  exact View.allAt_nil _ _

theorem block_at (c : Dev nD) (i : grid0.Coords) (arg1 : Memref sig .tc .vmem S2064x128 .f32) (harg1 : arg1.IsWhole) (arg2 : Memref sig .tc .vmem S1x128 .f32) (harg2 : arg2.IsWhole)
    (arg3 : Memref sig .tc .vmem S2064x128 .f32) (harg3 : arg3.IsWhole) (y : S2064x128.Idx) :
    out0_A_2 (F := Ideal) c i arg1 harg1 arg2 harg2 arg3 harg3 x0 x1 y = upto Z B ((y 0).val + 1) (y 1).val := by
  have hc := cover0_A_2 (F := Ideal) c i arg1 harg1 arg2 harg2 arg3 harg3 x0 x1 y
  unfold out0_A_2
  rw [View.read_writes_junk_eq_canon]
  rw [pieces_eq] at hc ⊢
  exact View.canon_eq_of_allAt _ _ _ hc (pieces_at Z B x0 x1 h0 h1 y)

end

section
variable (m : (ℓ : Loc nD τ sig) → Buf (Elt Ideal) ℓ)

theorem v0_at (c : Dev nD) (r : Fin 33024) (k : Fin 128) :
    V m c main_v0 (ix2 r k) = m ((c : Thread nD τ).loc main_arg0) (ix3 ⟨r.val / 2064, by omega⟩ ⟨r.val % 2064, by omega⟩ k) := by
  unfold V
  after_reads_at

theorem v1_at (c : Dev nD) (k : Fin 128) : V m c main_v1 (ix2 0 k) = m ((c : Thread nD τ).loc main_arg1) (ix1 k) := by
  unfold V
  after_reads_at

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem lt_N (t : Fin cfg0.N) : t.val < 16 := t.isLt.trans_eq N_0

theorem b0_at (c : Dev nD) (t : Fin cfg0.N) (r : Fin 2064) (k : Fin 128) :
    iblk m c 0 t (ix2 r k) = V m c main_v0 (ix2 ⟨2064 * t.val + r.val, by have := lt_N t; omega⟩ k) := by
  blk_ext [iblk, idx0]
theorem b1_at (c : Dev nD) (t : Fin cfg0.N) (k : Fin 128) : iblk m c 1 t (ix2 0 k) = V m c main_v1 (ix2 0 k) := by
  blk_ext [iblk, idx1]
end

variable (z : ℕ → ℕ → ℕ → EReal) (w : ℕ → EReal) (m : (ℓ : Loc nD τ sig) → Buf (Elt Ideal) ℓ) (c : Dev nD)

/-- A device's arguments are the given arrays. -/
structure Args : Prop where
  a0 : ∀ (b : Fin 16) (s : Fin 2064) (k : Fin 128), m ((c : Thread nD τ).loc main_arg0) (ix3 b s k) = z b.val s.val k.val
  a1 : ∀ k : Fin 128, m ((c : Thread nD τ).loc main_arg1) (ix1 k) = w k.val

/-- The result array. -/
def outArr : S33024x128.Idx → EReal := fun i => upto (z ((i 0).val / 2064)) w ((i 0).val % 2064 + 1) (i 1).val

theorem arr_at (H : Args z w m c) : (dats m 0 c).arrAt 2 cfg0.N = outArr z w := by
  refine (dats m 0 c).arrAt_eq_of_covers 2 _ (by decide +kernel) fun t hf y => ?_
  have ht := lt_N t
  have hy : (y 0).val < 2064 := (y 0).isLt
  have e0 : (((win0_2.blk t).view.emb y) 0).val = 2064 * t.val + (y 0).val := by
    blk_simp [idx2]; omega
  have e1 : (((win0_2.blk t).view.emb y) 1).val = (y 1).val := by
    blk_simp [idx2]
  blk_simp [idx2]
  rw [after0_2]
  unfold outsAt0
  refine (block_at (z t.val) w (iblk m c 0 t) (iblk m c 1 t) (fun r k => ?_) (fun k => (b1_at m c t k).trans ((v1_at m c k).trans (H.a1 k))) c _ _ _ _ _ _ _ y).trans ?_
  · refine (b0_at m c t r k).trans ((v0_at m c _ _).trans ((H.a0 _ _ _).trans ?_))
    have hr := r.isLt
    show z ((2064 * t.val + r.val) / 2064) ((2064 * t.val + r.val) % 2064) k.val = _
    rw [show (2064 * t.val + r.val) / 2064 = t.val by omega, show (2064 * t.val + r.val) % 2064 = r.val by omega]
  · unfold outArr
    refine ((congr (congrArg (fun a b => upto (z (a / 2064)) w (a % 2064 + 1) b) e0) e1).trans ?_).symm
    dsimp only
    rw [show (2064 * t.val + (y 0).val) / 2064 = t.val by omega, show (2064 * t.val + (y 0).val) % 2064 = (y 0).val by omega]

end Cert.Kernel4Ideal.Gen
-- ==== Proof.Hand.GateRef.lean ====
/- The reference's running sums of the forget gate's logarithms over the extended reals, read at an index. -/
module

public import proofs.«01_k».proof.Proof.Gen.Reference4Ideal.Read
public import proofs.«01_k».proof.Proof.Hand.GateSpec
public import Idealize.ShloMosaic.Lib.Pointwise

@[expose] public section

set_option maxRecDepth 16384

noncomputable section

namespace Cert.Gate

open Idealize.ShloMosaic

/-- A fold of additions is the sum of what is added. -/
theorem foldl_add_sum {n : ℕ} (g : Fin n → EReal) (v : EReal) :
    (List.finRange n).foldl (fun r k => r + g k) v = v + ∑ k, g k := by
  rw [← List.foldl_map (f := g) (g := fun r x : EReal => r + x), ← List.sum_ofFn, List.ofFn_eq_map]
  generalize (List.finRange n).map g = l
  induction l generalizing v with
  | nil => simp
  | cons a l ih => rw [List.foldl_cons, ih, List.sum_cons, add_assoc]

/-- The window's positions are the rows. -/
theorem bij : Function.Bijective (fun i : Fin 2064 => (ix3 0 i 0 : (⟨3, ![1, 2064, 1]⟩ : Shape).Idx)) := by
  refine ⟨fun i j h => ?_, fun n => ⟨n 1, ?_⟩⟩
  · exact congrFun h 1
  · rw [eq_ix3 n]
    refine congr (congrFun (congrArg ix3 ?_) _) ?_
    · exact (Subsingleton.elim (α := Fin 1) _ _)
    · exact (Subsingleton.elim (α := Fin 1) _ _)

/-- A window of all the rows, padded above by one row less: at a row, the sum of the rows up to it. -/
theorem window_sum (x : (⟨3, ![16, 2064, 128]⟩ : Shape).Idx → EReal)
    (h : (⟨3, ![16, 2064, 128]⟩ : Shape).ReduceWindows ![1, 2064, 1] ![1, 1, 1] ![0, 2063, 0] ![0, 0, 0] ⟨3, ![16, 2064, 128]⟩)
    (b : Fin 16) (s : Fin 2064) (k : Fin 128) (g : ℕ → EReal) (hg : ∀ i : Fin 2064, x (ix3 b i k) = g i.val) :
    Ideal.hostReduceWindowAdd ![1, 2064, 1] ![1, 1, 1] ![0, 2063, 0] ![0, 0, 0] h x 0 (ix3 b s k) = ∑ i ∈ Finset.range (s.val + 1), g i := by
  unfold Ideal.hostReduceWindowAdd Host.reduceWindow
  dsimp only
  rw [foldl_add_sum, zero_add]
  rw [← Equiv.sum_comp (Shape.rowMajor (⟨3, ![1, 2064, 1]⟩ : Shape))]
  simp only [Equiv.symm_apply_apply]
  rw [← Fintype.sum_bijective (fun i : Fin 2064 => (ix3 0 i 0 : (⟨3, ![1, 2064, 1]⟩ : Shape).Idx)) bij
    (fun i => if 2063 ≤ s.val + i.val then g (s.val + i.val - 2063) else 0) _ (fun i => ?_)]
  · rw [Fin.sum_univ_eq_sum_range (fun i => if 2063 ≤ s.val + i then g (s.val + i - 2063) else 0),
      show Finset.range 2064 = Finset.range ((2063 - s.val) + (s.val + 1)) from congrArg _ (by omega), Finset.sum_range_add, Finset.sum_eq_zero (fun i hi => ?_), zero_add]
    · refine Finset.sum_congr rfl fun i hi => ?_
      rw [if_pos (by omega), show s.val + (2063 - s.val + i) - 2063 = i by omega]
    · have := Finset.mem_range.mp hi
      exact if_neg (by omega)
  · have hi := i.isLt
    by_cases hc : 2063 ≤ s.val + i.val
    · rw [if_pos hc, dif_pos (fun a => ?_)]
      · refine (hg ⟨s.val + i.val - 2063, by omega⟩).symm.trans (congrArg x (funext fun a => ?_))
        refine Fin.ext ?_
        fin_cases a
        · show b.val = b.val * 1 + 0 - 0; omega
        · show s.val + i.val - 2063 = s.val * 1 + i.val - 2063; omega
        · show k.val = k.val * 1 + 0 - 0; omega
      · fin_cases a
        · show 0 ≤ b.val * 1 + 0 ∧ b.val * 1 + 0 - 0 < 16; omega
        · show 2063 ≤ s.val * 1 + i.val ∧ s.val * 1 + i.val - 2063 < 2064; omega
        · show 0 ≤ k.val * 1 + 0 ∧ k.val * 1 + 0 - 0 < 128; omega
    · rw [if_neg hc, dif_neg (fun hin => ?_)]
      have h1 : 2063 ≤ s.val * 1 + i.val := (hin 1).1
      omega

end Cert.Gate

namespace Cert.Reference4Ideal.Read

open Cert.Reference4Ideal Cert.Reference4Ideal.Gen Idealize.ShloMosaic Cert.Gate

variable (X0 : (⟨S16x2064x128, .f32⟩ : BufTy).Contents (Elt Ideal)) (X1 : (⟨S128, .f32⟩ : BufTy).Contents (Elt Ideal))
  (z : ℕ → ℕ → ℕ → EReal) (w : ℕ → EReal)
  (h0 : ∀ (b : Fin 16) (s : Fin 2064) (k : Fin 128), X0 (ix3 b s k) = z b.val s.val k.val)
  (h1 : ∀ k : Fin 128, X1 (ix1 k) = w k.val)
include h0 h1

theorem v3_at (b : Fin 16) (s : Fin 2064) (k : Fin 128) :
    val_main_v3 (F := Ideal) X0 X1 (ix3 b s k) = logSig (z b.val s.val k.val + w k.val) := by
  have e : val_main_v2 (F := Ideal) X0 X1 (ix3 b s k) = z b.val s.val k.val + w k.val := by
    rw [← h0, ← h1]
    pointwise [val_main_v2, val_main_v1, val_main_v0]
  rw [← e, ← neg_softplus]
  generalize ex : val_main_v2 (F := Ideal) X0 X1 (ix3 b s k) = y
  pointwise [val_main_v3, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_v0, val_main_call0_call0_cst]
  rw [if_neg (not_not.mpr rfl), ex]
  rfl

theorem v4_at (b : Fin 16) (s : Fin 2064) (k : Fin 128) :
    val_main_v4 (F := Ideal) X0 X1 (ix3 b s k) = upto (z b.val) w (s.val + 1) k.val := by
  have e : val_main_call1_call0_v0 (F := Ideal) (Shape.Idx.first h_S_) = 0 := by
    pointwise [val_main_call1_call0_v0, val_main_call1_call0_cst]
  have e3 := v3_at X0 X1 z w h0 h1 b
  unfold val_main_v4 Host.reduceWindowAdd
  rw [e]
  generalize val_main_v3 (F := Ideal) X0 X1 = x at e3 ⊢
  exact window_sum x _ b s k (fun i => logSig (z b.val i k.val + w k.val)) fun i => e3 i k

theorem v5_at (r : Fin 33024) (k : Fin 128) :
    val_main_v5 (F := Ideal) X0 X1 (ix2 r k) = upto (z (r.val / 2064)) w (r.val % 2064 + 1) k.val := by
  pointwise [val_main_v5]
  exact v4_at X0 X1 z w h0 h1 _ _ _

end Cert.Reference4Ideal.Read
-- ==== Proof.Hand.GateValue.lean ====
/- Over the extended reals the forget gate's running sums and their reference give the same result. -/
module

public import proofs.«01_k».proof.Defs
public import proofs.«01_k».proof.Proof.Hand.GateVal
public import proofs.«01_k».proof.Proof.Hand.GateRef
public import proofs.«01_k».proof.Proof.Hand.FfnValue
public import proofs.«01_k».proof.Proof.Gen.Reference4Ideal.Run

@[expose] public section

set_option maxRecDepth 16384

noncomputable section

namespace Cert.Kernel4Ideal.Gen

open Idealize.ShloMosaic Idealize.ShloMosaic.TcCoe Cert.Gate
open Cert.Kernel2Ideal.Gen (nat1 nat3 nat1_eq nat3_eq)

variable (m : (ℓ : Loc nD τ sig) → Buf (Elt Ideal) ℓ)

/-- The result array of a device's arguments. -/
def result (c : Dev nD) : S33024x128.Idx → EReal :=
  outArr (nat3 (a := 16) (b := 2064) (d := 128) (m ((c : Thread nD τ).loc main_arg0))) (nat1 (a := 128) (m ((c : Thread nD τ).loc main_arg1)))

theorem args (c : Dev nD) : Args (nat3 (a := 16) (b := 2064) (d := 128) (m ((c : Thread nD τ).loc main_arg0))) (nat1 (a := 128) (m ((c : Thread nD τ).loc main_arg1))) m c :=
  ⟨nat3_eq _, nat1_eq _⟩

end Cert.Kernel4Ideal.Gen

namespace Cert.Proof.EqualGate

open Idealize.ShloMosaic Idealize.SL.Sem

local instance gateKernelFacts : Cert.Kernel4Ideal.Facts := Cert.Kernel4Ideal.Gen.facts
local instance gateReferenceFacts : Cert.Reference4Ideal.Facts := Cert.Reference4Ideal.Gen.facts

theorem value : Cert.algebraic_Kernel4Ideal_Reference4Ideal := by
  intro m ρ m' ρ' _ hargs
  refine ⟨Cert.Kernel4Ideal.Gen.result m, ?_, ?_⟩
  · refine (θ_run Cert.Kernel4Ideal.defs _ _).mono (fun r h c => ⟨(h c).1.trans ?_, (h c).2⟩) (Cert.Kernel4Ideal.Value.run_blocks (F := Ideal) m ρ)
    exact Cert.Kernel4Ideal.Gen.arr_at _ _ m c (Cert.Kernel4Ideal.Gen.args m c)
  · refine (θ_run Cert.Reference4Ideal.defs _ _).mono (fun r h c => ⟨(h c).1.trans ?_, (h c).2⟩) (Cert.Reference4Ideal.Value.run (F := Ideal) m' ρ')
    obtain ⟨a0, a1⟩ := hargs c
    rw [Cert.Reference4Ideal.Read.val_main_v5_eq, a0, a1]
    have H := Cert.Kernel4Ideal.Gen.args m c
    funext i
    rw [eq_ix2 i]
    exact Cert.Reference4Ideal.Read.v5_at _ _ _ _ H.a0 H.a1 (i 0) (i 1)

end Cert.Proof.EqualGate

end
-- ==== Proof.Hand.PackFrames.lean ====
/- The frames of the packing's two programs, from the one run, and its reference's. -/
module

public import proofs.«01_k».proof.Defs
public import proofs.«01_k».proof.Proof.Gen.Kernel5
public import proofs.«01_k».proof.Proof.Gen.Kernel5Ideal.Frame
public import proofs.«01_k».proof.Proof.Gen.Reference5Ideal.Run
public import Idealize.ShloMosaic.PureOps.BitExact

@[expose] public section

set_option maxRecDepth 65536

noncomputable section

namespace Cert.Proof.Pack

open Idealize.ShloMosaic Idealize.SL.Sem

theorem frame_kernelIdeal : Cert.quiescent_Kernel5Ideal (hKernel5Ideal := Cert.Kernel5Ideal.Gen.facts) := fun m ρ _ =>
  Cert.Kernel5Ideal.Gen.frame (F := Ideal) m ρ

local instance bitsFacts : Cert.Kernel5.Facts := Cert.Kernel5.Gen.facts
local instance idealFacts : Cert.Kernel5Ideal.Facts := Cert.Kernel5Ideal.Gen.facts

theorem main_eq : Cert.Kernel5.main (F := Bits) = Cert.Kernel5Ideal.main (F := Bits) := rfl
theorem defs₀_eq : Cert.Kernel5.defs₀ (F := Bits) = Cert.Kernel5Ideal.defs₀ (F := Bits) := by
  unfold Cert.Kernel5.defs₀ Cert.Kernel5Ideal.defs₀
  congr 1
  funext l x
  match l with
  | ⟨0, _⟩ => exact rfl
theorem defs_eq : Cert.Kernel5.defs (F := Bits) = Cert.Kernel5Ideal.defs (F := Bits) := by
  unfold Cert.Kernel5.defs Cert.Kernel5Ideal.defs
  exact congrArg _ defs₀_eq

theorem frame_kernel : Cert.quiescent_Kernel5 (hKernel5 := Cert.Kernel5.Gen.facts) := by
  intro m ρ _
  have h := Cert.Kernel5Ideal.Gen.frame (F := Bits) m ρ
  rw [← defs_eq, ← main_eq] at h
  exact h

theorem frame_reference : Cert.quiescent_Reference5Ideal (hReference5Ideal := Cert.Reference5Ideal.Gen.facts) := fun m ρ _ =>
  (θ_run Cert.Reference5Ideal.defs _ _).mono (fun r h => ⟨fun c => (h c).2.2, Idealize.ShloMosaic.sem_eq_zero_of_no_sems (by decide) r.2⟩)
    (Cert.Reference5Ideal.Value.run (F := Ideal) m ρ)

end Cert.Proof.Pack

end
-- ==== Proof.Hand.PackSpec.lean ====
/- The packing of the input projection's weights over the extended reals, of arrays given by their coordinates: the columns
   in the order the projection reads them, the queries' columns scaled, and the gates' columns with zeros after them. -/
module

public import Idealize.ShloMosaic.Lib.Pointwise

@[expose] public section

noncomputable section

namespace Cert.Pack

open Idealize.ShloMosaic

/-- The packed columns: the convolution's, the scaled queries and the keys and values of the differential attention, and
    those of the forgetting attention. -/
def packed (w : ℕ → ℕ → ℕ → EReal) (l k c : ℕ) : EReal :=
  if c < 1536 then w l k (3846 + c)
  else if c < 2048 then w l k (2310 + (c - 1536)) * Ideal.ofBits FTy.f32 0x3E38AA3B#32
  else if c < 3072 then w l k (2822 + (c - 2048))
  else if c < 3840 then w l k (c - 3072) * Ideal.ofBits FTy.f32 0x3E0293EE#32
  else w l k (768 + (c - 3840))

/-- The gates' columns. -/
def gates (w : ℕ → ℕ → ℕ → EReal) (l k c : ℕ) : EReal := if c < 6 then w l k (2304 + c) else 0

section
variable (w : ℕ → ℕ → ℕ → EReal) (l k j : ℕ)

theorem packed_conv (h : j < 1536) : packed w l k j = w l k (3846 + j) := by
  unfold packed; rw [if_pos h]
theorem packed_dq (h : j < 512) : packed w l k (1536 + j) = w l k (2310 + j) * Ideal.ofBits FTy.f32 0x3E38AA3B#32 := by
  unfold packed; rw [if_neg (by omega), if_pos (by omega), Nat.add_sub_cancel_left]
theorem packed_dkv (h : j < 1024) : packed w l k (2048 + j) = w l k (2822 + j) := by
  unfold packed; rw [if_neg (by omega), if_neg (by omega), if_pos (by omega), Nat.add_sub_cancel_left]
theorem packed_fq (h : j < 768) : packed w l k (3072 + j) = w l k j * Ideal.ofBits FTy.f32 0x3E0293EE#32 := by
  unfold packed; rw [if_neg (by omega), if_neg (by omega), if_neg (by omega), if_pos (by omega), Nat.add_sub_cancel_left]
theorem packed_fkv : packed w l k (3840 + j) = w l k (768 + j) := by
  unfold packed; rw [if_neg (by omega), if_neg (by omega), if_neg (by omega), if_neg (by omega), Nat.add_sub_cancel_left]
end

end Cert.Pack

end
-- ==== Proof.Hand.PackVal.lean ====
/- The packed weights over the extended reals: what a grid point writes, and the two output arrays. -/
module

public import proofs.«01_k».proof.Proof.Gen.Kernel5Ideal.Value
public import proofs.«01_k».proof.Proof.Hand.PackSpec
public import Idealize.ShloMosaic.Lib.Pointwise
public import Idealize.ShloMosaic.Lib.Pipeline.ValueKit
public import Idealize.ShloMosaic.Lib.KernelVsHost

@[expose] public section

set_option maxRecDepth 16384

noncomputable section

namespace Cert.Kernel5Ideal.Gen

open Idealize.ShloMosaic Idealize.ShloMosaic.TcCoe Cert.Pack

theorem conv_at (x : Vec Ideal S1x256x1536 .f32) (r : Fin 256) (k : Fin 1536) : k0_pay3 (F := Ideal) x (ix3 0 r k) = x (ix3 0 r k) := by
  pointwise [k0_pay3]
theorem dq_at (x : Vec Ideal S1x256x512 .f32) (r : Fin 256) (k : Fin 512) :
    k0_pay4 (F := Ideal) x (ix3 0 r k) = x (ix3 0 r k) * Ideal.ofBits FTy.f32 0x3E38AA3B#32 := by
  pointwise [k0_pay4]
theorem dkv_at (x : Vec Ideal S1x256x1024 .f32) (r : Fin 256) (k : Fin 1024) : k0_pay5 (F := Ideal) x (ix3 0 r k) = x (ix3 0 r k) := by
  pointwise [k0_pay5]
theorem fq_at (x : Vec Ideal S1x256x768 .f32) (r : Fin 256) (k : Fin 768) :
    k0_pay6 (F := Ideal) x (ix3 0 r k) = x (ix3 0 r k) * Ideal.ofBits FTy.f32 0x3E0293EE#32 := by
  pointwise [k0_pay6]
theorem fkv_at (x : Vec Ideal S1x256x1536 .f32) (r : Fin 256) (k : Fin 1536) : k0_pay1 (F := Ideal) x (ix3 0 r k) = x (ix3 0 r k) := by
  pointwise [k0_pay1]

theorem slt6 : ∀ k : Fin 128, IntOp.cmpi CmpIPredicate.slt (BitVec.ofNat 32 k.val) 6#32 = if k.val < 6 then 1#1 else 0#1 := by
  decide +kernel

theorem gate_at (x : Vec Ideal S1x256x128 .f32) (r : Fin 256) (k : Fin 128) :
    k0_pay2 (F := Ideal) x (ix3 0 r k) = if k.val < 6 then x (ix3 0 r k) else 0 := by
  have h := slt6 k
  pointwise [k0_pay2]
  rw [h]
  by_cases hk : k.val < 6
  · rw [if_pos hk, if_pos hk]; rfl
  · rw [if_neg hk, if_neg hk]; rfl

/-- A block's columns from a column on. -/
theorem ld_cols {a b n d : ℕ} {e : EltTy} (X : Vec Ideal ⟨3, ![1, a, d]⟩ e) (inb) (r : Fin a) (k : Fin b) (h : n + k.val < d) :
    View.ld (S := ⟨3, ![1, a, d]⟩) X (Rect.unit (s := ⟨3, ![1, a, d]⟩) ![0, 0, n] ![1, a, b] inb) (ix3 0 r k) = X (ix3 0 r ⟨n + k.val, h⟩) := by
  refine View.ld_unit_apply_of X _ _ _ _ _ fun t => ?_
  match t with
  | ⟨0, _⟩ => rfl
  | ⟨1, _⟩ => exact (Nat.zero_add _).symm
  | ⟨2, _⟩ => rfl

section
variable (W : ℕ → ℕ → EReal) (x0 : Vec Ideal S1x256x5382 .f32) (h0 : ∀ (r : Fin 256) (k : Fin 5382), x0 (ix3 0 r k) = W r.val k.val)

theorem tile_at (b n : ℕ) (P : ℕ → ℕ → EReal) (w : (⟨3, ![1, 256, b]⟩ : Shape).Idx → EReal)
    (hw : ∀ (r : Fin 256) (k : Fin b), w (ix3 0 r k) = P r.val (n + k.val)) (y : S1x256x5376.Idx) :
    View.TileAt (Val := Elt Ideal) (S := S1x256x5376) (e := .bf16) y ![0, 0, n] ![1, 256, b] w (P (y 1).val (y 2).val) := by
  intro x hx
  have e1 : (y 1).val = 0 + (x 1).val := hx 1
  have e2 : (y 2).val = n + (x 2).val := hx 2
  have ex : x = ix3 0 (x 1) (x 2) := by
    rw [eq_ix3 x]
    exact congrFun (congrFun (congrArg ix3 (Subsingleton.elim (α := Fin 1) _ _)) _) _
  rw [ex]
  refine (hw _ _).trans ?_
  rw [e1, e2, Nat.zero_add]

include h0

/-- What a grid point writes of the packed columns. -/
theorem packed_at (c : Dev nD) (i : grid0.Coords) (arg2 : Memref sig .tc .vmem S1x256x5382 .f32) (harg2 : arg2.IsWhole) (arg3 : Memref sig .tc .vmem S1x256x5376 .bf16) (harg3 : arg3.IsWhole)
    (arg4 : Memref sig .tc .vmem S1x256x128 .bf16) (harg4 : arg4.IsWhole) (y : S1x256x5376.Idx) :
    out0_A_1 (F := Ideal) c i arg2 harg2 arg3 harg3 arg4 harg4 x0 y = packed (fun _ => W) 0 (y 1).val (y 2).val := by
  have hc := cover0_A_1 (F := Ideal) c i arg2 harg2 arg3 harg3 arg4 harg4 x0 y
  unfold out0_A_1
  rw [View.read_writes_junk_eq_canon]
  refine View.canon_eq_of_allAt _ _ _ hc ?_
  clear hc
  unfold kernelRun0_A
  dsimp only
  sl_unfold_words
  simp only [View.readAt_eq_ld, harg2.read_unread]
  refine View.allAt_cons_unit _ _ _ _ _ (tile_at 1536 3840 (packed (fun _ => W) 0) _ (fun r k => ?_) y) ?_
  · exact (fkv_at _ r k).trans ((ld_cols (a := 256) (b := 1536) (n := 768) (d := 5382) (e := .f32) x0 _ r k (by omega)).trans ((h0 _ _).trans (packed_fkv (fun _ => W) 0 r.val k.val).symm))
  refine View.allAt_cons_unit _ _ _ _ _ (tile_at 768 3072 (packed (fun _ => W) 0) _ (fun r k => ?_) y) ?_
  · refine (fq_at _ r k).trans (Eq.trans (congrArg (· * Ideal.ofBits FTy.f32 0x3E0293EE#32) ?_) (packed_fq (fun _ => W) 0 r.val k.val k.isLt).symm)
    refine (ld_cols (a := 256) (b := 768) (n := 0) (d := 5382) (e := .f32) x0 _ r k (by omega)).trans ((h0 _ _).trans ?_)
    dsimp only; rw [Nat.zero_add]
  refine View.allAt_cons_unit _ _ _ _ _ (tile_at 1024 2048 (packed (fun _ => W) 0) _ (fun r k => ?_) y) ?_
  · exact (dkv_at _ r k).trans ((ld_cols (a := 256) (b := 1024) (n := 2822) (d := 5382) (e := .f32) x0 _ r k (by omega)).trans ((h0 _ _).trans (packed_dkv (fun _ => W) 0 r.val k.val k.isLt).symm))
  refine View.allAt_cons_unit _ _ _ _ _ (tile_at 512 1536 (packed (fun _ => W) 0) _ (fun r k => ?_) y) ?_
  · exact (dq_at _ r k).trans (Eq.trans (congrArg (· * Ideal.ofBits FTy.f32 0x3E38AA3B#32)
      ((ld_cols (a := 256) (b := 512) (n := 2310) (d := 5382) (e := .f32) x0 _ r k (by omega)).trans (h0 _ _))) (packed_dq (fun _ => W) 0 r.val k.val k.isLt).symm)
  refine View.allAt_cons_unit _ _ _ _ _ (tile_at 1536 0 (packed (fun _ => W) 0) _ (fun r k => ?_) y) ?_
  · refine (conv_at _ r k).trans ((ld_cols (a := 256) (b := 1536) (n := 3846) (d := 5382) (e := .f32) x0 _ r k (by omega)).trans ((h0 _ _).trans ?_))
    rw [Nat.zero_add]
    exact (packed_conv (fun _ => W) 0 r.val k.val k.isLt).symm
  exact View.allAt_nil _ _

/-- What a grid point writes of the gates' columns. -/
theorem gates_at (c : Dev nD) (i : grid0.Coords) (arg2 : Memref sig .tc .vmem S1x256x5382 .f32) (harg2 : arg2.IsWhole) (arg3 : Memref sig .tc .vmem S1x256x5376 .bf16) (harg3 : arg3.IsWhole)
    (arg4 : Memref sig .tc .vmem S1x256x128 .bf16) (harg4 : arg4.IsWhole) (y : S1x256x128.Idx) :
    out0_A_2 (F := Ideal) c i arg2 harg2 arg3 harg3 arg4 harg4 x0 y = gates (fun _ => W) 0 (y 1).val (y 2).val := by
  have hz : (![0, 0, 0] : Fin 3 → Nat) = fun _ => 0 := funext fun a => by fin_cases a <;> rfl
  unfold out0_A_2
  rw [View.read_writes_junk_eq_canon]
  unfold kernelRun0_A
  dsimp only
  sl_unfold_words
  simp only [View.readAt_eq_ld, harg2.read_unread]
  rw [View.canon_cons_unit_zero hz]
  have ey : y = ix3 0 (y 1) (y 2) := by
    rw [eq_ix3 y]
    exact congrFun (congrFun (congrArg ix3 (Subsingleton.elim (α := Fin 1) _ _)) _) _
  rw [ey]
  refine (gate_at _ (y 1) (y 2)).trans ?_
  generalize (y 1 : Fin 256) = r
  generalize (y 2 : Fin 128) = k
  show _ = if k.val < 6 then W r.val (2304 + k.val) else 0
  refine congrArg (fun q => if k.val < 6 then q else (0 : EReal)) ?_
  exact (ld_cols (a := 256) (b := 128) (n := 2304) (d := 5382) (e := .f32) x0 _ r k (by omega)).trans (h0 _ _)

end

theorem packed_shift (w : ℕ → ℕ → ℕ → EReal) (l n r c : ℕ) : packed (fun _ r k => w l (n + r) k) 0 r c = packed w l (n + r) c := rfl
theorem gates_shift (w : ℕ → ℕ → ℕ → EReal) (l n r c : ℕ) : gates (fun _ r k => w l (n + r) k) 0 r c = gates w l (n + r) c := rfl

theorem idx0 : ∀ t : Fin cfg0.N, win0_0.index t = ![t.val / 8, t.val % 8, 0] := (by decide +kernel : ∀ t : Fin grid0.N, _)
theorem idx1 : ∀ t : Fin cfg0.N, win0_1.index t = ![t.val / 8, t.val % 8, 0] := (by decide +kernel : ∀ t : Fin grid0.N, _)
theorem idx2 : ∀ t : Fin cfg0.N, win0_2.index t = ![t.val / 8, t.val % 8, 0] := (by decide +kernel : ∀ t : Fin grid0.N, _)

theorem lt_N (t : Fin cfg0.N) : t.val < 16 := t.isLt.trans_eq N_0

variable (w : ℕ → ℕ → ℕ → EReal) (m : (ℓ : Loc nD τ sig) → Buf (Elt Ideal) ℓ) (c : Dev nD)

theorem b0_at (t : Fin cfg0.N) (r : Fin 256) (k : Fin 5382) :
    iblk m c 0 t (ix3 0 r k) = V m c main_arg0 (ix3 ⟨t.val / 8, by have := lt_N t; omega⟩ ⟨256 * (t.val % 8) + r.val, by omega⟩ k) := by
  blk_ext [iblk, idx0]

/-- The packed array. -/
def packArr : S2x2048x5376.Idx → EReal := fun i => packed w (i 0).val (i 1).val (i 2).val
/-- The gates' array. -/
def gateArr : S2x2048x128.Idx → EReal := fun i => gates w (i 0).val (i 1).val (i 2).val

variable (H : ∀ (l : Fin 2) (r : Fin 2048) (k : Fin 5382), m ((c : Thread nD τ).loc main_arg0) (ix3 l r k) = w l.val r.val k.val)
include H

theorem blk_at (t : Fin cfg0.N) (r : Fin 256) (k : Fin 5382) : iblk m c 0 t (ix3 0 r k) = w (t.val / 8) (256 * (t.val % 8) + r.val) k.val :=
  (b0_at m c t r k).trans ((congrFun (V_main_arg0 m c) _).trans (H _ _ _))

theorem arr1_at : (dats m 0 c).arrAt 1 cfg0.N = packArr w := by
  refine (dats m 0 c).arrAt_eq_of_covers 1 _ (by decide +kernel) fun t hf y => ?_
  have hy0 : (y 0).val < 1 := (y 0).isLt
  have e0 : (((win0_1.blk t).view.emb y) 0).val = t.val / 8 := by blk_simp [idx1] <;> omega
  have e1 : (((win0_1.blk t).view.emb y) 1).val = 256 * (t.val % 8) + (y 1).val := by blk_simp [idx1] <;> omega
  have e2 : (((win0_1.blk t).view.emb y) 2).val = (y 2).val := by blk_simp [idx1]
  have key : ∀ P : ℕ → ℕ → ℕ → EReal, P (t.val / 8) (256 * (t.val % 8) + (y 1).val) (y 2).val
      = P (((win0_1.blk t).view.emb y) 0).val (((win0_1.blk t).view.emb y) 1).val (((win0_1.blk t).view.emb y) 2).val := fun P => by
    rw [e0, e1, e2]
  have hb := packed_at (fun r k => w (t.val / 8) (256 * (t.val % 8) + r) k) (iblk m c 0 t) (blk_at w m c H t) c (grid0.coords t) (ms0_0 t) (hs0_0 t) (ms0_1 t) (hs0_1 t) (ms0_2 t) (hs0_2 t) y
  rw [packed_shift, key (packed w)] at hb
  blk_simp [idx1]
  rw [after0_1]
  clear key e0 e1 e2
  generalize (win0_1.blk t).view.emb y = z at hb ⊢
  unfold packArr
  rw [← hb]
  unfold outsAt0
  with_reducible rfl

theorem arr2_at : (dats m 0 c).arrAt 2 cfg0.N = gateArr w := by
  refine (dats m 0 c).arrAt_eq_of_covers 2 _ (by decide +kernel) fun t hf y => ?_
  have hy0 : (y 0).val < 1 := (y 0).isLt
  have e0 : (((win0_2.blk t).view.emb y) 0).val = t.val / 8 := by blk_simp [idx2] <;> omega
  have e1 : (((win0_2.blk t).view.emb y) 1).val = 256 * (t.val % 8) + (y 1).val := by blk_simp [idx2] <;> omega
  have e2 : (((win0_2.blk t).view.emb y) 2).val = (y 2).val := by blk_simp [idx2]
  have key : ∀ P : ℕ → ℕ → ℕ → EReal, P (t.val / 8) (256 * (t.val % 8) + (y 1).val) (y 2).val
      = P (((win0_2.blk t).view.emb y) 0).val (((win0_2.blk t).view.emb y) 1).val (((win0_2.blk t).view.emb y) 2).val := fun P => by
    rw [e0, e1, e2]
  have hb := gates_at (fun r k => w (t.val / 8) (256 * (t.val % 8) + r) k) (iblk m c 0 t) (blk_at w m c H t) c (grid0.coords t) (ms0_0 t) (hs0_0 t) (ms0_1 t) (hs0_1 t) (ms0_2 t) (hs0_2 t) y
  rw [gates_shift, key (gates w)] at hb
  blk_simp [idx2]
  rw [after0_2]
  clear key e0 e1 e2
  generalize (win0_2.blk t).view.emb y = z at hb ⊢
  unfold gateArr
  rw [← hb]
  unfold outsAt0
  with_reducible rfl

end Cert.Kernel5Ideal.Gen
-- ==== Proof.Hand.PackRef.lean ====
/- The reference's packed weights over the extended reals, read at an index. -/
module

public import proofs.«01_k».proof.Proof.Gen.Reference5Ideal.Read
public import proofs.«01_k».proof.Proof.Hand.PackSpec
public import Idealize.ShloMosaic.Lib.Pointwise

@[expose] public section

set_option maxRecDepth 16384

noncomputable section

namespace Cert.Reference5Ideal.Read

open Cert.Reference5Ideal Cert.Reference5Ideal.Gen Idealize.ShloMosaic Cert.Pack

variable (X : (⟨S2x2048x5382, .f32⟩ : BufTy).Contents (Elt Ideal)) (w : ℕ → ℕ → ℕ → EReal)
  (h : ∀ (l : Fin 2) (r : Fin 2048) (k : Fin 5382), X (ix3 l r k) = w l.val r.val k.val)
include h

theorem v12_at (l : Fin 2) (r : Fin 2048) (k : Fin 5376) : val_main_v12 (F := Ideal) X (ix3 l r k) = packed w l.val r.val k.val := by
  have hk := k.isLt
  unfold packed
  pointwise [val_main_v12, val_main_v10, val_main_v9, val_main_v8, val_main_v7, val_main_v6, val_main_v5, val_main_v4, val_main_v3, val_main_v1, val_main_v0, val_main_cst, val_main_cst_0]
  simp only [h]
  by_cases h1 : k.val < 1536
  · rw [dif_pos h1, if_pos h1]
  rw [dif_neg h1, if_neg h1]
  by_cases h2 : k.val < 2048
  · rw [dif_pos (by omega), if_pos h2]
  rw [dif_neg (by omega), if_neg h2, show k.val - 1536 - 512 = k.val - 2048 by omega]
  by_cases h3 : k.val < 3072
  · rw [dif_pos (by omega), if_pos h3]
  rw [dif_neg (by omega), if_neg h3, show k.val - 2048 - 1024 = k.val - 3072 by omega]
  by_cases h4 : k.val < 3840
  · rw [dif_pos (by omega), if_pos h4]
  rw [dif_neg (by omega), if_neg h4, show k.val - 3072 - 768 = k.val - 3840 by omega]

theorem v13_at (l : Fin 2) (r : Fin 2048) (k : Fin 128) : val_main_v13 (F := Ideal) X (ix3 l r k) = gates w l.val r.val k.val := by
  unfold gates
  pointwise [val_main_v13, val_main_v11, val_main_v2, val_main_call0_v0, val_main_c]
  have hz : FloatOps.sitofp (F := Ideal) FTy.f32 0#32 = (0 : EReal) := by
    show ((((0#32).toInt : ℤ) : ℝ) : EReal) = 0
    simp
  by_cases hk : k.val < 6
  · rw [dif_pos hk, if_pos hk, h]
  · rw [dif_neg hk, if_neg hk, hz]

end Cert.Reference5Ideal.Read
-- ==== Proof.Hand.PackValue.lean ====
/- Over the extended reals the packing of the weights and its reference give the same two results. -/
module

public import proofs.«01_k».proof.Defs
public import proofs.«01_k».proof.Proof.Hand.PackVal
public import proofs.«01_k».proof.Proof.Hand.PackRef
public import proofs.«01_k».proof.Proof.Hand.FfnValue
public import proofs.«01_k».proof.Proof.Gen.Reference5Ideal.Run

@[expose] public section

set_option maxRecDepth 16384

noncomputable section

namespace Cert.Kernel5Ideal.Gen

open Idealize.ShloMosaic Idealize.ShloMosaic.TcCoe
open Cert.Kernel2Ideal.Gen (nat3 nat3_eq)

variable (m : (ℓ : Loc nD τ sig) → Buf (Elt Ideal) ℓ)

/-- A device's argument by its coordinates. -/
def weights (c : Dev nD) : ℕ → ℕ → ℕ → EReal := nat3 (a := 2) (b := 2048) (d := 5382) (m ((c : Thread nD τ).loc main_arg0))

theorem weights_eq (c : Dev nD) (l : Fin 2) (r : Fin 2048) (k : Fin 5382) :
    m ((c : Thread nD τ).loc main_arg0) (ix3 l r k) = weights m c l.val r.val k.val := nat3_eq _ l r k

end Cert.Kernel5Ideal.Gen

namespace Cert.Proof.EqualPack

open Idealize.ShloMosaic Idealize.SL.Sem

local instance packKernelFacts : Cert.Kernel5Ideal.Facts := Cert.Kernel5Ideal.Gen.facts
local instance packReferenceFacts : Cert.Reference5Ideal.Facts := Cert.Reference5Ideal.Gen.facts

theorem value : Cert.algebraic_Kernel5Ideal_Reference5Ideal := by
  intro m ρ m' ρ' _ hargs
  refine ⟨fun c => Cert.Kernel5Ideal.Gen.packArr (Cert.Kernel5Ideal.Gen.weights m c), fun c => Cert.Kernel5Ideal.Gen.gateArr (Cert.Kernel5Ideal.Gen.weights m c), ?_, ?_⟩
  · refine (θ_run Cert.Kernel5Ideal.defs _ _).mono (fun r h c => ⟨(h c).1.trans ?_, (h c).2.1.trans ?_, (h c).2.2⟩) (Cert.Kernel5Ideal.Value.run_blocks (F := Ideal) m ρ)
    · exact Cert.Kernel5Ideal.Gen.arr1_at _ m c (Cert.Kernel5Ideal.Gen.weights_eq m c)
    · exact Cert.Kernel5Ideal.Gen.arr2_at _ m c (Cert.Kernel5Ideal.Gen.weights_eq m c)
  · refine (θ_run Cert.Reference5Ideal.defs _ _).mono (fun r h c => ⟨(h c).1.trans ?_, (h c).2.1.trans ?_, (h c).2.2⟩) (Cert.Reference5Ideal.Value.run (F := Ideal) m' ρ')
    · rw [Cert.Reference5Ideal.Read.val_main_v12_eq, hargs c]
      funext i
      rw [eq_ix3 i]
      exact Cert.Reference5Ideal.Read.v12_at _ _ (Cert.Kernel5Ideal.Gen.weights_eq m c) (i 0) (i 1) (i 2)
    · rw [Cert.Reference5Ideal.Read.val_main_v13_eq, hargs c]
      funext i
      rw [eq_ix3 i]
      exact Cert.Reference5Ideal.Read.v13_at _ _ (Cert.Kernel5Ideal.Gen.weights_eq m c) (i 0) (i 1) (i 2)

end Cert.Proof.EqualPack

end
-- ==== Proof.lean ====
/- The proof of the claims. -/
module

public import proofs.«01_k».proof.Defs
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Hand.Frames
public import proofs.«01_k».proof.Proof.Hand.Value
public import proofs.«01_k».proof.Proof.Hand.FfnFrames
public import proofs.«01_k».proof.Proof.Hand.FfnValue
public import proofs.«01_k».proof.Proof.Hand.OutFrames
public import proofs.«01_k».proof.Proof.Hand.OutValue
public import proofs.«01_k».proof.Proof.Hand.GateFrames
public import proofs.«01_k».proof.Proof.Hand.GateValue
public import proofs.«01_k».proof.Proof.Hand.PackFrames
public import proofs.«01_k».proof.Proof.Hand.PackValue
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal.Value
public import proofs.«01_k».proof.Proof.Gen.Reference5Ideal.Run
public import proofs.«01_k».proof.Proof.Gen.Reference5Ideal.Read
public import Idealize.ShloMosaic.Adequacy
public import Idealize.ShloMosaic.Init

@[expose] public section

noncomputable section

namespace Cert.Proof

open Idealize.ShloMosaic Idealize.SL.Sem

theorem frame_referenceIdeal : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem mask_preserved : Cert.preserves_Kernel_KernelIdeal :=
  IdealRules.named_const.statement Cert.KernelIdeal.κ "mask" .f32 0xF149F2CA#32 ⊥ rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.facts,
    frame_kernel, frame_kernelIdeal, fun m ρ _ => frame_kernelIdeal m ρ trivial,
    frame_referenceIdeal, fun m ρ _ => frame_referenceIdeal m ρ trivial,
    Ffn.frame_kernel, Ffn.frame_kernelIdeal, Ffn.frame_reference,
    Out.frame_kernel, Out.frame_kernelIdeal, Out.frame_reference,
    Gate.frame_kernel, Gate.frame_kernelIdeal, Gate.frame_reference,
    Pack.frame_kernel, Pack.frame_kernelIdeal, Pack.frame_reference,
    mask_preserved, Equal.value, trivial, EqualFfn.value, trivial, EqualOut.value, trivial, EqualGate.value, trivial, EqualPack.value⟩

end Cert.Proof

end
